-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def Pre_Quant (m : (ℓ : Loc Cert.Quant.nD Cert.Quant.τ Cert.Quant.sig) → Buf (Elt Bits) ℓ) : Prop :=
  True

def Pre_QuantIdeal (m : (ℓ : Loc Cert.QuantIdeal.nD Cert.QuantIdeal.τ Cert.QuantIdeal.sig) → Buf (Elt Ideal) ℓ) : Prop :=
  True

def Pre_QuantIdeal_pre_quant [hPre_pre_quant : Cert.Pre_pre_quant.Facts] (m : (ℓ : Loc Cert.QuantIdeal.nD Cert.QuantIdeal.τ Cert.QuantIdeal.sig) → Buf (Elt Ideal) ℓ) : Prop :=
  ∀ c : Dev Cert.QuantIdeal.nD,
    (Cert.Pre_pre_quant.fn (F := Ideal) (m ((c.tc : Thread Cert.QuantIdeal.nD Cert.QuantIdeal.τ).loc Cert.QuantIdeal.main_arg0)) (m ((c.tc : Thread Cert.QuantIdeal.nD Cert.QuantIdeal.τ).loc Cert.QuantIdeal.main_arg1)) (m ((c.tc : Thread Cert.QuantIdeal.nD Cert.QuantIdeal.τ).loc Cert.QuantIdeal.main_arg2))).1 = (fun _ => 1#1)
    ∧ (Cert.Pre_pre_quant.fn (F := Ideal) (m ((c.tc : Thread Cert.QuantIdeal.nD Cert.QuantIdeal.τ).loc Cert.QuantIdeal.main_arg0)) (m ((c.tc : Thread Cert.QuantIdeal.nD Cert.QuantIdeal.τ).loc Cert.QuantIdeal.main_arg1)) (m ((c.tc : Thread Cert.QuantIdeal.nD Cert.QuantIdeal.τ).loc Cert.QuantIdeal.main_arg2))).2.1 = (fun _ => 1#1)
    ∧ (Cert.Pre_pre_quant.fn (F := Ideal) (m ((c.tc : Thread Cert.QuantIdeal.nD Cert.QuantIdeal.τ).loc Cert.QuantIdeal.main_arg0)) (m ((c.tc : Thread Cert.QuantIdeal.nD Cert.QuantIdeal.τ).loc Cert.QuantIdeal.main_arg1)) (m ((c.tc : Thread Cert.QuantIdeal.nD Cert.QuantIdeal.τ).loc Cert.QuantIdeal.main_arg2))).2.2 = (fun _ => 1#1)

def Pre_QuantReferenceIdeal (m : (ℓ : Loc Cert.QuantReferenceIdeal.nD Cert.QuantReferenceIdeal.τ Cert.QuantReferenceIdeal.sig) → Buf (Elt Ideal) ℓ) : Prop :=
  True

def Pre_QuantReferenceIdeal_pre_quant [hPre_pre_quant : Cert.Pre_pre_quant.Facts] (m : (ℓ : Loc Cert.QuantReferenceIdeal.nD Cert.QuantReferenceIdeal.τ Cert.QuantReferenceIdeal.sig) → Buf (Elt Ideal) ℓ) : Prop :=
  ∀ c : Dev Cert.QuantReferenceIdeal.nD,
    (Cert.Pre_pre_quant.fn (F := Ideal) (m ((c.tc : Thread Cert.QuantReferenceIdeal.nD Cert.QuantReferenceIdeal.τ).loc Cert.QuantReferenceIdeal.main_arg0)) (m ((c.tc : Thread Cert.QuantReferenceIdeal.nD Cert.QuantReferenceIdeal.τ).loc Cert.QuantReferenceIdeal.main_arg1)) (m ((c.tc : Thread Cert.QuantReferenceIdeal.nD Cert.QuantReferenceIdeal.τ).loc Cert.QuantReferenceIdeal.main_arg2))).1 = (fun _ => 1#1)
    ∧ (Cert.Pre_pre_quant.fn (F := Ideal) (m ((c.tc : Thread Cert.QuantReferenceIdeal.nD Cert.QuantReferenceIdeal.τ).loc Cert.QuantReferenceIdeal.main_arg0)) (m ((c.tc : Thread Cert.QuantReferenceIdeal.nD Cert.QuantReferenceIdeal.τ).loc Cert.QuantReferenceIdeal.main_arg1)) (m ((c.tc : Thread Cert.QuantReferenceIdeal.nD Cert.QuantReferenceIdeal.τ).loc Cert.QuantReferenceIdeal.main_arg2))).2.1 = (fun _ => 1#1)
    ∧ (Cert.Pre_pre_quant.fn (F := Ideal) (m ((c.tc : Thread Cert.QuantReferenceIdeal.nD Cert.QuantReferenceIdeal.τ).loc Cert.QuantReferenceIdeal.main_arg0)) (m ((c.tc : Thread Cert.QuantReferenceIdeal.nD Cert.QuantReferenceIdeal.τ).loc Cert.QuantReferenceIdeal.main_arg1)) (m ((c.tc : Thread Cert.QuantReferenceIdeal.nD Cert.QuantReferenceIdeal.τ).loc Cert.QuantReferenceIdeal.main_arg2))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Quant [hQuant : Cert.Quant.Facts] : Prop :=
  ∀ (m : (ℓ : Loc Cert.Quant.nD Cert.Quant.τ Cert.Quant.sig) → Buf (Elt Bits) ℓ) (g : Dev Cert.Quant.nD → PrngReg), Pre_Quant m →
    θ_run (Cert.Quant.defs (F := Bits)) (onTc (τ := Cert.Quant.τ) (Cert.Quant.main (F := Bits))) ⟨m, fun _ => 0, g⟩ (fun r => (∀ c : Dev Cert.Quant.nD,
      r.2.mem ((c.tc : Thread Cert.Quant.nD Cert.Quant.τ).loc Cert.Quant.main_arg0) = m ((c.tc : Thread Cert.Quant.nD Cert.Quant.τ).loc Cert.Quant.main_arg0)
      ∧ r.2.mem ((c.tc : Thread Cert.Quant.nD Cert.Quant.τ).loc Cert.Quant.main_arg1) = m ((c.tc : Thread Cert.Quant.nD Cert.Quant.τ).loc Cert.Quant.main_arg1)
      ∧ r.2.mem ((c.tc : Thread Cert.Quant.nD Cert.Quant.τ).loc Cert.Quant.main_arg2) = m ((c.tc : Thread Cert.Quant.nD Cert.Quant.τ).loc Cert.Quant.main_arg2))
      ∧ r.2.sem = fun _ => 0)

def quiescent_QuantIdeal [hQuantIdeal : Cert.QuantIdeal.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1)
      ∧ r.2.mem ((c.tc : Thread Cert.QuantIdeal.nD Cert.QuantIdeal.τ).loc Cert.QuantIdeal.main_arg2) = m ((c.tc : Thread Cert.QuantIdeal.nD Cert.QuantIdeal.τ).loc Cert.QuantIdeal.main_arg2))
      ∧ r.2.sem = fun _ => 0)

def quiescent_QuantIdeal_pre_pre_quant [hQuantIdeal : Cert.QuantIdeal.Facts] [hPre_pre_quant : Cert.Pre_pre_quant.Facts] : Prop :=
  ∀ (m : (ℓ : Loc Cert.QuantIdeal.nD Cert.QuantIdeal.τ Cert.QuantIdeal.sig) → Buf (Elt Ideal) ℓ) (g : Dev Cert.QuantIdeal.nD → PrngReg), Pre_QuantIdeal_pre_quant m →
    θ_run (Cert.QuantIdeal.defs (F := Ideal)) (onTc (τ := Cert.QuantIdeal.τ) (Cert.QuantIdeal.main (F := Ideal))) ⟨m, fun _ => 0, g⟩ (fun r => (∀ c : Dev Cert.QuantIdeal.nD,
      r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
      ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1)
      ∧ r.2.mem ((c.tc : Thread Cert.QuantIdeal.nD Cert.QuantIdeal.τ).loc Cert.QuantIdeal.main_arg2) = m ((c.tc : Thread Cert.QuantIdeal.nD Cert.QuantIdeal.τ).loc Cert.QuantIdeal.main_arg2))
      ∧ r.2.sem = fun _ => 0)

def quiescent_QuantReferenceIdeal [hQuantReferenceIdeal : Cert.QuantReferenceIdeal.Facts] : Prop :=
  ∀ (m : (ℓ : Loc Cert.QuantReferenceIdeal.nD Cert.QuantReferenceIdeal.τ Cert.QuantReferenceIdeal.sig) → Buf (Elt Ideal) ℓ) (g : Dev Cert.QuantReferenceIdeal.nD → PrngReg), Pre_QuantReferenceIdeal m →
    θ_run (Cert.QuantReferenceIdeal.defs (F := Ideal)) (onTc (τ := Cert.QuantReferenceIdeal.τ) (Cert.QuantReferenceIdeal.main (F := Ideal))) ⟨m, fun _ => 0, g⟩ (fun r => (∀ c : Dev Cert.QuantReferenceIdeal.nD,
      r.2.mem ((c.tc : Thread Cert.QuantReferenceIdeal.nD Cert.QuantReferenceIdeal.τ).loc Cert.QuantReferenceIdeal.main_arg0) = m ((c.tc : Thread Cert.QuantReferenceIdeal.nD Cert.QuantReferenceIdeal.τ).loc Cert.QuantReferenceIdeal.main_arg0)
      ∧ r.2.mem ((c.tc : Thread Cert.QuantReferenceIdeal.nD Cert.QuantReferenceIdeal.τ).loc Cert.QuantReferenceIdeal.main_arg1) = m ((c.tc : Thread Cert.QuantReferenceIdeal.nD Cert.QuantReferenceIdeal.τ).loc Cert.QuantReferenceIdeal.main_arg1)
      ∧ r.2.mem ((c.tc : Thread Cert.QuantReferenceIdeal.nD Cert.QuantReferenceIdeal.τ).loc Cert.QuantReferenceIdeal.main_arg2) = m ((c.tc : Thread Cert.QuantReferenceIdeal.nD Cert.QuantReferenceIdeal.τ).loc Cert.QuantReferenceIdeal.main_arg2))
      ∧ r.2.sem = fun _ => 0)

def quiescent_QuantReferenceIdeal_pre_pre_quant [hQuantReferenceIdeal : Cert.QuantReferenceIdeal.Facts] [hPre_pre_quant : Cert.Pre_pre_quant.Facts] : Prop :=
  ∀ (m : (ℓ : Loc Cert.QuantReferenceIdeal.nD Cert.QuantReferenceIdeal.τ Cert.QuantReferenceIdeal.sig) → Buf (Elt Ideal) ℓ) (g : Dev Cert.QuantReferenceIdeal.nD → PrngReg), Pre_QuantReferenceIdeal_pre_quant m →
    θ_run (Cert.QuantReferenceIdeal.defs (F := Ideal)) (onTc (τ := Cert.QuantReferenceIdeal.τ) (Cert.QuantReferenceIdeal.main (F := Ideal))) ⟨m, fun _ => 0, g⟩ (fun r => (∀ c : Dev Cert.QuantReferenceIdeal.nD,
      r.2.mem ((c.tc : Thread Cert.QuantReferenceIdeal.nD Cert.QuantReferenceIdeal.τ).loc Cert.QuantReferenceIdeal.main_arg0) = m ((c.tc : Thread Cert.QuantReferenceIdeal.nD Cert.QuantReferenceIdeal.τ).loc Cert.QuantReferenceIdeal.main_arg0)
      ∧ r.2.mem ((c.tc : Thread Cert.QuantReferenceIdeal.nD Cert.QuantReferenceIdeal.τ).loc Cert.QuantReferenceIdeal.main_arg1) = m ((c.tc : Thread Cert.QuantReferenceIdeal.nD Cert.QuantReferenceIdeal.τ).loc Cert.QuantReferenceIdeal.main_arg1)
      ∧ r.2.mem ((c.tc : Thread Cert.QuantReferenceIdeal.nD Cert.QuantReferenceIdeal.τ).loc Cert.QuantReferenceIdeal.main_arg2) = m ((c.tc : Thread Cert.QuantReferenceIdeal.nD Cert.QuantReferenceIdeal.τ).loc Cert.QuantReferenceIdeal.main_arg2))
      ∧ r.2.sem = fun _ => 0)

def preserves_Kernel_KernelIdeal : Prop :=
  IdealRules.named_const.Statement Cert.KernelIdeal.κ "log2_scale" .f32 0x3E0293EE#32 (((Real.sqrt 128)⁻¹ * (Real.log 2)⁻¹ : ℝ) : EReal)
  ∧ IdealRules.named_const.Statement Cert.KernelIdeal.κ "log2_fp8_max" .f32 0x410CEAED#32 (((Real.log 448) * (Real.log 2)⁻¹ : ℝ) : EReal)

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Quant_QuantIdeal : Prop :=
  IdealRules.named_const.Statement Cert.QuantIdeal.κ "inv_fp8_max" .f32 0x3B124925#32 ((1 / 448 : ℝ) : EReal)

def algebraic_QuantIdeal_QuantReferenceIdeal_pre_pre_quant [hQuantIdeal : Cert.QuantIdeal.Facts] [hQuantReferenceIdeal : Cert.QuantReferenceIdeal.Facts] [hPre_pre_quant : Cert.Pre_pre_quant.Facts] : Prop :=
  ∀ (m : (ℓ : Loc Cert.QuantIdeal.nD Cert.QuantIdeal.τ Cert.QuantIdeal.sig) → Buf (Elt Ideal) ℓ) (g : Dev Cert.QuantIdeal.nD → PrngReg)
    (m' : (ℓ : Loc Cert.QuantReferenceIdeal.nD Cert.QuantReferenceIdeal.τ Cert.QuantReferenceIdeal.sig) → Buf (Elt Ideal) ℓ) (g' : Dev Cert.QuantReferenceIdeal.nD → PrngReg), Pre_QuantIdeal_pre_quant m →
    (∀ c : Dev Cert.QuantIdeal.nD,
      m' ((c.tc : Thread Cert.QuantReferenceIdeal.nD Cert.QuantReferenceIdeal.τ).loc Cert.QuantReferenceIdeal.main_arg0) = m ((c.tc : Thread Cert.QuantIdeal.nD Cert.QuantIdeal.τ).loc Cert.QuantIdeal.main_arg0)
      ∧ m' ((c.tc : Thread Cert.QuantReferenceIdeal.nD Cert.QuantReferenceIdeal.τ).loc Cert.QuantReferenceIdeal.main_arg1) = m ((c.tc : Thread Cert.QuantIdeal.nD Cert.QuantIdeal.τ).loc Cert.QuantIdeal.main_arg1)
      ∧ m' ((c.tc : Thread Cert.QuantReferenceIdeal.nD Cert.QuantReferenceIdeal.τ).loc Cert.QuantReferenceIdeal.main_arg2) = m ((c.tc : Thread Cert.QuantIdeal.nD Cert.QuantIdeal.τ).loc Cert.QuantIdeal.main_arg2)) →
    ∃ (v0 : (c : Dev Cert.QuantIdeal.nD) → Buf (Elt Ideal) ((c.tc : Thread Cert.QuantIdeal.nD Cert.QuantIdeal.τ).loc Cert.QuantIdeal.main_v0_0)) (v1 : (c : Dev Cert.QuantIdeal.nD) → Buf (Elt Ideal) ((c.tc : Thread Cert.QuantIdeal.nD Cert.QuantIdeal.τ).loc Cert.QuantIdeal.main_v0_1)) (v2 : (c : Dev Cert.QuantIdeal.nD) → Buf (Elt Ideal) ((c.tc : Thread Cert.QuantIdeal.nD Cert.QuantIdeal.τ).loc Cert.QuantIdeal.main_v0_2)) (v3 : (c : Dev Cert.QuantIdeal.nD) → Buf (Elt Ideal) ((c.tc : Thread Cert.QuantIdeal.nD Cert.QuantIdeal.τ).loc Cert.QuantIdeal.main_v0_3)) (v4 : (c : Dev Cert.QuantIdeal.nD) → Buf (Elt Ideal) ((c.tc : Thread Cert.QuantIdeal.nD Cert.QuantIdeal.τ).loc Cert.QuantIdeal.main_v0_4)) (v5 : (c : Dev Cert.QuantIdeal.nD) → Buf (Elt Ideal) ((c.tc : Thread Cert.QuantIdeal.nD Cert.QuantIdeal.τ).loc Cert.QuantIdeal.main_v0_5)),
      θ_run (Cert.QuantIdeal.defs (F := Ideal)) (onTc (τ := Cert.QuantIdeal.τ) (Cert.QuantIdeal.main (F := Ideal))) ⟨m, fun _ => 0, g⟩ (fun r => ∀ c : Dev Cert.QuantIdeal.nD,
          r.2.mem ((c.tc : Thread Cert.QuantIdeal.nD Cert.QuantIdeal.τ).loc Cert.QuantIdeal.main_v0_0) = v0 c
          ∧ r.2.mem ((c.tc : Thread Cert.QuantIdeal.nD Cert.QuantIdeal.τ).loc Cert.QuantIdeal.main_v0_1) = v1 c
          ∧ r.2.mem ((c.tc : Thread Cert.QuantIdeal.nD Cert.QuantIdeal.τ).loc Cert.QuantIdeal.main_v0_2) = v2 c
          ∧ r.2.mem ((c.tc : Thread Cert.QuantIdeal.nD Cert.QuantIdeal.τ).loc Cert.QuantIdeal.main_v0_3) = v3 c
          ∧ r.2.mem ((c.tc : Thread Cert.QuantIdeal.nD Cert.QuantIdeal.τ).loc Cert.QuantIdeal.main_v0_4) = v4 c
          ∧ r.2.mem ((c.tc : Thread Cert.QuantIdeal.nD Cert.QuantIdeal.τ).loc Cert.QuantIdeal.main_v0_5) = v5 c
          ∧ r.2.mem ((c.tc : Thread Cert.QuantIdeal.nD Cert.QuantIdeal.τ).loc Cert.QuantIdeal.main_arg0) = m ((c.tc : Thread Cert.QuantIdeal.nD Cert.QuantIdeal.τ).loc Cert.QuantIdeal.main_arg0)
          ∧ r.2.mem ((c.tc : Thread Cert.QuantIdeal.nD Cert.QuantIdeal.τ).loc Cert.QuantIdeal.main_arg1) = m ((c.tc : Thread Cert.QuantIdeal.nD Cert.QuantIdeal.τ).loc Cert.QuantIdeal.main_arg1)
          ∧ r.2.mem ((c.tc : Thread Cert.QuantIdeal.nD Cert.QuantIdeal.τ).loc Cert.QuantIdeal.main_arg2) = m ((c.tc : Thread Cert.QuantIdeal.nD Cert.QuantIdeal.τ).loc Cert.QuantIdeal.main_arg2))
      ∧ θ_run (Cert.QuantReferenceIdeal.defs (F := Ideal)) (onTc (τ := Cert.QuantReferenceIdeal.τ) (Cert.QuantReferenceIdeal.main (F := Ideal))) ⟨m', fun _ => 0, g'⟩ (fun r => ∀ c : Dev Cert.QuantReferenceIdeal.nD,
          r.2.mem ((c.tc : Thread Cert.QuantReferenceIdeal.nD Cert.QuantReferenceIdeal.τ).loc Cert.QuantReferenceIdeal.main_v0_0) = v0 c
          ∧ r.2.mem ((c.tc : Thread Cert.QuantReferenceIdeal.nD Cert.QuantReferenceIdeal.τ).loc Cert.QuantReferenceIdeal.main_v0_1) = v1 c
          ∧ r.2.mem ((c.tc : Thread Cert.QuantReferenceIdeal.nD Cert.QuantReferenceIdeal.τ).loc Cert.QuantReferenceIdeal.main_v0_2) = v2 c
          ∧ r.2.mem ((c.tc : Thread Cert.QuantReferenceIdeal.nD Cert.QuantReferenceIdeal.τ).loc Cert.QuantReferenceIdeal.main_v0_3) = v3 c
          ∧ r.2.mem ((c.tc : Thread Cert.QuantReferenceIdeal.nD Cert.QuantReferenceIdeal.τ).loc Cert.QuantReferenceIdeal.main_v0_4) = v4 c
          ∧ r.2.mem ((c.tc : Thread Cert.QuantReferenceIdeal.nD Cert.QuantReferenceIdeal.τ).loc Cert.QuantReferenceIdeal.main_v0_5) = v5 c
          ∧ r.2.mem ((c.tc : Thread Cert.QuantReferenceIdeal.nD Cert.QuantReferenceIdeal.τ).loc Cert.QuantReferenceIdeal.main_arg0) = m' ((c.tc : Thread Cert.QuantReferenceIdeal.nD Cert.QuantReferenceIdeal.τ).loc Cert.QuantReferenceIdeal.main_arg0)
          ∧ r.2.mem ((c.tc : Thread Cert.QuantReferenceIdeal.nD Cert.QuantReferenceIdeal.τ).loc Cert.QuantReferenceIdeal.main_arg1) = m' ((c.tc : Thread Cert.QuantReferenceIdeal.nD Cert.QuantReferenceIdeal.τ).loc Cert.QuantReferenceIdeal.main_arg1)
          ∧ r.2.mem ((c.tc : Thread Cert.QuantReferenceIdeal.nD Cert.QuantReferenceIdeal.τ).loc Cert.QuantReferenceIdeal.main_arg2) = m' ((c.tc : Thread Cert.QuantReferenceIdeal.nD Cert.QuantReferenceIdeal.τ).loc Cert.QuantReferenceIdeal.main_arg2))

def Claim : Prop :=
  ∃ (hKernel : Cert.Kernel.Facts) (hKernelIdeal : Cert.KernelIdeal.Facts) (hReferenceIdeal : Cert.ReferenceIdeal.Facts) (hQuant : Cert.Quant.Facts) (hQuantIdeal : Cert.QuantIdeal.Facts) (hQuantReferenceIdeal : Cert.QuantReferenceIdeal.Facts) (hPre_pre : Cert.Pre_pre.Facts) (hPre_pre_quant : Cert.Pre_pre_quant.Facts),
    quiescent_Kernel (hKernel := hKernel)
    ∧ quiescent_KernelIdeal (hKernelIdeal := hKernelIdeal)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ quiescent_Quant (hQuant := hQuant)
    ∧ quiescent_QuantIdeal (hQuantIdeal := hQuantIdeal)
    ∧ quiescent_QuantIdeal_pre_pre_quant (hQuantIdeal := hQuantIdeal) (hPre_pre_quant := hPre_pre_quant)
    ∧ quiescent_QuantReferenceIdeal (hQuantReferenceIdeal := hQuantReferenceIdeal)
    ∧ quiescent_QuantReferenceIdeal_pre_pre_quant (hQuantReferenceIdeal := hQuantReferenceIdeal) (hPre_pre_quant := hPre_pre_quant)
    ∧ preserves_Kernel_KernelIdeal
    ∧ algebraic_KernelIdeal_ReferenceIdeal_pre_pre (hKernelIdeal := hKernelIdeal) (hReferenceIdeal := hReferenceIdeal) (hPre_pre := hPre_pre)
    ∧ preserves_Quant_QuantIdeal
    ∧ algebraic_QuantIdeal_QuantReferenceIdeal_pre_pre_quant (hQuantIdeal := hQuantIdeal) (hQuantReferenceIdeal := hQuantReferenceIdeal) (hPre_pre_quant := hPre_pre_quant)
-- ==== Pre_pre.lean ====
abbrev S8x8192x2048 : Shape := ⟨3, ![8, 8192, 2048]⟩
abbrev S8x16x1x8192 : Shape := ⟨4, ![8, 16, 1, 8192]⟩
abbrev S8x16x1x128 : Shape := ⟨4, ![8, 16, 1, 128]⟩
abbrev S8x8192 : Shape := ⟨2, ![8, 8192]⟩
abbrev S8x8191 : Shape := ⟨2, ![8, 8191]⟩
abbrev S_ : Shape := ⟨0, ![]⟩

class Facts : Prop where
  slices_S8x8192_S8x8191_0_1 : S8x8192.Slices ![0, 1] S8x8191
  slices_S8x8192_S8x8191_0_0 : S8x8192.Slices ![0, 0] S8x8191
  bcast_S_S8x16x1x8192 : S_.BroadcastsInDim S8x16x1x8192 (![] : Fin 0 → Fin S8x16x1x8192.rank)

variable [Facts]

def fn {F : FTy → Type} [FloatOps F] (main_arg0 : FVec F S8x8192x2048 .fp8e4m3) (main_arg1 : FVec F S8x16x1x8192 .f32) (main_arg2 : FVec F S8x8192x2048 .fp8e4m3) (main_arg3 : FVec F S8x16x1x8192 .f32) (main_arg4 : FVec F S8x8192x2048 .fp8e4m3) (main_arg5 : FVec F S8x16x1x128 .f32) (main_arg6 : IVec S8x8192 32) : IVec S8x8191 1 × IVec S8x16x1x8192 1 :=
  let main_v0 : IVec S8x8191 32 := (extractStridedSlice S8x8191 ![0, 1] · slices_S8x8192_S8x8191_0_1) main_arg6
  let main_v1 : IVec S8x8191 32 := (extractStridedSlice S8x8191 ![0, 0] · slices_S8x8192_S8x8191_0_0) main_arg6
  let main_v2 : IVec S8x8191 1 := cmpi .sge main_v0 main_v1
  let main_cst : FVec F S_ .f32 := constant S_ .f32 0x00000000#32
  let main_v3 : FVec F S8x16x1x8192 .f32 := broadcastInDim S8x16x1x8192 ![] bcast_S_S8x16x1x8192 main_cst
  let main_v4 : IVec S8x16x1x8192 1 := cmpf .ogt main_arg1 main_v3
  (main_v2, main_v4)
-- ==== Pre_pre_quant.lean ====
abbrev S8x8192x2048 : Shape := ⟨3, ![8, 8192, 2048]⟩
abbrev S8x8192x16x128 : Shape := ⟨4, ![8, 8192, 16, 128]⟩
abbrev S_ : Shape := ⟨0, ![]⟩
abbrev S8x16x128 : Shape := ⟨3, ![8, 16, 128]⟩
abbrev S8x1x16x128 : Shape := ⟨4, ![8, 1, 16, 128]⟩
abbrev S8x8192x16 : Shape := ⟨3, ![8, 8192, 16]⟩

class Facts : Prop where
  bitsLt_bf16_f32 : FTy.bits .bf16 < FTy.bits .f32
  shapeCasts_S8x8192x2048_S8x8192x16x128 : S8x8192x2048.ShapeCasts S8x8192x16x128
  reducesTo_S8x8192x16x128_S8x16x128_d1 : S8x8192x16x128.ReducesTo [1] S8x16x128
  h_S_ : 0 < S_.numel
  bcast_S8x16x128_S8x1x16x128_0_2_3 : S8x16x128.BroadcastsInDim S8x1x16x128 (![0, 2, 3] : Fin 3 → Fin S8x1x16x128.rank)
  bcast_S_S8x1x16x128 : S_.BroadcastsInDim S8x1x16x128 (![] : Fin 0 → Fin S8x1x16x128.rank)
  bcast_S8x1x16x128_S8x8192x16x128_0_1_2_3 : S8x1x16x128.BroadcastsInDim S8x8192x16x128 (![0, 1, 2, 3] : Fin 4 → Fin S8x8192x16x128.rank)
  reducesTo_S8x8192x16x128_S8x8192x16_d3 : S8x8192x16x128.ReducesTo [3] S8x8192x16
  bcast_S_S8x8192x16 : S_.BroadcastsInDim S8x8192x16 (![] : Fin 0 → Fin S8x8192x16.rank)
  bcast_S_S8x16x128 : S_.BroadcastsInDim S8x16x128 (![] : Fin 0 → Fin S8x16x128.rank)

variable [Facts]

def fn_part2 {F : FTy → Type} [FloatOps F] (main_v19 : IVec S8x8192x16 1) (main_v29 : IVec S8x8192x16 1) (main_v33 : FVec F S8x16x128 .f32) (main_v35 : IVec S8x16x128 1) : IVec S8x8192x16 1 × IVec S8x8192x16 1 × IVec S8x16x128 1 :=
  let main_cst_11 : FVec F S_ .f32 := constant S_ .f32 0x04E00000#32
  let main_v36 : FVec F S8x16x128 .f32 := broadcastInDim S8x16x128 ![] bcast_S_S8x16x128 main_cst_11
  let main_v37 : IVec S8x16x128 1 := cmpf .oge main_v33 main_v36
  let main_cst_12 : FVec F S_ .f32 := constant S_ .f32 0x7F7FFFFF#32
  let main_v38 : FVec F S8x16x128 .f32 := broadcastInDim S8x16x128 ![] bcast_S_S8x16x128 main_cst_12
  let main_v39 : IVec S8x16x128 1 := cmpf .ole main_v33 main_v38
  let main_v40 : IVec S8x16x128 1 := andi main_v37 main_v39
  let main_v41 : IVec S8x16x128 1 := ori main_v35 main_v40
  (main_v19, main_v29, main_v41)

def fn_part1 {F : FTy → Type} [FloatOps F] (main_arg2 : FVec F S8x8192x2048 .bf16) (main_v7 : FVec F S8x8192x16x128 .f32) (main_v13 : IVec S8x8192x16 1) (main_v15 : IVec S8x8192x16 1) (main_v17 : IVec S8x8192x16 1) : IVec S8x8192x16 1 × IVec S8x8192x16 1 × IVec S8x16x128 1 :=
  let main_v18 : IVec S8x8192x16 1 := andi main_v15 main_v17
  let main_v19 : IVec S8x8192x16 1 := ori main_v13 main_v18
  let main_v20 : FVec F S8x8192x16x128 .f32 := Host.absf main_v7
  let main_cst_5 : FVec F S_ .f32 := constant S_ .f32 0xFF800000#32
  let main_v21 : FVec F S8x8192x16 .f32 := (fun x v => Host.reduce FloatOps.maximumf x v reducesTo_S8x8192x16x128_S8x8192x16_d3 h_S_) main_v20 main_cst_5
  let main_cst_6 : FVec F S_ .f32 := constant S_ .f32 0x00000000#32
  let main_v22 : FVec F S8x8192x16 .f32 := broadcastInDim S8x8192x16 ![] bcast_S_S8x8192x16 main_cst_6
  let main_v23 : IVec S8x8192x16 1 := cmpf .oeq main_v21 main_v22
  let main_cst_7 : FVec F S_ .f32 := constant S_ .f32 0x04E00000#32
  let main_v24 : FVec F S8x8192x16 .f32 := broadcastInDim S8x8192x16 ![] bcast_S_S8x8192x16 main_cst_7
  let main_v25 : IVec S8x8192x16 1 := cmpf .oge main_v21 main_v24
  let main_cst_8 : FVec F S_ .f32 := constant S_ .f32 0x7F7FFFFF#32
  let main_v26 : FVec F S8x8192x16 .f32 := broadcastInDim S8x8192x16 ![] bcast_S_S8x8192x16 main_cst_8
  let main_v27 : IVec S8x8192x16 1 := cmpf .ole main_v21 main_v26
  let main_v28 : IVec S8x8192x16 1 := andi main_v25 main_v27
  let main_v29 : IVec S8x8192x16 1 := ori main_v23 main_v28
  let main_v30 : FVec F S8x8192x2048 .f32 := (extf .f32 · bitsLt_bf16_f32) main_arg2
  let main_v31 : FVec F S8x8192x16x128 .f32 := shapeCast S8x8192x16x128 main_v30 shapeCasts_S8x8192x2048_S8x8192x16x128
  let main_v32 : FVec F S8x8192x16x128 .f32 := Host.absf main_v31
  let main_cst_9 : FVec F S_ .f32 := constant S_ .f32 0xFF800000#32
  let main_v33 : FVec F S8x16x128 .f32 := (fun x v => Host.reduce FloatOps.maximumf x v reducesTo_S8x8192x16x128_S8x16x128_d1 h_S_) main_v32 main_cst_9
  let main_cst_10 : FVec F S_ .f32 := constant S_ .f32 0x00000000#32
  let main_v34 : FVec F S8x16x128 .f32 := broadcastInDim S8x16x128 ![] bcast_S_S8x16x128 main_cst_10
  let main_v35 : IVec S8x16x128 1 := cmpf .oeq main_v33 main_v34
  fn_part2 (F := F) main_v19 main_v29 main_v33 main_v35

def fn {F : FTy → Type} [FloatOps F] (main_arg0 : FVec F S8x8192x2048 .bf16) (main_arg1 : FVec F S8x8192x2048 .bf16) (main_arg2 : FVec F S8x8192x2048 .bf16) : IVec S8x8192x16 1 × IVec S8x8192x16 1 × IVec S8x16x128 1 :=
  let main_v0 : FVec F S8x8192x2048 .f32 := (extf .f32 · bitsLt_bf16_f32) main_arg1
  let main_v1 : FVec F S8x8192x16x128 .f32 := shapeCast S8x8192x16x128 main_v0 shapeCasts_S8x8192x2048_S8x8192x16x128
  let main_cst : FVec F S_ .f32 := constant S_ .f32 0x00000000#32
  let main_v2 : FVec F S8x16x128 .f32 := (fun x v => Host.reduceAdd x v reducesTo_S8x8192x16x128_S8x16x128_d1 h_S_) main_v1 main_cst
  let main_v3 : FVec F S8x1x16x128 .f32 := broadcastInDim S8x1x16x128 ![0, 2, 3] bcast_S8x16x128_S8x1x16x128_0_2_3 main_v2
  let main_cst_0 : FVec F S_ .f32 := constant S_ .f32 0x46000000#32
  let main_v4 : FVec F S8x1x16x128 .f32 := broadcastInDim S8x1x16x128 ![] bcast_S_S8x1x16x128 main_cst_0
  let main_v5 : FVec F S8x1x16x128 .f32 := Host.divf main_v3 main_v4
  let main_v6 : FVec F S8x8192x16x128 .f32 := broadcastInDim S8x8192x16x128 ![0, 1, 2, 3] bcast_S8x1x16x128_S8x8192x16x128_0_1_2_3 main_v5
  let main_v7 : FVec F S8x8192x16x128 .f32 := subf main_v1 main_v6
  let main_v8 : FVec F S8x8192x2048 .f32 := (extf .f32 · bitsLt_bf16_f32) main_arg0
  let main_v9 : FVec F S8x8192x16x128 .f32 := shapeCast S8x8192x16x128 main_v8 shapeCasts_S8x8192x2048_S8x8192x16x128
  let main_v10 : FVec F S8x8192x16x128 .f32 := Host.absf main_v9
  let main_cst_1 : FVec F S_ .f32 := constant S_ .f32 0xFF800000#32
  let main_v11 : FVec F S8x8192x16 .f32 := (fun x v => Host.reduce FloatOps.maximumf x v reducesTo_S8x8192x16x128_S8x8192x16_d3 h_S_) main_v10 main_cst_1
  let main_cst_2 : FVec F S_ .f32 := constant S_ .f32 0x00000000#32
  let main_v12 : FVec F S8x8192x16 .f32 := broadcastInDim S8x8192x16 ![] bcast_S_S8x8192x16 main_cst_2
  let main_v13 : IVec S8x8192x16 1 := cmpf .oeq main_v11 main_v12
  let main_cst_3 : FVec F S_ .f32 := constant S_ .f32 0x04E00000#32
  let main_v14 : FVec F S8x8192x16 .f32 := broadcastInDim S8x8192x16 ![] bcast_S_S8x8192x16 main_cst_3
  let main_v15 : IVec S8x8192x16 1 := cmpf .oge main_v11 main_v14
  let main_cst_4 : FVec F S_ .f32 := constant S_ .f32 0x7F7FFFFF#32
  let main_v16 : FVec F S8x8192x16 .f32 := broadcastInDim S8x8192x16 ![] bcast_S_S8x8192x16 main_cst_4
  let main_v17 : IVec S8x8192x16 1 := cmpf .ole main_v11 main_v16
  fn_part1 (F := F) main_arg2 main_v7 main_v13 main_v15 main_v17
-- ==== Kernel.lean ====
abbrev S8x8192x2048 : Shape := ⟨3, ![8, 8192, 2048]⟩
abbrev S8x16x1x8192 : Shape := ⟨4, ![8, 16, 1, 8192]⟩
abbrev S8x16x1x128 : Shape := ⟨4, ![8, 16, 1, 128]⟩
abbrev S8x8192 : Shape := ⟨2, ![8, 8192]⟩
abbrev S8x32 : Shape := ⟨2, ![8, 32]⟩
abbrev S8x1x8192 : Shape := ⟨3, ![8, 1, 8192]⟩
abbrev S1x8192x128 : Shape := ⟨3, ![1, 8192, 128]⟩
abbrev S1x1x1x8192 : Shape := ⟨4, ![1, 1, 1, 8192]⟩
abbrev S1x1x1x128 : Shape := ⟨4, ![1, 1, 1, 128]⟩
abbrev S1x1x8192 : Shape := ⟨3, ![1, 1, 8192]⟩
abbrev S32x256x256 : Shape := ⟨3, ![32, 256, 256]⟩
abbrev S256x128 : Shape := ⟨2, ![256, 128]⟩
abbrev S1x1x1x256 : Shape := ⟨4, ![1, 1, 1, 256]⟩
abbrev S1x256 : Shape := ⟨2, ![1, 256]⟩
abbrev S128x256 : Shape := ⟨2, ![128, 256]⟩
abbrev S1x1x256 : Shape := ⟨3, ![1, 1, 256]⟩
abbrev S1x1 : Shape := ⟨2, ![1, 1]⟩
abbrev S1x256x128 : Shape := ⟨3, ![1, 256, 128]⟩
abbrev S256x256 : Shape := ⟨2, ![256, 256]⟩
abbrev S1x256x256 : Shape := ⟨3, ![1, 256, 256]⟩
abbrev S256 : Shape := ⟨1, ![256]⟩
abbrev S256x1 : Shape := ⟨2, ![256, 1]⟩
abbrev S1x128 : Shape := ⟨2, ![1, 128]⟩

abbrev nBuf : Space → Nat
  | .hbm => 10
  | .vmem => 24
  | .smem => 2
  | _ => 0

abbrev bufTy : (tb : Table) → Fin (tcTables nBuf tb) → BufTy
  | .hbm, ⟨0, _⟩ => ⟨S8x8192x2048, .fp8e4m3⟩
  | .hbm, ⟨1, _⟩ => ⟨S8x16x1x8192, .f32⟩
  | .hbm, ⟨2, _⟩ => ⟨S8x8192x2048, .fp8e4m3⟩
  | .hbm, ⟨3, _⟩ => ⟨S8x16x1x8192, .f32⟩
  | .hbm, ⟨4, _⟩ => ⟨S8x8192x2048, .fp8e4m3⟩
  | .hbm, ⟨5, _⟩ => ⟨S8x16x1x128, .f32⟩
  | .hbm, ⟨6, _⟩ => ⟨S8x8192, .i32⟩
  | .hbm, ⟨7, _⟩ => ⟨S8x8192, .i32⟩
  | .hbm, ⟨8, _⟩ => ⟨S8x1x8192, .i32⟩
  | .hbm, ⟨9, _⟩ => ⟨S8x8192x2048, .bf16⟩
  | .local _ .vmem, ⟨0, _⟩ => ⟨S8x8192, .i32⟩
  | .local _ .vmem, ⟨1, _⟩ => ⟨S8x8192, .i32⟩
  | .local _ .vmem, ⟨2, _⟩ => ⟨S1x8192x128, .fp8e4m3⟩
  | .local _ .vmem, ⟨3, _⟩ => ⟨S1x8192x128, .fp8e4m3⟩
  | .local _ .vmem, ⟨4, _⟩ => ⟨S1x8192x128, .fp8e4m3⟩
  | .local _ .vmem, ⟨5, _⟩ => ⟨S1x8192x128, .fp8e4m3⟩
  | .local _ .vmem, ⟨6, _⟩ => ⟨S1x8192x128, .fp8e4m3⟩
  | .local _ .vmem, ⟨7, _⟩ => ⟨S1x8192x128, .fp8e4m3⟩
  | .local _ .vmem, ⟨8, _⟩ => ⟨S1x1x1x8192, .f32⟩
  | .local _ .vmem, ⟨9, _⟩ => ⟨S1x1x1x8192, .f32⟩
  | .local _ .vmem, ⟨10, _⟩ => ⟨S1x1x1x8192, .f32⟩
  | .local _ .vmem, ⟨11, _⟩ => ⟨S1x1x1x8192, .f32⟩
  | .local _ .vmem, ⟨12, _⟩ => ⟨S1x1x1x128, .f32⟩
  | .local _ .vmem, ⟨13, _⟩ => ⟨S1x1x1x128, .f32⟩
  | .local _ .vmem, ⟨14, _⟩ => ⟨S1x1x8192, .i32⟩
  | .local _ .vmem, ⟨15, _⟩ => ⟨S1x1x8192, .i32⟩
  | .local _ .vmem, ⟨16, _⟩ => ⟨S1x8192x128, .bf16⟩
  | .local _ .vmem, ⟨17, _⟩ => ⟨S1x8192x128, .bf16⟩
  | .local _ .vmem, ⟨18, _⟩ => ⟨S32x256x256, .f32⟩
  | .local _ .vmem, ⟨19, _⟩ => ⟨S256x128, .f32⟩
  | .local _ .vmem, ⟨20, _⟩ => ⟨S256x128, .f32⟩
  | .local _ .vmem, ⟨21, _⟩ => ⟨S256x128, .f32⟩
  | .local _ .vmem, ⟨22, _⟩ => ⟨S256x128, .f32⟩
  | .local _ .vmem, ⟨23, _⟩ => ⟨S256x128, .i32⟩
  | .local _ .smem, ⟨0, _⟩ => ⟨S8x32, .i32⟩
  | .local _ .smem, ⟨1, _⟩ => ⟨S8x32, .i32⟩
  | _, _ => ⟨S8x8192x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v3 : Ref sig .tc := ⟨.hbm, 8, rfl⟩
abbrev main_v4 : Ref sig .tc := ⟨.hbm, 9, rfl⟩
abbrev main_v1 : Ref sig .tc := ⟨.smem, 0, rfl⟩
abbrev main_v2 : Ref sig .tc := ⟨.smem, 1, rfl⟩
abbrev cc0_stg0_0 : Ref sig .tc := ⟨.vmem, 0, rfl⟩
abbrev cc0_stg1_0 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc1_stg7_0 : Ref sig .tc := ⟨.vmem, 16, rfl⟩
abbrev cc1_stg7_1 : Ref sig .tc := ⟨.vmem, 17, rfl⟩
abbrev cc1_scratch0 : Ref sig .tc := ⟨.vmem, 18, rfl⟩
abbrev cc1_scratch1 : Ref sig .tc := ⟨.vmem, 19, rfl⟩
abbrev cc1_scratch2 : Ref sig .tc := ⟨.vmem, 20, rfl⟩
abbrev cc1_scratch3 : Ref sig .tc := ⟨.vmem, 21, rfl⟩
abbrev cc1_scratch4 : Ref sig .tc := ⟨.vmem, 22, rfl⟩
abbrev cc1_scratch5 : Ref sig .tc := ⟨.vmem, 23, rfl⟩
abbrev cc0_sem0_0 : DmaSem sig := 0
abbrev cc0_sem1_0 : DmaSem sig := 1
abbrev cc1_sem0_0 : DmaSem sig := 2
abbrev cc1_sem0_1 : DmaSem sig := 3
abbrev cc1_sem1_0 : DmaSem sig := 4
abbrev cc1_sem1_1 : DmaSem sig := 5
abbrev cc1_sem2_0 : DmaSem sig := 6
abbrev cc1_sem2_1 : DmaSem sig := 7
abbrev cc1_sem3_0 : DmaSem sig := 8
abbrev cc1_sem3_1 : DmaSem sig := 9
abbrev cc1_sem4_0 : DmaSem sig := 10
abbrev cc1_sem4_1 : DmaSem sig := 11
abbrev cc1_sem5_0 : DmaSem sig := 12
abbrev cc1_sem5_1 : DmaSem sig := 13
abbrev cc1_sem6_0 : DmaSem sig := 14
abbrev cc1_sem6_1 : DmaSem sig := 15
abbrev cc1_sem7_0 : DmaSem sig := 16
abbrev cc1_sem7_1 : DmaSem sig := 17

abbrev nD : Nat := 1
abbrev τ : Topo := Topo.v7x

variable {F : FTy → Type} [FloatOps F]

abbrev grid0 : Pipeline.Grid := .none

abbrev stage0_0 : Fin 1 → Memref sig .tc .vmem S8x8192 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8192 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨2, ![8, 16], ![false, false]⟩

abbrev pre1 : Pipeline.Prefetch sig := ⟨2, ![main_v1.idx, main_v2.idx], fun | 0 => main_v1.names | 1 => main_v2.names | ⟨_ + 2, h⟩ => absurd h (Nat.not_lt.2 (Nat.le_add_left _ _)), fun | 0 => rfl | 1 => rfl | ⟨_ + 2, h⟩ => absurd h (Nat.not_lt.2 (Nat.le_add_left _ _))⟩

@[reducible] def k1_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k1_mult1 (k1_t1 : Fin k1_t1_loop.trips) : BitVec 32 :=
  let c0_i32 : BitVec 32 := 0#32
  let c1_i32 : BitVec 32 := 1#32
  let arg18 : BitVec 32 := Scf.iv c0_i32 c1_i32 k1_t1
  let c256_i32 : BitVec 32 := 256#32
  let v1 : BitVec 32 := Scalar.muli arg18 c256_i32
  v1
def k1_off1 (k1_t1 : Fin k1_t1_loop.trips) : Fin 4 → Nat :=
  let c0 : Index := 0#32
  let c0_1 : Index := 0#32
  let c0_2 : Index := 0#32
  let c0_i32 : BitVec 32 := 0#32
  let c1_i32 : BitVec 32 := 1#32
  let arg18 : BitVec 32 := Scf.iv c0_i32 c1_i32 k1_t1
  let c256_i32 : BitVec 32 := 256#32
  let v1 : BitVec 32 := Scalar.muli arg18 c256_i32
  let v2 : BitVec 32 := v1
  let v3 : Index := Scalar.indexCast v2
  ![0, 0, 0, v3.toNat]
def k1_off2 (k1_t1 : Fin k1_t1_loop.trips) : Fin 3 → Nat :=
  let c0_5 : Index := 0#32
  let c0_6 : Index := 0#32
  let c0_i32 : BitVec 32 := 0#32
  let c1_i32 : BitVec 32 := 1#32
  let arg18 : BitVec 32 := Scf.iv c0_i32 c1_i32 k1_t1
  let c256_i32 : BitVec 32 := 256#32
  let v1 : BitVec 32 := Scalar.muli arg18 c256_i32
  let v2 : BitVec 32 := v1
  let v14 : Index := Scalar.indexCast v2
  ![0, 0, v14.toNat]
def k1_off3 (i : grid1.Coords) (k1_t1 : Fin k1_t1_loop.trips) : Fin 2 → Nat :=
  let arg0 : BitVec 32 := BitVec.ofNat 32 (i 0).val
  let v35 : Index := Scalar.indexCast arg0
  let c0_i32 : BitVec 32 := 0#32
  let c1_i32 : BitVec 32 := 1#32
  let arg18 : BitVec 32 := Scf.iv c0_i32 c1_i32 k1_t1
  let v36 : Index := Scalar.indexCast arg18
  ![v35.toNat, v36.toNat]
def k1_off4 (k1_t1 : Fin k1_t1_loop.trips) : Fin 3 → Nat :=
  let c0_25 : Index := 0#32
  let c0_i32 : BitVec 32 := 0#32
  let c1_i32 : BitVec 32 := 1#32
  let arg18 : BitVec 32 := Scf.iv c0_i32 c1_i32 k1_t1
  let c256_i32 : BitVec 32 := 256#32
  let v1 : BitVec 32 := Scalar.muli arg18 c256_i32
  let v2 : BitVec 32 := v1
  let v58 : Index := Scalar.indexCast v2
  let c0_26 : Index := 0#32
  ![0, v58.toNat, 0]
@[reducible] def k1_t2_loop (k1_t1 : Fin k1_t1_loop.trips) (v37 : BitVec 32) (v57 : BitVec 32) : Scf.Loop 32 :=
  let c0_i32_19 : BitVec 32 := 0#32
  let v39 : BitVec 1 := Scalar.cmpi .sgt v37 c0_i32_19
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c256_i32_18 : BitVec 32 := 256#32
  let c0_i32_21 : BitVec 32 := 0#32
  let v44 : BitVec 1 := Scalar.cmpi .sgt c256_i32_18 c0_i32_21
  let v45 : BitVec 32 := Scalar.extui v44
  let c0_i32_22 : BitVec 32 := 0#32
  let v46 : BitVec 1 := Scalar.cmpi .slt c256_i32_18 c0_i32_22
  let v47 : BitVec 32 := Scalar.extui v46
  let v48 : BitVec 32 := Scalar.subi v45 v47
  let v49 : BitVec 1 := Scalar.cmpi .ne v43 v48
  let v50 : BitVec 32 := Scalar.remsi v37 c256_i32_18
  let c0_i32_23 : BitVec 32 := 0#32
  let v51 : BitVec 1 := Scalar.cmpi .ne v50 c0_i32_23
  let v52 : BitVec 1 := Scalar.andi v49 v51
  let v38 : BitVec 32 := Scalar.divsi v37 c256_i32_18
  let c1_i32_24 : BitVec 32 := 1#32
  let v53 : BitVec 32 := Scalar.subi v38 c1_i32_24
  let v54 : BitVec 32 := Scalar.select v52 v53 v38
  let c256_i32_27 : BitVec 32 := 256#32
  let v61 : BitVec 32 := Scalar.addi v57 c256_i32_27
  let c1_i32_28 : BitVec 32 := 1#32
  let v62 : BitVec 32 := Scalar.subi v61 c1_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c256_i32_29 : BitVec 32 := 256#32
  let c0_i32_32 : BitVec 32 := 0#32
  let v69 : BitVec 1 := Scalar.cmpi .sgt c256_i32_29 c0_i32_32
  let v70 : BitVec 32 := Scalar.extui v69
  let c0_i32_33 : BitVec 32 := 0#32
  let v71 : BitVec 1 := Scalar.cmpi .slt c256_i32_29 c0_i32_33
  let v72 : BitVec 32 := Scalar.extui v71
  let v73 : BitVec 32 := Scalar.subi v70 v72
  let v74 : BitVec 1 := Scalar.cmpi .ne v68 v73
  let v75 : BitVec 32 := Scalar.remsi v62 c256_i32_29
  let c0_i32_34 : BitVec 32 := 0#32
  let v76 : BitVec 1 := Scalar.cmpi .ne v75 c0_i32_34
  let v77 : BitVec 1 := Scalar.andi v74 v76
  let v63 : BitVec 32 := Scalar.divsi v62 c256_i32_29
  let c1_i32_35 : BitVec 32 := 1#32
  let v78 : BitVec 32 := Scalar.subi v63 c1_i32_35
  let v79 : BitVec 32 := Scalar.select v77 v78 v63
  let c0_i32 : BitVec 32 := 0#32
  let c1_i32 : BitVec 32 := 1#32
  let arg18 : BitVec 32 := Scf.iv c0_i32 c1_i32 k1_t1
  let v80 : BitVec 32 := Scalar.minsi v79 arg18
  let v81 : BitVec 32 := Scalar.subi v80 v54
  let c1_i32_37 : BitVec 32 := 1#32
  let v83 : BitVec 32 := Scalar.divsi v81 c1_i32_37
  let v84 : BitVec 32 := Scalar.muli v83 c1_i32_37
  let v85 : BitVec 32 := Scalar.addi v54 v84
  let c1_i32_38 : BitVec 32 := 1#32
  ⟨v54, v85, c1_i32_38⟩

def k1_mult2 (k1_t1 : Fin k1_t1_loop.trips) (v37 : BitVec 32) (v57 : BitVec 32) (k1_t2 : Fin (k1_t2_loop k1_t1 v37 v57).trips) : BitVec 32 :=
  let c0_i32_19 : BitVec 32 := 0#32
  let v39 : BitVec 1 := Scalar.cmpi .sgt v37 c0_i32_19
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c256_i32_18 : BitVec 32 := 256#32
  let c0_i32_21 : BitVec 32 := 0#32
  let v44 : BitVec 1 := Scalar.cmpi .sgt c256_i32_18 c0_i32_21
  let v45 : BitVec 32 := Scalar.extui v44
  let c0_i32_22 : BitVec 32 := 0#32
  let v46 : BitVec 1 := Scalar.cmpi .slt c256_i32_18 c0_i32_22
  let v47 : BitVec 32 := Scalar.extui v46
  let v48 : BitVec 32 := Scalar.subi v45 v47
  let v49 : BitVec 1 := Scalar.cmpi .ne v43 v48
  let v50 : BitVec 32 := Scalar.remsi v37 c256_i32_18
  let c0_i32_23 : BitVec 32 := 0#32
  let v51 : BitVec 1 := Scalar.cmpi .ne v50 c0_i32_23
  let v52 : BitVec 1 := Scalar.andi v49 v51
  let v38 : BitVec 32 := Scalar.divsi v37 c256_i32_18
  let c1_i32_24 : BitVec 32 := 1#32
  let v53 : BitVec 32 := Scalar.subi v38 c1_i32_24
  let v54 : BitVec 32 := Scalar.select v52 v53 v38
  let c1_i32_38 : BitVec 32 := 1#32
  let arg19 : BitVec 32 := Scf.iv v54 c1_i32_38 k1_t2
  let c256_i32_86 : BitVec 32 := 256#32
  let v168 : BitVec 32 := Scalar.muli arg19 c256_i32_86
  v168
def k1_off5 (k1_t1 : Fin k1_t1_loop.trips) (v37 : BitVec 32) (v57 : BitVec 32) (k1_t2 : Fin (k1_t2_loop k1_t1 v37 v57).trips) : Fin 3 → Nat :=
  let c0_87 : Index := 0#32
  let c0_i32_19 : BitVec 32 := 0#32
  let v39 : BitVec 1 := Scalar.cmpi .sgt v37 c0_i32_19
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c256_i32_18 : BitVec 32 := 256#32
  let c0_i32_21 : BitVec 32 := 0#32
  let v44 : BitVec 1 := Scalar.cmpi .sgt c256_i32_18 c0_i32_21
  let v45 : BitVec 32 := Scalar.extui v44
  let c0_i32_22 : BitVec 32 := 0#32
  let v46 : BitVec 1 := Scalar.cmpi .slt c256_i32_18 c0_i32_22
  let v47 : BitVec 32 := Scalar.extui v46
  let v48 : BitVec 32 := Scalar.subi v45 v47
  let v49 : BitVec 1 := Scalar.cmpi .ne v43 v48
  let v50 : BitVec 32 := Scalar.remsi v37 c256_i32_18
  let c0_i32_23 : BitVec 32 := 0#32
  let v51 : BitVec 1 := Scalar.cmpi .ne v50 c0_i32_23
  let v52 : BitVec 1 := Scalar.andi v49 v51
  let v38 : BitVec 32 := Scalar.divsi v37 c256_i32_18
  let c1_i32_24 : BitVec 32 := 1#32
  let v53 : BitVec 32 := Scalar.subi v38 c1_i32_24
  let v54 : BitVec 32 := Scalar.select v52 v53 v38
  let c1_i32_38 : BitVec 32 := 1#32
  let arg19 : BitVec 32 := Scf.iv v54 c1_i32_38 k1_t2
  let c256_i32_86 : BitVec 32 := 256#32
  let v168 : BitVec 32 := Scalar.muli arg19 c256_i32_86
  let v169 : BitVec 32 := v168
  let v170 : Index := Scalar.indexCast v169
  let c0_88 : Index := 0#32
  ![0, v170.toNat, 0]
def k1_off6 (k1_t1 : Fin k1_t1_loop.trips) (v37 : BitVec 32) (v57 : BitVec 32) (k1_t2 : Fin (k1_t2_loop k1_t1 v37 v57).trips) : Fin 4 → Nat :=
  let c0_90 : Index := 0#32
  let c0_91 : Index := 0#32
  let c0_92 : Index := 0#32
  let c0_i32_19 : BitVec 32 := 0#32
  let v39 : BitVec 1 := Scalar.cmpi .sgt v37 c0_i32_19
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c256_i32_18 : BitVec 32 := 256#32
  let c0_i32_21 : BitVec 32 := 0#32
  let v44 : BitVec 1 := Scalar.cmpi .sgt c256_i32_18 c0_i32_21
  let v45 : BitVec 32 := Scalar.extui v44
  let c0_i32_22 : BitVec 32 := 0#32
  let v46 : BitVec 1 := Scalar.cmpi .slt c256_i32_18 c0_i32_22
  let v47 : BitVec 32 := Scalar.extui v46
  let v48 : BitVec 32 := Scalar.subi v45 v47
  let v49 : BitVec 1 := Scalar.cmpi .ne v43 v48
  let v50 : BitVec 32 := Scalar.remsi v37 c256_i32_18
  let c0_i32_23 : BitVec 32 := 0#32
  let v51 : BitVec 1 := Scalar.cmpi .ne v50 c0_i32_23
  let v52 : BitVec 1 := Scalar.andi v49 v51
  let v38 : BitVec 32 := Scalar.divsi v37 c256_i32_18
  let c1_i32_24 : BitVec 32 := 1#32
  let v53 : BitVec 32 := Scalar.subi v38 c1_i32_24
  let v54 : BitVec 32 := Scalar.select v52 v53 v38
  let c1_i32_38 : BitVec 32 := 1#32
  let arg19 : BitVec 32 := Scf.iv v54 c1_i32_38 k1_t2
  let c256_i32_86 : BitVec 32 := 256#32
  let v168 : BitVec 32 := Scalar.muli arg19 c256_i32_86
  let v169 : BitVec 32 := v168
  let v174 : Index := Scalar.indexCast v169
  ![0, 0, 0, v174.toNat]
def k1_off7 (k1_t1 : Fin k1_t1_loop.trips) (v37 : BitVec 32) (v57 : BitVec 32) (k1_t2 : Fin (k1_t2_loop k1_t1 v37 v57).trips) : Fin 3 → Nat :=
  let c0_i32_19 : BitVec 32 := 0#32
  let v39 : BitVec 1 := Scalar.cmpi .sgt v37 c0_i32_19
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c256_i32_18 : BitVec 32 := 256#32
  let c0_i32_21 : BitVec 32 := 0#32
  let v44 : BitVec 1 := Scalar.cmpi .sgt c256_i32_18 c0_i32_21
  let v45 : BitVec 32 := Scalar.extui v44
  let c0_i32_22 : BitVec 32 := 0#32
  let v46 : BitVec 1 := Scalar.cmpi .slt c256_i32_18 c0_i32_22
  let v47 : BitVec 32 := Scalar.extui v46
  let v48 : BitVec 32 := Scalar.subi v45 v47
  let v49 : BitVec 1 := Scalar.cmpi .ne v43 v48
  let v50 : BitVec 32 := Scalar.remsi v37 c256_i32_18
  let c0_i32_23 : BitVec 32 := 0#32
  let v51 : BitVec 1 := Scalar.cmpi .ne v50 c0_i32_23
  let v52 : BitVec 1 := Scalar.andi v49 v51
  let v38 : BitVec 32 := Scalar.divsi v37 c256_i32_18
  let c1_i32_24 : BitVec 32 := 1#32
  let v53 : BitVec 32 := Scalar.subi v38 c1_i32_24
  let v54 : BitVec 32 := Scalar.select v52 v53 v38
  let c1_i32_38 : BitVec 32 := 1#32
  let arg19 : BitVec 32 := Scf.iv v54 c1_i32_38 k1_t2
  let v193 : Index := Scalar.indexCast arg19
  let c0_98 : Index := 0#32
  let c0_99 : Index := 0#32
  ![v193.toNat, 0, 0]
@[reducible] def k1_t3_loop (k1_t1 : Fin k1_t1_loop.trips) (v37 : BitVec 32) (v57 : BitVec 32) : Scf.Loop 32 :=
  let c0_i32_19 : BitVec 32 := 0#32
  let v39 : BitVec 1 := Scalar.cmpi .sgt v37 c0_i32_19
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c256_i32_18 : BitVec 32 := 256#32
  let c0_i32_21 : BitVec 32 := 0#32
  let v44 : BitVec 1 := Scalar.cmpi .sgt c256_i32_18 c0_i32_21
  let v45 : BitVec 32 := Scalar.extui v44
  let c0_i32_22 : BitVec 32 := 0#32
  let v46 : BitVec 1 := Scalar.cmpi .slt c256_i32_18 c0_i32_22
  let v47 : BitVec 32 := Scalar.extui v46
  let v48 : BitVec 32 := Scalar.subi v45 v47
  let v49 : BitVec 1 := Scalar.cmpi .ne v43 v48
  let v50 : BitVec 32 := Scalar.remsi v37 c256_i32_18
  let c0_i32_23 : BitVec 32 := 0#32
  let v51 : BitVec 1 := Scalar.cmpi .ne v50 c0_i32_23
  let v52 : BitVec 1 := Scalar.andi v49 v51
  let v38 : BitVec 32 := Scalar.divsi v37 c256_i32_18
  let c1_i32_24 : BitVec 32 := 1#32
  let v53 : BitVec 32 := Scalar.subi v38 c1_i32_24
  let v54 : BitVec 32 := Scalar.select v52 v53 v38
  let c256_i32_27 : BitVec 32 := 256#32
  let v61 : BitVec 32 := Scalar.addi v57 c256_i32_27
  let c1_i32_28 : BitVec 32 := 1#32
  let v62 : BitVec 32 := Scalar.subi v61 c1_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c256_i32_29 : BitVec 32 := 256#32
  let c0_i32_32 : BitVec 32 := 0#32
  let v69 : BitVec 1 := Scalar.cmpi .sgt c256_i32_29 c0_i32_32
  let v70 : BitVec 32 := Scalar.extui v69
  let c0_i32_33 : BitVec 32 := 0#32
  let v71 : BitVec 1 := Scalar.cmpi .slt c256_i32_29 c0_i32_33
  let v72 : BitVec 32 := Scalar.extui v71
  let v73 : BitVec 32 := Scalar.subi v70 v72
  let v74 : BitVec 1 := Scalar.cmpi .ne v68 v73
  let v75 : BitVec 32 := Scalar.remsi v62 c256_i32_29
  let c0_i32_34 : BitVec 32 := 0#32
  let v76 : BitVec 1 := Scalar.cmpi .ne v75 c0_i32_34
  let v77 : BitVec 1 := Scalar.andi v74 v76
  let v63 : BitVec 32 := Scalar.divsi v62 c256_i32_29
  let c1_i32_35 : BitVec 32 := 1#32
  let v78 : BitVec 32 := Scalar.subi v63 c1_i32_35
  let v79 : BitVec 32 := Scalar.select v77 v78 v63
  let c0_i32 : BitVec 32 := 0#32
  let c1_i32 : BitVec 32 := 1#32
  let arg18 : BitVec 32 := Scf.iv c0_i32 c1_i32 k1_t1
  let v80 : BitVec 32 := Scalar.minsi v79 arg18
  let v81 : BitVec 32 := Scalar.subi v80 v54
  let c1_i32_37 : BitVec 32 := 1#32
  let v83 : BitVec 32 := Scalar.divsi v81 c1_i32_37
  let v84 : BitVec 32 := Scalar.muli v83 c1_i32_37
  let v85 : BitVec 32 := Scalar.addi v54 v84
  let v82 : BitVec 32 := Scalar.addi v54 v81
  let c1_i32_39 : BitVec 32 := 1#32
  ⟨v85, v82, c1_i32_39⟩
def k1_mult3 (k1_t1 : Fin k1_t1_loop.trips) (v37 : BitVec 32) (v57 : BitVec 32) (k1_t3 : Fin (k1_t3_loop k1_t1 v37 v57).trips) : BitVec 32 :=
  let c0_i32_19 : BitVec 32 := 0#32
  let v39 : BitVec 1 := Scalar.cmpi .sgt v37 c0_i32_19
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c256_i32_18 : BitVec 32 := 256#32
  let c0_i32_21 : BitVec 32 := 0#32
  let v44 : BitVec 1 := Scalar.cmpi .sgt c256_i32_18 c0_i32_21
  let v45 : BitVec 32 := Scalar.extui v44
  let c0_i32_22 : BitVec 32 := 0#32
  let v46 : BitVec 1 := Scalar.cmpi .slt c256_i32_18 c0_i32_22
  let v47 : BitVec 32 := Scalar.extui v46
  let v48 : BitVec 32 := Scalar.subi v45 v47
  let v49 : BitVec 1 := Scalar.cmpi .ne v43 v48
  let v50 : BitVec 32 := Scalar.remsi v37 c256_i32_18
  let c0_i32_23 : BitVec 32 := 0#32
  let v51 : BitVec 1 := Scalar.cmpi .ne v50 c0_i32_23
  let v52 : BitVec 1 := Scalar.andi v49 v51
  let v38 : BitVec 32 := Scalar.divsi v37 c256_i32_18
  let c1_i32_24 : BitVec 32 := 1#32
  let v53 : BitVec 32 := Scalar.subi v38 c1_i32_24
  let v54 : BitVec 32 := Scalar.select v52 v53 v38
  let c256_i32_27 : BitVec 32 := 256#32
  let v61 : BitVec 32 := Scalar.addi v57 c256_i32_27
  let c1_i32_28 : BitVec 32 := 1#32
  let v62 : BitVec 32 := Scalar.subi v61 c1_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c256_i32_29 : BitVec 32 := 256#32
  let c0_i32_32 : BitVec 32 := 0#32
  let v69 : BitVec 1 := Scalar.cmpi .sgt c256_i32_29 c0_i32_32
  let v70 : BitVec 32 := Scalar.extui v69
  let c0_i32_33 : BitVec 32 := 0#32
  let v71 : BitVec 1 := Scalar.cmpi .slt c256_i32_29 c0_i32_33
  let v72 : BitVec 32 := Scalar.extui v71
  let v73 : BitVec 32 := Scalar.subi v70 v72
  let v74 : BitVec 1 := Scalar.cmpi .ne v68 v73
  let v75 : BitVec 32 := Scalar.remsi v62 c256_i32_29
  let c0_i32_34 : BitVec 32 := 0#32
  let v76 : BitVec 1 := Scalar.cmpi .ne v75 c0_i32_34
  let v77 : BitVec 1 := Scalar.andi v74 v76
  let v63 : BitVec 32 := Scalar.divsi v62 c256_i32_29
  let c1_i32_35 : BitVec 32 := 1#32
  let v78 : BitVec 32 := Scalar.subi v63 c1_i32_35
  let v79 : BitVec 32 := Scalar.select v77 v78 v63
  let c0_i32 : BitVec 32 := 0#32
  let c1_i32 : BitVec 32 := 1#32
  let arg18 : BitVec 32 := Scf.iv c0_i32 c1_i32 k1_t1
  let v80 : BitVec 32 := Scalar.minsi v79 arg18
  let v81 : BitVec 32 := Scalar.subi v80 v54
  let c1_i32_37 : BitVec 32 := 1#32
  let v83 : BitVec 32 := Scalar.divsi v81 c1_i32_37
  let v84 : BitVec 32 := Scalar.muli v83 c1_i32_37
  let v85 : BitVec 32 := Scalar.addi v54 v84
  let c1_i32_39 : BitVec 32 := 1#32
  let arg19 : BitVec 32 := Scf.iv v85 c1_i32_39 k1_t3
  let c256_i32_86 : BitVec 32 := 256#32
  let v168 : BitVec 32 := Scalar.muli arg19 c256_i32_86
  v168
def k1_off8 (k1_t1 : Fin k1_t1_loop.trips) (v37 : BitVec 32) (v57 : BitVec 32) (k1_t3 : Fin (k1_t3_loop k1_t1 v37 v57).trips) : Fin 3 → Nat :=
  let c0_87 : Index := 0#32
  let c0_i32_19 : BitVec 32 := 0#32
  let v39 : BitVec 1 := Scalar.cmpi .sgt v37 c0_i32_19
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c256_i32_18 : BitVec 32 := 256#32
  let c0_i32_21 : BitVec 32 := 0#32
  let v44 : BitVec 1 := Scalar.cmpi .sgt c256_i32_18 c0_i32_21
  let v45 : BitVec 32 := Scalar.extui v44
  let c0_i32_22 : BitVec 32 := 0#32
  let v46 : BitVec 1 := Scalar.cmpi .slt c256_i32_18 c0_i32_22
  let v47 : BitVec 32 := Scalar.extui v46
  let v48 : BitVec 32 := Scalar.subi v45 v47
  let v49 : BitVec 1 := Scalar.cmpi .ne v43 v48
  let v50 : BitVec 32 := Scalar.remsi v37 c256_i32_18
  let c0_i32_23 : BitVec 32 := 0#32
  let v51 : BitVec 1 := Scalar.cmpi .ne v50 c0_i32_23
  let v52 : BitVec 1 := Scalar.andi v49 v51
  let v38 : BitVec 32 := Scalar.divsi v37 c256_i32_18
  let c1_i32_24 : BitVec 32 := 1#32
  let v53 : BitVec 32 := Scalar.subi v38 c1_i32_24
  let v54 : BitVec 32 := Scalar.select v52 v53 v38
  let c256_i32_27 : BitVec 32 := 256#32
  let v61 : BitVec 32 := Scalar.addi v57 c256_i32_27
  let c1_i32_28 : BitVec 32 := 1#32
  let v62 : BitVec 32 := Scalar.subi v61 c1_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c256_i32_29 : BitVec 32 := 256#32
  let c0_i32_32 : BitVec 32 := 0#32
  let v69 : BitVec 1 := Scalar.cmpi .sgt c256_i32_29 c0_i32_32
  let v70 : BitVec 32 := Scalar.extui v69
  let c0_i32_33 : BitVec 32 := 0#32
  let v71 : BitVec 1 := Scalar.cmpi .slt c256_i32_29 c0_i32_33
  let v72 : BitVec 32 := Scalar.extui v71
  let v73 : BitVec 32 := Scalar.subi v70 v72
  let v74 : BitVec 1 := Scalar.cmpi .ne v68 v73
  let v75 : BitVec 32 := Scalar.remsi v62 c256_i32_29
  let c0_i32_34 : BitVec 32 := 0#32
  let v76 : BitVec 1 := Scalar.cmpi .ne v75 c0_i32_34
  let v77 : BitVec 1 := Scalar.andi v74 v76
  let v63 : BitVec 32 := Scalar.divsi v62 c256_i32_29
  let c1_i32_35 : BitVec 32 := 1#32
  let v78 : BitVec 32 := Scalar.subi v63 c1_i32_35
  let v79 : BitVec 32 := Scalar.select v77 v78 v63
  let c0_i32 : BitVec 32 := 0#32
  let c1_i32 : BitVec 32 := 1#32
  let arg18 : BitVec 32 := Scf.iv c0_i32 c1_i32 k1_t1
  let v80 : BitVec 32 := Scalar.minsi v79 arg18
  let v81 : BitVec 32 := Scalar.subi v80 v54
  let c1_i32_37 : BitVec 32 := 1#32
  let v83 : BitVec 32 := Scalar.divsi v81 c1_i32_37
  let v84 : BitVec 32 := Scalar.muli v83 c1_i32_37
  let v85 : BitVec 32 := Scalar.addi v54 v84
  let c1_i32_39 : BitVec 32 := 1#32
  let arg19 : BitVec 32 := Scf.iv v85 c1_i32_39 k1_t3
  let c256_i32_86 : BitVec 32 := 256#32
  let v168 : BitVec 32 := Scalar.muli arg19 c256_i32_86
  let v169 : BitVec 32 := v168
  let v170 : Index := Scalar.indexCast v169
  let c0_88 : Index := 0#32
  ![0, v170.toNat, 0]
def k1_off9 (k1_t1 : Fin k1_t1_loop.trips) (v37 : BitVec 32) (v57 : BitVec 32) (k1_t3 : Fin (k1_t3_loop k1_t1 v37 v57).trips) : Fin 4 → Nat :=
  let c0_90 : Index := 0#32
  let c0_91 : Index := 0#32
  let c0_92 : Index := 0#32
  let c0_i32_19 : BitVec 32 := 0#32
  let v39 : BitVec 1 := Scalar.cmpi .sgt v37 c0_i32_19
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c256_i32_18 : BitVec 32 := 256#32
  let c0_i32_21 : BitVec 32 := 0#32
  let v44 : BitVec 1 := Scalar.cmpi .sgt c256_i32_18 c0_i32_21
  let v45 : BitVec 32 := Scalar.extui v44
  let c0_i32_22 : BitVec 32 := 0#32
  let v46 : BitVec 1 := Scalar.cmpi .slt c256_i32_18 c0_i32_22
  let v47 : BitVec 32 := Scalar.extui v46
  let v48 : BitVec 32 := Scalar.subi v45 v47
  let v49 : BitVec 1 := Scalar.cmpi .ne v43 v48
  let v50 : BitVec 32 := Scalar.remsi v37 c256_i32_18
  let c0_i32_23 : BitVec 32 := 0#32
  let v51 : BitVec 1 := Scalar.cmpi .ne v50 c0_i32_23
  let v52 : BitVec 1 := Scalar.andi v49 v51
  let v38 : BitVec 32 := Scalar.divsi v37 c256_i32_18
  let c1_i32_24 : BitVec 32 := 1#32
  let v53 : BitVec 32 := Scalar.subi v38 c1_i32_24
  let v54 : BitVec 32 := Scalar.select v52 v53 v38
  let c256_i32_27 : BitVec 32 := 256#32
  let v61 : BitVec 32 := Scalar.addi v57 c256_i32_27
  let c1_i32_28 : BitVec 32 := 1#32
  let v62 : BitVec 32 := Scalar.subi v61 c1_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c256_i32_29 : BitVec 32 := 256#32
  let c0_i32_32 : BitVec 32 := 0#32
  let v69 : BitVec 1 := Scalar.cmpi .sgt c256_i32_29 c0_i32_32
  let v70 : BitVec 32 := Scalar.extui v69
  let c0_i32_33 : BitVec 32 := 0#32
  let v71 : BitVec 1 := Scalar.cmpi .slt c256_i32_29 c0_i32_33
  let v72 : BitVec 32 := Scalar.extui v71
  let v73 : BitVec 32 := Scalar.subi v70 v72
  let v74 : BitVec 1 := Scalar.cmpi .ne v68 v73
  let v75 : BitVec 32 := Scalar.remsi v62 c256_i32_29
  let c0_i32_34 : BitVec 32 := 0#32
  let v76 : BitVec 1 := Scalar.cmpi .ne v75 c0_i32_34
  let v77 : BitVec 1 := Scalar.andi v74 v76
  let v63 : BitVec 32 := Scalar.divsi v62 c256_i32_29
  let c1_i32_35 : BitVec 32 := 1#32
  let v78 : BitVec 32 := Scalar.subi v63 c1_i32_35
  let v79 : BitVec 32 := Scalar.select v77 v78 v63
  let c0_i32 : BitVec 32 := 0#32
  let c1_i32 : BitVec 32 := 1#32
  let arg18 : BitVec 32 := Scf.iv c0_i32 c1_i32 k1_t1
  let v80 : BitVec 32 := Scalar.minsi v79 arg18
  let v81 : BitVec 32 := Scalar.subi v80 v54
  let c1_i32_37 : BitVec 32 := 1#32
  let v83 : BitVec 32 := Scalar.divsi v81 c1_i32_37
  let v84 : BitVec 32 := Scalar.muli v83 c1_i32_37
  let v85 : BitVec 32 := Scalar.addi v54 v84
  let c1_i32_39 : BitVec 32 := 1#32
  let arg19 : BitVec 32 := Scf.iv v85 c1_i32_39 k1_t3
  let c256_i32_86 : BitVec 32 := 256#32
  let v168 : BitVec 32 := Scalar.muli arg19 c256_i32_86
  let v169 : BitVec 32 := v168
  let v174 : Index := Scalar.indexCast v169
  ![0, 0, 0, v174.toNat]
def k1_off10 (k1_t1 : Fin k1_t1_loop.trips) (v37 : BitVec 32) (v57 : BitVec 32) (k1_t3 : Fin (k1_t3_loop k1_t1 v37 v57).trips) : Fin 3 → Nat :=
  let c0_i32_19 : BitVec 32 := 0#32
  let v39 : BitVec 1 := Scalar.cmpi .sgt v37 c0_i32_19
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c256_i32_18 : BitVec 32 := 256#32
  let c0_i32_21 : BitVec 32 := 0#32
  let v44 : BitVec 1 := Scalar.cmpi .sgt c256_i32_18 c0_i32_21
  let v45 : BitVec 32 := Scalar.extui v44
  let c0_i32_22 : BitVec 32 := 0#32
  let v46 : BitVec 1 := Scalar.cmpi .slt c256_i32_18 c0_i32_22
  let v47 : BitVec 32 := Scalar.extui v46
  let v48 : BitVec 32 := Scalar.subi v45 v47
  let v49 : BitVec 1 := Scalar.cmpi .ne v43 v48
  let v50 : BitVec 32 := Scalar.remsi v37 c256_i32_18
  let c0_i32_23 : BitVec 32 := 0#32
  let v51 : BitVec 1 := Scalar.cmpi .ne v50 c0_i32_23
  let v52 : BitVec 1 := Scalar.andi v49 v51
  let v38 : BitVec 32 := Scalar.divsi v37 c256_i32_18
  let c1_i32_24 : BitVec 32 := 1#32
  let v53 : BitVec 32 := Scalar.subi v38 c1_i32_24
  let v54 : BitVec 32 := Scalar.select v52 v53 v38
  let c256_i32_27 : BitVec 32 := 256#32
  let v61 : BitVec 32 := Scalar.addi v57 c256_i32_27
  let c1_i32_28 : BitVec 32 := 1#32
  let v62 : BitVec 32 := Scalar.subi v61 c1_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c256_i32_29 : BitVec 32 := 256#32
  let c0_i32_32 : BitVec 32 := 0#32
  let v69 : BitVec 1 := Scalar.cmpi .sgt c256_i32_29 c0_i32_32
  let v70 : BitVec 32 := Scalar.extui v69
  let c0_i32_33 : BitVec 32 := 0#32
  let v71 : BitVec 1 := Scalar.cmpi .slt c256_i32_29 c0_i32_33
  let v72 : BitVec 32 := Scalar.extui v71
  let v73 : BitVec 32 := Scalar.subi v70 v72
  let v74 : BitVec 1 := Scalar.cmpi .ne v68 v73
  let v75 : BitVec 32 := Scalar.remsi v62 c256_i32_29
  let c0_i32_34 : BitVec 32 := 0#32
  let v76 : BitVec 1 := Scalar.cmpi .ne v75 c0_i32_34
  let v77 : BitVec 1 := Scalar.andi v74 v76
  let v63 : BitVec 32 := Scalar.divsi v62 c256_i32_29
  let c1_i32_35 : BitVec 32 := 1#32
  let v78 : BitVec 32 := Scalar.subi v63 c1_i32_35
  let v79 : BitVec 32 := Scalar.select v77 v78 v63
  let c0_i32 : BitVec 32 := 0#32
  let c1_i32 : BitVec 32 := 1#32
  let arg18 : BitVec 32 := Scf.iv c0_i32 c1_i32 k1_t1
  let v80 : BitVec 32 := Scalar.minsi v79 arg18
  let v81 : BitVec 32 := Scalar.subi v80 v54
  let c1_i32_37 : BitVec 32 := 1#32
  let v83 : BitVec 32 := Scalar.divsi v81 c1_i32_37
  let v84 : BitVec 32 := Scalar.muli v83 c1_i32_37
  let v85 : BitVec 32 := Scalar.addi v54 v84
  let c1_i32_39 : BitVec 32 := 1#32
  let arg19 : BitVec 32 := Scf.iv v85 c1_i32_39 k1_t3
  let v193 : Index := Scalar.indexCast arg19
  let c0_98 : Index := 0#32
  let c0_99 : Index := 0#32
  ![v193.toNat, 0, 0]
@[reducible] def k1_t4_loop (k1_t1 : Fin k1_t1_loop.trips) (v57 : BitVec 32) : Scf.Loop 32 :=
  let c256_i32_27 : BitVec 32 := 256#32
  let v61 : BitVec 32 := Scalar.addi v57 c256_i32_27
  let c1_i32_28 : BitVec 32 := 1#32
  let v62 : BitVec 32 := Scalar.subi v61 c1_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c256_i32_29 : BitVec 32 := 256#32
  let c0_i32_32 : BitVec 32 := 0#32
  let v69 : BitVec 1 := Scalar.cmpi .sgt c256_i32_29 c0_i32_32
  let v70 : BitVec 32 := Scalar.extui v69
  let c0_i32_33 : BitVec 32 := 0#32
  let v71 : BitVec 1 := Scalar.cmpi .slt c256_i32_29 c0_i32_33
  let v72 : BitVec 32 := Scalar.extui v71
  let v73 : BitVec 32 := Scalar.subi v70 v72
  let v74 : BitVec 1 := Scalar.cmpi .ne v68 v73
  let v75 : BitVec 32 := Scalar.remsi v62 c256_i32_29
  let c0_i32_34 : BitVec 32 := 0#32
  let v76 : BitVec 1 := Scalar.cmpi .ne v75 c0_i32_34
  let v77 : BitVec 1 := Scalar.andi v74 v76
  let v63 : BitVec 32 := Scalar.divsi v62 c256_i32_29
  let c1_i32_35 : BitVec 32 := 1#32
  let v78 : BitVec 32 := Scalar.subi v63 c1_i32_35
  let v79 : BitVec 32 := Scalar.select v77 v78 v63
  let c0_i32 : BitVec 32 := 0#32
  let c1_i32 : BitVec 32 := 1#32
  let arg18 : BitVec 32 := Scf.iv c0_i32 c1_i32 k1_t1
  let v80 : BitVec 32 := Scalar.minsi v79 arg18
  let v88 : BitVec 32 := Scalar.subi arg18 v80
  let c1_i32_41 : BitVec 32 := 1#32
  let v90 : BitVec 32 := Scalar.divsi v88 c1_i32_41
  let v91 : BitVec 32 := Scalar.muli v90 c1_i32_41
  let v92 : BitVec 32 := Scalar.addi v80 v91
  let c1_i32_42 : BitVec 32 := 1#32
  ⟨v80, v92, c1_i32_42⟩
def k1_mult4 (k1_t1 : Fin k1_t1_loop.trips) (v57 : BitVec 32) (k1_t4 : Fin (k1_t4_loop k1_t1 v57).trips) : BitVec 32 :=
  let c256_i32_27 : BitVec 32 := 256#32
  let v61 : BitVec 32 := Scalar.addi v57 c256_i32_27
  let c1_i32_28 : BitVec 32 := 1#32
  let v62 : BitVec 32 := Scalar.subi v61 c1_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c256_i32_29 : BitVec 32 := 256#32
  let c0_i32_32 : BitVec 32 := 0#32
  let v69 : BitVec 1 := Scalar.cmpi .sgt c256_i32_29 c0_i32_32
  let v70 : BitVec 32 := Scalar.extui v69
  let c0_i32_33 : BitVec 32 := 0#32
  let v71 : BitVec 1 := Scalar.cmpi .slt c256_i32_29 c0_i32_33
  let v72 : BitVec 32 := Scalar.extui v71
  let v73 : BitVec 32 := Scalar.subi v70 v72
  let v74 : BitVec 1 := Scalar.cmpi .ne v68 v73
  let v75 : BitVec 32 := Scalar.remsi v62 c256_i32_29
  let c0_i32_34 : BitVec 32 := 0#32
  let v76 : BitVec 1 := Scalar.cmpi .ne v75 c0_i32_34
  let v77 : BitVec 1 := Scalar.andi v74 v76
  let v63 : BitVec 32 := Scalar.divsi v62 c256_i32_29
  let c1_i32_35 : BitVec 32 := 1#32
  let v78 : BitVec 32 := Scalar.subi v63 c1_i32_35
  let v79 : BitVec 32 := Scalar.select v77 v78 v63
  let c0_i32 : BitVec 32 := 0#32
  let c1_i32 : BitVec 32 := 1#32
  let arg18 : BitVec 32 := Scf.iv c0_i32 c1_i32 k1_t1
  let v80 : BitVec 32 := Scalar.minsi v79 arg18
  let c1_i32_42 : BitVec 32 := 1#32
  let arg19 : BitVec 32 := Scf.iv v80 c1_i32_42 k1_t4
  let c256_i32_86 : BitVec 32 := 256#32
  let v168 : BitVec 32 := Scalar.muli arg19 c256_i32_86
  v168
def k1_off11 (k1_t1 : Fin k1_t1_loop.trips) (v57 : BitVec 32) (k1_t4 : Fin (k1_t4_loop k1_t1 v57).trips) : Fin 3 → Nat :=
  let c0_87 : Index := 0#32
  let c256_i32_27 : BitVec 32 := 256#32
  let v61 : BitVec 32 := Scalar.addi v57 c256_i32_27
  let c1_i32_28 : BitVec 32 := 1#32
  let v62 : BitVec 32 := Scalar.subi v61 c1_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c256_i32_29 : BitVec 32 := 256#32
  let c0_i32_32 : BitVec 32 := 0#32
  let v69 : BitVec 1 := Scalar.cmpi .sgt c256_i32_29 c0_i32_32
  let v70 : BitVec 32 := Scalar.extui v69
  let c0_i32_33 : BitVec 32 := 0#32
  let v71 : BitVec 1 := Scalar.cmpi .slt c256_i32_29 c0_i32_33
  let v72 : BitVec 32 := Scalar.extui v71
  let v73 : BitVec 32 := Scalar.subi v70 v72
  let v74 : BitVec 1 := Scalar.cmpi .ne v68 v73
  let v75 : BitVec 32 := Scalar.remsi v62 c256_i32_29
  let c0_i32_34 : BitVec 32 := 0#32
  let v76 : BitVec 1 := Scalar.cmpi .ne v75 c0_i32_34
  let v77 : BitVec 1 := Scalar.andi v74 v76
  let v63 : BitVec 32 := Scalar.divsi v62 c256_i32_29
  let c1_i32_35 : BitVec 32 := 1#32
  let v78 : BitVec 32 := Scalar.subi v63 c1_i32_35
  let v79 : BitVec 32 := Scalar.select v77 v78 v63
  let c0_i32 : BitVec 32 := 0#32
  let c1_i32 : BitVec 32 := 1#32
  let arg18 : BitVec 32 := Scf.iv c0_i32 c1_i32 k1_t1
  let v80 : BitVec 32 := Scalar.minsi v79 arg18
  let c1_i32_42 : BitVec 32 := 1#32
  let arg19 : BitVec 32 := Scf.iv v80 c1_i32_42 k1_t4
  let c256_i32_86 : BitVec 32 := 256#32
  let v168 : BitVec 32 := Scalar.muli arg19 c256_i32_86
  let v169 : BitVec 32 := v168
  let v170 : Index := Scalar.indexCast v169
  let c0_88 : Index := 0#32
  ![0, v170.toNat, 0]
def k1_off12 (k1_t1 : Fin k1_t1_loop.trips) (v57 : BitVec 32) (k1_t4 : Fin (k1_t4_loop k1_t1 v57).trips) : Fin 4 → Nat :=
  let c0_90 : Index := 0#32
  let c0_91 : Index := 0#32
  let c0_92 : Index := 0#32
  let c256_i32_27 : BitVec 32 := 256#32
  let v61 : BitVec 32 := Scalar.addi v57 c256_i32_27
  let c1_i32_28 : BitVec 32 := 1#32
  let v62 : BitVec 32 := Scalar.subi v61 c1_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c256_i32_29 : BitVec 32 := 256#32
  let c0_i32_32 : BitVec 32 := 0#32
  let v69 : BitVec 1 := Scalar.cmpi .sgt c256_i32_29 c0_i32_32
  let v70 : BitVec 32 := Scalar.extui v69
  let c0_i32_33 : BitVec 32 := 0#32
  let v71 : BitVec 1 := Scalar.cmpi .slt c256_i32_29 c0_i32_33
  let v72 : BitVec 32 := Scalar.extui v71
  let v73 : BitVec 32 := Scalar.subi v70 v72
  let v74 : BitVec 1 := Scalar.cmpi .ne v68 v73
  let v75 : BitVec 32 := Scalar.remsi v62 c256_i32_29
  let c0_i32_34 : BitVec 32 := 0#32
  let v76 : BitVec 1 := Scalar.cmpi .ne v75 c0_i32_34
  let v77 : BitVec 1 := Scalar.andi v74 v76
  let v63 : BitVec 32 := Scalar.divsi v62 c256_i32_29
  let c1_i32_35 : BitVec 32 := 1#32
  let v78 : BitVec 32 := Scalar.subi v63 c1_i32_35
  let v79 : BitVec 32 := Scalar.select v77 v78 v63
  let c0_i32 : BitVec 32 := 0#32
  let c1_i32 : BitVec 32 := 1#32
  let arg18 : BitVec 32 := Scf.iv c0_i32 c1_i32 k1_t1
  let v80 : BitVec 32 := Scalar.minsi v79 arg18
  let c1_i32_42 : BitVec 32 := 1#32
  let arg19 : BitVec 32 := Scf.iv v80 c1_i32_42 k1_t4
  let c256_i32_86 : BitVec 32 := 256#32
  let v168 : BitVec 32 := Scalar.muli arg19 c256_i32_86
  let v169 : BitVec 32 := v168
  let v174 : Index := Scalar.indexCast v169
  ![0, 0, 0, v174.toNat]
def k1_off13 (k1_t1 : Fin k1_t1_loop.trips) (v57 : BitVec 32) (k1_t4 : Fin (k1_t4_loop k1_t1 v57).trips) : Fin 3 → Nat :=
  let c256_i32_27 : BitVec 32 := 256#32
  let v61 : BitVec 32 := Scalar.addi v57 c256_i32_27
  let c1_i32_28 : BitVec 32 := 1#32
  let v62 : BitVec 32 := Scalar.subi v61 c1_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c256_i32_29 : BitVec 32 := 256#32
  let c0_i32_32 : BitVec 32 := 0#32
  let v69 : BitVec 1 := Scalar.cmpi .sgt c256_i32_29 c0_i32_32
  let v70 : BitVec 32 := Scalar.extui v69
  let c0_i32_33 : BitVec 32 := 0#32
  let v71 : BitVec 1 := Scalar.cmpi .slt c256_i32_29 c0_i32_33
  let v72 : BitVec 32 := Scalar.extui v71
  let v73 : BitVec 32 := Scalar.subi v70 v72
  let v74 : BitVec 1 := Scalar.cmpi .ne v68 v73
  let v75 : BitVec 32 := Scalar.remsi v62 c256_i32_29
  let c0_i32_34 : BitVec 32 := 0#32
  let v76 : BitVec 1 := Scalar.cmpi .ne v75 c0_i32_34
  let v77 : BitVec 1 := Scalar.andi v74 v76
  let v63 : BitVec 32 := Scalar.divsi v62 c256_i32_29
  let c1_i32_35 : BitVec 32 := 1#32
  let v78 : BitVec 32 := Scalar.subi v63 c1_i32_35
  let v79 : BitVec 32 := Scalar.select v77 v78 v63
  let c0_i32 : BitVec 32 := 0#32
  let c1_i32 : BitVec 32 := 1#32
  let arg18 : BitVec 32 := Scf.iv c0_i32 c1_i32 k1_t1
  let v80 : BitVec 32 := Scalar.minsi v79 arg18
  let c1_i32_42 : BitVec 32 := 1#32
  let arg19 : BitVec 32 := Scf.iv v80 c1_i32_42 k1_t4
  let v179 : Index := Scalar.indexCast arg19
  let c0_93 : Index := 0#32
  let c0_94 : Index := 0#32
  ![v179.toNat, 0, 0]
@[reducible] def k1_t5_loop (k1_t1 : Fin k1_t1_loop.trips) (v57 : BitVec 32) : Scf.Loop 32 :=
  let c256_i32_27 : BitVec 32 := 256#32
  let v61 : BitVec 32 := Scalar.addi v57 c256_i32_27
  let c1_i32_28 : BitVec 32 := 1#32
  let v62 : BitVec 32 := Scalar.subi v61 c1_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c256_i32_29 : BitVec 32 := 256#32
  let c0_i32_32 : BitVec 32 := 0#32
  let v69 : BitVec 1 := Scalar.cmpi .sgt c256_i32_29 c0_i32_32
  let v70 : BitVec 32 := Scalar.extui v69
  let c0_i32_33 : BitVec 32 := 0#32
  let v71 : BitVec 1 := Scalar.cmpi .slt c256_i32_29 c0_i32_33
  let v72 : BitVec 32 := Scalar.extui v71
  let v73 : BitVec 32 := Scalar.subi v70 v72
  let v74 : BitVec 1 := Scalar.cmpi .ne v68 v73
  let v75 : BitVec 32 := Scalar.remsi v62 c256_i32_29
  let c0_i32_34 : BitVec 32 := 0#32
  let v76 : BitVec 1 := Scalar.cmpi .ne v75 c0_i32_34
  let v77 : BitVec 1 := Scalar.andi v74 v76
  let v63 : BitVec 32 := Scalar.divsi v62 c256_i32_29
  let c1_i32_35 : BitVec 32 := 1#32
  let v78 : BitVec 32 := Scalar.subi v63 c1_i32_35
  let v79 : BitVec 32 := Scalar.select v77 v78 v63
  let c0_i32 : BitVec 32 := 0#32
  let c1_i32 : BitVec 32 := 1#32
  let arg18 : BitVec 32 := Scf.iv c0_i32 c1_i32 k1_t1
  let v80 : BitVec 32 := Scalar.minsi v79 arg18
  let v88 : BitVec 32 := Scalar.subi arg18 v80
  let c1_i32_41 : BitVec 32 := 1#32
  let v90 : BitVec 32 := Scalar.divsi v88 c1_i32_41
  let v91 : BitVec 32 := Scalar.muli v90 c1_i32_41
  let v92 : BitVec 32 := Scalar.addi v80 v91
  let v89 : BitVec 32 := Scalar.addi v80 v88
  let c1_i32_43 : BitVec 32 := 1#32
  ⟨v92, v89, c1_i32_43⟩
def k1_mult5 (k1_t1 : Fin k1_t1_loop.trips) (v57 : BitVec 32) (k1_t5 : Fin (k1_t5_loop k1_t1 v57).trips) : BitVec 32 :=
  let c256_i32_27 : BitVec 32 := 256#32
  let v61 : BitVec 32 := Scalar.addi v57 c256_i32_27
  let c1_i32_28 : BitVec 32 := 1#32
  let v62 : BitVec 32 := Scalar.subi v61 c1_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c256_i32_29 : BitVec 32 := 256#32
  let c0_i32_32 : BitVec 32 := 0#32
  let v69 : BitVec 1 := Scalar.cmpi .sgt c256_i32_29 c0_i32_32
  let v70 : BitVec 32 := Scalar.extui v69
  let c0_i32_33 : BitVec 32 := 0#32
  let v71 : BitVec 1 := Scalar.cmpi .slt c256_i32_29 c0_i32_33
  let v72 : BitVec 32 := Scalar.extui v71
  let v73 : BitVec 32 := Scalar.subi v70 v72
  let v74 : BitVec 1 := Scalar.cmpi .ne v68 v73
  let v75 : BitVec 32 := Scalar.remsi v62 c256_i32_29
  let c0_i32_34 : BitVec 32 := 0#32
  let v76 : BitVec 1 := Scalar.cmpi .ne v75 c0_i32_34
  let v77 : BitVec 1 := Scalar.andi v74 v76
  let v63 : BitVec 32 := Scalar.divsi v62 c256_i32_29
  let c1_i32_35 : BitVec 32 := 1#32
  let v78 : BitVec 32 := Scalar.subi v63 c1_i32_35
  let v79 : BitVec 32 := Scalar.select v77 v78 v63
  let c0_i32 : BitVec 32 := 0#32
  let c1_i32 : BitVec 32 := 1#32
  let arg18 : BitVec 32 := Scf.iv c0_i32 c1_i32 k1_t1
  let v80 : BitVec 32 := Scalar.minsi v79 arg18
  let v88 : BitVec 32 := Scalar.subi arg18 v80
  let c1_i32_41 : BitVec 32 := 1#32
  let v90 : BitVec 32 := Scalar.divsi v88 c1_i32_41
  let v91 : BitVec 32 := Scalar.muli v90 c1_i32_41
  let v92 : BitVec 32 := Scalar.addi v80 v91
  let c1_i32_43 : BitVec 32 := 1#32
  let arg19 : BitVec 32 := Scf.iv v92 c1_i32_43 k1_t5
  let c256_i32_86 : BitVec 32 := 256#32
  let v168 : BitVec 32 := Scalar.muli arg19 c256_i32_86
  v168
def k1_off14 (k1_t1 : Fin k1_t1_loop.trips) (v57 : BitVec 32) (k1_t5 : Fin (k1_t5_loop k1_t1 v57).trips) : Fin 3 → Nat :=
  let c0_87 : Index := 0#32
  let c256_i32_27 : BitVec 32 := 256#32
  let v61 : BitVec 32 := Scalar.addi v57 c256_i32_27
  let c1_i32_28 : BitVec 32 := 1#32
  let v62 : BitVec 32 := Scalar.subi v61 c1_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c256_i32_29 : BitVec 32 := 256#32
  let c0_i32_32 : BitVec 32 := 0#32
  let v69 : BitVec 1 := Scalar.cmpi .sgt c256_i32_29 c0_i32_32
  let v70 : BitVec 32 := Scalar.extui v69
  let c0_i32_33 : BitVec 32 := 0#32
  let v71 : BitVec 1 := Scalar.cmpi .slt c256_i32_29 c0_i32_33
  let v72 : BitVec 32 := Scalar.extui v71
  let v73 : BitVec 32 := Scalar.subi v70 v72
  let v74 : BitVec 1 := Scalar.cmpi .ne v68 v73
  let v75 : BitVec 32 := Scalar.remsi v62 c256_i32_29
  let c0_i32_34 : BitVec 32 := 0#32
  let v76 : BitVec 1 := Scalar.cmpi .ne v75 c0_i32_34
  let v77 : BitVec 1 := Scalar.andi v74 v76
  let v63 : BitVec 32 := Scalar.divsi v62 c256_i32_29
  let c1_i32_35 : BitVec 32 := 1#32
  let v78 : BitVec 32 := Scalar.subi v63 c1_i32_35
  let v79 : BitVec 32 := Scalar.select v77 v78 v63
  let c0_i32 : BitVec 32 := 0#32
  let c1_i32 : BitVec 32 := 1#32
  let arg18 : BitVec 32 := Scf.iv c0_i32 c1_i32 k1_t1
  let v80 : BitVec 32 := Scalar.minsi v79 arg18
  let v88 : BitVec 32 := Scalar.subi arg18 v80
  let c1_i32_41 : BitVec 32 := 1#32
  let v90 : BitVec 32 := Scalar.divsi v88 c1_i32_41
  let v91 : BitVec 32 := Scalar.muli v90 c1_i32_41
  let v92 : BitVec 32 := Scalar.addi v80 v91
  let c1_i32_43 : BitVec 32 := 1#32
  let arg19 : BitVec 32 := Scf.iv v92 c1_i32_43 k1_t5
  let c256_i32_86 : BitVec 32 := 256#32
  let v168 : BitVec 32 := Scalar.muli arg19 c256_i32_86
  let v169 : BitVec 32 := v168
  let v170 : Index := Scalar.indexCast v169
  let c0_88 : Index := 0#32
  ![0, v170.toNat, 0]
def k1_off15 (k1_t1 : Fin k1_t1_loop.trips) (v57 : BitVec 32) (k1_t5 : Fin (k1_t5_loop k1_t1 v57).trips) : Fin 4 → Nat :=
  let c0_90 : Index := 0#32
  let c0_91 : Index := 0#32
  let c0_92 : Index := 0#32
  let c256_i32_27 : BitVec 32 := 256#32
  let v61 : BitVec 32 := Scalar.addi v57 c256_i32_27
  let c1_i32_28 : BitVec 32 := 1#32
  let v62 : BitVec 32 := Scalar.subi v61 c1_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c256_i32_29 : BitVec 32 := 256#32
  let c0_i32_32 : BitVec 32 := 0#32
  let v69 : BitVec 1 := Scalar.cmpi .sgt c256_i32_29 c0_i32_32
  let v70 : BitVec 32 := Scalar.extui v69
  let c0_i32_33 : BitVec 32 := 0#32
  let v71 : BitVec 1 := Scalar.cmpi .slt c256_i32_29 c0_i32_33
  let v72 : BitVec 32 := Scalar.extui v71
  let v73 : BitVec 32 := Scalar.subi v70 v72
  let v74 : BitVec 1 := Scalar.cmpi .ne v68 v73
  let v75 : BitVec 32 := Scalar.remsi v62 c256_i32_29
  let c0_i32_34 : BitVec 32 := 0#32
  let v76 : BitVec 1 := Scalar.cmpi .ne v75 c0_i32_34
  let v77 : BitVec 1 := Scalar.andi v74 v76
  let v63 : BitVec 32 := Scalar.divsi v62 c256_i32_29
  let c1_i32_35 : BitVec 32 := 1#32
  let v78 : BitVec 32 := Scalar.subi v63 c1_i32_35
  let v79 : BitVec 32 := Scalar.select v77 v78 v63
  let c0_i32 : BitVec 32 := 0#32
  let c1_i32 : BitVec 32 := 1#32
  let arg18 : BitVec 32 := Scf.iv c0_i32 c1_i32 k1_t1
  let v80 : BitVec 32 := Scalar.minsi v79 arg18
  let v88 : BitVec 32 := Scalar.subi arg18 v80
  let c1_i32_41 : BitVec 32 := 1#32
  let v90 : BitVec 32 := Scalar.divsi v88 c1_i32_41
  let v91 : BitVec 32 := Scalar.muli v90 c1_i32_41
  let v92 : BitVec 32 := Scalar.addi v80 v91
  let c1_i32_43 : BitVec 32 := 1#32
  let arg19 : BitVec 32 := Scf.iv v92 c1_i32_43 k1_t5
  let c256_i32_86 : BitVec 32 := 256#32
  let v168 : BitVec 32 := Scalar.muli arg19 c256_i32_86
  let v169 : BitVec 32 := v168
  let v174 : Index := Scalar.indexCast v169
  ![0, 0, 0, v174.toNat]
def k1_off16 (k1_t1 : Fin k1_t1_loop.trips) (v57 : BitVec 32) (k1_t5 : Fin (k1_t5_loop k1_t1 v57).trips) : Fin 3 → Nat :=
  let c256_i32_27 : BitVec 32 := 256#32
  let v61 : BitVec 32 := Scalar.addi v57 c256_i32_27
  let c1_i32_28 : BitVec 32 := 1#32
  let v62 : BitVec 32 := Scalar.subi v61 c1_i32_28
  let c0_i32_30 : BitVec 32 := 0#32
  let v64 : BitVec 1 := Scalar.cmpi .sgt v62 c0_i32_30
  let v65 : BitVec 32 := Scalar.extui v64
  let c0_i32_31 : BitVec 32 := 0#32
  let v66 : BitVec 1 := Scalar.cmpi .slt v62 c0_i32_31
  let v67 : BitVec 32 := Scalar.extui v66
  let v68 : BitVec 32 := Scalar.subi v65 v67
  let c256_i32_29 : BitVec 32 := 256#32
  let c0_i32_32 : BitVec 32 := 0#32
  let v69 : BitVec 1 := Scalar.cmpi .sgt c256_i32_29 c0_i32_32
  let v70 : BitVec 32 := Scalar.extui v69
  let c0_i32_33 : BitVec 32 := 0#32
  let v71 : BitVec 1 := Scalar.cmpi .slt c256_i32_29 c0_i32_33
  let v72 : BitVec 32 := Scalar.extui v71
  let v73 : BitVec 32 := Scalar.subi v70 v72
  let v74 : BitVec 1 := Scalar.cmpi .ne v68 v73
  let v75 : BitVec 32 := Scalar.remsi v62 c256_i32_29
  let c0_i32_34 : BitVec 32 := 0#32
  let v76 : BitVec 1 := Scalar.cmpi .ne v75 c0_i32_34
  let v77 : BitVec 1 := Scalar.andi v74 v76
  let v63 : BitVec 32 := Scalar.divsi v62 c256_i32_29
  let c1_i32_35 : BitVec 32 := 1#32
  let v78 : BitVec 32 := Scalar.subi v63 c1_i32_35
  let v79 : BitVec 32 := Scalar.select v77 v78 v63
  let c0_i32 : BitVec 32 := 0#32
  let c1_i32 : BitVec 32 := 1#32
  let arg18 : BitVec 32 := Scf.iv c0_i32 c1_i32 k1_t1
  let v80 : BitVec 32 := Scalar.minsi v79 arg18
  let v88 : BitVec 32 := Scalar.subi arg18 v80
  let c1_i32_41 : BitVec 32 := 1#32
  let v90 : BitVec 32 := Scalar.divsi v88 c1_i32_41
  let v91 : BitVec 32 := Scalar.muli v90 c1_i32_41
  let v92 : BitVec 32 := Scalar.addi v80 v91
  let c1_i32_43 : BitVec 32 := 1#32
  let arg19 : BitVec 32 := Scf.iv v92 c1_i32_43 k1_t5
  let v179 : Index := Scalar.indexCast arg19
  let c0_93 : Index := 0#32
  let c0_94 : Index := 0#32
  ![v179.toNat, 0, 0]

def k1_chk1 (k1_t1 : Fin k1_t1_loop.trips) (v37 : BitVec 32) (v57 : BitVec 32) : Prop :=
  ((k1_t2_loop k1_t1 v37 v57).OK) ∧
  (∀ k1_t2 : Fin (k1_t2_loop k1_t1 v37 v57).trips, 256 ∣ (k1_mult2 k1_t1 v37 v57 k1_t2).toNat) ∧
  (∀ k1_t2 : Fin (k1_t2_loop k1_t1 v37 v57).trips, ∀ a, (k1_off5 k1_t1 v37 v57 k1_t2) a + S1x256x128.size a ≤ S1x8192x128.size a) ∧
  (∀ k1_t2 : Fin (k1_t2_loop k1_t1 v37 v57).trips, ∀ a, (k1_off6 k1_t1 v37 v57 k1_t2) a + S1x1x1x256.size a ≤ S1x1x1x8192.size a) ∧
  (∀ k1_t2 : Fin (k1_t2_loop k1_t1 v37 v57).trips, ∀ a, (k1_off7 k1_t1 v37 v57 k1_t2) a + S1x256x256.size a ≤ S32x256x256.size a) ∧
  ((k1_t3_loop k1_t1 v37 v57).OK) ∧
  (∀ k1_t3 : Fin (k1_t3_loop k1_t1 v37 v57).trips, 256 ∣ (k1_mult3 k1_t1 v37 v57 k1_t3).toNat) ∧
  (∀ k1_t3 : Fin (k1_t3_loop k1_t1 v37 v57).trips, ∀ a, (k1_off8 k1_t1 v37 v57 k1_t3) a + S1x256x128.size a ≤ S1x8192x128.size a) ∧
  (∀ k1_t3 : Fin (k1_t3_loop k1_t1 v37 v57).trips, ∀ a, (k1_off9 k1_t1 v37 v57 k1_t3) a + S1x1x1x256.size a ≤ S1x1x1x8192.size a) ∧
  (∀ k1_t3 : Fin (k1_t3_loop k1_t1 v37 v57).trips, ∀ a, (k1_off10 k1_t1 v37 v57 k1_t3) a + S1x256x256.size a ≤ S32x256x256.size a) ∧
  ((k1_t4_loop k1_t1 v57).OK) ∧
  (∀ k1_t4 : Fin (k1_t4_loop k1_t1 v57).trips, 256 ∣ (k1_mult4 k1_t1 v57 k1_t4).toNat) ∧
  (∀ k1_t4 : Fin (k1_t4_loop k1_t1 v57).trips, ∀ a, (k1_off11 k1_t1 v57 k1_t4) a + S1x256x128.size a ≤ S1x8192x128.size a) ∧
  (∀ k1_t4 : Fin (k1_t4_loop k1_t1 v57).trips, ∀ a, (k1_off12 k1_t1 v57 k1_t4) a + S1x1x1x256.size a ≤ S1x1x1x8192.size a) ∧
  (∀ k1_t4 : Fin (k1_t4_loop k1_t1 v57).trips, ∀ a, (k1_off13 k1_t1 v57 k1_t4) a + S1x256x256.size a ≤ S32x256x256.size a) ∧
  ((k1_t5_loop k1_t1 v57).OK) ∧
  (∀ k1_t5 : Fin (k1_t5_loop k1_t1 v57).trips, 256 ∣ (k1_mult5 k1_t1 v57 k1_t5).toNat) ∧
  (∀ k1_t5 : Fin (k1_t5_loop k1_t1 v57).trips, ∀ a, (k1_off14 k1_t1 v57 k1_t5) a + S1x256x128.size a ≤ S1x8192x128.size a) ∧
  (∀ k1_t5 : Fin (k1_t5_loop k1_t1 v57).trips, ∀ a, (k1_off15 k1_t1 v57 k1_t5) a + S1x1x1x256.size a ≤ S1x1x1x8192.size a) ∧
  (∀ k1_t5 : Fin (k1_t5_loop k1_t1 v57).trips, ∀ a, (k1_off16 k1_t1 v57 k1_t5) a + S1x256x256.size a ≤ S32x256x256.size a)
theorem k1_t2_ok : ∀ (k1_t1 : Fin k1_t1_loop.trips) (v37 : BitVec 32) (v57 : BitVec 32) (k1_hw1 : k1_chk1 k1_t1 v37 v57), (k1_t2_loop k1_t1 v37 v57).OK := fun k1_t1 v37 v57 k1_hw1 => k1_hw1.1
theorem k1_mult2_dvd : ∀ (k1_t1 : Fin k1_t1_loop.trips) (v37 : BitVec 32) (v57 : BitVec 32) (k1_hw1 : k1_chk1 k1_t1 v37 v57) (k1_t2 : Fin (k1_t2_loop k1_t1 v37 v57).trips), 256 ∣ (k1_mult2 k1_t1 v37 v57 k1_t2).toNat := fun k1_t1 v37 v57 k1_hw1 k1_t2 => k1_hw1.2.1 k1_t2
theorem k1_off5_inb : ∀ (k1_t1 : Fin k1_t1_loop.trips) (v37 : BitVec 32) (v57 : BitVec 32) (k1_hw1 : k1_chk1 k1_t1 v37 v57) (k1_t2 : Fin (k1_t2_loop k1_t1 v37 v57).trips), ∀ a, (k1_off5 k1_t1 v37 v57 k1_t2) a + S1x256x128.size a ≤ S1x8192x128.size a := fun k1_t1 v37 v57 k1_hw1 k1_t2 => k1_hw1.2.2.1 k1_t2
theorem k1_off6_inb : ∀ (k1_t1 : Fin k1_t1_loop.trips) (v37 : BitVec 32) (v57 : BitVec 32) (k1_hw1 : k1_chk1 k1_t1 v37 v57) (k1_t2 : Fin (k1_t2_loop k1_t1 v37 v57).trips), ∀ a, (k1_off6 k1_t1 v37 v57 k1_t2) a + S1x1x1x256.size a ≤ S1x1x1x8192.size a := fun k1_t1 v37 v57 k1_hw1 k1_t2 => k1_hw1.2.2.2.1 k1_t2
theorem k1_off7_inb : ∀ (k1_t1 : Fin k1_t1_loop.trips) (v37 : BitVec 32) (v57 : BitVec 32) (k1_hw1 : k1_chk1 k1_t1 v37 v57) (k1_t2 : Fin (k1_t2_loop k1_t1 v37 v57).trips), ∀ a, (k1_off7 k1_t1 v37 v57 k1_t2) a + S1x256x256.size a ≤ S32x256x256.size a := fun k1_t1 v37 v57 k1_hw1 k1_t2 => k1_hw1.2.2.2.2.1 k1_t2
theorem k1_t3_ok : ∀ (k1_t1 : Fin k1_t1_loop.trips) (v37 : BitVec 32) (v57 : BitVec 32) (k1_hw1 : k1_chk1 k1_t1 v37 v57), (k1_t3_loop k1_t1 v37 v57).OK := fun k1_t1 v37 v57 k1_hw1 => k1_hw1.2.2.2.2.2.1
theorem k1_mult3_dvd : ∀ (k1_t1 : Fin k1_t1_loop.trips) (v37 : BitVec 32) (v57 : BitVec 32) (k1_hw1 : k1_chk1 k1_t1 v37 v57) (k1_t3 : Fin (k1_t3_loop k1_t1 v37 v57).trips), 256 ∣ (k1_mult3 k1_t1 v37 v57 k1_t3).toNat := fun k1_t1 v37 v57 k1_hw1 k1_t3 => k1_hw1.2.2.2.2.2.2.1 k1_t3
theorem k1_off8_inb : ∀ (k1_t1 : Fin k1_t1_loop.trips) (v37 : BitVec 32) (v57 : BitVec 32) (k1_hw1 : k1_chk1 k1_t1 v37 v57) (k1_t3 : Fin (k1_t3_loop k1_t1 v37 v57).trips), ∀ a, (k1_off8 k1_t1 v37 v57 k1_t3) a + S1x256x128.size a ≤ S1x8192x128.size a := fun k1_t1 v37 v57 k1_hw1 k1_t3 => k1_hw1.2.2.2.2.2.2.2.1 k1_t3
theorem k1_off9_inb : ∀ (k1_t1 : Fin k1_t1_loop.trips) (v37 : BitVec 32) (v57 : BitVec 32) (k1_hw1 : k1_chk1 k1_t1 v37 v57) (k1_t3 : Fin (k1_t3_loop k1_t1 v37 v57).trips), ∀ a, (k1_off9 k1_t1 v37 v57 k1_t3) a + S1x1x1x256.size a ≤ S1x1x1x8192.size a := fun k1_t1 v37 v57 k1_hw1 k1_t3 => k1_hw1.2.2.2.2.2.2.2.2.1 k1_t3
theorem k1_off10_inb : ∀ (k1_t1 : Fin k1_t1_loop.trips) (v37 : BitVec 32) (v57 : BitVec 32) (k1_hw1 : k1_chk1 k1_t1 v37 v57) (k1_t3 : Fin (k1_t3_loop k1_t1 v37 v57).trips), ∀ a, (k1_off10 k1_t1 v37 v57 k1_t3) a + S1x256x256.size a ≤ S32x256x256.size a := fun k1_t1 v37 v57 k1_hw1 k1_t3 => k1_hw1.2.2.2.2.2.2.2.2.2.1 k1_t3
theorem k1_t4_ok : ∀ (k1_t1 : Fin k1_t1_loop.trips) (v37 : BitVec 32) (v57 : BitVec 32) (k1_hw1 : k1_chk1 k1_t1 v37 v57), (k1_t4_loop k1_t1 v57).OK := fun k1_t1 v37 v57 k1_hw1 => k1_hw1.2.2.2.2.2.2.2.2.2.2.1
theorem k1_mult4_dvd : ∀ (k1_t1 : Fin k1_t1_loop.trips) (v37 : BitVec 32) (v57 : BitVec 32) (k1_hw1 : k1_chk1 k1_t1 v37 v57) (k1_t4 : Fin (k1_t4_loop k1_t1 v57).trips), 256 ∣ (k1_mult4 k1_t1 v57 k1_t4).toNat := fun k1_t1 v37 v57 k1_hw1 k1_t4 => k1_hw1.2.2.2.2.2.2.2.2.2.2.2.1 k1_t4
theorem k1_off11_inb : ∀ (k1_t1 : Fin k1_t1_loop.trips) (v37 : BitVec 32) (v57 : BitVec 32) (k1_hw1 : k1_chk1 k1_t1 v37 v57) (k1_t4 : Fin (k1_t4_loop k1_t1 v57).trips), ∀ a, (k1_off11 k1_t1 v57 k1_t4) a + S1x256x128.size a ≤ S1x8192x128.size a := fun k1_t1 v37 v57 k1_hw1 k1_t4 => k1_hw1.2.2.2.2.2.2.2.2.2.2.2.2.1 k1_t4
theorem k1_off12_inb : ∀ (k1_t1 : Fin k1_t1_loop.trips) (v37 : BitVec 32) (v57 : BitVec 32) (k1_hw1 : k1_chk1 k1_t1 v37 v57) (k1_t4 : Fin (k1_t4_loop k1_t1 v57).trips), ∀ a, (k1_off12 k1_t1 v57 k1_t4) a + S1x1x1x256.size a ≤ S1x1x1x8192.size a := fun k1_t1 v37 v57 k1_hw1 k1_t4 => k1_hw1.2.2.2.2.2.2.2.2.2.2.2.2.2.1 k1_t4
theorem k1_off13_inb : ∀ (k1_t1 : Fin k1_t1_loop.trips) (v37 : BitVec 32) (v57 : BitVec 32) (k1_hw1 : k1_chk1 k1_t1 v37 v57) (k1_t4 : Fin (k1_t4_loop k1_t1 v57).trips), ∀ a, (k1_off13 k1_t1 v57 k1_t4) a + S1x256x256.size a ≤ S32x256x256.size a := fun k1_t1 v37 v57 k1_hw1 k1_t4 => k1_hw1.2.2.2.2.2.2.2.2.2.2.2.2.2.2.1 k1_t4
theorem k1_t5_ok : ∀ (k1_t1 : Fin k1_t1_loop.trips) (v37 : BitVec 32) (v57 : BitVec 32) (k1_hw1 : k1_chk1 k1_t1 v37 v57), (k1_t5_loop k1_t1 v57).OK := fun k1_t1 v37 v57 k1_hw1 => k1_hw1.2.2.2.2.2.2.2.2.2.2.2.2.2.2.2.1
theorem k1_mult5_dvd : ∀ (k1_t1 : Fin k1_t1_loop.trips) (v37 : BitVec 32) (v57 : BitVec 32) (k1_hw1 : k1_chk1 k1_t1 v37 v57) (k1_t5 : Fin (k1_t5_loop k1_t1 v57).trips), 256 ∣ (k1_mult5 k1_t1 v57 k1_t5).toNat := fun k1_t1 v37 v57 k1_hw1 k1_t5 => k1_hw1.2.2.2.2.2.2.2.2.2.2.2.2.2.2.2.2.1 k1_t5
theorem k1_off14_inb : ∀ (k1_t1 : Fin k1_t1_loop.trips) (v37 : BitVec 32) (v57 : BitVec 32) (k1_hw1 : k1_chk1 k1_t1 v37 v57) (k1_t5 : Fin (k1_t5_loop k1_t1 v57).trips), ∀ a, (k1_off14 k1_t1 v57 k1_t5) a + S1x256x128.size a ≤ S1x8192x128.size a := fun k1_t1 v37 v57 k1_hw1 k1_t5 => k1_hw1.2.2.2.2.2.2.2.2.2.2.2.2.2.2.2.2.2.1 k1_t5
theorem k1_off15_inb : ∀ (k1_t1 : Fin k1_t1_loop.trips) (v37 : BitVec 32) (v57 : BitVec 32) (k1_hw1 : k1_chk1 k1_t1 v37 v57) (k1_t5 : Fin (k1_t5_loop k1_t1 v57).trips), ∀ a, (k1_off15 k1_t1 v57 k1_t5) a + S1x1x1x256.size a ≤ S1x1x1x8192.size a := fun k1_t1 v37 v57 k1_hw1 k1_t5 => k1_hw1.2.2.2.2.2.2.2.2.2.2.2.2.2.2.2.2.2.2.1 k1_t5
theorem k1_off16_inb : ∀ (k1_t1 : Fin k1_t1_loop.trips) (v37 : BitVec 32) (v57 : BitVec 32) (k1_hw1 : k1_chk1 k1_t1 v37 v57) (k1_t5 : Fin (k1_t5_loop k1_t1 v57).trips), ∀ a, (k1_off16 k1_t1 v57 k1_t5) a + S1x256x256.size a ≤ S32x256x256.size a := fun k1_t1 v37 v57 k1_hw1 k1_t5 => k1_hw1.2.2.2.2.2.2.2.2.2.2.2.2.2.2.2.2.2.2.2 k1_t5

def k1_mult6 (k1_t1 : Fin k1_t1_loop.trips) : BitVec 32 :=
  let c0_i32 : BitVec 32 := 0#32
  let c1_i32 : BitVec 32 := 1#32
  let arg18 : BitVec 32 := Scf.iv c0_i32 c1_i32 k1_t1
  let c256_i32_44 : BitVec 32 := 256#32
  let v95 : BitVec 32 := Scalar.muli arg18 c256_i32_44
  v95
def k1_off17 (k1_t1 : Fin k1_t1_loop.trips) : Fin 3 → Nat :=
  let c0_45 : Index := 0#32
  let c0_i32 : BitVec 32 := 0#32
  let c1_i32 : BitVec 32 := 1#32
  let arg18 : BitVec 32 := Scf.iv c0_i32 c1_i32 k1_t1
  let c256_i32_44 : BitVec 32 := 256#32
  let v95 : BitVec 32 := Scalar.muli arg18 c256_i32_44
  let v96 : BitVec 32 := v95
  let v97 : Index := Scalar.indexCast v96
  let c0_46 : Index := 0#32
  ![0, v97.toNat, 0]
def k1_off18 (k1_t1 : Fin k1_t1_loop.trips) : Fin 4 → Nat :=
  let c0_48 : Index := 0#32
  let c0_49 : Index := 0#32
  let c0_50 : Index := 0#32
  let c0_i32 : BitVec 32 := 0#32
  let c1_i32 : BitVec 32 := 1#32
  let arg18 : BitVec 32 := Scf.iv c0_i32 c1_i32 k1_t1
  let c256_i32_44 : BitVec 32 := 256#32
  let v95 : BitVec 32 := Scalar.muli arg18 c256_i32_44
  let v96 : BitVec 32 := v95
  let v101 : Index := Scalar.indexCast v96
  ![0, 0, 0, v101.toNat]
def k1_off19 (k1_t1 : Fin k1_t1_loop.trips) : Fin 3 → Nat :=
  let c0_i32 : BitVec 32 := 0#32
  let c1_i32 : BitVec 32 := 1#32
  let arg18 : BitVec 32 := Scf.iv c0_i32 c1_i32 k1_t1
  let v120 : Index := Scalar.indexCast arg18
  let c0_56 : Index := 0#32
  let c0_57 : Index := 0#32
  ![v120.toNat, 0, 0]
@[reducible] def k1_t6_loop (k1_t1 : Fin k1_t1_loop.trips) (v37 : BitVec 32) : Scf.Loop 32 :=
  let c0_i32_19 : BitVec 32 := 0#32
  let v39 : BitVec 1 := Scalar.cmpi .sgt v37 c0_i32_19
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c256_i32_18 : BitVec 32 := 256#32
  let c0_i32_21 : BitVec 32 := 0#32
  let v44 : BitVec 1 := Scalar.cmpi .sgt c256_i32_18 c0_i32_21
  let v45 : BitVec 32 := Scalar.extui v44
  let c0_i32_22 : BitVec 32 := 0#32
  let v46 : BitVec 1 := Scalar.cmpi .slt c256_i32_18 c0_i32_22
  let v47 : BitVec 32 := Scalar.extui v46
  let v48 : BitVec 32 := Scalar.subi v45 v47
  let v49 : BitVec 1 := Scalar.cmpi .ne v43 v48
  let v50 : BitVec 32 := Scalar.remsi v37 c256_i32_18
  let c0_i32_23 : BitVec 32 := 0#32
  let v51 : BitVec 1 := Scalar.cmpi .ne v50 c0_i32_23
  let v52 : BitVec 1 := Scalar.andi v49 v51
  let v38 : BitVec 32 := Scalar.divsi v37 c256_i32_18
  let c1_i32_24 : BitVec 32 := 1#32
  let v53 : BitVec 32 := Scalar.subi v38 c1_i32_24
  let v54 : BitVec 32 := Scalar.select v52 v53 v38
  let c0_i32 : BitVec 32 := 0#32
  let c1_i32 : BitVec 32 := 1#32
  let arg18 : BitVec 32 := Scf.iv c0_i32 c1_i32 k1_t1
  let c1_i32_70 : BitVec 32 := 1#32
  let v144 : BitVec 32 := Scalar.addi arg18 c1_i32_70
  let v145 : BitVec 32 := Scalar.subi v144 v54
  let c1_i32_72 : BitVec 32 := 1#32
  let v147 : BitVec 32 := Scalar.divsi v145 c1_i32_72
  let v148 : BitVec 32 := Scalar.muli v147 c1_i32_72
  let v149 : BitVec 32 := Scalar.addi v54 v148
  let c1_i32_73 : BitVec 32 := 1#32
  ⟨v54, v149, c1_i32_73⟩

def k1_mult7 (k1_t1 : Fin k1_t1_loop.trips) (v37 : BitVec 32) (k1_t6 : Fin (k1_t6_loop k1_t1 v37).trips) : BitVec 32 :=
  let c0_i32_19 : BitVec 32 := 0#32
  let v39 : BitVec 1 := Scalar.cmpi .sgt v37 c0_i32_19
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c256_i32_18 : BitVec 32 := 256#32
  let c0_i32_21 : BitVec 32 := 0#32
  let v44 : BitVec 1 := Scalar.cmpi .sgt c256_i32_18 c0_i32_21
  let v45 : BitVec 32 := Scalar.extui v44
  let c0_i32_22 : BitVec 32 := 0#32
  let v46 : BitVec 1 := Scalar.cmpi .slt c256_i32_18 c0_i32_22
  let v47 : BitVec 32 := Scalar.extui v46
  let v48 : BitVec 32 := Scalar.subi v45 v47
  let v49 : BitVec 1 := Scalar.cmpi .ne v43 v48
  let v50 : BitVec 32 := Scalar.remsi v37 c256_i32_18
  let c0_i32_23 : BitVec 32 := 0#32
  let v51 : BitVec 1 := Scalar.cmpi .ne v50 c0_i32_23
  let v52 : BitVec 1 := Scalar.andi v49 v51
  let v38 : BitVec 32 := Scalar.divsi v37 c256_i32_18
  let c1_i32_24 : BitVec 32 := 1#32
  let v53 : BitVec 32 := Scalar.subi v38 c1_i32_24
  let v54 : BitVec 32 := Scalar.select v52 v53 v38
  let c1_i32_73 : BitVec 32 := 1#32
  let arg19 : BitVec 32 := Scf.iv v54 c1_i32_73 k1_t6
  let c256_i32_86 : BitVec 32 := 256#32
  let v168 : BitVec 32 := Scalar.muli arg19 c256_i32_86
  v168
def k1_off20 (k1_t1 : Fin k1_t1_loop.trips) (v37 : BitVec 32) (k1_t6 : Fin (k1_t6_loop k1_t1 v37).trips) : Fin 3 → Nat :=
  let c0_i32_19 : BitVec 32 := 0#32
  let v39 : BitVec 1 := Scalar.cmpi .sgt v37 c0_i32_19
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c256_i32_18 : BitVec 32 := 256#32
  let c0_i32_21 : BitVec 32 := 0#32
  let v44 : BitVec 1 := Scalar.cmpi .sgt c256_i32_18 c0_i32_21
  let v45 : BitVec 32 := Scalar.extui v44
  let c0_i32_22 : BitVec 32 := 0#32
  let v46 : BitVec 1 := Scalar.cmpi .slt c256_i32_18 c0_i32_22
  let v47 : BitVec 32 := Scalar.extui v46
  let v48 : BitVec 32 := Scalar.subi v45 v47
  let v49 : BitVec 1 := Scalar.cmpi .ne v43 v48
  let v50 : BitVec 32 := Scalar.remsi v37 c256_i32_18
  let c0_i32_23 : BitVec 32 := 0#32
  let v51 : BitVec 1 := Scalar.cmpi .ne v50 c0_i32_23
  let v52 : BitVec 1 := Scalar.andi v49 v51
  let v38 : BitVec 32 := Scalar.divsi v37 c256_i32_18
  let c1_i32_24 : BitVec 32 := 1#32
  let v53 : BitVec 32 := Scalar.subi v38 c1_i32_24
  let v54 : BitVec 32 := Scalar.select v52 v53 v38
  let c1_i32_73 : BitVec 32 := 1#32
  let arg19 : BitVec 32 := Scf.iv v54 c1_i32_73 k1_t6
  let v170 : Index := Scalar.indexCast arg19
  let c0_87 : Index := 0#32
  let c0_88 : Index := 0#32
  ![v170.toNat, 0, 0]
def k1_off21 (k1_t1 : Fin k1_t1_loop.trips) (v37 : BitVec 32) (k1_t6 : Fin (k1_t6_loop k1_t1 v37).trips) : Fin 3 → Nat :=
  let c0_100 : Index := 0#32
  let c0_i32_19 : BitVec 32 := 0#32
  let v39 : BitVec 1 := Scalar.cmpi .sgt v37 c0_i32_19
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c256_i32_18 : BitVec 32 := 256#32
  let c0_i32_21 : BitVec 32 := 0#32
  let v44 : BitVec 1 := Scalar.cmpi .sgt c256_i32_18 c0_i32_21
  let v45 : BitVec 32 := Scalar.extui v44
  let c0_i32_22 : BitVec 32 := 0#32
  let v46 : BitVec 1 := Scalar.cmpi .slt c256_i32_18 c0_i32_22
  let v47 : BitVec 32 := Scalar.extui v46
  let v48 : BitVec 32 := Scalar.subi v45 v47
  let v49 : BitVec 1 := Scalar.cmpi .ne v43 v48
  let v50 : BitVec 32 := Scalar.remsi v37 c256_i32_18
  let c0_i32_23 : BitVec 32 := 0#32
  let v51 : BitVec 1 := Scalar.cmpi .ne v50 c0_i32_23
  let v52 : BitVec 1 := Scalar.andi v49 v51
  let v38 : BitVec 32 := Scalar.divsi v37 c256_i32_18
  let c1_i32_24 : BitVec 32 := 1#32
  let v53 : BitVec 32 := Scalar.subi v38 c1_i32_24
  let v54 : BitVec 32 := Scalar.select v52 v53 v38
  let c1_i32_73 : BitVec 32 := 1#32
  let arg19 : BitVec 32 := Scf.iv v54 c1_i32_73 k1_t6
  let c256_i32_86 : BitVec 32 := 256#32
  let v168 : BitVec 32 := Scalar.muli arg19 c256_i32_86
  let v169 : BitVec 32 := v168
  let v192 : Index := Scalar.indexCast v169
  let c0_101 : Index := 0#32
  ![0, v192.toNat, 0]
@[reducible] def k1_t7_loop (k1_t1 : Fin k1_t1_loop.trips) (v37 : BitVec 32) : Scf.Loop 32 :=
  let c0_i32_19 : BitVec 32 := 0#32
  let v39 : BitVec 1 := Scalar.cmpi .sgt v37 c0_i32_19
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c256_i32_18 : BitVec 32 := 256#32
  let c0_i32_21 : BitVec 32 := 0#32
  let v44 : BitVec 1 := Scalar.cmpi .sgt c256_i32_18 c0_i32_21
  let v45 : BitVec 32 := Scalar.extui v44
  let c0_i32_22 : BitVec 32 := 0#32
  let v46 : BitVec 1 := Scalar.cmpi .slt c256_i32_18 c0_i32_22
  let v47 : BitVec 32 := Scalar.extui v46
  let v48 : BitVec 32 := Scalar.subi v45 v47
  let v49 : BitVec 1 := Scalar.cmpi .ne v43 v48
  let v50 : BitVec 32 := Scalar.remsi v37 c256_i32_18
  let c0_i32_23 : BitVec 32 := 0#32
  let v51 : BitVec 1 := Scalar.cmpi .ne v50 c0_i32_23
  let v52 : BitVec 1 := Scalar.andi v49 v51
  let v38 : BitVec 32 := Scalar.divsi v37 c256_i32_18
  let c1_i32_24 : BitVec 32 := 1#32
  let v53 : BitVec 32 := Scalar.subi v38 c1_i32_24
  let v54 : BitVec 32 := Scalar.select v52 v53 v38
  let c0_i32 : BitVec 32 := 0#32
  let c1_i32 : BitVec 32 := 1#32
  let arg18 : BitVec 32 := Scf.iv c0_i32 c1_i32 k1_t1
  let c1_i32_70 : BitVec 32 := 1#32
  let v144 : BitVec 32 := Scalar.addi arg18 c1_i32_70
  let v145 : BitVec 32 := Scalar.subi v144 v54
  let c1_i32_72 : BitVec 32 := 1#32
  let v147 : BitVec 32 := Scalar.divsi v145 c1_i32_72
  let v148 : BitVec 32 := Scalar.muli v147 c1_i32_72
  let v149 : BitVec 32 := Scalar.addi v54 v148
  let v146 : BitVec 32 := Scalar.addi v54 v145
  let c1_i32_74 : BitVec 32 := 1#32
  ⟨v149, v146, c1_i32_74⟩
def k1_mult8 (k1_t1 : Fin k1_t1_loop.trips) (v37 : BitVec 32) (k1_t7 : Fin (k1_t7_loop k1_t1 v37).trips) : BitVec 32 :=
  let c0_i32_19 : BitVec 32 := 0#32
  let v39 : BitVec 1 := Scalar.cmpi .sgt v37 c0_i32_19
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c256_i32_18 : BitVec 32 := 256#32
  let c0_i32_21 : BitVec 32 := 0#32
  let v44 : BitVec 1 := Scalar.cmpi .sgt c256_i32_18 c0_i32_21
  let v45 : BitVec 32 := Scalar.extui v44
  let c0_i32_22 : BitVec 32 := 0#32
  let v46 : BitVec 1 := Scalar.cmpi .slt c256_i32_18 c0_i32_22
  let v47 : BitVec 32 := Scalar.extui v46
  let v48 : BitVec 32 := Scalar.subi v45 v47
  let v49 : BitVec 1 := Scalar.cmpi .ne v43 v48
  let v50 : BitVec 32 := Scalar.remsi v37 c256_i32_18
  let c0_i32_23 : BitVec 32 := 0#32
  let v51 : BitVec 1 := Scalar.cmpi .ne v50 c0_i32_23
  let v52 : BitVec 1 := Scalar.andi v49 v51
  let v38 : BitVec 32 := Scalar.divsi v37 c256_i32_18
  let c1_i32_24 : BitVec 32 := 1#32
  let v53 : BitVec 32 := Scalar.subi v38 c1_i32_24
  let v54 : BitVec 32 := Scalar.select v52 v53 v38
  let c0_i32 : BitVec 32 := 0#32
  let c1_i32 : BitVec 32 := 1#32
  let arg18 : BitVec 32 := Scf.iv c0_i32 c1_i32 k1_t1
  let c1_i32_70 : BitVec 32 := 1#32
  let v144 : BitVec 32 := Scalar.addi arg18 c1_i32_70
  let v145 : BitVec 32 := Scalar.subi v144 v54
  let c1_i32_72 : BitVec 32 := 1#32
  let v147 : BitVec 32 := Scalar.divsi v145 c1_i32_72
  let v148 : BitVec 32 := Scalar.muli v147 c1_i32_72
  let v149 : BitVec 32 := Scalar.addi v54 v148
  let c1_i32_74 : BitVec 32 := 1#32
  let arg19 : BitVec 32 := Scf.iv v149 c1_i32_74 k1_t7
  let c256_i32_86 : BitVec 32 := 256#32
  let v168 : BitVec 32 := Scalar.muli arg19 c256_i32_86
  v168
def k1_off22 (k1_t1 : Fin k1_t1_loop.trips) (v37 : BitVec 32) (k1_t7 : Fin (k1_t7_loop k1_t1 v37).trips) : Fin 3 → Nat :=
  let c0_i32_19 : BitVec 32 := 0#32
  let v39 : BitVec 1 := Scalar.cmpi .sgt v37 c0_i32_19
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c256_i32_18 : BitVec 32 := 256#32
  let c0_i32_21 : BitVec 32 := 0#32
  let v44 : BitVec 1 := Scalar.cmpi .sgt c256_i32_18 c0_i32_21
  let v45 : BitVec 32 := Scalar.extui v44
  let c0_i32_22 : BitVec 32 := 0#32
  let v46 : BitVec 1 := Scalar.cmpi .slt c256_i32_18 c0_i32_22
  let v47 : BitVec 32 := Scalar.extui v46
  let v48 : BitVec 32 := Scalar.subi v45 v47
  let v49 : BitVec 1 := Scalar.cmpi .ne v43 v48
  let v50 : BitVec 32 := Scalar.remsi v37 c256_i32_18
  let c0_i32_23 : BitVec 32 := 0#32
  let v51 : BitVec 1 := Scalar.cmpi .ne v50 c0_i32_23
  let v52 : BitVec 1 := Scalar.andi v49 v51
  let v38 : BitVec 32 := Scalar.divsi v37 c256_i32_18
  let c1_i32_24 : BitVec 32 := 1#32
  let v53 : BitVec 32 := Scalar.subi v38 c1_i32_24
  let v54 : BitVec 32 := Scalar.select v52 v53 v38
  let c0_i32 : BitVec 32 := 0#32
  let c1_i32 : BitVec 32 := 1#32
  let arg18 : BitVec 32 := Scf.iv c0_i32 c1_i32 k1_t1
  let c1_i32_70 : BitVec 32 := 1#32
  let v144 : BitVec 32 := Scalar.addi arg18 c1_i32_70
  let v145 : BitVec 32 := Scalar.subi v144 v54
  let c1_i32_72 : BitVec 32 := 1#32
  let v147 : BitVec 32 := Scalar.divsi v145 c1_i32_72
  let v148 : BitVec 32 := Scalar.muli v147 c1_i32_72
  let v149 : BitVec 32 := Scalar.addi v54 v148
  let c1_i32_74 : BitVec 32 := 1#32
  let arg19 : BitVec 32 := Scf.iv v149 c1_i32_74 k1_t7
  let v170 : Index := Scalar.indexCast arg19
  let c0_87 : Index := 0#32
  let c0_88 : Index := 0#32
  ![v170.toNat, 0, 0]
def k1_off23 (k1_t1 : Fin k1_t1_loop.trips) (v37 : BitVec 32) (k1_t7 : Fin (k1_t7_loop k1_t1 v37).trips) : Fin 3 → Nat :=
  let c0_100 : Index := 0#32
  let c0_i32_19 : BitVec 32 := 0#32
  let v39 : BitVec 1 := Scalar.cmpi .sgt v37 c0_i32_19
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c256_i32_18 : BitVec 32 := 256#32
  let c0_i32_21 : BitVec 32 := 0#32
  let v44 : BitVec 1 := Scalar.cmpi .sgt c256_i32_18 c0_i32_21
  let v45 : BitVec 32 := Scalar.extui v44
  let c0_i32_22 : BitVec 32 := 0#32
  let v46 : BitVec 1 := Scalar.cmpi .slt c256_i32_18 c0_i32_22
  let v47 : BitVec 32 := Scalar.extui v46
  let v48 : BitVec 32 := Scalar.subi v45 v47
  let v49 : BitVec 1 := Scalar.cmpi .ne v43 v48
  let v50 : BitVec 32 := Scalar.remsi v37 c256_i32_18
  let c0_i32_23 : BitVec 32 := 0#32
  let v51 : BitVec 1 := Scalar.cmpi .ne v50 c0_i32_23
  let v52 : BitVec 1 := Scalar.andi v49 v51
  let v38 : BitVec 32 := Scalar.divsi v37 c256_i32_18
  let c1_i32_24 : BitVec 32 := 1#32
  let v53 : BitVec 32 := Scalar.subi v38 c1_i32_24
  let v54 : BitVec 32 := Scalar.select v52 v53 v38
  let c0_i32 : BitVec 32 := 0#32
  let c1_i32 : BitVec 32 := 1#32
  let arg18 : BitVec 32 := Scf.iv c0_i32 c1_i32 k1_t1
  let c1_i32_70 : BitVec 32 := 1#32
  let v144 : BitVec 32 := Scalar.addi arg18 c1_i32_70
  let v145 : BitVec 32 := Scalar.subi v144 v54
  let c1_i32_72 : BitVec 32 := 1#32
  let v147 : BitVec 32 := Scalar.divsi v145 c1_i32_72
  let v148 : BitVec 32 := Scalar.muli v147 c1_i32_72
  let v149 : BitVec 32 := Scalar.addi v54 v148
  let c1_i32_74 : BitVec 32 := 1#32
  let arg19 : BitVec 32 := Scf.iv v149 c1_i32_74 k1_t7
  let c256_i32_86 : BitVec 32 := 256#32
  let v168 : BitVec 32 := Scalar.muli arg19 c256_i32_86
  let v169 : BitVec 32 := v168
  let v192 : Index := Scalar.indexCast v169
  let c0_101 : Index := 0#32
  ![0, v192.toNat, 0]

def k1_chk2 (k1_t1 : Fin k1_t1_loop.trips) (v37 : BitVec 32) : Prop :=
  ((k1_t6_loop k1_t1 v37).OK) ∧
  (∀ k1_t6 : Fin (k1_t6_loop k1_t1 v37).trips, 256 ∣ (k1_mult7 k1_t1 v37 k1_t6).toNat) ∧
  (∀ k1_t6 : Fin (k1_t6_loop k1_t1 v37).trips, ∀ a, (k1_off20 k1_t1 v37 k1_t6) a + S1x256x256.size a ≤ S32x256x256.size a) ∧
  (∀ k1_t6 : Fin (k1_t6_loop k1_t1 v37).trips, ∀ a, (k1_off21 k1_t1 v37 k1_t6) a + S1x256x128.size a ≤ S1x8192x128.size a) ∧
  ((k1_t7_loop k1_t1 v37).OK) ∧
  (∀ k1_t7 : Fin (k1_t7_loop k1_t1 v37).trips, 256 ∣ (k1_mult8 k1_t1 v37 k1_t7).toNat) ∧
  (∀ k1_t7 : Fin (k1_t7_loop k1_t1 v37).trips, ∀ a, (k1_off22 k1_t1 v37 k1_t7) a + S1x256x256.size a ≤ S32x256x256.size a) ∧
  (∀ k1_t7 : Fin (k1_t7_loop k1_t1 v37).trips, ∀ a, (k1_off23 k1_t1 v37 k1_t7) a + S1x256x128.size a ≤ S1x8192x128.size a)
theorem k1_t6_ok : ∀ (k1_t1 : Fin k1_t1_loop.trips) (v37 : BitVec 32) (k1_hw2 : k1_chk2 k1_t1 v37), (k1_t6_loop k1_t1 v37).OK := fun k1_t1 v37 k1_hw2 => k1_hw2.1
theorem k1_mult7_dvd : ∀ (k1_t1 : Fin k1_t1_loop.trips) (v37 : BitVec 32) (k1_hw2 : k1_chk2 k1_t1 v37) (k1_t6 : Fin (k1_t6_loop k1_t1 v37).trips), 256 ∣ (k1_mult7 k1_t1 v37 k1_t6).toNat := fun k1_t1 v37 k1_hw2 k1_t6 => k1_hw2.2.1 k1_t6
theorem k1_off20_inb : ∀ (k1_t1 : Fin k1_t1_loop.trips) (v37 : BitVec 32) (k1_hw2 : k1_chk2 k1_t1 v37) (k1_t6 : Fin (k1_t6_loop k1_t1 v37).trips), ∀ a, (k1_off20 k1_t1 v37 k1_t6) a + S1x256x256.size a ≤ S32x256x256.size a := fun k1_t1 v37 k1_hw2 k1_t6 => k1_hw2.2.2.1 k1_t6
theorem k1_off21_inb : ∀ (k1_t1 : Fin k1_t1_loop.trips) (v37 : BitVec 32) (k1_hw2 : k1_chk2 k1_t1 v37) (k1_t6 : Fin (k1_t6_loop k1_t1 v37).trips), ∀ a, (k1_off21 k1_t1 v37 k1_t6) a + S1x256x128.size a ≤ S1x8192x128.size a := fun k1_t1 v37 k1_hw2 k1_t6 => k1_hw2.2.2.2.1 k1_t6
theorem k1_t7_ok : ∀ (k1_t1 : Fin k1_t1_loop.trips) (v37 : BitVec 32) (k1_hw2 : k1_chk2 k1_t1 v37), (k1_t7_loop k1_t1 v37).OK := fun k1_t1 v37 k1_hw2 => k1_hw2.2.2.2.2.1
theorem k1_mult8_dvd : ∀ (k1_t1 : Fin k1_t1_loop.trips) (v37 : BitVec 32) (k1_hw2 : k1_chk2 k1_t1 v37) (k1_t7 : Fin (k1_t7_loop k1_t1 v37).trips), 256 ∣ (k1_mult8 k1_t1 v37 k1_t7).toNat := fun k1_t1 v37 k1_hw2 k1_t7 => k1_hw2.2.2.2.2.2.1 k1_t7
theorem k1_off22_inb : ∀ (k1_t1 : Fin k1_t1_loop.trips) (v37 : BitVec 32) (k1_hw2 : k1_chk2 k1_t1 v37) (k1_t7 : Fin (k1_t7_loop k1_t1 v37).trips), ∀ a, (k1_off22 k1_t1 v37 k1_t7) a + S1x256x256.size a ≤ S32x256x256.size a := fun k1_t1 v37 k1_hw2 k1_t7 => k1_hw2.2.2.2.2.2.2.1 k1_t7
theorem k1_off23_inb : ∀ (k1_t1 : Fin k1_t1_loop.trips) (v37 : BitVec 32) (k1_hw2 : k1_chk2 k1_t1 v37) (k1_t7 : Fin (k1_t7_loop k1_t1 v37).trips), ∀ a, (k1_off23 k1_t1 v37 k1_t7) a + S1x256x128.size a ≤ S1x8192x128.size a := fun k1_t1 v37 k1_hw2 k1_t7 => k1_hw2.2.2.2.2.2.2.2 k1_t7

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_4 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x8192x128 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x8192x128 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x8192x128 .fp8e4m3 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x1x8192 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S1x1x1x8192 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x1x1x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1x1x8192 .i32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S1x8192x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== KernelIdeal.lean ====
variable {F : FTy → Type} [FloatOps F] [Named F]
def κ : String → Option EReal := fun
  | "log2_fp8_max" => some (((Real.log 448) * (Real.log 2)⁻¹ : ℝ) : EReal)
  | "log2_scale" => some (((Real.sqrt 128)⁻¹ * (Real.log 2)⁻¹ : ℝ) : EReal)
  | _ => none
-- ==== ReferenceIdeal.lean ====
abbrev S8x8192x2048 : Shape := ⟨3, ![8, 8192, 2048]⟩
abbrev S8x16x1x8192 : Shape := ⟨4, ![8, 16, 1, 8192]⟩
abbrev S8x16x1x128 : Shape := ⟨4, ![8, 16, 1, 128]⟩
abbrev S8x8192 : Shape := ⟨2, ![8, 8192]⟩
abbrev S8x8192x16x128 : Shape := ⟨4, ![8, 8192, 16, 128]⟩
abbrev S8x16x8192x128 : Shape := ⟨4, ![8, 16, 8192, 128]⟩
abbrev S128x8192x128 : Shape := ⟨3, ![128, 8192, 128]⟩
abbrev S128x8192x8192 : Shape := ⟨3, ![128, 8192, 8192]⟩
abbrev S128x8192 : Shape := ⟨2, ![128, 8192]⟩
abbrev S128x8192x1 : Shape := ⟨3, ![128, 8192, 1]⟩
abbrev S128x1x8192 : Shape := ⟨3, ![128, 1, 8192]⟩
abbrev S8x8192x8192 : Shape := ⟨3, ![8, 8192, 8192]⟩
abbrev S8x1x8192 : Shape := ⟨3, ![8, 1, 8192]⟩
abbrev S8x8192x1 : Shape := ⟨3, ![8, 8192, 1]⟩
abbrev S8x1x8192x8192 : Shape := ⟨4, ![8, 1, 8192, 8192]⟩
abbrev S8x16x8192x8192 : Shape := ⟨4, ![8, 16, 8192, 8192]⟩
abbrev S128x1x128 : Shape := ⟨3, ![128, 1, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x8192x2048, .fp8e4m3⟩
  | .hbm, ⟨1, _⟩ => ⟨S8x16x1x8192, .f32⟩
  | .hbm, ⟨2, _⟩ => ⟨S8x8192x2048, .fp8e4m3⟩
  | .hbm, ⟨3, _⟩ => ⟨S8x16x1x8192, .f32⟩
  | .hbm, ⟨4, _⟩ => ⟨S8x8192x2048, .fp8e4m3⟩
  | .hbm, ⟨5, _⟩ => ⟨S8x16x1x128, .f32⟩
  | .hbm, ⟨6, _⟩ => ⟨S8x8192, .i32⟩
  | .hbm, ⟨7, _⟩ => ⟨S8x8192x2048, .bf16⟩
  | .local _ .vmem, ⟨0, _⟩ => ⟨S8x8192x2048, .fp8e4m3⟩
  | .local _ .vmem, ⟨1, _⟩ => ⟨S8x16x1x8192, .f32⟩
  | .local _ .vmem, ⟨2, _⟩ => ⟨S8x8192x2048, .fp8e4m3⟩
  | .local _ .vmem, ⟨3, _⟩ => ⟨S8x16x1x8192, .f32⟩
  | .local _ .vmem, ⟨4, _⟩ => ⟨S8x8192x2048, .fp8e4m3⟩
  | .local _ .vmem, ⟨5, _⟩ => ⟨S8x16x1x128, .f32⟩
  | .local _ .vmem, ⟨6, _⟩ => ⟨S8x8192, .i32⟩
  | .local _ .vmem, ⟨7, _⟩ => ⟨S8x8192x2048, .bf16⟩
  | _, _ => ⟨S8x8192x2048, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "p_scale" => some ((1 / 448 : ℝ) : EReal)
  | "sm_scale" => some (((Real.sqrt 128)⁻¹ : ℝ) : EReal)
  | _ => none

abbrev grid0 : Pipeline.Grid := .none

abbrev stage0_0 : Fin 1 → Memref sig .tc .vmem S8x8192x2048 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x16x1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8192x2048 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x16x1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x8192x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x16x1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x8192 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x8192x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Quant.lean ====
abbrev S8x8192x2048 : Shape := ⟨3, ![8, 8192, 2048]⟩
abbrev S8x16x1x8192 : Shape := ⟨4, ![8, 16, 1, 8192]⟩
abbrev S8x16x1x128 : Shape := ⟨4, ![8, 16, 1, 128]⟩
abbrev S1x8192x128 : Shape := ⟨3, ![1, 8192, 128]⟩
abbrev S1x1x1x8192 : Shape := ⟨4, ![1, 1, 1, 8192]⟩
abbrev S1x1x1x128 : Shape := ⟨4, ![1, 1, 1, 128]⟩
abbrev S8x128 : Shape := ⟨2, ![8, 128]⟩
abbrev S1x512x128 : Shape := ⟨3, ![1, 512, 128]⟩
abbrev S512x128 : Shape := ⟨2, ![512, 128]⟩
abbrev S64x8x128 : Shape := ⟨3, ![64, 8, 128]⟩
abbrev S128 : Shape := ⟨1, ![128]⟩
abbrev S1x128 : Shape := ⟨2, ![1, 128]⟩
abbrev S512 : Shape := ⟨1, ![512]⟩
abbrev S512x1 : Shape := ⟨2, ![512, 1]⟩
abbrev S128x128 : Shape := ⟨2, ![128, 128]⟩

abbrev nBuf : Space → Nat
  | .hbm => 9
  | .vmem => 18
  | .smem => 0
  | _ => 0

abbrev bufTy : (tb : Table) → Fin (tcTables nBuf tb) → BufTy
  | .hbm, ⟨0, _⟩ => ⟨S8x8192x2048, .bf16⟩
  | .hbm, ⟨1, _⟩ => ⟨S8x8192x2048, .bf16⟩
  | .hbm, ⟨2, _⟩ => ⟨S8x8192x2048, .bf16⟩
  | .hbm, ⟨3, _⟩ => ⟨S8x8192x2048, .fp8e4m3⟩
  | .hbm, ⟨4, _⟩ => ⟨S8x16x1x8192, .f32⟩
  | .hbm, ⟨5, _⟩ => ⟨S8x8192x2048, .fp8e4m3⟩
  | .hbm, ⟨6, _⟩ => ⟨S8x16x1x8192, .f32⟩
  | .hbm, ⟨7, _⟩ => ⟨S8x8192x2048, .fp8e4m3⟩
  | .hbm, ⟨8, _⟩ => ⟨S8x16x1x128, .f32⟩
  | .local _ .vmem, ⟨0, _⟩ => ⟨S1x8192x128, .bf16⟩
  | .local _ .vmem, ⟨1, _⟩ => ⟨S1x8192x128, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x8192x128, .fp8e4m3⟩
  | .local _ .vmem, ⟨7, _⟩ => ⟨S1x8192x128, .fp8e4m3⟩
  | .local _ .vmem, ⟨8, _⟩ => ⟨S1x1x1x8192, .f32⟩
  | .local _ .vmem, ⟨9, _⟩ => ⟨S1x1x1x8192, .f32⟩
  | .local _ .vmem, ⟨10, _⟩ => ⟨S1x8192x128, .fp8e4m3⟩
  | .local _ .vmem, ⟨11, _⟩ => ⟨S1x8192x128, .fp8e4m3⟩
  | .local _ .vmem, ⟨12, _⟩ => ⟨S1x1x1x8192, .f32⟩
  | .local _ .vmem, ⟨13, _⟩ => ⟨S1x1x1x8192, .f32⟩
  | .local _ .vmem, ⟨14, _⟩ => ⟨S1x8192x128, .fp8e4m3⟩
  | .local _ .vmem, ⟨15, _⟩ => ⟨S1x8192x128, .fp8e4m3⟩
  | .local _ .vmem, ⟨16, _⟩ => ⟨S1x1x1x128, .f32⟩
  | .local _ .vmem, ⟨17, _⟩ => ⟨S1x1x1x128, .f32⟩
  | _, _ => ⟨S8x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c512_i32 : BitVec 32 := 512#32
  let v66 : BitVec 32 := Scalar.muli arg11 c512_i32
  v66
def k0_off1 (k0_t1 : Fin k0_t1_loop.trips) : Fin 3 → Nat :=
  let c0_15 : Index := 0#32
  let c0_i32 : BitVec 32 := 0#32
  let c1_i32 : BitVec 32 := 1#32
  let arg11 : BitVec 32 := Scf.iv c0_i32 c1_i32 k0_t1
  let c512_i32 : BitVec 32 := 512#32
  let v66 : BitVec 32 := Scalar.muli arg11 c512_i32
  let v67 : BitVec 32 := v66
  let v68 : Index := Scalar.indexCast v67
  let c0_16 : Index := 0#32
  ![0, v68.toNat, 0]
@[reducible] def k0_t2_loop : Scf.Loop 32 :=
  let c0_i32_11 : BitVec 32 := 0#32
  let c16_i32_12 : BitVec 32 := 16#32
  let v65 : BitVec 32 := Scalar.addi c0_i32_11 c16_i32_12
  let c1_i32_13 : BitVec 32 := 1#32
  ⟨c0_i32_11, v65, c1_i32_13⟩
def k0_mult2 (k0_t2 : Fin k0_t2_loop.trips) : BitVec 32 :=
  let c0_i32_11 : BitVec 32 := 0#32
  let c1_i32_13 : BitVec 32 := 1#32
  let arg11 : BitVec 32 := Scf.iv c0_i32_11 c1_i32_13 k0_t2
  let c512_i32 : BitVec 32 := 512#32
  let v66 : BitVec 32 := Scalar.muli arg11 c512_i32
  v66
def k0_off2 (k0_t2 : Fin k0_t2_loop.trips) : Fin 3 → Nat :=
  let c0_15 : Index := 0#32
  let c0_i32_11 : BitVec 32 := 0#32
  let c1_i32_13 : BitVec 32 := 1#32
  let arg11 : BitVec 32 := Scf.iv c0_i32_11 c1_i32_13 k0_t2
  let c512_i32 : BitVec 32 := 512#32
  let v66 : BitVec 32 := Scalar.muli arg11 c512_i32
  let v67 : BitVec 32 := v66
  let v68 : Index := Scalar.indexCast v67
  let c0_16 : Index := 0#32
  ![0, v68.toNat, 0]
def k0_mult3 (k0_t2 : Fin k0_t2_loop.trips) : BitVec 32 :=
  let c0_i32_11 : BitVec 32 := 0#32
  let c1_i32_13 : BitVec 32 := 1#32
  let arg11 : BitVec 32 := Scf.iv c0_i32_11 c1_i32_13 k0_t2
  let c512_i32 : BitVec 32 := 512#32
  let v66 : BitVec 32 := Scalar.muli arg11 c512_i32
  let v67 : BitVec 32 := v66
  let c0_i32_42 : BitVec 32 := 0#32
  let v158 : BitVec 32 := Scalar.addi v67 c0_i32_42
  v158
def k0_off3 (k0_t2 : Fin k0_t2_loop.trips) (c0_i32_42 : BitVec 32) : Fin 4 → Nat :=
  let c0_43 : Index := 0#32
  let c0_44 : Index := 0#32
  let c0_45 : Index := 0#32
  let c0_i32_11 : BitVec 32 := 0#32
  let c1_i32_13 : BitVec 32 := 1#32
  let arg11 : BitVec 32 := Scf.iv c0_i32_11 c1_i32_13 k0_t2
  let c512_i32 : BitVec 32 := 512#32
  let v66 : BitVec 32 := Scalar.muli arg11 c512_i32
  let v67 : BitVec 32 := v66
  let v158 : BitVec 32 := Scalar.addi v67 c0_i32_42
  let v159 : BitVec 32 := v158
  let v160 : Index := Scalar.indexCast v159
  ![0, 0, 0, v160.toNat]
def k0_mult4 (k0_t2 : Fin k0_t2_loop.trips) : BitVec 32 :=
  let c0_i32_11 : BitVec 32 := 0#32
  let c1_i32_13 : BitVec 32 := 1#32
  let arg11 : BitVec 32 := Scf.iv c0_i32_11 c1_i32_13 k0_t2
  let c512_i32 : BitVec 32 := 512#32
  let v66 : BitVec 32 := Scalar.muli arg11 c512_i32
  let v67 : BitVec 32 := v66
  let c128_i32 : BitVec 32 := 128#32
  let v167 : BitVec 32 := Scalar.addi v67 c128_i32
  v167
def k0_mult5 (k0_t2 : Fin k0_t2_loop.trips) : BitVec 32 :=
  let c0_i32_11 : BitVec 32 := 0#32
  let c1_i32_13 : BitVec 32 := 1#32
  let arg11 : BitVec 32 := Scf.iv c0_i32_11 c1_i32_13 k0_t2
  let c512_i32 : BitVec 32 := 512#32
  let v66 : BitVec 32 := Scalar.muli arg11 c512_i32
  let v67 : BitVec 32 := v66
  let c256_i32 : BitVec 32 := 256#32
  let v176 : BitVec 32 := Scalar.addi v67 c256_i32
  v176
def k0_mult6 (k0_t2 : Fin k0_t2_loop.trips) : BitVec 32 :=
  let c0_i32_11 : BitVec 32 := 0#32
  let c1_i32_13 : BitVec 32 := 1#32
  let arg11 : BitVec 32 := Scf.iv c0_i32_11 c1_i32_13 k0_t2
  let c512_i32 : BitVec 32 := 512#32
  let v66 : BitVec 32 := Scalar.muli arg11 c512_i32
  let v67 : BitVec 32 := v66
  let c384_i32 : BitVec 32 := 384#32
  let v185 : BitVec 32 := Scalar.addi v67 c384_i32
  v185
def k0_mult7 (k0_t2 : Fin k0_t2_loop.trips) : BitVec 32 :=
  let c0_i32_11 : BitVec 32 := 0#32
  let c1_i32_13 : BitVec 32 := 1#32
  let arg11 : BitVec 32 := Scf.iv c0_i32_11 c1_i32_13 k0_t2
  let c512_i32 : BitVec 32 := 512#32
  let v66 : BitVec 32 := Scalar.muli arg11 c512_i32
  let v67 : BitVec 32 := v66
  let c0_i32_76 : BitVec 32 := 0#32
  let v268 : BitVec 32 := Scalar.addi v67 c0_i32_76
  v268
def k0_mult8 (k0_t2 : Fin k0_t2_loop.trips) : BitVec 32 :=
  let c0_i32_11 : BitVec 32 := 0#32
  let c1_i32_13 : BitVec 32 := 1#32
  let arg11 : BitVec 32 := Scf.iv c0_i32_11 c1_i32_13 k0_t2
  let c512_i32 : BitVec 32 := 512#32
  let v66 : BitVec 32 := Scalar.muli arg11 c512_i32
  let v67 : BitVec 32 := v66
  let c128_i32_80 : BitVec 32 := 128#32
  let v277 : BitVec 32 := Scalar.addi v67 c128_i32_80
  v277
def k0_mult9 (k0_t2 : Fin k0_t2_loop.trips) : BitVec 32 :=
  let c0_i32_11 : BitVec 32 := 0#32
  let c1_i32_13 : BitVec 32 := 1#32
  let arg11 : BitVec 32 := Scf.iv c0_i32_11 c1_i32_13 k0_t2
  let c512_i32 : BitVec 32 := 512#32
  let v66 : BitVec 32 := Scalar.muli arg11 c512_i32
  let v67 : BitVec 32 := v66
  let c256_i32_84 : BitVec 32 := 256#32
  let v286 : BitVec 32 := Scalar.addi v67 c256_i32_84
  v286
def k0_mult10 (k0_t2 : Fin k0_t2_loop.trips) : BitVec 32 :=
  let c0_i32_11 : BitVec 32 := 0#32
  let c1_i32_13 : BitVec 32 := 1#32
  let arg11 : BitVec 32 := Scf.iv c0_i32_11 c1_i32_13 k0_t2
  let c512_i32 : BitVec 32 := 512#32
  let v66 : BitVec 32 := Scalar.muli arg11 c512_i32
  let v67 : BitVec 32 := v66
  let c384_i32_88 : BitVec 32 := 384#32
  let v295 : BitVec 32 := Scalar.addi v67 c384_i32_88
  v295
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8192x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8192x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x1x8192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8192x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x1x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== QuantIdeal.lean ====
variable {F : FTy → Type} [FloatOps F] [Named F]
def κ : String → Option EReal := fun
  | "inv_fp8_max" => some ((1 / 448 : ℝ) : EReal)
  | _ => none
-- ==== QuantReferenceIdeal.lean ====
abbrev S8x8192x2048 : Shape := ⟨3, ![8, 8192, 2048]⟩
abbrev S8x16x1x8192 : Shape := ⟨4, ![8, 16, 1, 8192]⟩
abbrev S8x16x1x128 : Shape := ⟨4, ![8, 16, 1, 128]⟩
abbrev S8x8192x16x128 : Shape := ⟨4, ![8, 8192, 16, 128]⟩
abbrev S8x16x128 : Shape := ⟨3, ![8, 16, 128]⟩
abbrev S8x1x16x128 : Shape := ⟨4, ![8, 1, 16, 128]⟩
abbrev S8x8192x16 : Shape := ⟨3, ![8, 8192, 16]⟩
abbrev S8x8192x16x1 : Shape := ⟨4, ![8, 8192, 16, 1]⟩
abbrev S8x16x8192 : Shape := ⟨3, ![8, 16, 8192]⟩

abbrev nBuf : Space → Nat
  | .hbm => 9
  | .vmem => 9
  | .smem => 0
  | _ => 0

abbrev bufTy : (tb : Table) → Fin (tcTables nBuf tb) → BufTy
  | .hbm, ⟨0, _⟩ => ⟨S8x8192x2048, .bf16⟩
  | .hbm, ⟨1, _⟩ => ⟨S8x8192x2048, .bf16⟩
  | .hbm, ⟨2, _⟩ => ⟨S8x8192x2048, .bf16⟩
  | .hbm, ⟨3, _⟩ => ⟨S8x8192x2048, .fp8e4m3⟩
  | .hbm, ⟨4, _⟩ => ⟨S8x16x1x8192, .f32⟩
  | .hbm, ⟨5, _⟩ => ⟨S8x8192x2048, .fp8e4m3⟩
  | .hbm, ⟨6, _⟩ => ⟨S8x16x1x8192, .f32⟩
  | .hbm, ⟨7, _⟩ => ⟨S8x8192x2048, .fp8e4m3⟩
  | .hbm, ⟨8, _⟩ => ⟨S8x16x1x128, .f32⟩
  | .local _ .vmem, ⟨0, _⟩ => ⟨S8x8192x2048, .bf16⟩
  | .local _ .vmem, ⟨1, _⟩ => ⟨S8x8192x2048, .bf16⟩
  | .local _ .vmem, ⟨2, _⟩ => ⟨S8x8192x2048, .bf16⟩
  | .local _ .vmem, ⟨3, _⟩ => ⟨S8x8192x2048, .fp8e4m3⟩
  | .local _ .vmem, ⟨4, _⟩ => ⟨S8x16x1x8192, .f32⟩
  | .local _ .vmem, ⟨5, _⟩ => ⟨S8x8192x2048, .fp8e4m3⟩
  | .local _ .vmem, ⟨6, _⟩ => ⟨S8x16x1x8192, .f32⟩
  | .local _ .vmem, ⟨7, _⟩ => ⟨S8x8192x2048, .fp8e4m3⟩
  | .local _ .vmem, ⟨8, _⟩ => ⟨S8x16x1x128, .f32⟩
  | _, _ => ⟨S8x8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F] [Named F]

def κ : String → Option EReal := fun
  | "inv_fp8_max" => some ((1 / 448 : ℝ) : EReal)
  | "log_2" => some ((Real.log 2 : ℝ) : EReal)
  | _ => none

abbrev grid0 : Pipeline.Grid := .none

abbrev stage0_0 : Fin 1 → Memref sig .tc .vmem S8x8192x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x8192x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x8192x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x8192x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x16x1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x8192x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x16x1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x8192x2048 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x16x1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.Words.lean ====
/-
  The integer words of the attention kernel in closed form: the tile at which its loops begin and end, the places its
  loads and stores are at, and the two side conditions it assumes of the words it reads from the prefetched tables.
-/
module

public import proofs.«01_k».proof.Kernel

@[expose] public section

set_option maxRecDepth 16384

noncomputable section

namespace Cert.Kernel

open Idealize.ShloMosaic

/-- The query tile number, as the word the outer loop counts in. -/
def tw (t : ℕ) : BitVec 32 := Scf.iv 0#32 1#32 t

/-- The word the kernel computes for the floor of `v / 256`. -/
def fl (v37 : BitVec 32) : BitVec 32 :=
  let c0_i32_19 : BitVec 32 := 0#32
  let v39 : BitVec 1 := Scalar.cmpi .sgt v37 c0_i32_19
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c256_i32_18 : BitVec 32 := 256#32
  let c0_i32_21 : BitVec 32 := 0#32
  let v44 : BitVec 1 := Scalar.cmpi .sgt c256_i32_18 c0_i32_21
  let v45 : BitVec 32 := Scalar.extui v44
  let c0_i32_22 : BitVec 32 := 0#32
  let v46 : BitVec 1 := Scalar.cmpi .slt c256_i32_18 c0_i32_22
  let v47 : BitVec 32 := Scalar.extui v46
  let v48 : BitVec 32 := Scalar.subi v45 v47
  let v49 : BitVec 1 := Scalar.cmpi .ne v43 v48
  let v50 : BitVec 32 := Scalar.remsi v37 c256_i32_18
  let c0_i32_23 : BitVec 32 := 0#32
  let v51 : BitVec 1 := Scalar.cmpi .ne v50 c0_i32_23
  let v52 : BitVec 1 := Scalar.andi v49 v51
  let v38 : BitVec 32 := Scalar.divsi v37 c256_i32_18
  let c1_i32_24 : BitVec 32 := 1#32
  let v53 : BitVec 32 := Scalar.subi v38 c1_i32_24
  let v54 : BitVec 32 := Scalar.select v52 v53 v38
  v54

/-- The word the kernel computes for the floor of `(v + 255) / 256`. -/
def ce (v57 : BitVec 32) : BitVec 32 :=
  fl (Scalar.subi (Scalar.addi v57 256#32) 1#32)

theorem fl_small : ∀ n : Fin 8704, fl (BitVec.ofNat 32 n.val) = BitVec.ofNat 32 (n.val / 256) := by decide +kernel

theorem tw_eq (t : ℕ) : tw t = BitVec.ofNat 32 t := by
  unfold tw Scf.iv; simp

theorem fl_eq (v : BitVec 32) (h : v.toNat < 8704) : fl v = BitVec.ofNat 32 (v.toNat / 256) := by
  have := fl_small ⟨v.toNat, h⟩
  simpa using this

theorem ce_eq (v : BitVec 32) (h : v.toNat < 8192) : ce v = BitVec.ofNat 32 ((v.toNat + 255) / 256) := by
  have e : Scalar.subi (Scalar.addi v 256#32) 1#32 = BitVec.ofNat 32 (v.toNat + 255) := by
    unfold Scalar.subi Scalar.addi
    apply BitVec.eq_of_toNat_eq
    simp [IntOp.subi, IntOp.addi, BitVec.toNat_add, BitVec.toNat_sub]
    omega
  unfold ce
  rw [e, fl_eq _ (by simp; omega)]
  simp only [BitVec.toNat_ofNat]
  congr 2
  omega

/-- A loop from tile `a` up to tile `b`, the bounds as the kernel computes them. -/
def lp (a b : BitVec 32) : Scf.Loop 32 :=
  ⟨a, Scalar.addi a (Scalar.muli (Scalar.divsi (Scalar.subi b a) 1#32) 1#32), 1#32⟩

/-- What is left of a loop from tile `a` up to tile `b` after its main part, the bounds as the kernel computes them. -/
def lr (a b : BitVec 32) : Scf.Loop 32 :=
  ⟨Scalar.addi a (Scalar.muli (Scalar.divsi (Scalar.subi b a) 1#32) 1#32), Scalar.addi a (Scalar.subi b a), 1#32⟩

/-- The word of the tile at which the loops without a mask begin. -/
def jcw (t : ℕ) (l : BitVec 32) : BitVec 32 := Scalar.minsi (ce l) (tw t)

theorem t2_loop_eq (t : Fin k1_t1_loop.trips) (f l : BitVec 32) : k1_t2_loop t f l = lp (fl f) (jcw t l) := rfl
theorem t3_loop_eq (t : Fin k1_t1_loop.trips) (f l : BitVec 32) : k1_t3_loop t f l = lr (fl f) (jcw t l) := rfl
theorem t4_loop_eq (t : Fin k1_t1_loop.trips) (l : BitVec 32) : k1_t4_loop t l = lp (jcw t l) (tw t) := rfl
theorem t5_loop_eq (t : Fin k1_t1_loop.trips) (l : BitVec 32) : k1_t5_loop t l = lr (jcw t l) (tw t) := rfl
theorem t6_loop_eq (t : Fin k1_t1_loop.trips) (f : BitVec 32) : k1_t6_loop t f = lp (fl f) (Scalar.addi (tw t) 1#32) := rfl
theorem t7_loop_eq (t : Fin k1_t1_loop.trips) (f : BitVec 32) : k1_t7_loop t f = lr (fl f) (Scalar.addi (tw t) 1#32) := rfl

theorem lp_trips : ∀ a b : Fin 33, a.val ≤ b.val → (lp (BitVec.ofNat 32 a.val) (BitVec.ofNat 32 b.val)).trips = b.val - a.val
    ∧ (lp (BitVec.ofNat 32 a.val) (BitVec.ofNat 32 b.val)).OK := by decide +kernel
theorem lr_trips : ∀ a b : Fin 33, a.val ≤ b.val → (lr (BitVec.ofNat 32 a.val) (BitVec.ofNat 32 b.val)).trips = 0
    ∧ (lr (BitVec.ofNat 32 a.val) (BitVec.ofNat 32 b.val)).OK := by decide +kernel
theorem jcw_small : ∀ a : Fin 34, ∀ b : Fin 33, Scalar.minsi (BitVec.ofNat 32 a.val) (BitVec.ofNat 32 b.val) = BitVec.ofNat 32 (min a.val b.val) := by
  decide +kernel

/-- The first tile a query tile's loops visit. -/
def j0 (f : BitVec 32) : ℕ := f.toNat / 256
/-- The first tile that needs no mask. -/
def jc (t : ℕ) (l : BitVec 32) : ℕ := min ((l.toNat + 255) / 256) t

/-- What holds of the two table words of query tile `t`: the first visible key of the tile's first row is no later than
    the row, that of its last row is no earlier than the first row's and no later than the last row. -/
structure Good (t : ℕ) (f l : BitVec 32) : Prop where
  ht : t < 32
  hf : f.toNat ≤ 256 * t
  hfl : f.toNat ≤ l.toNat
  hl : l.toNat ≤ 256 * t + 255

namespace Good

variable {t : ℕ} {f l : BitVec 32} (h : Good t f l)
include h

theorem j0_le : j0 f ≤ t := by have := h.hf; unfold j0; omega
theorem j0_le_jc : j0 f ≤ jc t l := by have := h.hf; have := h.hfl; unfold j0 jc; omega
theorem jc_le : jc t l ≤ t := by unfold jc; omega
theorem fl_word : fl f = BitVec.ofNat 32 (j0 f) := fl_eq f (by have := h.hf; have := h.ht; omega)
theorem jc_word : jcw t l = BitVec.ofNat 32 (jc t l) := by
  have h1 := h.hl; have h2 := h.ht
  unfold jcw
  rw [ce_eq l (by omega), tw_eq]
  exact jcw_small ⟨(l.toNat + 255) / 256, by omega⟩ ⟨t, by omega⟩
theorem succ_word : Scalar.addi (tw t) 1#32 = BitVec.ofNat 32 (t + 1) := by
  have h2 := h.ht
  rw [tw_eq]
  apply BitVec.eq_of_toNat_eq
  simp [Scalar.addi, IntOp.addi, BitVec.toNat_add]

theorem lp02 : lp (fl f) (jcw t l) = lp (BitVec.ofNat 32 (j0 f)) (BitVec.ofNat 32 (jc t l)) := by rw [h.fl_word, h.jc_word]

theorem trips2 : (lp (fl f) (jcw t l)).trips = jc t l - j0 f ∧ (lp (fl f) (jcw t l)).OK := by
  have := h.jc_le; have := h.j0_le_jc; have := h.ht
  rw [h.fl_word, h.jc_word]
  exact lp_trips ⟨j0 f, by omega⟩ ⟨jc t l, by omega⟩ (by dsimp only; omega)
theorem trips3 : (lr (fl f) (jcw t l)).trips = 0 ∧ (lr (fl f) (jcw t l)).OK := by
  have := h.jc_le; have := h.j0_le_jc; have := h.ht
  rw [h.fl_word, h.jc_word]
  exact lr_trips ⟨j0 f, by omega⟩ ⟨jc t l, by omega⟩ (by dsimp only; omega)
theorem trips4 : (lp (jcw t l) (tw t)).trips = t - jc t l ∧ (lp (jcw t l) (tw t)).OK := by
  have := h.jc_le; have := h.ht
  rw [h.jc_word, tw_eq]
  exact lp_trips ⟨jc t l, by omega⟩ ⟨t, by omega⟩ (by dsimp only; omega)
theorem trips5 : (lr (jcw t l) (tw t)).trips = 0 ∧ (lr (jcw t l) (tw t)).OK := by
  have := h.jc_le; have := h.ht
  rw [h.jc_word, tw_eq]
  exact lr_trips ⟨jc t l, by omega⟩ ⟨t, by omega⟩ (by dsimp only; omega)
theorem trips6 : (lp (fl f) (Scalar.addi (tw t) 1#32)).trips = t + 1 - j0 f ∧ (lp (fl f) (Scalar.addi (tw t) 1#32)).OK := by
  have := h.j0_le; have := h.ht
  rw [h.fl_word, h.succ_word]
  exact lp_trips ⟨j0 f, by omega⟩ ⟨t + 1, by omega⟩ (by dsimp only; omega)
theorem trips7 : (lr (fl f) (Scalar.addi (tw t) 1#32)).trips = 0 ∧ (lr (fl f) (Scalar.addi (tw t) 1#32)).OK := by
  have := h.j0_le; have := h.ht
  rw [h.fl_word, h.succ_word]
  exact lr_trips ⟨j0 f, by omega⟩ ⟨t + 1, by omega⟩ (by dsimp only; omega)

end Good

/-- The induction variable of a loop that begins at tile `a`, after `k` trips. -/
theorem iv_ofNat (a k : ℕ) : Scf.iv (BitVec.ofNat 32 a) 1#32 k = BitVec.ofNat 32 (a + k) := by
  unfold Scf.iv
  rw [BitVec.mul_one, ← BitVec.ofNat_add]

/-- The first row of tile `n` as a word: `256 n`. -/
theorem row_word (n : ℕ) (h : n < 33) : (Scalar.muli (BitVec.ofNat 32 n) 256#32).toNat = 256 * n := by
  simp [Scalar.muli, IntOp.muli, BitVec.toNat_mul]
  omega

theorem row_word' (n : ℕ) : Scalar.muli (BitVec.ofNat 32 n) 256#32 = BitVec.ofNat 32 (256 * n) := by
  apply BitVec.eq_of_toNat_eq
  simp [Scalar.muli, IntOp.muli, BitVec.toNat_mul]
  omega

/-- The rectangle of rows at a tile word. -/
def orow (j : BitVec 32) : Fin 3 → ℕ := ![0, (Scalar.indexCast (Scalar.muli j 256#32)).toNat, 0]
/-- The rectangle of lanes at a tile word. -/
def olane (j : BitVec 32) : Fin 4 → ℕ := ![0, 0, 0, (Scalar.indexCast (Scalar.muli j 256#32)).toNat]
/-- The rectangle of the score scratch at a tile word. -/
def oslab (j : BitVec 32) : Fin 3 → ℕ := ![(Scalar.indexCast j).toNat, 0, 0]

theorem orow_eq (n : ℕ) (h : n < 33) : orow (BitVec.ofNat 32 n) = ![0, 256 * n, 0] := by
  unfold orow; rw [show (Scalar.indexCast (Scalar.muli (BitVec.ofNat 32 n) 256#32)) = Scalar.muli (BitVec.ofNat 32 n) 256#32 from rfl, row_word n h]
theorem olane_eq (n : ℕ) (h : n < 33) : olane (BitVec.ofNat 32 n) = ![0, 0, 0, 256 * n] := by
  unfold olane; rw [show (Scalar.indexCast (Scalar.muli (BitVec.ofNat 32 n) 256#32)) = Scalar.muli (BitVec.ofNat 32 n) 256#32 from rfl, row_word n h]
theorem oslab_eq (n : ℕ) (h : n < 33) : oslab (BitVec.ofNat 32 n) = ![n, 0, 0] := by
  unfold oslab; rw [show (Scalar.indexCast (BitVec.ofNat 32 n)) = BitVec.ofNat 32 n from rfl]
  simp only [BitVec.toNat_ofNat]
  rw [Nat.mod_eq_of_lt (by omega)]

theorem orow_inb (n : ℕ) (h : n < 32) : ∀ a, orow (BitVec.ofNat 32 n) a + S1x256x128.size a ≤ S1x8192x128.size a := by
  rw [orow_eq n (by omega)]
  intro a; fin_cases a <;> simp [S1x256x128, S1x8192x128] <;> omega
theorem olane_inb (n : ℕ) (h : n < 32) : ∀ a, olane (BitVec.ofNat 32 n) a + S1x1x1x256.size a ≤ S1x1x1x8192.size a := by
  rw [olane_eq n (by omega)]
  intro a; fin_cases a <;> simp [S1x1x1x256, S1x1x1x8192] <;> omega
theorem oslab_inb (n : ℕ) (h : n < 32) : ∀ a, oslab (BitVec.ofNat 32 n) a + S1x256x256.size a ≤ S32x256x256.size a := by
  rw [oslab_eq n (by omega)]
  intro a; fin_cases a <;> simp [S1x256x256, S32x256x256] <;> omega

theorem off1_eq (t : Fin k1_t1_loop.trips) : k1_off1 t = olane (tw t) := rfl
theorem off4_eq (t : Fin k1_t1_loop.trips) : k1_off4 t = orow (tw t) := rfl
theorem off17_eq (t : Fin k1_t1_loop.trips) : k1_off17 t = orow (tw t) := rfl
theorem off18_eq (t : Fin k1_t1_loop.trips) : k1_off18 t = olane (tw t) := rfl
theorem off19_eq (t : Fin k1_t1_loop.trips) : k1_off19 t = oslab (tw t) := rfl
theorem off5_eq (t : Fin k1_t1_loop.trips) (f l : BitVec 32) (k : Fin (k1_t2_loop t f l).trips) : k1_off5 t f l k = orow (Scf.iv (fl f) 1#32 k) := rfl
theorem off6_eq (t : Fin k1_t1_loop.trips) (f l : BitVec 32) (k : Fin (k1_t2_loop t f l).trips) : k1_off6 t f l k = olane (Scf.iv (fl f) 1#32 k) := rfl
theorem off7_eq (t : Fin k1_t1_loop.trips) (f l : BitVec 32) (k : Fin (k1_t2_loop t f l).trips) : k1_off7 t f l k = oslab (Scf.iv (fl f) 1#32 k) := rfl
theorem off11_eq (t : Fin k1_t1_loop.trips) (l : BitVec 32) (k : Fin (k1_t4_loop t l).trips) : k1_off11 t l k = orow (Scf.iv (jcw t l) 1#32 k) := rfl
theorem off12_eq (t : Fin k1_t1_loop.trips) (l : BitVec 32) (k : Fin (k1_t4_loop t l).trips) : k1_off12 t l k = olane (Scf.iv (jcw t l) 1#32 k) := rfl
theorem off13_eq (t : Fin k1_t1_loop.trips) (l : BitVec 32) (k : Fin (k1_t4_loop t l).trips) : k1_off13 t l k = oslab (Scf.iv (jcw t l) 1#32 k) := rfl
theorem off20_eq (t : Fin k1_t1_loop.trips) (f : BitVec 32) (k : Fin (k1_t6_loop t f).trips) : k1_off20 t f k = oslab (Scf.iv (fl f) 1#32 k) := rfl
theorem off21_eq (t : Fin k1_t1_loop.trips) (f : BitVec 32) (k : Fin (k1_t6_loop t f).trips) : k1_off21 t f k = orow (Scf.iv (fl f) 1#32 k) := rfl

theorem trips1 : k1_t1_loop.trips = 32 := by decide +kernel

theorem row_dvd (n : ℕ) (h : n < 33) : 256 ∣ (Scalar.muli (BitVec.ofNat 32 n) 256#32).toNat := by
  rw [row_word n h]; exact ⟨n, rfl⟩

variable {t : Fin k1_t1_loop.trips} {f l : BitVec 32}

theorem iv2 (h : Good t f l) (k : ℕ) : Scf.iv (fl f) 1#32 k = BitVec.ofNat 32 (j0 f + k) := by rw [h.fl_word, iv_ofNat]
theorem iv4 (h : Good t f l) (k : ℕ) : Scf.iv (jcw t l) 1#32 k = BitVec.ofNat 32 (jc t l + k) := by rw [h.jc_word, iv_ofNat]
theorem trips2 (h : Good t f l) : (k1_t2_loop t f l).trips = jc t l - j0 f := by rw [t2_loop_eq]; exact h.trips2.1
theorem trips3 (h : Good t f l) : (k1_t3_loop t f l).trips = 0 := by rw [t3_loop_eq]; exact h.trips3.1
theorem trips4 (h : Good t f l) : (k1_t4_loop t l).trips = t - jc t l := by rw [t4_loop_eq]; exact h.trips4.1
theorem trips5 (h : Good t f l) : (k1_t5_loop t l).trips = 0 := by rw [t5_loop_eq]; exact h.trips5.1
theorem trips6 (h : Good t f l) : (k1_t6_loop t f).trips = t + 1 - j0 f := by rw [t6_loop_eq]; exact h.trips6.1
theorem trips7 (h : Good t f l) : (k1_t7_loop t f).trips = 0 := by rw [t7_loop_eq]; exact h.trips7.1

theorem tile2_lt (h : Good t f l) (k : Fin (k1_t2_loop t f l).trips) : j0 f + k.val < jc t l := by
  have := k.isLt; have := trips2 h; omega
theorem tile4_lt (h : Good t f l) (k : Fin (k1_t4_loop t l).trips) : jc t l + k.val < t := by
  have := k.isLt; have := trips4 h; omega
theorem tile6_lt (h : Good t f l) (k : Fin (k1_t6_loop t f).trips) : j0 f + k.val < t + 1 := by
  have := k.isLt; have := trips6 h; omega

/-- The side condition assumed once the last row's word is read holds of good words. -/
theorem chk1 (h : Good t f l) : k1_chk1 t f l := by
  have ht := h.ht
  have hjc := h.jc_le
  have no3 : ∀ {P : Fin (k1_t3_loop t f l).trips → Prop}, ∀ k, P k := fun {P} k => absurd k.isLt (by have := trips3 h; omega)
  have no5 : ∀ {P : Fin (k1_t5_loop t l).trips → Prop}, ∀ k, P k := fun {P} k => absurd k.isLt (by have := trips5 h; omega)
  refine ⟨?_, ?_, ?_, ?_, ?_, ?_, no3, no3, no3, no3, ?_, ?_, ?_, ?_, ?_, ?_, no5, no5, no5, no5⟩
  · rw [t2_loop_eq]; exact h.trips2.2
  · intro k
    have := tile2_lt h k
    show 256 ∣ (Scalar.muli (Scf.iv (fl f) 1#32 k) 256#32).toNat
    rw [iv2 h]; exact row_dvd _ (by omega)
  · intro k
    have := tile2_lt h k
    rw [off5_eq, iv2 h]; exact orow_inb _ (by omega)
  · intro k
    have := tile2_lt h k
    rw [off6_eq, iv2 h]; exact olane_inb _ (by omega)
  · intro k
    have := tile2_lt h k
    rw [off7_eq, iv2 h]; exact oslab_inb _ (by omega)
  · rw [t3_loop_eq]; exact h.trips3.2
  · rw [t4_loop_eq]; exact h.trips4.2
  · intro k
    have := tile4_lt h k
    show 256 ∣ (Scalar.muli (Scf.iv (jcw t l) 1#32 k) 256#32).toNat
    rw [iv4 h]; exact row_dvd _ (by omega)
  · intro k
    have := tile4_lt h k
    rw [off11_eq, iv4 h]; exact orow_inb _ (by omega)
  · intro k
    have := tile4_lt h k
    rw [off12_eq, iv4 h]; exact olane_inb _ (by omega)
  · intro k
    have := tile4_lt h k
    rw [off13_eq, iv4 h]; exact oslab_inb _ (by omega)
  · rw [t5_loop_eq]; exact h.trips5.2

/-- The side condition assumed once the first row's word is read holds of good words. -/
theorem chk2 (h : Good t f l) : k1_chk2 t f := by
  have ht := h.ht
  have no7 : ∀ {P : Fin (k1_t7_loop t f).trips → Prop}, ∀ k, P k := fun {P} k => absurd k.isLt (by have := trips7 h; omega)
  refine ⟨?_, ?_, ?_, ?_, ?_, no7, no7, no7⟩
  · rw [t6_loop_eq]; exact h.trips6.2
  · intro k
    have := tile6_lt h k
    show 256 ∣ (Scalar.muli (Scf.iv (fl f) 1#32 k) 256#32).toNat
    rw [iv2 h]; exact row_dvd _ (by omega)
  · intro k
    have := tile6_lt h k
    rw [off20_eq, iv2 h]; exact oslab_inb _ (by omega)
  · intro k
    have := tile6_lt h k
    rw [off21_eq, iv2 h]; exact orow_inb _ (by omega)
  · rw [t7_loop_eq]; exact h.trips7.2

end Cert.Kernel

end
-- ==== Proof.DocStart.lean ====
/-
  The first kernel on words: where each row's document starts, by thirteen doubling steps of a running maximum. What is
  shown of its result, for any segment ids: a row's start is at most the row, starts never decrease along the rows, no
  row strictly between a row's start and the row begins a new document, and the start itself is row 0 or begins one.
-/
module

public import proofs.«01_k».proof.Proof.Words
public import proofs.«01_k».proof.Proof.Gen.Kernel.Skeleton
public import Idealize.ShloMosaic.Lib.KernelVsHost

@[expose] public section

set_option maxRecDepth 16384

noncomputable section

namespace Cert.Kernel

open Idealize.ShloMosaic Cert.Kernel.Gen

variable {F : FTy → Type} [FloatOps F]

/-- The index of batch `b`, row `r`. -/
def ixB (b r : ℕ) : S8x8192.Idx := fun a => match a with
  | ⟨0, _⟩ => (⟨b % 8, Nat.mod_lt _ (by omega)⟩ : Fin 8)
  | ⟨1, _⟩ => (⟨r % 8192, Nat.mod_lt _ (by omega)⟩ : Fin 8192)

theorem ixB_self (y : S8x8192.Idx) : ixB (y 0).val (y 1).val = y := by
  have h0 : (y 0).val < 8 := (y 0).isLt
  have h1 : (y 1).val < 8192 := (y 1).isLt
  funext a; refine Fin.ext ?_
  fin_cases a
  · exact Nat.mod_eq_of_lt h0
  · exact Nat.mod_eq_of_lt h1

/-- The row number of every entry. -/
def rowsOf : IVec S8x8192 32 := iota .tc S8x8192 32 [1] iota_S8x8192_d1_w32

/-- One doubling step: each entry with the one `n` rows before it, if there is one. -/
def jump (n : BitVec 32) (x : IVec S8x8192 32) : IVec S8x8192 32 :=
  maxsi x (select (cmpi .sge rowsOf (broadcast S8x8192 n)) (dynamicRotate 1 n none x rotates_S8x8192_d1) (broadcast S8x8192 0#32))

/-- The rows that begin a document, marked with their number; every other row with zero. -/
def marks (v0 : IVec S8x8192 32) : IVec S8x8192 32 :=
  select (andi (cmpi .ne v0 (dynamicRotate 1 1#32 none v0 rotates_S8x8192_d1)) (cmpi .sgt rowsOf (broadcast S8x8192 0#32)))
    rowsOf (broadcast S8x8192 0#32)

/-- What the kernel stores. -/
def starts (v0 : IVec S8x8192 32) : IVec S8x8192 32 :=
  jump 4096#32 (jump 2048#32 (jump 1024#32 (jump 512#32 (jump 256#32 (jump 128#32 (jump 64#32 (jump 32#32 (jump 16#32
    (jump 8#32 (jump 4#32 (jump 2#32 (jump 1#32 (marks v0)))))))))))))

theorem pay_starts (v0 : Vec F S8x8192 .i32) :
    k0_pay1 (iota .tc S8x8192 32 [1] iota_S8x8192_d1_w32) (k0_pay3 (iota .tc S8x8192 32 [1] iota_S8x8192_d1_w32) (k0_pay2 v0) 32#32)
      (k0_pay4 (iota .tc S8x8192 32 [1] iota_S8x8192_d1_w32) (k0_pay2 v0) 32#32) (k0_pay5 (iota .tc S8x8192 32 [1] iota_S8x8192_d1_w32)) k0_pay6
      = starts v0 := rfl

theorem rowsOf_ix (b r : ℕ) (hr : r < 8192) : rowsOf (ixB b r) = BitVec.ofNat 32 r := by
  have hr' : r % 8192 = r := Nat.mod_eq_of_lt hr
  show BitVec.ofNat 32 (0 * 8192 + r % 8192) = _
  rw [hr']; simp

theorem rot_ix (n : BitVec 32) (hn : n.toNat < 8192) (x : IVec S8x8192 32) (b r : ℕ) (hr : r < 8192) (hnr : n.toNat ≤ r) :
    dynamicRotate 1 n none x rotates_S8x8192_d1 (ixB b r) = x (ixB b (r - n.toNat)) :=
  dynamicRotate_apply 1 n x _ _ _ fun a => by
    have hr' : r % 8192 = r := Nat.mod_eq_of_lt hr
    fin_cases a
    · rfl
    · show (r - n.toNat) % 8192 = ((r % 8192) + 8192 - n.toNat % 8192) % 8192
      rw [hr', Nat.mod_eq_of_lt hn]; omega

theorem ofNat_sle (a b : ℕ) (ha : a < 8192) (hb : b < 8192) : (BitVec.ofNat 32 a).sle (BitVec.ofNat 32 b) = decide (a ≤ b) := by
  rw [BitVec.sle_eq_decide, BitVec.toInt_eq_toNat_of_lt (by simp; omega), BitVec.toInt_eq_toNat_of_lt (by simp; omega)]
  simp; omega
theorem slt_small (x y : BitVec 32) (hx : x.toNat < 8192) (hy : y.toNat < 8192) : x.slt y = decide (x.toNat < y.toNat) := by
  rw [BitVec.slt_eq_decide, BitVec.toInt_eq_toNat_of_lt (by omega), BitVec.toInt_eq_toNat_of_lt (by omega)]
  simp
theorem sle_small (x y : BitVec 32) (hx : x.toNat < 8192) (hy : y.toNat < 8192) : x.sle y = decide (x.toNat ≤ y.toNat) := by
  rw [BitVec.sle_eq_decide, BitVec.toInt_eq_toNat_of_lt (by omega), BitVec.toInt_eq_toNat_of_lt (by omega)]
  simp

theorem maxsi_small (x y : BitVec 32) (hx : x.toNat < 8192) (hy : y.toNat < 8192) :
    (IntOp.maxsi x y).toNat = max x.toNat y.toNat := by
  unfold IntOp.maxsi
  rw [slt_small y x hy hx]
  by_cases h : y.toNat < x.toNat
  · rw [if_pos (by simpa using h)]; omega
  · rw [if_neg (by simpa using h)]; omega

/-- A row's mark as a number. -/
def mark (v0 : IVec S8x8192 32) (b r : ℕ) : ℕ := if 0 < r ∧ v0 (ixB b r) ≠ v0 (ixB b (r - 1)) then r else 0

theorem mark_le (v0 : IVec S8x8192 32) (b r : ℕ) : mark v0 b r ≤ r := by unfold mark; split <;> omega

theorem marks_ix (v0 : IVec S8x8192 32) (b r : ℕ) (hr : r < 8192) : marks v0 (ixB b r) = BitVec.ofNat 32 (mark v0 b r) := by
  show Scalar.select (IntOp.andi (IntOp.cmpi .ne (v0 (ixB b r)) (dynamicRotate 1 1#32 none v0 rotates_S8x8192_d1 (ixB b r)))
    (IntOp.cmpi .sgt (rowsOf (ixB b r)) 0#32)) (rowsOf (ixB b r)) 0#32 = _
  rw [rowsOf_ix b r hr]
  unfold mark
  by_cases h0 : 0 < r
  · rw [rot_ix 1#32 (by decide) v0 b r hr h0]
    have e1 : IntOp.cmpi .sgt (BitVec.ofNat 32 r) 0#32 = 1 := by
      show BitVec.ofBool ((0#32).slt (BitVec.ofNat 32 r)) = 1
      rw [slt_small _ _ (by simp) (by simp; omega)]
      have : (BitVec.ofNat 32 r).toNat = r := by simp; omega
      rw [this]; simp [h0]
    rw [e1]
    by_cases he : v0 (ixB b r) = v0 (ixB b (r - 1))
    · rw [if_neg (by simp [he])]
      have : v0 (ixB b r) = v0 (ixB b (r - (1#32).toNat)) := he
      rw [← this]
      simp [IntOp.cmpi, IntOp.andi, Scalar.select]
    · rw [if_pos ⟨h0, he⟩]
      have : v0 (ixB b r) ≠ v0 (ixB b (r - (1#32).toNat)) := he
      have e2 : IntOp.cmpi .ne (v0 (ixB b r)) (v0 (ixB b (r - (1#32).toNat))) = 1 := by
        show BitVec.ofBool (v0 (ixB b r) != v0 (ixB b (r - (1#32).toNat))) = 1
        rw [bne_iff_ne.mpr this]; rfl
      rw [e2]; rfl
  · have : r = 0 := by omega
    subst this
    rw [if_neg (by simp)]
    unfold Scalar.select; split <;> rfl

/-- What an entry is once steps covering `n` rows have been made: the greatest mark of the last `n` rows. -/
structure Upto (v0 : IVec S8x8192 32) (b n r : ℕ) (w : BitVec 32) : Prop where
  above : ∀ j, j ≤ r → r < j + n → mark v0 b j ≤ w.toNat
  mem : ∃ j, j ≤ r ∧ w.toNat = mark v0 b j

theorem Upto.lt {v0 : IVec S8x8192 32} {b n r : ℕ} {w : BitVec 32} (h : Upto v0 b n r w) (hr : r < 8192) : w.toNat < 8192 := by
  obtain ⟨j, hj, e⟩ := h.mem
  have := mark_le v0 b j; omega

theorem upto_marks (v0 : IVec S8x8192 32) (b r : ℕ) (hr : r < 8192) : Upto v0 b 1 r (marks v0 (ixB b r)) := by
  have hm := mark_le v0 b r
  have e : (marks v0 (ixB b r)).toNat = mark v0 b r := by rw [marks_ix v0 b r hr]; simp; omega
  exact ⟨fun j h1 h2 => by rw [e, show j = r by omega], ⟨r, le_refl _, e⟩⟩

/-- One doubling step doubles the rows covered. -/
theorem upto_jump (v0 x : IVec S8x8192 32) (b : ℕ) (n : BitVec 32) (hn : n.toNat < 8192)
    (h : ∀ r, r < 8192 → Upto v0 b n.toNat r (x (ixB b r))) (r : ℕ) (hr : r < 8192) :
    Upto v0 b (2 * n.toNat) r (jump n x (ixB b r)) := by
  have hx := h r hr
  have hxl := hx.lt hr
  have e : jump n x (ixB b r) = IntOp.maxsi (x (ixB b r)) (Scalar.select (IntOp.cmpi .sge (rowsOf (ixB b r)) n)
      (dynamicRotate 1 n none x rotates_S8x8192_d1 (ixB b r)) 0#32) := rfl
  have ec : IntOp.cmpi .sge (rowsOf (ixB b r)) n = BitVec.ofBool (decide (n.toNat ≤ r)) := by
    show BitVec.ofBool (n.sle (rowsOf (ixB b r))) = _
    rw [rowsOf_ix b r hr, sle_small _ _ hn (by simp; omega)]
    have : (BitVec.ofNat 32 r).toNat = r := by simp; omega
    rw [this]
  rw [ec] at e
  by_cases hnr : n.toNat ≤ r
  · have hy := h (r - n.toNat) (by omega)
    have hyl := hy.lt (by omega)
    rw [rot_ix n hn x b r hr hnr, decide_eq_true hnr] at e
    have e' : (jump n x (ixB b r)).toNat = max (x (ixB b r)).toNat (x (ixB b (r - n.toNat))).toNat := by
      rw [e]; exact maxsi_small _ _ hxl hyl
    refine ⟨fun j h1 h2 => ?_, ?_⟩
    · rw [e']
      by_cases hc : r < j + n.toNat
      · exact le_trans (hx.above j h1 hc) (le_max_left _ _)
      · exact le_trans (hy.above j (by omega) (by omega)) (le_max_right _ _)
    · rw [e']
      rcases le_total (x (ixB b r)).toNat (x (ixB b (r - n.toNat))).toNat with hc | hc
      · obtain ⟨j, h1, h2⟩ := hy.mem
        exact ⟨j, by omega, by rw [max_eq_right hc]; exact h2⟩
      · obtain ⟨j, h1, h2⟩ := hx.mem
        exact ⟨j, h1, by rw [max_eq_left hc]; exact h2⟩
  · rw [decide_eq_false hnr] at e
    have e' : (jump n x (ixB b r)).toNat = max (x (ixB b r)).toNat 0 := by
      rw [e, show Scalar.select (BitVec.ofBool false) (dynamicRotate 1 n none x rotates_S8x8192_d1 (ixB b r)) 0#32 = 0#32 from
        if_neg (by decide)]
      exact maxsi_small _ _ hxl (by decide)
    rw [Nat.max_zero] at e'
    refine ⟨fun j h1 h2 => ?_, ?_⟩
    · rw [e']; exact hx.above j h1 (by omega)
    · rw [e']; exact hx.mem

/-- The start of row `r` of batch `b`, as a number. -/
def st (v0 : IVec S8x8192 32) (b r : ℕ) : ℕ := (starts v0 (ixB b r)).toNat

theorem upto_starts (v0 : IVec S8x8192 32) (b r : ℕ) (hr : r < 8192) : Upto v0 b 8192 r (starts v0 (ixB b r)) :=
  upto_jump v0 _ b 4096#32 (by decide) (upto_jump v0 _ b 2048#32 (by decide) (upto_jump v0 _ b 1024#32 (by decide)
    (upto_jump v0 _ b 512#32 (by decide) (upto_jump v0 _ b 256#32 (by decide) (upto_jump v0 _ b 128#32 (by decide)
    (upto_jump v0 _ b 64#32 (by decide) (upto_jump v0 _ b 32#32 (by decide) (upto_jump v0 _ b 16#32 (by decide)
    (upto_jump v0 _ b 8#32 (by decide) (upto_jump v0 _ b 4#32 (by decide) (upto_jump v0 _ b 2#32 (by decide)
    (upto_jump v0 _ b 1#32 (by decide) (upto_marks v0 b))))))))))))) r hr

theorem st_le (v0 : IVec S8x8192 32) (b r : ℕ) (hr : r < 8192) : st v0 b r ≤ r := by
  obtain ⟨j, h1, h2⟩ := (upto_starts v0 b r hr).mem
  have := mark_le v0 b j
  unfold st; omega

theorem st_mono (v0 : IVec S8x8192 32) (b r r' : ℕ) (h : r ≤ r') (hr : r' < 8192) : st v0 b r ≤ st v0 b r' := by
  obtain ⟨j, h1, h2⟩ := (upto_starts v0 b r (by omega)).mem
  unfold st; rw [h2]
  exact (upto_starts v0 b r' hr).above j (by omega) (by omega)

/-- The table words of a query tile are in order: the starts of its first and its last row. -/
theorem good_starts (v0 : IVec S8x8192 32) (b t : ℕ) (ht : t < 32) :
    Good t (starts v0 (ixB b (256 * t))) (starts v0 (ixB b (256 * t + 255))) :=
  ⟨ht, st_le v0 b _ (by omega), st_mono v0 b _ _ (by omega) (by omega), st_le v0 b _ (by omega)⟩

/-- With segment ids that never decrease, the keys at or after a row's start, up to the row, are those of its document. -/
theorem st_le_iff (v0 : IVec S8x8192 32) (b : ℕ) (hs : ∀ r, r + 1 < 8192 → (v0 (ixB b r)).toInt ≤ (v0 (ixB b (r + 1))).toInt)
    (r k : ℕ) (hr : r < 8192) (hk : k ≤ r) : st v0 b r ≤ k ↔ v0 (ixB b k) = v0 (ixB b r) := by
  have hmono : ∀ d a, a + d < 8192 → (v0 (ixB b a)).toInt ≤ (v0 (ixB b (a + d))).toInt := by
    intro d; induction d with
    | zero => intro a _; exact le_refl _
    | succ d ih => intro a ha; exact le_trans (ih a (by omega)) (hs (a + d) (by omega))
  constructor
  · intro h
    have hz : ∀ j, k < j → j ≤ r → v0 (ixB b j) = v0 (ixB b (j - 1)) := by
      intro j h1 h2
      have hm := (upto_starts v0 b r hr).above j h2 (by omega)
      by_contra hne
      have : mark v0 b j = j := by unfold mark; rw [if_pos ⟨by omega, hne⟩]
      unfold st at h; omega
    have : ∀ d, k + d ≤ r → v0 (ixB b (k + d)) = v0 (ixB b k) := by
      intro d; induction d with
      | zero => intro _; rfl
      | succ d ih =>
        intro hd
        rw [hz (k + (d + 1)) (by omega) hd]; exact ih (by omega)
    have e := this (r - k) (by omega)
    rw [show k + (r - k) = r by omega] at e
    exact e.symm
  · intro h
    by_contra hlt
    obtain ⟨j, h1, h2⟩ := (upto_starts v0 b r hr).mem
    have hm := mark_le v0 b j
    unfold st at hlt
    have hj : k < j := by omega
    have hne : v0 (ixB b j) ≠ v0 (ixB b (j - 1)) := by
      intro he
      have : mark v0 b j = 0 := by unfold mark; rw [if_neg (by simp [he])]
      omega
    apply hne
    have a1 := hmono (j - 1 - k) k (by omega)
    have a2 := hmono 1 (j - 1) (by omega)
    have a3 := hmono (r - j) j (by omega)
    rw [show k + (j - 1 - k) = j - 1 by omega] at a1
    rw [show j - 1 + 1 = j by omega] at a2
    rw [show j + (r - j) = r by omega, ← h] at a3
    exact BitVec.eq_of_toInt_eq (by omega)

end Cert.Kernel

end
-- ==== Proof.Fun.lean ====
/-
  What the attention kernel computes for one query tile, as plain functions of the arrays it reads: the tiles of keys,
  values and scales, the score tile of each key tile, the running maximum, the running sum and the running product.
-/
module

public import proofs.«01_k».proof.Proof.Words
public import proofs.«01_k».proof.Proof.Gen.Kernel.Skeleton
public import Idealize.ShloMosaic.Lib.VecWindow

@[expose] public section

set_option maxRecDepth 16384

noncomputable section

namespace Cert.Kernel

open Idealize.ShloMosaic Cert.Kernel.Gen

variable {F : FTy → Type} [FloatOps F]

theorem rows_inb (n : ℕ) : ∀ a, (![0, 256 * (n % 32), 0] : Fin 3 → ℕ) a + S1x256x128.size a ≤ S1x8192x128.size a := by
  have := orow_inb (n % 32) (Nat.mod_lt _ (by omega))
  rwa [orow_eq _ (by have := Nat.mod_lt n (show 32 > 0 by omega); omega)] at this
theorem lanes_inb (n : ℕ) : ∀ a, (![0, 0, 0, 256 * (n % 32)] : Fin 4 → ℕ) a + S1x1x1x256.size a ≤ S1x1x1x8192.size a := by
  have := olane_inb (n % 32) (Nat.mod_lt _ (by omega))
  rwa [olane_eq _ (by have := Nat.mod_lt n (show 32 > 0 by omega); omega)] at this
theorem words_inb (n : ℕ) : ∀ a, (![0, 0, 256 * (n % 32)] : Fin 3 → ℕ) a + S1x1x256.size a ≤ S1x1x8192.size a := by
  have := Nat.mod_lt n (show 32 > 0 by omega)
  intro a; fin_cases a <;> simp [S1x1x256, S1x1x8192] <;> omega

/-- Rows `256 n … 256 n + 255` of an array of rows. -/
def tileR {e : EltTy} (X : Vec F S1x8192x128 e) (n : ℕ) : Vec F S1x256x128 e :=
  VecWindow.window X ![0, 256 * (n % 32), 0] S1x256x128.size (rows_inb n)
/-- Lanes `256 n … 256 n + 255` of a row of scales. -/
def tileL {e : EltTy} (X : Vec F S1x1x1x8192 e) (n : ℕ) : Vec F S1x1x1x256 e :=
  VecWindow.window X ![0, 0, 0, 256 * (n % 32)] S1x1x1x256.size (lanes_inb n)
/-- Entries `256 n … 256 n + 255` of the row of document starts. -/
def tileD {e : EltTy} (X : Vec F S1x1x8192 e) (n : ℕ) : Vec F S1x1x256 e :=
  VecWindow.window X ![0, 0, 256 * (n % 32)] S1x1x256.size (words_inb n)

/-- The word of the first row of query tile `t`. -/
def v2w (t : ℕ) : BitVec 32 := Scalar.muli (tw t) 256#32

/-- A score tile with the causal and document mask: key tile `n` against query tile `t`. -/
def msc (q : FVec F S256x128 .fp8e4m3) (K : Vec F S1x8192x128 .fp8e4m3) (KS : Vec F S1x1x1x8192 .f32) (d : Vec F S256x128 .i32)
    (t n : ℕ) : FVec F S256x256 .f32 :=
  k1_pay24 (k1_pay20 q (tileR K n) (tileL KS n)) (k1_pay21 (BitVec.ofNat 32 n)) (k1_pay22 d d) (k1_pay23 (BitVec.ofNat 32 n) (v2w t))

/-- The score tile of key tile `n`: masked except where no key of the tile can be hidden from the query tile. -/
def score (q : FVec F S256x128 .fp8e4m3) (K : Vec F S1x8192x128 .fp8e4m3) (KS : Vec F S1x1x1x8192 .f32) (d : Vec F S256x128 .i32)
    (t : ℕ) (l : BitVec 32) (n : ℕ) : FVec F S256x256 .f32 :=
  if jc t l ≤ n ∧ n < t then k1_pay14 q (tileR K n) (tileL KS n) else msc q K KS d t n

/-- A score tile as the slab the scratch holds it in. -/
def slab (s : FVec F S256x256 .f32) : FVec F S1x256x256 .f32 := shapeCast S1x256x256 s shapeCasts_S256x256_S1x256x256

/-- One step of the running maximum: the two halves of the score tile joined into it. -/
def mxStep (s : FVec F S256x256 .f32) (m : FVec F S256x128 .f32) : FVec F S256x128 .f32 :=
  shapeCast S256x128 (maximumf m (maximumf (extractStridedSlice S256x128 ![0, 0] s slices_S256x256_o0_0_S256x128)
    (extractStridedSlice S256x128 ![0, 128] s slices_S256x256_o0_128_S256x128))) shapeCasts_S256x128_S256x128

/-- The running maximum after `k` key tiles from tile `a`. -/
def mx (s : ℕ → FVec F S256x256 .f32) (a : ℕ) : ℕ → FVec F S256x128 .f32
  | 0 => k1_pay4 (F := F)
  | k + 1 => mxStep (s (a + k)) (mx s a k)

/-- The running sum after `k` key tiles from tile `a`. -/
def ls (s : ℕ → FVec F S256x256 .f32) (cs m : FVec F S256x128 .f32) (a : ℕ) : ℕ → FVec F S256x128 .f32
  | 0 => k1_pay5 (F := F)
  | k + 1 => k1_pay29 (slab (s (a + k))) cs m (ls s cs m a k)

/-- The running product with the values after `k` key tiles from tile `a`. -/
def ac (s : ℕ → FVec F S256x256 .f32) (cs m : FVec F S256x128 .f32) (V : Vec F S1x8192x128 .fp8e4m3) (a : ℕ) : ℕ → FVec F S256x128 .f32
  | 0 => k1_pay6 (F := F)
  | k + 1 => k1_pay30 (slab (s (a + k))) cs m (ac s cs m V a k) (tileR V (a + k))

/-- What one query tile comes to: the rows the kernel stores for query tile `t`, whose table words are `f` and `l`. -/
def outTile (Q K V : Vec F S1x8192x128 .fp8e4m3) (QS KS : Vec F S1x1x1x8192 .f32) (VS : Vec F S1x1x1x128 .f32)
    (DS : Vec F S1x1x8192 .i32) (t : ℕ) (f l : BitVec 32) : FVec F S1x256x128 .bf16 :=
  let s := score (k1_pay7 (tileR Q t)) K KS (k1_pay3 (F := F) (tileD DS t)) t l
  let cs := k1_pay2 (tileL QS t)
  let m := k1_pay27 cs (mx s (j0 f) (t + 1 - j0 f))
  k1_pay1 (ls s cs m (j0 f) (t + 1 - j0 f)) (ac s cs m V (j0 f) (t + 1 - j0 f)) VS

/-- The whole block of one head: query tile `t` at rows `256 t … 256 t + 255`. -/
def outBlk (Q K V : Vec F S1x8192x128 .fp8e4m3) (QS KS : Vec F S1x1x1x8192 .f32) (VS : Vec F S1x1x1x128 .f32)
    (DS : Vec F S1x1x8192 .i32) (f l : ℕ → BitVec 32) : Vec F S1x8192x128 .bf16 :=
  fun y => outTile Q K V QS KS VS DS ((y 1).val / 256) (f ((y 1).val / 256)) (l ((y 1).val / 256))
    (fun a => match a with
      | ⟨0, _⟩ => (0 : Fin 1)
      | ⟨1, _⟩ => (⟨(y 1).val % 256, Nat.mod_lt _ (by omega)⟩ : Fin 256)
      | ⟨2, _⟩ => (y 2 : Fin 128))

theorem pay9_eq (t : Fin k1_t1_loop.trips) (v2 f v54 l : BitVec 32) (q : FVec F S256x128 .fp8e4m3) (k : Fin (k1_t2_loop t f l).trips)
    (kt : Vec F S1x256x128 .fp8e4m3) (ks : Vec F S1x1x1x256 .f32) (d d' : Vec F S256x128 .i32) :
    k1_pay9 t v2 f v54 l q k kt ks d d'
      = slab (k1_pay24 (k1_pay20 q kt ks) (k1_pay21 (Scf.iv v54 1#32 k)) (k1_pay22 d d') (k1_pay23 (Scf.iv v54 1#32 k) v2)) := rfl
theorem pay10_eq (t : Fin k1_t1_loop.trips) (v2 f v54 l : BitVec 32) (q : FVec F S256x128 .fp8e4m3) (k : Fin (k1_t2_loop t f l).trips)
    (kt : Vec F S1x256x128 .fp8e4m3) (ks : Vec F S1x1x1x256 .f32) (d d' : Vec F S256x128 .i32) (m : Vec F S256x128 .f32) :
    k1_pay10 t v2 f v54 l q k kt ks d d' m
      = mxStep (k1_pay24 (k1_pay20 q kt ks) (k1_pay21 (Scf.iv v54 1#32 k)) (k1_pay22 d d') (k1_pay23 (Scf.iv v54 1#32 k) v2)) m := rfl
theorem pay15_eq (q : FVec F S256x128 .fp8e4m3) (kt : Vec F S1x256x128 .fp8e4m3) (ks : Vec F S1x1x1x256 .f32) :
    k1_pay15 q kt ks = slab (k1_pay14 q kt ks) := rfl
theorem pay16_eq (q : FVec F S256x128 .fp8e4m3) (kt : Vec F S1x256x128 .fp8e4m3) (ks : Vec F S1x1x1x256 .f32) (m : Vec F S256x128 .f32) :
    k1_pay16 q kt ks m = mxStep (k1_pay14 q kt ks) m := rfl
theorem pay25_eq (v105 : FVec F S256x256 .f32) (v108 v114 : IVec S256x256 32) (v115 : IVec S256x256 1) :
    k1_pay25 (F := F) v105 v108 v114 v115 = slab (k1_pay24 v105 v108 v114 v115) := rfl
theorem pay26_eq (v105 : FVec F S256x256 .f32) (v108 v114 : IVec S256x256 32) (v115 : IVec S256x256 1) (m : Vec F S256x128 .f32) :
    k1_pay26 (F := F) v105 v108 v114 v115 m = mxStep (k1_pay24 v105 v108 v114 v115) m := rfl

/-- A load of a tile of rows, at the tile's word. -/
theorem load_rows [∀ e, Nonempty (Elt F e)] {e : EltTy} (M : Memref sig .tc .vmem S1x8192x128 e) (X : Vec F S1x8192x128 e) (n : ℕ) (hn : n < 32)
    {off : Fin 3 → ℕ} (hoff : off = orow (BitVec.ofNat 32 n)) (inb : ∀ a, off a + S1x256x128.size a ≤ S1x8192x128.size a) :
    M.view.readAt (Elt F) (Rect.unit (s := S1x8192x128) off S1x256x128.size inb).toLoadRect (M.view.rep X) = tileR X n :=
  View.readAt_rep_unit M.view X inb (by rw [hoff, orow_eq n (by omega), Nat.mod_eq_of_lt hn]) (rows_inb n)
/-- A load of a tile of lanes, at the tile's word. -/
theorem load_lanes [∀ e, Nonempty (Elt F e)] {e : EltTy} (M : Memref sig .tc .vmem S1x1x1x8192 e) (X : Vec F S1x1x1x8192 e) (n : ℕ) (hn : n < 32)
    {off : Fin 4 → ℕ} (hoff : off = olane (BitVec.ofNat 32 n)) (inb : ∀ a, off a + S1x1x1x256.size a ≤ S1x1x1x8192.size a) :
    M.view.readAt (Elt F) (Rect.unit (s := S1x1x1x8192) off S1x1x1x256.size inb).toLoadRect (M.view.rep X) = tileL X n :=
  View.readAt_rep_unit M.view X inb (by rw [hoff, olane_eq n (by omega), Nat.mod_eq_of_lt hn]) (lanes_inb n)

/-- What the score scratch holds: the score tiles of the key tiles in `[a, b)`, whatever lies elsewhere. -/
def Holds (S : Vec F S32x256x256 .f32) (s : ℕ → FVec F S256x256 .f32) (a b : ℕ) : Prop :=
  ∀ n (hn : n < 32), a ≤ n → n < b → VecWindow.window S ![n, 0, 0] S1x256x256.size (by
    have := oslab_inb n hn; rwa [oslab_eq _ (by omega)] at this) = slab (s n)

theorem Holds.empty (S : Vec F S32x256x256 .f32) (s : ℕ → FVec F S256x256 .f32) (a : ℕ) : Holds S s a a :=
  fun n _ h h' => absurd h' (by omega)

/-- Storing the score tile of key tile `b` extends what the scratch holds by it. -/
theorem Holds.put {S : Vec F S32x256x256 .f32} {s : ℕ → FVec F S256x256 .f32} {a b : ℕ} (h : Holds S s a b) :
    Holds (VecWindow.put S ![b, 0, 0] S1x256x256.size (slab (s b))) s a (b + 1) := by
  intro n hn h1 h2
  by_cases e : n = b
  · subst e; exact VecWindow.window_put_same ..
  · rw [VecWindow.window_put_of_disjoint S _ _ _ _ _ _ (0 : Fin 3) (Or.inl (by show n + 1 ≤ b; omega))]
    exact h n hn h1 (by omega)

end Cert.Kernel

end
-- ==== Proof.Trips.lean ====
/-
  One trip of each loop of the attention kernel over key tiles, at a symbolic trip: the two score loops (with and without
  the mask) and the loop that contracts the probabilities with the values. Each is stated as the loop's invariant: the
  scratch holds the score tiles so far, and the accumulators hold their values as plain functions of the arrays.
-/
module

public import proofs.«01_k».proof.Proof.Fun
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

/-- The resources of a run: one device's memory under the frame kit's algebra. -/
local notation "𝕄G" => MT nD τ sig Unit (Elt F) ℕ (UR sig nD τ) ℕ

variable (𝒱 : Variants) (c : Dev nD) (bd : Option 𝒱.V) (E : Set ℕ)
variable (i : grid1.Coords) (arg2 : Memref sig .tc .smem S8x32 .i32) (harg2 : arg2.IsWhole) (arg3 : Memref sig .tc .smem S8x32 .i32) (harg3 : arg3.IsWhole) (arg4 : Memref sig .tc .vmem S1x8192x128 .fp8e4m3) (harg4 : arg4.IsWhole) (arg5 : Memref sig .tc .vmem S1x8192x128 .fp8e4m3) (harg5 : arg5.IsWhole)
  (arg6 : Memref sig .tc .vmem S1x8192x128 .fp8e4m3) (harg6 : arg6.IsWhole) (arg7 : Memref sig .tc .vmem S1x1x1x8192 .f32) (harg7 : arg7.IsWhole) (arg8 : Memref sig .tc .vmem S1x1x1x8192 .f32) (harg8 : arg8.IsWhole) (arg9 : Memref sig .tc .vmem S1x1x1x128 .f32) (harg9 : arg9.IsWhole)
  (arg10 : Memref sig .tc .vmem S1x1x8192 .i32) (harg10 : arg10.IsWhole) (arg11 : Memref sig .tc .vmem S1x8192x128 .bf16) (harg11 : arg11.IsWhole) (arg12 : Memref sig .tc .vmem S32x256x256 .f32) (harg12 : arg12.IsWhole) (arg13 : Memref sig .tc .vmem S256x128 .f32) (harg13 : arg13.IsWhole)
  (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .i32) (harg17 : arg17.IsWhole)

/-- A whole buffer held at the values `X`. -/
abbrev at_ {sp : Space} {s : Shape} {e : EltTy} (m : Memref sig .tc sp s e) (X : s.Idx → Elt F e) : sProp 𝕄G :=
  m.view.loc (c : Thread nD τ) ↦[m.view.set]{fullShare} m.view.rep X

/-- A whole buffer held at some contents whose values satisfy `P`. -/
abbrev some_ {sp : Space} {s : Shape} {e : EltTy} (m : Memref sig .tc sp s e) (P : (s.Idx → Elt F e) → Prop) : sProp 𝕄G :=
  iprop(∃ X : s.Idx → Elt F e, at_ c m X ∗ ⌜P X⌝)

/-- The invariant of the two score loops: keys, key scales and document starts unchanged, the scratch holding the
    score tiles `s` of `[a, b + k)`, the running maximum that of these tiles. -/
abbrev scoreInv (K : Vec F S1x8192x128 .fp8e4m3) (KS : Vec F S1x1x1x8192 .f32) (d : Vec F S256x128 .i32)
    (s : ℕ → FVec F S256x256 .f32) (a b : ℕ) (k : ℕ) : sProp 𝕄G :=
  iprop(at_ c arg5 K ∗ at_ c arg8 KS ∗ at_ c arg17 d ∗ some_ c arg12 (fun S => Holds S s a (b + k)) ∗ at_ c arg13 (mx s a (b + k - a)))

/-- The invariant of the contraction loop: the scratch, the scale column and the shifted maximum unchanged, the running
    sum and the running product those of the first `k` tiles from `a`. -/
abbrev sumInv (V : Vec F S1x8192x128 .fp8e4m3) (S : Vec F S32x256x256 .f32) (s : ℕ → FVec F S256x256 .f32) (cs m : FVec F S256x128 .f32)
    (a : ℕ) (k : ℕ) : sProp 𝕄G :=
  iprop(at_ c arg6 V ∗ at_ c arg12 S ∗ at_ c arg16 cs ∗ at_ c arg13 m ∗ at_ c arg14 (ls s cs m a k) ∗ at_ c arg15 (ac s cs m V a k))

/-- A whole store leaves the stored values. -/
theorem at_store {sp : Space} {s : Shape} {e : EltTy} (m : Memref sig .tc sp s e) (f : m.view.ty.Contents (Elt F)) {off : Fin s.rank → ℕ}
    (inb : ∀ a, off a + s.size a ≤ s.size a) (w : (Rect.unit off s.size inb).shape.Idx → Elt F e) (L : List (View.Piece (Elt F) s e))
    (X : s.Idx → Elt F e) (h : w = X) :
    (m.view.loc (c : Thread nD τ) ↦[m.view.set]{fullShare} m.view.writes (Elt F) f (⟨Rect.unit off s.size inb, w⟩ :: L) : sProp 𝕄G)
    ⊢ at_ c m X :=
  pointsTo_rep_of_read (c : Thread nD τ) m (m.view.writes (Elt F) f (⟨Rect.unit off s.size inb, w⟩ :: L)) fullShare X ((View.read_writes_full m.view f inb w L).trans h)

/-- A store of the score tile of key tile `b` into the scratch. -/
theorem some_store (m : Memref sig .tc .vmem S32x256x256 .f32) (S : Vec F S32x256x256 .f32) (s : ℕ → FVec F S256x256 .f32) (a b : ℕ)
    (hb : b < 32) (hS : Holds S s a b) {off : Fin 3 → ℕ} (hoff : off = oslab (BitVec.ofNat 32 b))
    (inb : ∀ a, off a + S1x256x256.size a ≤ S32x256x256.size a) (w : FVec F S1x256x256 .f32) (hw : w = slab (s b)) :
    (m.view.loc (c : Thread nD τ) ↦[m.view.set]{fullShare} m.view.writes (Elt F) (m.view.rep S)
      [⟨Rect.unit (s := S32x256x256) off S1x256x256.size inb, w⟩] : sProp 𝕄G)
    ⊢ some_ c m (fun S => Holds S s a (b + 1)) := by
  subst hw
  have e := View.read_writes_rep_unit (Val := Elt F) m.view S inb (slab (s b)) (hoff.trans (oslab_eq b (by omega)))
  iintro H
  iexists (VecWindow.put S ![b, 0, 0] S1x256x256.size (slab (s b)))
  isplitl [H]
  · iapply pointsTo_rep_of_read (c : Thread nD τ) m (m.view.writes (Elt F) (m.view.rep S)
      [⟨Rect.unit (s := S32x256x256) off S1x256x256.size inb, slab (s b)⟩]) fullShare _ e
    iexact H
  · ipureintro
    exact hS.put

section Two
variable (t : Fin k1_t1_loop.trips) (f l : BitVec 32) (hg : Good t f l) (hw1 : k1_chk1 t f l) (hw2 : k1_chk2 t f)
variable (q : FVec F S256x128 .fp8e4m3) (v63 : BitVec 32) (v74 : BitVec 1) (v75 z : BitVec 32)
variable (Q K V : Vec F S1x8192x128 .fp8e4m3) (KS : Vec F S1x1x1x8192 .f32) (d : Vec F S256x128 .i32)

include hg in
/-- One trip of the score loop with the mask. -/
theorem trip2 (k : Fin (k1_t2_loop t f l).trips) (acc : BitVec 32) :
    scoreInv (F := F) c arg5 arg8 arg12 arg13 arg17 K KS d (score q K KS d t l) (j0 f) (j0 f) k
    ⊢ wp frame (wpE (defs₀ (F := F)) 𝒱 (c : Thread nD τ) bd) E
      (k1_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t (tw t) (v2w t) f (fl f) l hw1 q v63 v74 v75 z k acc)
      (fun _ => scoreInv (F := F) c arg5 arg8 arg12 arg13 arg17 K KS d (score q K KS d t l) (j0 f) (j0 f) (k.val + 1)) := by
  have hk := tile2_lt hg k
  have ht := hg.ht
  have hjc := hg.jc_le
  have hiv := iv2 hg k
  have hlt : j0 f + k.val < 32 := by omega
  have esc : score q K KS d t l (j0 f + k.val) = msc q K KS d t (j0 f + k.val) := if_neg (by omega)
  have e5 := fun inb => load_rows (F := F) arg5 K (j0 f + k.val) hlt ((off5_eq t f l k).trans (by rw [hiv])) inb
  have e8 := fun inb => load_lanes (F := F) arg8 KS (j0 f + k.val) hlt ((off6_eq t f l k).trans (by rw [hiv])) inb
  have e17 : ∀ X inb, View.readAt (Elt F) arg17.view (Rect.unit (s := S256x128) ![0, 0] S256x128.size inb).toLoadRect (arg17.view.rep X) = X := fun X inb => View.readAt_rep_full _ _ _
  have e13 : ∀ X inb, View.readAt (Elt F) arg13.view (Rect.unit (s := S256x128) ![0, 0] S256x128.size inb).toLoadRect (arg13.view.rep X) = X := fun X inb => View.readAt_rep_full _ _ _
  have hw : k1_pay9 (F := F) t (v2w t) f (fl f) l q k (tileR K (j0 f + k.val)) (tileL KS (j0 f + k.val)) d d
      = slab (score q K KS d t l (j0 f + k.val)) := by
    rw [pay9_eq, hiv, esc, msc]
  have hm : k1_pay10 (F := F) t (v2w t) f (fl f) l q k (tileR K (j0 f + k.val)) (tileL KS (j0 f + k.val)) d d
      (mx (score q K KS d t l) (j0 f) (j0 f + k.val - j0 f)) = mx (score q K KS d t l) (j0 f) (j0 f + (k.val + 1) - j0 f) := by
    rw [show j0 f + (k.val + 1) - j0 f = k.val + 1 by omega, show j0 f + k.val - j0 f = k.val by omega, pay10_eq, hiv, mx, esc, msc]
  unfold k1_t2_body
  iintro ⟨H5, H8, H17, ⟨%S, H12, %hS⟩, H13⟩
  sl_exec
  sl_step
  isplitl [H5]; · iexact H5
  isplitl [H8]; · iexact H8
  isplitl [H17]; · iexact H17
  isplitl [H12]
  · rw [show j0 f + (k.val + 1) = j0 f + k.val + 1 by omega, hw]
    iapply some_store c arg12 S _ (j0 f) (j0 f + k.val) hlt hS ((off7_eq t f l k).trans (by rw [hiv]))
      (w := slab (score q K KS d t l (j0 f + k.val))) (hw := rfl)
    iexact H12
  · rw [hm]
    iapply at_store c arg13 (w := mx (score q K KS d t l) (j0 f) (j0 f + (k.val + 1) - j0 f)) (h := rfl)
    iexact H13

include hg in
/-- One trip of the score loop without the mask. -/
theorem trip4 (k : Fin (k1_t4_loop t l).trips) (acc : BitVec 32) :
    scoreInv (F := F) c arg5 arg8 arg12 arg13 arg17 K KS d (score q K KS d t l) (j0 f) (jc t l) k
    ⊢ wp frame (wpE (defs₀ (F := F)) 𝒱 (c : Thread nD τ) bd) E
      (k1_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t (tw t) (v2w t) f (fl f) l hw1 q v63 v74 v75 z k acc)
      (fun _ => scoreInv (F := F) c arg5 arg8 arg12 arg13 arg17 K KS d (score q K KS d t l) (j0 f) (jc t l) (k.val + 1)) := by
  have hk := tile4_lt hg k
  have ht := hg.ht
  have hjc := hg.jc_le
  have hj := hg.j0_le_jc
  have hiv := iv4 hg k
  have hlt : jc t l + k.val < 32 := by omega
  have esc : score q K KS d t l (jc t l + k.val) = k1_pay14 q (tileR K (jc t l + k.val)) (tileL KS (jc t l + k.val)) :=
    if_pos (by omega)
  have e5 := fun inb => load_rows (F := F) arg5 K (jc t l + k.val) hlt ((off11_eq t l k).trans (by rw [hiv])) inb
  have e8 := fun inb => load_lanes (F := F) arg8 KS (jc t l + k.val) hlt ((off12_eq t l k).trans (by rw [hiv])) inb
  have e17 : ∀ X inb, View.readAt (Elt F) arg17.view (Rect.unit (s := S256x128) ![0, 0] S256x128.size inb).toLoadRect (arg17.view.rep X) = X := fun X inb => View.readAt_rep_full _ _ _
  have e13 : ∀ X inb, View.readAt (Elt F) arg13.view (Rect.unit (s := S256x128) ![0, 0] S256x128.size inb).toLoadRect (arg13.view.rep X) = X := fun X inb => View.readAt_rep_full _ _ _
  have hw : k1_pay15 (F := F) q (tileR K (jc t l + k.val)) (tileL KS (jc t l + k.val)) = slab (score q K KS d t l (jc t l + k.val)) := by
    rw [pay15_eq, esc]
  have hm : k1_pay16 (F := F) q (tileR K (jc t l + k.val)) (tileL KS (jc t l + k.val))
      (mx (score q K KS d t l) (j0 f) (jc t l + k.val - j0 f)) = mx (score q K KS d t l) (j0 f) (jc t l + (k.val + 1) - j0 f) := by
    rw [show jc t l + (k.val + 1) - j0 f = (jc t l + k.val - j0 f) + 1 by omega, pay16_eq, mx,
      show j0 f + (jc t l + k.val - j0 f) = jc t l + k.val by omega, esc]
  unfold k1_t4_body
  iintro ⟨H5, H8, H17, ⟨%S, H12, %hS⟩, H13⟩
  sl_exec
  sl_step
  isplitl [H5]; · iexact H5
  isplitl [H8]; · iexact H8
  isplitl [H17]; · iexact H17
  isplitl [H12]
  · rw [show jc t l + (k.val + 1) = jc t l + k.val + 1 by omega, hw]
    iapply some_store c arg12 S _ (j0 f) (jc t l + k.val) hlt hS ((off13_eq t l k).trans (by rw [hiv]))
      (w := slab (score q K KS d t l (jc t l + k.val))) (hw := rfl)
    iexact H12
  · rw [hm]
    iapply at_store c arg13 (w := mx (score q K KS d t l) (j0 f) (jc t l + (k.val + 1) - j0 f)) (h := rfl)
    iexact H13

include hg in
/-- One trip of the contraction loop. -/
theorem trip6 (S : Vec F S32x256x256 .f32) (s : ℕ → FVec F S256x256 .f32) (hS : Holds S s (j0 f) (t.val + 1)) (cs m : FVec F S256x128 .f32)
    (v105 : FVec F S256x256 .f32) (v108 v114 : IVec S256x256 32) (v115 : IVec S256x256 1)
    (k : Fin (k1_t6_loop t f).trips) (acc : BitVec 32) :
    sumInv (F := F) c arg6 arg12 arg13 arg14 arg15 arg16 V S s cs m (j0 f) k
    ⊢ wp frame (wpE (defs₀ (F := F)) 𝒱 (c : Thread nD τ) bd) E
      (k1_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t (tw t) f hw2 (fl f) v105 v108 v114 v115 k acc)
      (fun _ => sumInv (F := F) c arg6 arg12 arg13 arg14 arg15 arg16 V S s cs m (j0 f) (k.val + 1)) := by
  have hk := tile6_lt hg k
  have ht := hg.ht
  have hiv := iv2 hg k
  have hlt : j0 f + k.val < 32 := by omega
  have e6 := fun inb => load_rows (F := F) arg6 V (j0 f + k.val) hlt ((off21_eq t f k).trans (by rw [hiv])) inb
  have e12 : ∀ inb, arg12.view.readAt (Elt F) (Rect.unit (s := S32x256x256) (k1_off20 t f k) S1x256x256.size inb).toLoadRect (arg12.view.rep S)
      = slab (s (j0 f + k.val)) := fun inb => by
    have hb := oslab_inb (j0 f + k.val) hlt
    rw [oslab_eq _ (by omega)] at hb
    rw [View.readAt_rep_unit arg12.view S inb ((off20_eq t f k).trans (by rw [hiv]; exact oslab_eq _ (by omega))) hb]
    exact hS _ hlt (by omega) (by omega)
  have e13 : ∀ X inb, View.readAt (Elt F) arg13.view (Rect.unit (s := S256x128) ![0, 0] S256x128.size inb).toLoadRect (arg13.view.rep X) = X := fun X inb => View.readAt_rep_full _ _ _
  have e14 : ∀ X inb, View.readAt (Elt F) arg14.view (Rect.unit (s := S256x128) ![0, 0] S256x128.size inb).toLoadRect (arg14.view.rep X) = X := fun X inb => View.readAt_rep_full _ _ _
  have e15 : ∀ X inb, View.readAt (Elt F) arg15.view (Rect.unit (s := S256x128) ![0, 0] S256x128.size inb).toLoadRect (arg15.view.rep X) = X := fun X inb => View.readAt_rep_full _ _ _
  have e16 : ∀ X inb, View.readAt (Elt F) arg16.view (Rect.unit (s := S256x128) ![0, 0] S256x128.size inb).toLoadRect (arg16.view.rep X) = X := fun X inb => View.readAt_rep_full _ _ _
  have hl : k1_pay29 (F := F) (slab (s (j0 f + k.val))) cs m (ls s cs m (j0 f) k.val) = ls s cs m (j0 f) (k.val + 1) := by rw [ls]
  have ha : k1_pay30 (F := F) (slab (s (j0 f + k.val))) cs m (ac s cs m V (j0 f) k.val) (tileR V (j0 f + k.val))
      = ac s cs m V (j0 f) (k.val + 1) := by rw [ac]
  unfold k1_t6_body
  iintro ⟨H6, H12, H16, H13, H14, H15⟩
  sl_exec
  sl_step
  isplitl [H6]; · iexact H6
  isplitl [H12]; · iexact H12
  isplitl [H16]; · iexact H16
  isplitl [H13]; · iexact H13
  isplitl [H14]
  · rw [hl]
    iapply at_store c arg14 (w := ls s cs m (j0 f) (k.val + 1)) (h := rfl)
    iexact H14
  · rw [ha]
    iapply at_store c arg15 (w := ac s cs m V (j0 f) (k.val + 1)) (h := rfl)
    iexact H15

end Two

end Cert.Kernel

end
-- ==== Proof.DocStartRun.lean ====
/-
  The first kernel's run: it reads the segment ids and stores each row's document start.
-/
module

public import proofs.«01_k».proof.Proof.DocStart
public import proofs.«01_k».proof.Proof.Trips
public import Idealize.ShloMosaic.Lib.Exec
public import Idealize.ShloMosaic.Lib.Tactic
public import Idealize.ShloMosaic.Lib.Pipeline.Kit

@[expose] public section

set_option maxRecDepth 16384
set_option maxHeartbeats 400000

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

/-- The resources of a run: one device's memory under the frame kit's algebra. -/
local notation "𝕄G" => MT nD τ sig Unit (Elt F) ℕ (UR sig nD τ) ℕ

variable (𝒱 : Variants) (c : Dev nD) (bd : Option 𝒱.V) (E : Set ℕ)
variable (arg0 : Memref sig .tc .vmem S8x8192 .i32) (harg0 : arg0.IsWhole) (arg1 : Memref sig .tc .vmem S8x8192 .i32) (harg1 : arg1.IsWhole)

/-- From the segment ids `v0` and a result buffer at anything, the kernel leaves the ids as they were and the result at
    the document starts of `v0`. -/
theorem docStartRun (v0 X : Vec F S8x8192 .i32) :
   iprop(at_ (F := F) c arg0 v0 ∗ at_ (F := F) c arg1 X)
   ⊢ wp frame (wpE (defs₀ (F := F)) 𝒱 (c : Thread nD τ) bd) E (cc0_doc_start (F := F) arg0 harg0 arg1 harg1)
     (fun _ => iprop(at_ (F := F) c arg0 v0 ∗ at_ (F := F) c arg1 (starts v0))) := by
  rw [cc0_doc_start_eq_skeleton]
  unfold cc0_doc_start_skel
  rw [k0_part1_eq_skeleton, k0_part2_eq_skeleton]
  unfold k0_part1_skel k0_part2_skel
  simp only [bind_assoc, pure_bind]
  have e0 : ∀ X inb, View.readAt (Elt F) arg0.view (Rect.unit (s := S8x8192) ![0, 0] S8x8192.size inb).toLoadRect (arg0.view.rep X) = X := fun X inb => View.readAt_rep_full _ _ _
  iintro ⟨H0, H1⟩
  sl_exec
  sl_step
  isplitl [H0]
  · iexact H0
  iapply at_store (h := pay_starts v0)
  iexact H1

end Cert.Kernel

end
-- ==== Proof.Tile.lean ====
/-
  One query tile of the attention kernel: the two score loops, the masked diagonal tile, the contraction loop and the
  store of the result rows, run through once.
-/
module

public import proofs.«01_k».proof.Proof.Trips
public import Idealize.ShloMosaic.Lib.Exec
public import Idealize.ShloMosaic.Lib.Tactic
public import Idealize.ShloMosaic.Lib.Pipeline.Kit

@[expose] public section

set_option maxRecDepth 16384
set_option maxHeartbeats 400000

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

/-- The resources of a run: one device's memory under the frame kit's algebra. -/
local notation "𝕄G" => MT nD τ sig Unit (Elt F) ℕ (UR sig nD τ) ℕ

/-- The place of query tile `t`'s word in a table. -/
def wIx (i : grid1.Coords) (t : ℕ) : S8x32.Idx := fun a => match a with
  | ⟨0, _⟩ => (i 0 : Fin 8)
  | ⟨1, _⟩ => (⟨t % 32, Nat.mod_lt _ (by omega)⟩ : Fin 32)

theorem read_word [∀ e, Nonempty (Elt F e)] {sp : Space} (M : Memref sig .tc sp S8x32 .i32) (X : Vec F S8x32 .i32) (i : grid1.Coords) (t : Fin k1_t1_loop.trips)
    (inb : ∀ a, k1_off3 i t a + S1x1.size a ≤ S8x32.size a) (y) :
    M.view.readAt (Elt F) (Rect.unit (s := S8x32) (k1_off3 i t) S1x1.size inb).toLoadRect (M.view.rep X) y = X (wIx i t) := by
  rw [View.readAt_rep]
  refine congrArg X (funext fun a => Fin.ext ?_)
  have ht : t.val < 32 := lt_of_lt_of_eq t.isLt trips1
  have hi : (i 0).val < 8 := (i 0).isLt
  have hy : (y a).val < S1x1.size a := (y a).isLt
  show k1_off3 i t a + 1 * (y a).val = _
  have e : k1_off3 i t = ![(BitVec.ofNat 32 (i 0).val).toNat, (tw t).toNat] := rfl
  have e' : k1_off3 i t a = (![(i 0).val, t.val] : Fin 2 → ℕ) a := by
    rw [e, tw_eq]; fin_cases a <;> simp <;> omega
  refine (congrArg (· + 1 * (y a).val) e').trans ?_
  fin_cases a
  · have : (y 0).val < 1 := hy
    simp [wIx]; omega
  · have : (y 1).val < 1 := hy
    simp [wIx]; omega

/-- A store of one tile of rows. -/
theorem row_store (c : Dev nD) (m : Memref sig .tc .vmem S1x8192x128 .bf16) (O : Vec F S1x8192x128 .bf16) (n : ℕ) (hn : n < 32)
    {off : Fin 3 → ℕ} (hoff : off = orow (BitVec.ofNat 32 n))
    (inb : ∀ a, off a + S1x256x128.size a ≤ S1x8192x128.size a) (w : FVec F S1x256x128 .bf16) :
    (m.view.loc (c : Thread nD τ) ↦[m.view.set]{fullShare} m.view.writes (Elt F) (m.view.rep O)
      [⟨Rect.unit (s := S1x8192x128) off S1x256x128.size inb, w⟩] : sProp 𝕄G)
    ⊢ at_ c m (VecWindow.put O ![0, 256 * n, 0] S1x256x128.size w) :=
  pointsTo_rep_of_read (c : Thread nD τ) m (m.view.writes (Elt F) (m.view.rep O)
      [⟨Rect.unit (s := S1x8192x128) off S1x256x128.size inb, w⟩]) fullShare _
    (View.read_writes_rep_unit (Val := Elt F) m.view O inb w (hoff.trans (orow_eq n (by omega))))

variable (𝒱 : Variants) (c : Dev nD) (bd : Option 𝒱.V) (E : Set ℕ)
variable (i : grid1.Coords) (arg2 : Memref sig .tc .smem S8x32 .i32) (harg2 : arg2.IsWhole) (arg3 : Memref sig .tc .smem S8x32 .i32) (harg3 : arg3.IsWhole) (arg4 : Memref sig .tc .vmem S1x8192x128 .fp8e4m3) (harg4 : arg4.IsWhole) (arg5 : Memref sig .tc .vmem S1x8192x128 .fp8e4m3) (harg5 : arg5.IsWhole)
  (arg6 : Memref sig .tc .vmem S1x8192x128 .fp8e4m3) (harg6 : arg6.IsWhole) (arg7 : Memref sig .tc .vmem S1x1x1x8192 .f32) (harg7 : arg7.IsWhole) (arg8 : Memref sig .tc .vmem S1x1x1x8192 .f32) (harg8 : arg8.IsWhole) (arg9 : Memref sig .tc .vmem S1x1x1x128 .f32) (harg9 : arg9.IsWhole)
  (arg10 : Memref sig .tc .vmem S1x1x8192 .i32) (harg10 : arg10.IsWhole) (arg11 : Memref sig .tc .vmem S1x8192x128 .bf16) (harg11 : arg11.IsWhole) (arg12 : Memref sig .tc .vmem S32x256x256 .f32) (harg12 : arg12.IsWhole) (arg13 : Memref sig .tc .vmem S256x128 .f32) (harg13 : arg13.IsWhole)
  (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .i32) (harg17 : arg17.IsWhole)

variable (t : Fin k1_t1_loop.trips) (TF TL : Vec F S8x32 .i32) (Q K V : Vec F S1x8192x128 .fp8e4m3)
  (QS KS : Vec F S1x1x1x8192 .f32) (VS : Vec F S1x1x1x128 .f32) (DS : Vec F S1x1x8192 .i32)

/-- What a head's run holds but for its result and the scratch. -/
abbrev ins (TF TL : Vec F S8x32 .i32) (Q K V : Vec F S1x8192x128 .fp8e4m3)
    (QS KS : Vec F S1x1x1x8192 .f32) (VS : Vec F S1x1x1x128 .f32) (DS : Vec F S1x1x8192 .i32) : sProp 𝕄G :=
  iprop(at_ c arg2 TF ∗ at_ c arg3 TL ∗ at_ c arg4 Q ∗ at_ c arg5 K ∗ at_ c arg6 V ∗ at_ c arg7 QS ∗ at_ c arg8 KS ∗ at_ c arg9 VS ∗ at_ c arg10 DS)

/-- The scratch, at whatever contents. -/
abbrev scr : sProp 𝕄G :=
  iprop(some_ (F := F) c arg12 (fun _ => True) ∗ some_ (F := F) c arg13 (fun _ => True) ∗ some_ (F := F) c arg14 (fun _ => True)
    ∗ some_ (F := F) c arg15 (fun _ => True) ∗ some_ (F := F) c arg16 (fun _ => True) ∗ some_ (F := F) c arg17 (fun _ => True))

/-- One query tile. -/
theorem trip1 (a0 : BitVec 32) (hg : Good t (TF (wIx i t)) (TL (wIx i t))) (O : Vec F S1x8192x128 .bf16) :
   iprop(ins (F := F) c arg2 arg3 arg4 arg5 arg6 arg7 arg8 arg9 arg10 TF TL Q K V QS KS VS DS ∗ at_ c arg11 O
     ∗ scr (F := F) c arg12 arg13 arg14 arg15 arg16 arg17)
   ⊢ wp frame (wpE (defs₀ (F := F)) 𝒱 (c : Thread nD τ) bd) E (k1_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a0 t ⟨⟩)
     (fun _ => iprop(ins (F := F) c arg2 arg3 arg4 arg5 arg6 arg7 arg8 arg9 arg10 TF TL Q K V QS KS VS DS
       ∗ at_ c arg11 (VecWindow.put O ![0, 256 * t.val, 0] S1x256x128.size (outTile Q K V QS KS VS DS t (TF (wIx i t)) (TL (wIx i t))))
       ∗ scr (F := F) c arg12 arg13 arg14 arg15 arg16 arg17)) := by
  generalize hf : TF (wIx i t) = f at *
  generalize hl : TL (wIx i t) = l at *
  have h2 := chk2 hg
  have h1 := chk1 hg
  have ht := hg.ht
  have e4 := fun inb => load_rows (F := F) arg4 Q t.val ht ((off4_eq t).trans (by rw [tw_eq])) inb
  have e5 := fun inb => load_rows (F := F) arg5 K t.val ht ((off17_eq t).trans (by rw [tw_eq])) inb
  have e8 := fun inb => load_lanes (F := F) arg8 KS t.val ht ((off18_eq t).trans (by rw [tw_eq])) inb
  have e7 := fun inb => load_lanes (F := F) arg7 QS t.val ht ((off1_eq t).trans (by rw [tw_eq])) inb
  have e13 : ∀ X inb, View.readAt (Elt F) arg13.view (Rect.unit (s := S256x128) ![0, 0] S256x128.size inb).toLoadRect (arg13.view.rep X) = X := fun X inb => View.readAt_rep_full _ _ _
  have e14 : ∀ X inb, View.readAt (Elt F) arg14.view (Rect.unit (s := S256x128) ![0, 0] S256x128.size inb).toLoadRect (arg14.view.rep X) = X := fun X inb => View.readAt_rep_full _ _ _
  have e15 : ∀ X inb, View.readAt (Elt F) arg15.view (Rect.unit (s := S256x128) ![0, 0] S256x128.size inb).toLoadRect (arg15.view.rep X) = X := fun X inb => View.readAt_rep_full _ _ _
  have e16 : ∀ X inb, View.readAt (Elt F) arg16.view (Rect.unit (s := S256x128) ![0, 0] S256x128.size inb).toLoadRect (arg16.view.rep X) = X := fun X inb => View.readAt_rep_full _ _ _
  have e17 : ∀ X inb, View.readAt (Elt F) arg17.view (Rect.unit (s := S256x128) ![0, 0] S256x128.size inb).toLoadRect (arg17.view.rep X) = X := fun X inb => View.readAt_rep_full _ _ _
  have e9 : ∀ X inb, View.readAt (Elt F) arg9.view (Rect.unit (s := S1x1x1x128) ![0, 0, 0, 0] S1x1x1x128.size inb).toLoadRect (arg9.view.rep X) = X := fun X inb => View.readAt_rep_full _ _ _
  have e10 : ∀ inb, arg10.view.readAt (Elt F) (Rect.unit (s := S1x1x8192) (k1_off2 t) S1x1x256.size inb).toLoadRect (arg10.view.rep DS)
      = tileD DS t.val := fun inb => View.readAt_rep_unit arg10.view DS inb (by
        rw [show k1_off2 t = ![0, 0, (Scalar.indexCast (Scalar.muli (tw t) 256#32)).toNat] from rfl, tw_eq,
          show Scalar.indexCast (Scalar.muli (BitVec.ofNat 32 t.val) 256#32) = Scalar.muli (BitVec.ofNat 32 t.val) 256#32 from rfl,
          row_word _ (by omega), Nat.mod_eq_of_lt ht]) (words_inb t.val)
  have htr3 := trips3 hg
  have htr5 := trips5 hg
  have htr7 := trips7 hg
  unfold k1_t1_body
  rw [k1_part1_eq_skeleton, k1_part2_eq_skeleton, k1_part3_eq_skeleton, k1_part4_eq_skeleton]
  unfold k1_part1_skel k1_part2_skel k1_part3_skel k1_part4_skel
  iintro ⟨⟨H2, H3, H4, H5, H6, H7, H8, H9, H10⟩, H11, ⟨%S12, H12, %u12⟩, ⟨%S13, H13, %u13⟩, ⟨%S14, H14, %u14⟩, ⟨%S15, H15, %u15⟩, ⟨%S16, H16, %u16⟩, ⟨%S17, H17, %u17⟩⟩
  sl_exec
  have e2 : trip1.sl.r i arg2 t TF = f := by
    unfold trip1.sl.r
    rw [read_word, hf]
  rw [e2]
  sl_exec
  have e3 : trip1.sl.r_1 i arg3 t TL = l := by
    unfold trip1.sl.r_1
    rw [read_word, hl]
  rw [e3]
  sl_exec

  rw [show trip1.sl.arg18 t = tw t from rfl, show trip1.sl.v1 t = v2w t from rfl, show trip1.sl.v54 f = fl f from rfl]
  generalize trip1.sl.v63 l = v63
  generalize trip1.sl.v74 l = v74
  generalize trip1.sl.v75 l = v75
  ihave H13 := (at_store c arg13 (w := k1_pay4 (F := F)) (h := rfl)) $$ H13
  ihave H14 := (at_store c arg14 (w := k1_pay5 (F := F)) (h := rfl)) $$ H14
  ihave H15 := (at_store c arg15 (w := k1_pay6 (F := F)) (h := rfl)) $$ H15
  ihave H16 := (at_store c arg16 (w := k1_pay2 (F := F) (tileL QS t.val)) (h := rfl)) $$ H16
  ihave H17 := (at_store c arg17 (w := k1_pay3 (F := F) (tileD DS t.val)) (h := rfl)) $$ H17

  generalize hq : k1_pay7 (tileR Q t.val) = q
  generalize hd : k1_pay3 (F := F) (tileD DS t.val) = d
  generalize hcs : k1_pay2 (F := F) (tileL QS t.val) = cs
  have hT2 : (k1_t2_loop t f l).trips = jc t l - j0 f := trips2 hg
  have hT4 : (k1_t4_loop t l).trips = t.val - jc t l := trips4 hg
  have hT6 : (k1_t6_loop t f).trips = t.val + 1 - j0 f := trips6 hg
  have hj := hg.j0_le
  have hjc := hg.j0_le_jc
  have hct := hg.jc_le
  have hin0 : mx (score q K KS d t.val l) (j0 f) (j0 f + 0 - j0 f) = k1_pay4 (F := F) := by
    rw [show j0 f + 0 - j0 f = 0 by omega, mx]
  rw [← hin0]
  have hS12 : Holds S12 (score q K KS d t.val l) (j0 f) (j0 f + 0) := Holds.empty _ _ _
  let L2 : LoopInv (M := 𝕄G) Idealize.ShloMosaic.frame (wpE (defs₀ (F := F)) 𝒱 (c : Thread nD τ) bd) E (k1_t2_loop t f l).lb (k1_t2_loop t f l).ub (k1_t2_loop t f l).st (k1_t2_ok t f l h1) (0#32)
      (k1_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t (tw t) (v2w t) f (fl f) l h1 q v63 v74 v75 0#32) :=
    { inv := fun k _ => scoreInv (F := F) c arg5 arg8 arg12 arg13 arg17 K KS d (score q K KS d t.val l) (j0 f) (j0 f) k
      step := fun k acc => trip2 (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t f l hg h1 q v63 v74 v75 0#32 K KS d k acc }
  simp only [bind_assoc]
  sl_exec
  have hXL := hL4
  rw [show (j0 f + Scf.trips (k1_t2_loop t f l).lb (k1_t2_loop t f l).ub (k1_t2_loop t f l).st - j0 f) = jc t l + 0 - j0 f by
    have : Scf.trips (k1_t2_loop t f l).lb (k1_t2_loop t f l).ub (k1_t2_loop t f l).st = jc t l - j0 f := hT2
    omega]
  have hXL' : Holds XL0 (score q K KS d t.val l) (j0 f) (jc t l + 0) := by
    have e : j0 f + (k1_t2_loop t f l).trips = jc t l + 0 := by omega
    rw [← e]; exact hXL
  let L4 : LoopInv (M := 𝕄G) Idealize.ShloMosaic.frame (wpE (defs₀ (F := F)) 𝒱 (c : Thread nD τ) bd) E (k1_t4_loop t l).lb (k1_t4_loop t l).ub (k1_t4_loop t l).st (k1_t4_ok t f l h1) (0#32)
      (k1_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t (tw t) (v2w t) f (fl f) l h1 q v63 v74 v75 0#32) :=
    { inv := fun k _ => scoreInv (F := F) c arg5 arg8 arg12 arg13 arg17 K KS d (score q K KS d t.val l) (j0 f) (jc t l) k
      step := fun k acc => trip4 (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t f l hg h1 q v63 v74 v75 0#32 K KS d k acc }
  sl_exec
  dsimp only
  unfold trip1.sl.H13_2
  have hXM := hL4
  have hXM' : Holds XL0 (score q K KS d t.val l) (j0 f) t.val := by
    have hXM : Holds XL0 (score q K KS d t.val l) (j0 f) (jc t l + (k1_t4_loop t l).trips) := hXM
    have e : jc t l + (k1_t4_loop t l).trips = t.val := by omega
    rwa [show jc t.val l + (k1_t4_loop t l).trips = t.val from e] at hXM
  have esc : score q K KS d t l t.val = msc q K KS d t t.val := if_neg (by omega)
  have hw : k1_pay25 (F := F) (k1_pay20 q (tileR K t.val) (tileL KS t.val)) (k1_pay21 (tw t.val)) (k1_pay22 (F := F) d d) (k1_pay23 (tw t.val) (v2w t.val))
      = slab (score q K KS d t l t.val) := by
    rw [pay25_eq, esc, msc, tw_eq]
  have ex : trip1.sl.x arg13 t K KS f l q d = mx (score q K KS d t l) (j0 f) (t.val + 1 - j0 f) := by
    unfold trip1.sl.x trip1.sl.H13_1
    rw [View.readCov_full]
    rw [show t.val + 1 - j0 f = (t.val - j0 f) + 1 by omega, mx, show j0 f + (t.val - j0 f) = t.val by omega, esc, msc, ← tw_eq]
    rw [show (jc t l + Scf.trips (k1_t4_loop t l).lb (k1_t4_loop t l).ub (k1_t4_loop t l).st - j0 f) = t.val - j0 f by
      have : Scf.trips (k1_t4_loop t l).lb (k1_t4_loop t l).ub (k1_t4_loop t l).st = t.val - jc t l := hT4
      omega]
    exact pay26_eq _ _ _ _ _
  rw [ex, hw]
  ihave H12 := (some_store (F := F) c arg12 XL0 (score q K KS d t l) (j0 f) t.val ht hXM' ((off19_eq t).trans (by rw [tw_eq]))
      (w := slab (score q K KS d t l t.val)) (hw := rfl)) $$ H12
  ihave H13 := (at_store (F := F) c arg13 (w := k1_pay27 cs (mx (score q K KS d t l) (j0 f) (t.val + 1 - j0 f))) (h := rfl)) $$ H13
  icases H12 with ⟨%XF, H12, %hXF⟩
  have hl0 : k1_pay5 (F := F) = ls (score q K KS d t l) cs (k1_pay27 cs (mx (score q K KS d t l) (j0 f) (t.val + 1 - j0 f))) (j0 f) 0 := by rw [ls]
  have ha0 : k1_pay6 (F := F) = ac (score q K KS d t l) cs (k1_pay27 cs (mx (score q K KS d t l) (j0 f) (t.val + 1 - j0 f))) V (j0 f) 0 := by rw [ac]
  rw [hl0, ha0]
  let L6 : LoopInv (M := 𝕄G) Idealize.ShloMosaic.frame (wpE (defs₀ (F := F)) 𝒱 (c : Thread nD τ) bd) E (k1_t6_loop t f).lb (k1_t6_loop t f).ub (k1_t6_loop t f).st (k1_t6_ok t f h2) (0#32)
      (k1_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t (tw t) f h2 (fl f) (k1_pay20 q (tileR K t.val) (tileL KS t.val)) (k1_pay21 (tw t.val)) (k1_pay22 (F := F) d d) (k1_pay23 (tw t.val) (v2w t.val))) :=
    { inv := fun k _ => sumInv (F := F) c arg6 arg12 arg13 arg14 arg15 arg16 V XF (score q K KS d t l) cs (k1_pay27 cs (mx (score q K KS d t l) (j0 f) (t.val + 1 - j0 f))) (j0 f) k
      step := fun k acc => trip6 (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t f l hg h2 V XF (score q K KS d t l) hXF cs (k1_pay27 cs (mx (score q K KS d t l) (j0 f) (t.val + 1 - j0 f))) (k1_pay20 q (tileR K t.val) (tileL KS t.val)) (k1_pay21 (tw t.val)) (k1_pay22 (F := F) d d) (k1_pay23 (tw t.val) (v2w t.val)) k acc }
  sl_exec
  sl_step
  have eT : Scf.trips (k1_t6_loop t f).lb (k1_t6_loop t f).ub (k1_t6_loop t f).st = t.val + 1 - j0 f := hT6
  rw [eT]
  have hO : k1_pay1 (ls (score q K KS d t l) cs (k1_pay27 cs (mx (score q K KS d t l) (j0 f) (t.val + 1 - j0 f))) (j0 f) (t.val + 1 - j0 f))
      (ac (score q K KS d t l) cs (k1_pay27 cs (mx (score q K KS d t l) (j0 f) (t.val + 1 - j0 f))) V (j0 f) (t.val + 1 - j0 f)) VS
      = outTile Q K V QS KS VS DS t f l := by
    rw [← hq, ← hd, ← hcs]; rfl
  rw [hO]
  ihave H11 := (row_store (F := F) c arg11 O t.val ht ((off17_eq t).trans (by rw [tw_eq])) (w := outTile Q K V QS KS VS DS t f l)) $$ H11
  isplitl [H2 H3 H4 H5 H6 H7 H8 H9 H10]
  · isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    iexact H10
  isplitl [H11]
  · iexact H11
  isplitl [H12]
  · iexists _
    isplitl [H12]
    · iexact H12
    · ipureintro; trivial
  isplitl [H13]
  · iexists _
    isplitl [H13]
    · iexact H13
    · ipureintro; trivial
  isplitl [H14]
  · iexists _
    isplitl [H14]
    · iexact H14
    · ipureintro; trivial
  isplitl [H15]
  · iexists _
    isplitl [H15]
    · iexact H15
    · ipureintro; trivial
  isplitl [H16]
  · iexists _
    isplitl [H16]
    · iexact H16
    · ipureintro; trivial
  iexists _
  isplitl [H17]
  · iexact H17
  · ipureintro; trivial
end Cert.Kernel
end
-- ==== Proof.Attend.lean ====
/-
  The attention kernel on one head: query tile after query tile, until the head's whole result is stored.
-/
module

public import proofs.«01_k».proof.Proof.Tile
public import Idealize.ShloMosaic.Lib.Exec
public import Idealize.ShloMosaic.Lib.Tactic
public import Idealize.ShloMosaic.Lib.Pipeline.Kit

@[expose] public section

set_option maxRecDepth 16384
set_option maxHeartbeats 400000

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Gen

variable {F : FTy → Type} [FloatOps F]

/-- The resources of a run: one device's memory under the frame kit's algebra. -/
local notation "𝕄G" => MT nD τ sig Unit (Elt F) ℕ (UR sig nD τ) ℕ

variable (𝒱 : Variants) (c : Dev nD) (bd : Option 𝒱.V) (E : Set ℕ)
variable (i : grid1.Coords) (arg2 : Memref sig .tc .smem S8x32 .i32) (harg2 : arg2.IsWhole) (arg3 : Memref sig .tc .smem S8x32 .i32) (harg3 : arg3.IsWhole) (arg4 : Memref sig .tc .vmem S1x8192x128 .fp8e4m3) (harg4 : arg4.IsWhole) (arg5 : Memref sig .tc .vmem S1x8192x128 .fp8e4m3) (harg5 : arg5.IsWhole)
  (arg6 : Memref sig .tc .vmem S1x8192x128 .fp8e4m3) (harg6 : arg6.IsWhole) (arg7 : Memref sig .tc .vmem S1x1x1x8192 .f32) (harg7 : arg7.IsWhole) (arg8 : Memref sig .tc .vmem S1x1x1x8192 .f32) (harg8 : arg8.IsWhole) (arg9 : Memref sig .tc .vmem S1x1x1x128 .f32) (harg9 : arg9.IsWhole)
  (arg10 : Memref sig .tc .vmem S1x1x8192 .i32) (harg10 : arg10.IsWhole) (arg11 : Memref sig .tc .vmem S1x8192x128 .bf16) (harg11 : arg11.IsWhole) (arg12 : Memref sig .tc .vmem S32x256x256 .f32) (harg12 : arg12.IsWhole) (arg13 : Memref sig .tc .vmem S256x128 .f32) (harg13 : arg13.IsWhole)
  (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .i32) (harg17 : arg17.IsWhole)

variable (TF TL : Vec F S8x32 .i32) (Q K V : Vec F S1x8192x128 .fp8e4m3)
  (QS KS : Vec F S1x1x1x8192 .f32) (VS : Vec F S1x1x1x128 .f32) (DS : Vec F S1x1x8192 .i32)

/-- The result rows below row `n` are the head's. -/
def Rows (O G : Vec F S1x8192x128 .bf16) (n : ℕ) : Prop := ∀ y, (y 1).val < n → O y = G y

/-- The head's whole result, the tables' words read at the head's batch. -/
abbrev headOut : Vec F S1x8192x128 .bf16 :=
  outBlk Q K V QS KS VS DS (fun n => TF (wIx i n)) (fun n => TL (wIx i n))

/-- Storing query tile `t` extends the rows by `256`. -/
theorem Rows.put {O : Vec F S1x8192x128 .bf16} (t : ℕ)
    (h : Rows O (headOut i TF TL Q K V QS KS VS DS) (256 * t)) :
    Rows (VecWindow.put O ![0, 256 * t, 0] S1x256x128.size (outTile Q K V QS KS VS DS t (TF (wIx i t)) (TL (wIx i t))))
      (headOut i TF TL Q K V QS KS VS DS) (256 * (t + 1)) := by
  intro y hy
  have hy0 : (y 0).val < 1 := (y 0).isLt
  have hy2 : (y 2).val < 128 := (y 2).isLt
  unfold VecWindow.put
  by_cases hlt : (y 1).val < 256 * t
  · rw [dif_neg (fun hm => by have h1 : 256 * t ≤ (y 1).val := (hm 1).1; omega)]
    exact h y hlt
  · have e : (y 1).val / 256 = t := by omega
    have hin : ∀ a, (![0, 256 * t, 0] : Fin 3 → ℕ) a ≤ (y a).val ∧ (y a).val < (![0, 256 * t, 0] : Fin 3 → ℕ) a + S1x256x128.size a := by
      intro a
      fin_cases a
      · exact ⟨Nat.zero_le _, by show (y 0).val < 0 + 1; omega⟩
      · exact ⟨by show 256 * t ≤ (y 1).val; omega, by show (y 1).val < 256 * t + 256; omega⟩
      · exact ⟨Nat.zero_le _, by show (y 2).val < 0 + 128; omega⟩
    rw [dif_pos hin]
    show _ = outTile Q K V QS KS VS DS ((y 1).val / 256) (TF (wIx i ((y 1).val / 256))) (TL (wIx i ((y 1).val / 256))) _
    rw [e]
    refine congrArg _ (funext fun a => Fin.ext ?_)
    fin_cases a
    · show (y 0).val - 0 = 0; omega
    · show (y 1).val - 256 * t = (y 1).val % 256; omega
    · rfl

/-- The kernel on one head: from its blocks and tables to the head's result, the scratch at whatever is left in it. -/
theorem attendRun (hg : ∀ t : ℕ, t < 32 → Good t (TF (wIx i t)) (TL (wIx i t))) :
   iprop(ins (F := F) c arg2 arg3 arg4 arg5 arg6 arg7 arg8 arg9 arg10 TF TL Q K V QS KS VS DS ∗ some_ (F := F) c arg11 (fun _ => True)
     ∗ scr (F := F) c arg12 arg13 arg14 arg15 arg16 arg17)
   ⊢ wp frame (wpE (defs₀ (F := F)) 𝒱 (c : Thread nD τ) bd) E (cc1_attend (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
     (fun _ => iprop(ins (F := F) c arg2 arg3 arg4 arg5 arg6 arg7 arg8 arg9 arg10 TF TL Q K V QS KS VS DS
       ∗ at_ c arg11 (headOut i TF TL Q K V QS KS VS DS)
       ∗ scr (F := F) c arg12 arg13 arg14 arg15 arg16 arg17)) := by
  let L1 : LoopInv (M := 𝕄G) Idealize.ShloMosaic.frame (wpE (defs₀ (F := F)) 𝒱 (c : Thread nD τ) bd) E k1_t1_loop.lb k1_t1_loop.ub k1_t1_loop.st k1_t1_ok (⟨⟩ : PUnit)
      (k1_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 0).val)) :=
    { inv := fun k _ => iprop(ins (F := F) c arg2 arg3 arg4 arg5 arg6 arg7 arg8 arg9 arg10 TF TL Q K V QS KS VS DS
        ∗ some_ (F := F) c arg11 (fun O => Rows O (headOut i TF TL Q K V QS KS VS DS) (256 * k))
        ∗ scr (F := F) c arg12 arg13 arg14 arg15 arg16 arg17)
      step := fun k acc => by
        iintro ⟨HI, ⟨%O, HO, %hO⟩, HS⟩
        have hk : k.val < 32 := lt_of_lt_of_eq k.isLt trips1
        have T := trip1 (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k TF TL Q K V QS KS VS DS (BitVec.ofNat 32 (i 0).val) (hg k.val hk) O
        iapply (wp_mono (hQ := fun _ => ?_))
        rotate_left
        · iapply T
          isplitl [HI]
          · iexact HI
          isplitl [HO]
          · iexact HO
          iexact HS
        · iintro ⟨HI, HO, HS⟩
          isplitl [HI]
          · iexact HI
          isplitl [HO]
          · iexists _
            isplitl [HO]
            · iexact HO
            · ipureintro
              exact Rows.put i TF TL Q K V QS KS VS DS k.val hO
          iexact HS }
  rw [cc1_attend_eq_skeleton]
  unfold cc1_attend_skel
  iintro ⟨⟨H2, H3, H4, H5, H6, H7, H8, H9, H10⟩, ⟨%O, H11, %u11⟩, ⟨%S12, H12, %u12⟩, ⟨%S13, H13, %u13⟩, ⟨%S14, H14, %u14⟩, ⟨%S15, H15, %u15⟩, ⟨%S16, H16, %u16⟩, ⟨%S17, H17, %u17⟩⟩
  have hR0 : Rows O (headOut i TF TL Q K V QS KS VS DS) (256 * 0) := fun y hy => absurd hy (Nat.not_lt_zero _)
  sl_exec
  sl_step
  have eO : XL0 = headOut i TF TL Q K V QS KS VS DS := funext fun y => hL10 y (by
    have e : Scf.trips k1_t1_loop.lb k1_t1_loop.ub k1_t1_loop.st = 32 := trips1
    have hy : (y 1).val < 8192 := (y 1).isLt
    rw [e]; omega)
  rw [eO]
  isplitl [H2 H3 H4 H5 H6 H7 H8 H9 H10]
  · isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    iexact H10
  isplitl [H11]
  · iexact H11
  isplitl [H12]
  · iexists _
    isplitl [H12]
    · iexact H12
    · ipureintro; trivial
  isplitl [H13]
  · iexists _
    isplitl [H13]
    · iexact H13
    · ipureintro; trivial
  isplitl [H14]
  · iexists _
    isplitl [H14]
    · iexact H14
    · ipureintro; trivial
  isplitl [H15]
  · iexists _
    isplitl [H15]
    · iexact H15
    · ipureintro; trivial
  isplitl [H16]
  · iexists _
    isplitl [H16]
    · iexact H16
    · ipureintro; trivial
  iexists _
  isplitl [H17]
  · iexact H17
  · ipureintro; trivial

end Cert.Kernel
end
-- ==== Proof.Dats.lean ====
/-
  The two calls as pipelines: what each window's buffer holds after each grid point, and that a run of the kernel's body
  at any point takes the one state to the next.
-/
module

public import proofs.«01_k».proof.Proof.DocStartRun
public import proofs.«01_k».proof.Proof.Attend
public import proofs.«01_k».proof.Proof.Gen.Kernel.Regions
public import proofs.«01_k».proof.Proof.Gen.Kernel.Points
public import Idealize.ShloMosaic.Lib.Pipeline.FrameBody
public import Idealize.ShloMosaic.Lib.Pipeline.TableIdle
public import Idealize.ShloMosaic.Lib.Pipeline.RegionArraysS
public import Idealize.ShloMosaic.Lib.Pipeline.RegionArraysTS

@[expose] public section

set_option maxRecDepth 16384
set_option maxHeartbeats 400000

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Kernel.Gen

variable {F : FTy → Type} [FloatOps F]

/-- The resources of a run: one device's memory under the frame kit's algebra. -/
local notation "𝕄G" => MT nD τ sig Unit (Elt F) ℕ (UR sig nD τ) ℕ

variable (c : Dev nD)

/-! ## The first call -/

/-- The segment ids among a device's buffers. -/
abbrev segOf (V : Valuation τ sig (Elt F)) : Vec F S8x8192 .i32 := V main_arg6

/-- The first call's proof data over the buffers `V`: the result's buffer ends at the document starts. -/
def dat0 (V : Valuation τ sig (Elt F)) : Dat τ (Elt F) Unit ℕ (UR sig nD τ) ℕ cfg0 c where
  A w := V (Proc.devRef .tc (Pipeline.arrRef spec0 w))
  after w _ := match w with
    | ⟨0, _⟩ => segOf V
    | ⟨1, _⟩ => (starts (segOf V) : Vec F S8x8192 .i32)
  Φ _ := Pipeline.scopedRest (Ix := Unit) (Name := ℕ) (U := UR sig nD τ) (Lvl := ℕ) (Val := Elt F) spec0 c
  q _ := fullShare
  owed _ := 0

theorem before0 (V : Valuation τ sig (Elt F)) (d : (cfg0.win 0).block.Idx → Elt F (cfg0.win 0).elt) :
    (dat0 c V).before 0 t0_0 d = segOf V := by
  unfold Dat.before; rw [if_pos (by decide)]
  have hz : (fun a => win0_0.index t0_0 a * main_arg6.ty.shape.size a) = fun _ => 0 := funext fun a => by fin_cases a <;> decide
  exact Memref.read_access_unit_zero (Elt F) main_arg6 hz (fun a => by rw [congrFun hz a]; simp) (segOf V)

/-- A run with a resource riding along. -/
theorem riding {α : Type} {p : Prog (TpuEff nD τ sig (Elt F) Λ₀ .tc) α} {P R : sProp 𝕄G} {Q : α → sProp 𝕄G} {E : Set ℕ}
    (h : P ⊢ wp frame (wpE (defs₀ (F := F)) Variants.none (c : Thread nD τ) none) E p Q) {Q' : α → sProp 𝕄G} (hQ : ∀ x, iprop(Q x ∗ R) ⊢ Q' x) :
    iprop(P ∗ R) ⊢ wp frame (wpE (defs₀ (F := F)) Variants.none (c : Thread nD τ) none) E p Q' :=
  (sep_mono h .rfl).trans ((wp_frame_r _ _ _).trans (wp_mono _ _ _ hQ))

attribute [local irreducible] starts in
theorem body0 (V : Valuation τ sig (Elt F)) : BodyObligation (dat0 (F := F) c V) (defs₀ (F := F)) Variants.none () Set.univ := fun t => by
  obtain rfl := fin_N0 t
  rw [bigSep_W0, bigSep_W0]
  rw [show (dat0 c V).Φ t0_0.castSucc = Pipeline.scopedRest spec0 c from rfl, show (dat0 c V).Φ t0_0.succ = Pipeline.scopedRest spec0 c from rfl]
  unfold Dat.owesAt Pipeline.owesWithin
  rw [show (dat0 c V).owed t0_0.castSucc = 0 from rfl, show (dat0 c V).owed t0_0.succ = 0 from rfl]
  simp only [before0]
  iintro ⟨HR, ⟨%W, %hW, HO⟩, ⟨%d0, H0⟩, ⟨%d1, H1⟩⟩
  ihave H0 := (rep_of_owns _ _ _ _) $$ H0
  ihave H1 := (rep_of_owns _ _ _ _) $$ H1
  have T := docStartRun (F := F) Variants.none c none Set.univ (win0_0.stage 0) (hstage0_0 0) (win0_1.stage 0) (hstage0_1 0) (segOf V) ((dat0 c V).before 1 t0_0 d1)
  iapply (riding c T (R := iprop(Pipeline.scopedRest (Ix := Unit) (Name := ℕ) (U := UR sig nD τ) (Lvl := ℕ) (Val := Elt F) spec0 c ∗ owes (c : Thread nD τ) (0 : CellTallies nD τ sig Unit) W)) (fun _ => ?_))
  rotate_left
  · isplitl [H0 H1]
    · isplitl [H0]
      · iexact H0
      iexact H1
    isplitl [HR]
    · iexact HR
    iexact HO
  · iintro ⟨⟨H0, H1⟩, HR, HO⟩
    isplitl [HR]
    · iexact HR
    isplitl [HO]
    · iexists W
      isplitr
      · ipureintro
        exact fun _ _ => Or.inl trivial
      iexact HO
    isplitl [H0]
    · iapply (owns_of_rep (c : Thread nD τ) (win0_0.stage 0) fullShare (segOf V))
      iexact H0
    iapply (owns_of_rep (c : Thread nD τ) (win0_1.stage 0) fullShare (starts (segOf V) : Vec F S8x8192 .i32))
    iexact H1

/-! ## The second call -/

variable (a : (pcfg1 (F := F)).Adm) (V : Valuation τ sig (Elt F)) (t : Fin grid1.N)

/-- The block of queries that grid point `t` reads. -/
abbrev qBlk : Vec F S1x8192x128 .fp8e4m3 := ((win1 a 0).blk t).view.read (Elt F) (V main_arg0)
/-- The block of keys that grid point `t` reads. -/
abbrev kBlk : Vec F S1x8192x128 .fp8e4m3 := ((win1 a 1).blk t).view.read (Elt F) (V main_arg2)
/-- The block of values that grid point `t` reads. -/
abbrev vBlk : Vec F S1x8192x128 .fp8e4m3 := ((win1 a 2).blk t).view.read (Elt F) (V main_arg4)
/-- The block of query scales that grid point `t` reads. -/
abbrev qsBlk : Vec F S1x1x1x8192 .f32 := ((win1 a 3).blk t).view.read (Elt F) (V main_arg1)
/-- The block of key scales that grid point `t` reads. -/
abbrev ksBlk : Vec F S1x1x1x8192 .f32 := ((win1 a 4).blk t).view.read (Elt F) (V main_arg3)
/-- The block of value scales that grid point `t` reads. -/
abbrev vsBlk : Vec F S1x1x1x128 .f32 := ((win1 a 5).blk t).view.read (Elt F) (V main_arg5)
/-- The block of document starts that grid point `t` reads. -/
abbrev dsBlk : Vec F S1x1x8192 .i32 := ((win1 a 6).blk t).view.read (Elt F) (V main_v3)

/-- The two tables of words that the call prefetches. -/
abbrev tf : Vec F S8x32 .i32 := a.1 0
abbrev tl : Vec F S8x32 .i32 := a.1 1

/-- What the body stores at point `t`: the head's output. -/
def outAt : Vec F S1x8192x128 .bf16 := headOut (grid1.coords t) (tf a) (tl a) (qBlk a V t) (kBlk a V t) (vBlk a V t) (qsBlk a V t) (ksBlk a V t) (vsBlk a V t) (dsBlk a V t)

/-- What the body leaves alone or scratches: the buffers no window stages, and the tables. -/
abbrev inv1 : sProp 𝕄G := iprop(Pipeline.scopedRest (Ix := Unit) (Name := ℕ) (U := UR sig nD τ) (Lvl := ℕ) (Val := Elt F) spec1 c
    ∗ Pipeline.prefHeld (Ix := Unit) (Name := ℕ) (U := UR sig nD τ) (Lvl := ℕ) pre1 c (fun _ => fullShare) a.1)

/-- The second call's proof data over the buffers `V` and the tables `a`. -/
def dat1 : Dat τ (Elt F) Unit ℕ (UR sig nD τ) ℕ (cfg1 a) c where
  A w := V (Proc.devRef .tc (Pipeline.arrRef spec1 w))
  after w t := match w with
    | ⟨0, _⟩ => qBlk a V t
    | ⟨1, _⟩ => kBlk a V t
    | ⟨2, _⟩ => vBlk a V t
    | ⟨3, _⟩ => qsBlk a V t
    | ⟨4, _⟩ => ksBlk a V t
    | ⟨5, _⟩ => vsBlk a V t
    | ⟨6, _⟩ => dsBlk a V t
    | ⟨7, _⟩ => outAt a V t
  Φ _ := inv1 c a
  q _ := fullShare
  owed _ := 0

theorem before1_0 (d : (win1 a 0).block.Idx → Elt F (win1 a 0).elt) : (dat1 c a V).before 0 t d = qBlk a V t :=
  Dat.before_in_eq_fetched (dat1 c a V) 0 rfl (fun _ => rfl) (fun _ _ _ => rfl) (fun _ => rfl) t d
theorem before1_1 (d : (win1 a 1).block.Idx → Elt F (win1 a 1).elt) : (dat1 c a V).before 1 t d = kBlk a V t :=
  Dat.before_in_eq_fetched (dat1 c a V) 1 rfl (fun _ => rfl) (fun _ _ _ => rfl) (fun _ => rfl) t d
theorem before1_2 (d : (win1 a 2).block.Idx → Elt F (win1 a 2).elt) : (dat1 c a V).before 2 t d = vBlk a V t :=
  Dat.before_in_eq_fetched (dat1 c a V) 2 rfl (fun _ => rfl) (fun _ _ _ => rfl) (fun _ => rfl) t d
theorem before1_3 (d : (win1 a 3).block.Idx → Elt F (win1 a 3).elt) : (dat1 c a V).before 3 t d = qsBlk a V t :=
  Dat.before_in_eq_fetched (dat1 c a V) 3 rfl (fun _ => rfl) (fun _ _ _ => rfl) (fun _ => rfl) t d
theorem before1_4 (d : (win1 a 4).block.Idx → Elt F (win1 a 4).elt) : (dat1 c a V).before 4 t d = ksBlk a V t :=
  Dat.before_in_eq_fetched (dat1 c a V) 4 rfl (fun _ => rfl) (fun _ _ _ => rfl) (fun _ => rfl) t d
theorem before1_5 (d : (win1 a 5).block.Idx → Elt F (win1 a 5).elt) : (dat1 c a V).before 5 t d = vsBlk a V t :=
  Dat.before_in_eq_fetched (dat1 c a V) 5 rfl (fun _ => rfl) (fun _ _ _ => rfl) (fun _ => rfl) t d
theorem before1_6 (d : (win1 a 6).block.Idx → Elt F (win1 a 6).elt) : (dat1 c a V).before 6 t d = dsBlk a V t :=
  Dat.before_in_eq_fetched (dat1 c a V) 6 rfl (fun _ => rfl) (fun _ _ _ => rfl) (fun _ => rfl) t d

/-! ### The body at a point -/

theorem whole_to [∀ e, Nonempty (Elt F e)] (b : Ref sig .tc) (f : Buf (Elt F) ((c : Thread nD τ).loc b)) :
    ((((c : Thread nD τ).loc b) ↦{fullShare} f) : sProp 𝕄G) ⊢ at_ c (Memref.whole b) f := by
  refine BIBase.Entails.trans ?_ (rep_of_owns (c : Thread nD τ) (Memref.whole b) fullShare f)
  unfold owns
  iintro H
  iexists f
  isplitr
  · ipureintro
    simp only [Memref.view_whole, View.read_whole]
  simp only [Memref.view_whole, View.set_whole]
  iexact H

theorem whole_of [∀ e, Nonempty (Elt F e)] (b : Ref sig .tc) (f : Buf (Elt F) ((c : Thread nD τ).loc b)) :
    (at_ c (Memref.whole b) f : sProp 𝕄G) ⊢ (((c : Thread nD τ).loc b) ↦{fullShare} f) := by
  refine BIBase.Entails.trans (owns_of_rep (c : Thread nD τ) (Memref.whole b) fullShare f) ?_
  unfold owns
  simp only [Memref.view_whole, View.read_whole, View.set_whole]
  iintro ⟨%g, %e, H⟩
  subst e
  iexact H

theorem some_to [∀ e, Nonempty (Elt F e)] (b : Ref sig .tc) :
    (iprop(∃ f : Buf (Elt F) ((c : Thread nD τ).loc b), ((c : Thread nD τ).loc b) ↦{fullShare} f) : sProp 𝕄G)
    ⊢ some_ (F := F) c (Memref.whole b) (fun _ => True) := by
  iintro ⟨%f, H⟩
  iexists f
  isplitl [H]
  · iapply (whole_to c b f)
    iexact H
  ipureintro
  trivial

theorem some_of [∀ e, Nonempty (Elt F e)] (b : Ref sig .tc) :
    (some_ (F := F) c (Memref.whole b) (fun _ => True) : sProp 𝕄G)
    ⊢ iprop(∃ f : Buf (Elt F) ((c : Thread nD τ).loc b), ((c : Thread nD τ).loc b) ↦{fullShare} f) := by
  iintro ⟨%f, H, %h⟩
  iexists f
  iapply (whole_of c b f)
  iexact H

/-- The scratch buffers of the second call, at whatever contents. -/
abbrev scr1 : sProp 𝕄G := scr (F := F) c (Memref.whole cc1_scratch0) (Memref.whole cc1_scratch1) (Memref.whole cc1_scratch2) (Memref.whole cc1_scratch3) (Memref.whole cc1_scratch4) (Memref.whole cc1_scratch5)

/-- The buffers the second call never touches. -/
abbrev idle1 : sProp 𝕄G := iprop((∃ f : Buf (Elt F) ((c : Thread nD τ).loc cc0_stg0_0), ((c : Thread nD τ).loc cc0_stg0_0) ↦{fullShare} f)
  ∗ (∃ f : Buf (Elt F) ((c : Thread nD τ).loc cc0_stg1_0), ((c : Thread nD τ).loc cc0_stg1_0) ↦{fullShare} f))

theorem pref_eq : (Pipeline.prefHeld (Ix := Unit) (Name := ℕ) (U := UR sig nD τ) (Lvl := ℕ) pre1 c (fun _ => fullShare) a.1 : sProp 𝕄G)
    = iprop((((c : Thread nD τ).loc main_v1) ↦{fullShare} tf a) ∗ (((c : Thread nD τ).loc main_v2) ↦{fullShare} tl a)) :=
  bigSep_univ_eq_bigSepL [(0 : Fin 2), (1 : Fin 2)] (by decide) (by decide) _

/-- The invariant, taken apart. -/
theorem inv_to : inv1 c a
    ⊢ iprop(idle1 (F := F) c ∗ at_ c (Memref.whole main_v1) (tf a) ∗ at_ c (Memref.whole main_v2) (tl a) ∗ scr1 (F := F) c) := by
  unfold inv1
  rw [pref_eq, scopedRest1_eq]
  iintro ⟨⟨I0, I1, S0, S1, S2, S3, S4, S5⟩, T1, T2⟩
  isplitl [I0 I1]
  · isplitl [I0]
    · iexact I0
    iexact I1
  isplitl [T1]
  · iapply (whole_to c main_v1 (tf a)); iexact T1
  isplitl [T2]
  · iapply (whole_to c main_v2 (tl a)); iexact T2
  isplitl [S0]
  · iapply (some_to c cc1_scratch0); iexact S0
  isplitl [S1]
  · iapply (some_to c cc1_scratch1); iexact S1
  isplitl [S2]
  · iapply (some_to c cc1_scratch2); iexact S2
  isplitl [S3]
  · iapply (some_to c cc1_scratch3); iexact S3
  isplitl [S4]
  · iapply (some_to c cc1_scratch4); iexact S4
  iapply (some_to c cc1_scratch5); iexact S5

/-- The invariant, put together. -/
theorem inv_of : iprop(idle1 (F := F) c ∗ at_ c (Memref.whole main_v1) (tf a) ∗ at_ c (Memref.whole main_v2) (tl a) ∗ scr1 (F := F) c)
    ⊢ inv1 c a := by
  unfold inv1
  rw [pref_eq, scopedRest1_eq]
  iintro ⟨⟨I0, I1⟩, T1, T2, S0, S1, S2, S3, S4, S5⟩
  isplitr [T1 T2]
  · isplitl [I0]
    · iexact I0
    isplitl [I1]
    · iexact I1
    isplitl [S0]
    · iapply (some_of c cc1_scratch0); iexact S0
    isplitl [S1]
    · iapply (some_of c cc1_scratch1); iexact S1
    isplitl [S2]
    · iapply (some_of c cc1_scratch2); iexact S2
    isplitl [S3]
    · iapply (some_of c cc1_scratch3); iexact S3
    isplitl [S4]
    · iapply (some_of c cc1_scratch4); iexact S4
    iapply (some_of c cc1_scratch5); iexact S5
  isplitl [T1]
  · iapply (whole_of c main_v1 (tf a)); iexact T1
  iapply (whole_of c main_v2 (tl a)); iexact T2

attribute [local irreducible] outAt in
theorem body1 (hg : ∀ (i : grid1.Coords) (t : ℕ), t < 32 → Good t (tf a (wIx i t)) (tl a (wIx i t))) :
    BodyObligation (dat1 (F := F) c a V) (defs₀ (F := F)) Variants.none () Set.univ := fun t => by
  rw [bigSep_W1, bigSep_W1]
  rw [show (dat1 c a V).Φ t.castSucc = inv1 c a from rfl, show (dat1 c a V).Φ t.succ = inv1 c a from rfl]
  unfold Dat.owesAt Pipeline.owesWithin
  rw [show (dat1 c a V).owed t.castSucc = 0 from rfl, show (dat1 c a V).owed t.succ = 0 from rfl]
  simp only [before1_0, before1_1, before1_2, before1_3, before1_4, before1_5, before1_6]
  iintro ⟨HI, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
  ihave HI := (inv_to c a) $$ HI
  icases HI with ⟨HI, T1, T2, HS⟩
  ihave H0 := (rep_of_owns _ _ _ _) $$ H0
  ihave H1 := (rep_of_owns _ _ _ _) $$ H1
  ihave H2 := (rep_of_owns _ _ _ _) $$ H2
  ihave H3 := (rep_of_owns _ _ _ _) $$ H3
  ihave H4 := (rep_of_owns _ _ _ _) $$ H4
  ihave H5 := (rep_of_owns _ _ _ _) $$ H5
  ihave H6 := (rep_of_owns _ _ _ _) $$ H6
  ihave H7 := (rep_of_owns _ _ _ _) $$ H7
  have T := attendRun (F := F) Variants.none c none Set.univ (grid1.coords t) (Memref.whole main_v1) (Memref.isWhole_whole _) (Memref.whole main_v2) (Memref.isWhole_whole _)
    (spec1_0.stage ((cfg1 a).slots t 0)) (hstage1_0 (((cfg1 a).slots t 0).cast nbuf1_0)) (spec1_1.stage ((cfg1 a).slots t 1)) (hstage1_1 (((cfg1 a).slots t 1).cast nbuf1_1)) (spec1_2.stage ((cfg1 a).slots t 2)) (hstage1_2 (((cfg1 a).slots t 2).cast nbuf1_2)) (spec1_3.stage ((cfg1 a).slots t 3)) (hstage1_3 (((cfg1 a).slots t 3).cast nbuf1_3)) (spec1_4.stage ((cfg1 a).slots t 4)) (hstage1_4 (((cfg1 a).slots t 4).cast nbuf1_4)) (spec1_5.stage ((cfg1 a).slots t 5)) (hstage1_5 (((cfg1 a).slots t 5).cast nbuf1_5)) (spec1_6.stage ((cfg1 a).slots t 6)) (hstage1_6 (((cfg1 a).slots t 6).cast nbuf1_6)) (spec1_7.stage ((cfg1 a).slots t 7)) (hstage1_7 (((cfg1 a).slots t 7).cast nbuf1_7))
    (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _)
    (tf a) (tl a) (qBlk a V t) (kBlk a V t) (vBlk a V t) (qsBlk a V t) (ksBlk a V t) (vsBlk a V t) (dsBlk a V t) (hg (grid1.coords t))
  iapply (riding c T (R := iprop(idle1 (F := F) c ∗ owes (c : Thread nD τ) (0 : CellTallies nD τ sig Unit) W)) (fun _ => ?_))
  rotate_left
  · isplitr [HI HO]
    · isplitr [H7 HS]
      · isplitl [T1]
        · iexact T1
        isplitl [T2]
        · iexact T2
        isplitl [H0]
        · iexact H0
        isplitl [H1]
        · iexact H1
        isplitl [H2]
        · iexact H2
        isplitl [H3]
        · iexact H3
        isplitl [H4]
        · iexact H4
        isplitl [H5]
        · iexact H5
        iexact H6
      isplitl [H7]
      · iexists ((dat1 c a V).before 7 t d7)
        isplitl [H7]
        · iexact H7
        ipureintro
        trivial
      iexact HS
    isplitl [HI]
    · iexact HI
    iexact HO
  · iintro ⟨⟨⟨T1, T2, H0, H1, H2, H3, H4, H5, H6⟩, H7, HS⟩, HI, HO⟩
    isplitl [T1 T2 HS HI]
    · iapply (inv_of c a)
      isplitl [HI]
      · iexact HI
      isplitl [T1]
      · iexact T1
      isplitl [T2]
      · iexact T2
      iexact HS
    isplitl [HO]
    · iexists W
      isplitr
      · ipureintro
        exact fun _ _ => Or.inl trivial
      iexact HO
    isplitl [H0]
    · iapply (owns_of_rep (c : Thread nD τ) (spec1_0.stage ((cfg1 a).slots t 0)) fullShare (qBlk a V t))
      iexact H0
    isplitl [H1]
    · iapply (owns_of_rep (c : Thread nD τ) (spec1_1.stage ((cfg1 a).slots t 1)) fullShare (kBlk a V t))
      iexact H1
    isplitl [H2]
    · iapply (owns_of_rep (c : Thread nD τ) (spec1_2.stage ((cfg1 a).slots t 2)) fullShare (vBlk a V t))
      iexact H2
    isplitl [H3]
    · iapply (owns_of_rep (c : Thread nD τ) (spec1_3.stage ((cfg1 a).slots t 3)) fullShare (qsBlk a V t))
      iexact H3
    isplitl [H4]
    · iapply (owns_of_rep (c : Thread nD τ) (spec1_4.stage ((cfg1 a).slots t 4)) fullShare (ksBlk a V t))
      iexact H4
    isplitl [H5]
    · iapply (owns_of_rep (c : Thread nD τ) (spec1_5.stage ((cfg1 a).slots t 5)) fullShare (vsBlk a V t))
      iexact H5
    isplitl [H6]
    · iapply (owns_of_rep (c : Thread nD τ) (spec1_6.stage ((cfg1 a).slots t 6)) fullShare (dsBlk a V t))
      iexact H6
    iapply (owns_of_rep (c : Thread nD τ) (spec1_7.stage ((cfg1 a).slots t 7)) fullShare (outAt a V t))
    rw [outAt]
    iexact H7

end Cert.Kernel

end
-- ==== Proof.Run.lean ====
/-
  The whole run: the first call, the three host operations, the second call. Every weakly fair execution ends with the
  arguments as they were and the result at the contents the second call leaves.
-/
module

public import proofs.«01_k».proof.Proof.Dats
public import Idealize.ShloMosaic.Lib.Pointwise.ShapeOpsCore

@[expose] public section

set_option maxRecDepth 16384
set_option maxHeartbeats 400000

noncomputable section

namespace Cert.Kernel

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg)
open Cert.Kernel.Gen

variable {F : FTy → Type} [FloatOps F]

/-- The resources of a run: one device's memory under the frame kit's algebra. -/
local notation "𝕄G" => MT nD τ sig Unit (Elt F) ℕ (UR sig nD τ) ℕ

attribute [local irreducible] starts

variable (m : (ℓ : Loc nD τ sig) → Buf (Elt F) ℓ) (ρ : Dev nD → PrngReg)

/-! ## The buffers along the way -/

/-- A device's buffers after the first call. -/
def WA (c : Dev nD) : Valuation τ sig (Elt F) := Function.update (V0 m c) main_v0 (starts (segOf (V0 m c)) : Vec F S8x8192 .i32)

/-- A device's buffers before the second call. -/
def WB (c : Dev nD) : Valuation τ sig (Elt F) := StableHlo.after hostOps1 (WA m c)

/-- The tables the second call prefetches. -/
def tabs : (pcfg1 (F := F)).Adm := ⟨fun k => WB m (0 : Fin 1) (Proc.devRef .tc (pre1.ref k)), trivial⟩

abbrev adm : (p : Fin 2) → (pcfgs (F := F) p).Adm := fun | ⟨0, _⟩ => cfg0.toPCfg_adm | ⟨1, _⟩ => tabs m | ⟨_ + 2, h⟩ => absurd h (by omega)

/-- The two calls' proof data. -/
abbrev dats : (p : Fin 2) → (c : Dev nD) → Dat τ (Elt F) Unit ℕ (UR sig nD τ) ℕ (Pipeline.pin (pcfgs (F := F)) (adm m) p) c
  | ⟨0, _⟩, c => dat0 c (V0 m c)
  | ⟨1, _⟩, c => dat1 c (tabs m) (WB m c)
  | ⟨_ + 2, h⟩, _ => absurd h (by omega)

/-- What the calls leave in the buffers they write. -/
def outs : Outs (F := F) := fun J r c => match J with
  | 1 => WA m c r
  | _ => Pipeline.afterRegion (dat1 c (tabs m) (WB m c)) (WB m c) r

theorem WA_v0 (c : Dev nD) : WA m c main_v0 = (starts (segOf (V0 m c)) : Vec F S8x8192 .i32) := by
  unfold WA
  rw [Function.update_self]

theorem V1_eq (c : Dev nD) : V1 m (outs m) c = WA m c := by
  show Function.update (V0 m c) main_v0 (WA m c main_v0) = WA m c
  unfold WA
  rw [Function.update_self]

theorem V2_eq (c : Dev nD) : V2 m (outs m) c = WB m c := congrArg (StableHlo.after hostOps1) (V1_eq m c)

/-- The first call's result array ends at the document starts. -/
theorem final0 (c : Dev nD) (V : Valuation τ sig (Elt F)) : (dat0 c V).arrAt 1 cfg0.N = (starts (segOf V) : Vec F S8x8192 .i32) := by
  have hz : (fun a => win0_1.index t0_0 a * main_v0.ty.shape.size a) = fun _ => 0 := funext fun a => by fin_cases a <;> decide
  refine (dat0 c V).arrAt_eq_of_cover 1 (starts (segOf V) : Vec F S8x8192 .i32) (fun t hf => ?_) fun i => ⟨t0_0, flush0_1 _, ?_⟩
  · obtain rfl := fin_N0 t
    exact (Memref.read_access_unit_zero (Elt F) main_v0 hz (fun a => by rw [congrFun hz a]; simp) (starts (segOf V) : Vec F S8x8192 .i32)).symm
  · show i ∈ ((View.whole main_v0).slice (win0_1.rect t0_0)).set
    rw [View.set_slice_whole, Rect.mem_set_unit]
    intro a
    have h0 : (i 0 : Nat) < 8 := (i 0).isLt
    have h1 : (i 1 : Nat) < 8192 := (i 1).isLt
    match a with
    | ⟨0, _⟩ => show win0_1.index t0_0 0 * win0_1.size 0 ≤ (i 0 : Nat) ∧ (i 0 : Nat) < win0_1.index t0_0 0 * win0_1.size 0 + win0_1.xsize (grid0.coords t0_0) 0
                rw [show win0_1.index t0_0 0 * win0_1.size 0 = 0 from by decide +kernel, show win0_1.xsize (grid0.coords t0_0) 0 = 8 from by decide +kernel]; omega
    | ⟨1, _⟩ => show win0_1.index t0_0 1 * win0_1.size 1 ≤ (i 1 : Nat) ∧ (i 1 : Nat) < win0_1.index t0_0 1 * win0_1.size 1 + win0_1.xsize (grid0.coords t0_0) 1
                rw [show win0_1.index t0_0 1 * win0_1.size 1 = 0 from by decide +kernel, show win0_1.xsize (grid0.coords t0_0) 1 = 8192 from by decide +kernel]; omega

omit [FloatOps F] in
/-- Two valuations that agree on every unscoped reference hold the same. -/
theorem held_ext (c : Dev nD) (W W' : Valuation τ sig (Elt F)) (h : ∀ r : Ref sig .tc, W (Proc.devRef .tc r) = W' (Proc.devRef .tc r)) :
    (StableHlo.held (c : Thread nD τ) (Pipeline.ucRefs τ sig) W : sProp 𝕄G) = StableHlo.held (c : Thread nD τ) (Pipeline.ucRefs τ sig) W' :=
  StableHlo.held_congr (c : Thread nD τ) fun b hb => by
    obtain ⟨r, -, rfl⟩ := Finset.mem_map.mp (Finset.mem_filter.mp hb).1
    exact h r

theorem after0_eq (c : Dev nD) (r : Ref sig .tc) :
    Pipeline.afterRegion (dat0 c (V0 m c)) (V0 m c) (Proc.devRef .tc r) = V1 m (outs m) c (Proc.devRef .tc r) := by
  rw [V1_eq]
  by_cases h : r = main_v0
  · subst h
    refine (Pipeline.afterRegion_arr (dat0 c (V0 m c)) (V0 m c) winFacts0.arr_inj 1).trans ((final0 c _).trans ?_)
    exact (WA_v0 m c).symm
  · refine (Pipeline.afterRegion_keeps (dat0 c (V0 m c)) (V0 m c) winFacts0.arr_inj (fun _ => rfl) r fun w e => ?_).trans ?_
    · match w with
      | ⟨0, _⟩ => rfl
      | ⟨1, _⟩ => exact absurd e.symm h
    · unfold WA
      rw [Function.update_of_ne (StableHlo.devRef_ne_of_ne h)]

theorem after1_eq (c : Dev nD) (r : Ref sig .tc) :
    Pipeline.afterRegion (dat1 c (tabs m) (WB m c)) (WB m c) (Proc.devRef .tc r) = V3 m (outs m) c (Proc.devRef .tc r) := by
  by_cases h : r = main_v4
  · subst h
    show _ = Function.update (V2 m (outs m) c) (Proc.devRef .tc main_v4) (outs m 3 main_v4 c) (Proc.devRef .tc main_v4)
    rw [Function.update_self]
    rfl
  · refine (Pipeline.afterRegion_keeps (dat1 c (tabs m) (WB m c)) (WB m c) winFacts1.arr_inj (fun _ => rfl) r fun w e => ?_).trans ?_
    · match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => rfl
      | ⟨7, _⟩ => exact absurd e.symm h
    · show _ = Function.update (V2 m (outs m) c) main_v4 _ (Proc.devRef .tc r)
      rw [Function.update_of_ne (StableHlo.devRef_ne_of_ne h), V2_eq]

/-! ## The two calls as segments of the run -/

/-- One level at every semaphore of a device's core. -/
abbrev lvls : GSem nD τ sig → Finset Unit := fun g => if g.1.2 = .tc then {()} else ∅

/-- What a core owes between items: nothing. -/
abbrev rest (c : Dev nD) : sProp 𝕄G := iprop(∃ W, owes (c : Thread nD τ) (0 : CellTallies nD τ sig Unit) W)

theorem cut (p : Fin 2) : Pipeline.LevelCut (pcfgs (F := F)) (adm m) () lvls (fun _ _ => (0 : ℕ)) p (fun _ => 0) (fun _ => 0) :=
  ⟨fun c w s => by simp [lvls], fun _ _ _ => le_refl _, fun _ _ _ h => absurd h (lt_irrefl _)⟩

/-- The first row's start of every tile, out of the starts of all rows. -/
theorem WB_v1 (c : Dev nD) : WB m c main_v1 = Host.slice S8x32 ![0, 0] ![1, 256] (starts (segOf (V0 m c)) : Vec F S8x8192 .i32) slicesBy_S8x8192_S8x32_0s1_0s256 := by
  unfold WB
  simp only [StableHlo.after_cons, StableHlo.after_nil]
  rw [StableHlo.reshape_result_ne _ _ _ _ _ (by decide), StableHlo.unary_result_ne _ _ _ _ (by decide), StableHlo.unary_result, WA_v0]
  all_goals decide

/-- The last row's. -/
theorem WB_v2 (c : Dev nD) : WB m c main_v2 = Host.slice S8x32 ![0, 255] ![1, 256] (starts (segOf (V0 m c)) : Vec F S8x8192 .i32) slicesBy_S8x8192_S8x32_0s1_255s256 := by
  unfold WB
  simp only [StableHlo.after_cons, StableHlo.after_nil]
  rw [StableHlo.reshape_result_ne _ _ _ _ _ (by decide), StableHlo.unary_result, StableHlo.unary_result_ne _ _ _ _ (by decide), WA_v0]
  all_goals decide

/-- All rows', in the shape the second call stages. -/
theorem WB_v3 (c : Dev nD) : WB m c main_v3 = shapeCast S8x1x8192 (starts (segOf (V0 m c)) : Vec F S8x8192 .i32) shapeCasts_S8x8192_S8x1x8192 := by
  unfold WB
  simp only [StableHlo.after_cons, StableHlo.after_nil]
  rw [StableHlo.reshape_result, StableHlo.unary_result_ne _ _ _ _ (by decide), StableHlo.unary_result_ne _ _ _ _ (by decide), WA_v0]
  all_goals first | rfl | decide

/-- The other arrays reach the second call as launched. -/
theorem WB_of (c : Dev nD) (r : Ref sig .tc) (h : r ∉ hostOps1_W) (h' : r ≠ main_v0) : WB m c (Proc.devRef .tc r) = m (c, Proc.devRef .tc r) := by
  rw [← V2_eq]
  exact (V2_of m (outs m) c r h).trans (V1_of m (outs m) c r (by simpa using h'))

theorem tf_eq (i : grid1.Coords) (t : ℕ) (ht : t < 32) : tf (tabs m) (wIx i t) = starts (segOf (V0 m 0)) (ixB (i 0).val (256 * t)) := by
  show WB m 0 main_v1 (wIx i t) = _
  rw [WB_v1]
  rw [Host.slice_apply]
  refine congrArg _ (funext fun a => Fin.ext ?_)
  have hi : (i 0).val < 8 := (i 0).isLt
  match a with
  | ⟨0, _⟩ => show 0 + 1 * (i 0).val = (i 0).val % 8; omega
  | ⟨1, _⟩ => show 0 + 256 * (t % 32) = 256 * t % 8192; omega

theorem tl_eq (i : grid1.Coords) (t : ℕ) (ht : t < 32) : tl (tabs m) (wIx i t) = starts (segOf (V0 m 0)) (ixB (i 0).val (256 * t + 255)) := by
  show WB m 0 main_v2 (wIx i t) = _
  rw [WB_v2]
  rw [Host.slice_apply]
  refine congrArg _ (funext fun a => Fin.ext ?_)
  have hi : (i 0).val < 8 := (i 0).isLt
  match a with
  | ⟨0, _⟩ => show 0 + 1 * (i 0).val = (i 0).val % 8; omega
  | ⟨1, _⟩ => show 255 + 256 * (t % 32) = (256 * t + 255) % 8192; omega

/-- Every tile's two words are in order and within its rows. -/
theorem good_tabs (i : grid1.Coords) (t : ℕ) (ht : t < 32) : Good t (tf (tabs m) (wIx i t)) (tl (tabs m) (wIx i t)) := by
  rw [tf_eq m i t ht, tl_eq m i t ht]
  exact good_starts _ _ t ht

set_option backward.isDefEq.respectTransparency.types false in
/-- The first call. -/
def seg0 : Pipeline.RegionSeg (pcfgs (F := F)) (adm m) (dats m) () defs₀ Variants.none lvls (fun _ _ => (0 : ℕ)) 0 :=
  Pipeline.RegionSeg.ofHeldIn (pcfgs (F := F)) (adm m) (dats m) () defs₀ Variants.none lvls (fun _ _ => (0 : ℕ)) 0 (fun _ => 0) (Pipeline.ucRefs τ sig)
    (fun _ => iprop(emp)) (fun _ => iprop(emp)) launch0 rfl
    (fun c => (body0 c (V0 m c)).loose) (fun _ _ => rfl) (fun _ => rfl) (fun c w => (dats m 0 c).share_full (fun _ => rfl) w)
    (fun c => show iprop(Pipeline.scopedRest (Ix := Unit) (Name := ℕ) (U := UR sig nD τ) (Lvl := ℕ) (Val := Elt F) spec0 c ∗ emp) ⊢ Pipeline.scopedRest (Ix := Unit) (Name := ℕ) (U := UR sig nD τ) (Lvl := ℕ) (Val := Elt F) spec0 c from by
      iintro ⟨H, -⟩
      iexact H)
    (fun c => show Pipeline.scopedRest (Ix := Unit) (Name := ℕ) (U := UR sig nD τ) (Lvl := ℕ) (Val := Elt F) spec0 c ⊢ iprop(Pipeline.scopedRest (Ix := Unit) (Name := ℕ) (U := UR sig nD τ) (Lvl := ℕ) (Val := Elt F) spec0 c ∗ emp) from by
      iintro H
      isplitl [H]
      · iexact H
      iempintro)
    (fun _ => 0) (cut m 0) (fun _ => iprop(emp)) (V0 m) (fun _ _ => rfl)

set_option backward.isDefEq.respectTransparency.types false in
/-- The second call. -/
def seg2 : Pipeline.RegionSeg (pcfgs (F := F)) (adm m) (dats m) () defs₀ Variants.none lvls (fun _ _ => (0 : ℕ)) 1 :=
  Pipeline.RegionSeg.ofHeldInT (pcfgs (F := F)) (adm m) (dats m) () defs₀ Variants.none lvls (fun _ _ => (0 : ℕ)) 1 (fun _ => 0) (Pipeline.ucRefs τ sig)
    (fun _ => iprop(emp)) (fun _ => iprop(emp)) launch1
    (fun c => (body1 c (tabs m) (WB m c) (good_tabs m)).loose) (fun _ _ => rfl) (fun _ => rfl) (fun c w => (dats m 1 c).share_full (fun _ => rfl) w)
    (fun c => show iprop((Pipeline.scopedRest (Ix := Unit) (Name := ℕ) (U := UR sig nD τ) (Lvl := ℕ) (Val := Elt F) spec1 c ∗ emp) ∗ Pipeline.prefHeld (Ix := Unit) (Name := ℕ) (U := UR sig nD τ) (Lvl := ℕ) pre1 c (fun _ => fullShare) (tabs m).1) ⊢ inv1 c (tabs m) from by
      iintro ⟨⟨H, -⟩, HT⟩
      isplitl [H]
      · iexact H
      iexact HT)
    (fun c => show inv1 c (tabs m) ⊢ iprop((Pipeline.scopedRest (Ix := Unit) (Name := ℕ) (U := UR sig nD τ) (Lvl := ℕ) (Val := Elt F) spec1 c ∗ emp) ∗ Pipeline.prefHeld (Ix := Unit) (Name := ℕ) (U := UR sig nD τ) (Lvl := ℕ) pre1 c (fun _ => fullShare) (tabs m).1) from by
      iintro ⟨H, HT⟩
      isplitl [H]
      · isplitl [H]
        · iexact H
        iempintro
      iexact HT)
    (fun _ => 0) (cut m 1) (fun _ => iprop(emp)) (WB m) (fun _ _ => rfl) (fun c k => by rw [Subsingleton.elim c 0]; rfl)

theorem arrs0 : Pipeline.arrRefs (τ := τ) (pcfgs (F := F) 0).spec ⊆ Pipeline.ucRefs τ sig := Pipeline.arrRefs_sub_ucRefs _ (by decide : ∀ w, (Pipeline.arrRef spec0 w).isScoped = false)
theorem arrs1 : Pipeline.arrRefs (τ := τ) (pcfgs (F := F) 1).spec ⊆ Pipeline.ucRefs τ sig := Pipeline.arrRefs_sub_ucRefs _ (by decide : ∀ w, (Pipeline.arrRef spec1 w).isScoped = false)
theorem tbls1 : Pipeline.tblRefs (τ := τ) (pcfgs (F := F) 1).pre ⊆ Pipeline.ucRefs τ sig := Pipeline.tblRefs_sub_ucRefs _ (by decide : ∀ k, (pre1.ref k).isScoped = false)

theorem hpre0 (c : Dev nD) : iprop(StableHlo.held (c : Thread nD τ) (Pipeline.ucRefs τ sig) (V0 m c) ∗ rest (F := F) c) ⊢ (seg0 m).pre c := by
  unfold seg0
  refine BIBase.Entails.trans ?_ (Pipeline.RegionSeg.ofHeldIn_pre (arrs0 (F := F)) c)
  iintro ⟨Hh, HO⟩
  isplitl [Hh]
  · iexact Hh
  isplitl [HO]
  · iexact HO
  isplitl <;> iempintro

theorem hpost0 (c : Dev nD) : (seg0 m).post c ⊢ iprop(StableHlo.held (c : Thread nD τ) (Pipeline.ucRefs τ sig) (V1 m (outs m) c) ∗ rest (F := F) c) := by
  unfold seg0
  refine BIBase.Entails.trans (Pipeline.RegionSeg.ofHeldIn_post (arrs0 (F := F)) c) ?_
  rw [show StableHlo.held (c : Thread nD τ) (Pipeline.ucRefs τ sig) (Pipeline.afterRegion (dats m 0 c) (V0 m c))
    = (StableHlo.held (c : Thread nD τ) (Pipeline.ucRefs τ sig) (V1 m (outs m) c) : sProp 𝕄G) from held_ext c _ _ (after0_eq m c)]
  iintro ⟨Hh, HO, -⟩
  isplitl [Hh]
  · iexact Hh
  iexact HO

theorem hpre1 (c : Dev nD) : iprop(StableHlo.held (c : Thread nD τ) (Pipeline.ucRefs τ sig) (V2 m (outs m) c) ∗ rest (F := F) c) ⊢ (seg2 m).pre c := by
  rw [V2_eq]
  unfold seg2
  refine BIBase.Entails.trans ?_ (Pipeline.RegionSeg.ofHeldInT_pre (arrs1 (F := F)) (tbls1 (F := F)) c)
  iintro ⟨Hh, HO⟩
  isplitl [Hh]
  · iexact Hh
  isplitl [HO]
  · iexact HO
  isplitl <;> iempintro

theorem hpost1 (c : Dev nD) : (seg2 m).post c ⊢ iprop(StableHlo.held (c : Thread nD τ) (Pipeline.ucRefs τ sig) (V3 m (outs m) c) ∗ rest (F := F) c) := by
  unfold seg2
  refine BIBase.Entails.trans (Pipeline.RegionSeg.ofHeldInT_post (arrs1 (F := F)) (tbls1 (F := F)) c) ?_
  rw [show StableHlo.held (c : Thread nD τ) (Pipeline.ucRefs τ sig) (Pipeline.afterRegion (dats m 1 c) (WB m c))
    = (StableHlo.held (c : Thread nD τ) (Pipeline.ucRefs τ sig) (V3 m (outs m) c) : sProp 𝕄G) from held_ext c _ _ (after1_eq m c)]
  iintro ⟨Hh, HO, -⟩
  isplitl [Hh]
  · iexact Hh
  iexact HO

/-! ## The run -/

set_option backward.isDefEq.respectTransparency.types false in
/-- From any memory with zero counters, every weakly fair execution terminates with the arguments as launched, the
    result at what the second call leaves, and every counter at zero. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.mem ((c.tc : Thread nD τ).loc main_v4) = V3 m (outs m) c main_v4)
      ∧ r.2.sem = fun _ => 0) := by
  refine Pipeline.θ_run_regions_kit_dev_sems (pcfgs (F := F)) (adm m) (dats m) () (cellOf_inj (adm m)) emb₁ defs₀ Variants.none lvls (fun _ _ => (0 : ℕ)) m ρ main
    (segs m (outs m) Variants.none lvls (fun _ _ => (0 : ℕ)) (fun _ => rest) () (adm m) (dats m) (seg0 m) (seg2 m))
    (fun c Q => by
      rewrite [main_chain c, Seg.run_eq_chain,
        show (segs m (outs m) Variants.none lvls (fun _ _ => (0 : ℕ)) (fun _ => rest) () (adm m) (dats m) (seg0 m) (seg2 m) c).map Seg.prog = [
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0) (fun g hg => if_neg hg) (fun _ => iprop(emp))
    (initOf (Pipeline.cells (Pipeline.pin (pcfgs (F := F)) (adm m)) (cellOf_inj (adm m))) (Pipeline.launchToks (Pipeline.pin (pcfgs (F := F)) (adm m)) (cellOf_inj (adm m))))
    (by
      iintro Hu
      imodintro
      isplitl [Hu]
      · iapply (show (ownU _ : sProp 𝕄G) ⊢ BI.own (emb₁ _) from .rfl)
        iexact Hu
      iapply (show (BI.emp : sProp 𝕄G) ⊢ bigSep Finset.univ (fun _ : Dev nD => (BI.emp : sProp 𝕄G)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (V3 m (outs m) c))
    (hch := fun c => ⟨hpre0 m c, hpost0 m c, hpre1 m c, hpost1 m c⟩)
    (hinit := ?_) (QY := fun c s => (s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6)) ∧ s.mem ((c.tc : Thread nD τ).loc main_v4) = V3 m (outs m) c main_v4)
    (hfin := fun c s' => ?_) (hQ := fun _ h hz => ⟨h, funext fun g => hz g (.inr (regions_no_unscoped g.2))⟩)
  · refine Pipeline.initEach lvls (fun _ _ => (0 : ℕ)) fun c => ?_
    rw [show unscopedBufs c (fun b => m ((c.tc : Thread nD τ).loc b)) = StableHlo.held (c.tc : Thread nD τ) (Pipeline.ucRefs τ sig) (V0 m c)
      from Pipeline.unscopedBufs_held (Ix := Unit) (Name := ℕ) (U := UR sig nD τ) (Lvl := ℕ) c (V0 m c)]
    iintro ⟨⟨Hh, -, HO, -⟩, -⟩
    imodintro
    isplitl [Hh]
    · iexact Hh
    iexists _
    iexact HO
  · -- the end: each argument's buffer read off the last valuation
    unfold StableHlo.held
    iintro ⟨Hh, HSI⟩
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (V3_main_arg0 m (outs m) c),
        (h (Proc.devRef .tc main_arg1) (Finset.mem_filter.mpr ⟨StableHlo.devRef_mem_tcRefs main_arg1, by decide⟩)).trans (V3_main_arg1 m (outs m) c),
        (h (Proc.devRef .tc main_arg2) (Finset.mem_filter.mpr ⟨StableHlo.devRef_mem_tcRefs main_arg2, by decide⟩)).trans (V3_main_arg2 m (outs m) c),
        (h (Proc.devRef .tc main_arg3) (Finset.mem_filter.mpr ⟨StableHlo.devRef_mem_tcRefs main_arg3, by decide⟩)).trans (V3_main_arg3 m (outs m) c),
        (h (Proc.devRef .tc main_arg4) (Finset.mem_filter.mpr ⟨StableHlo.devRef_mem_tcRefs main_arg4, by decide⟩)).trans (V3_main_arg4 m (outs m) c),
        (h (Proc.devRef .tc main_arg5) (Finset.mem_filter.mpr ⟨StableHlo.devRef_mem_tcRefs main_arg5, by decide⟩)).trans (V3_main_arg5 m (outs m) c),
        (h (Proc.devRef .tc main_arg6) (Finset.mem_filter.mpr ⟨StableHlo.devRef_mem_tcRefs main_arg6, by decide⟩)).trans (V3_main_arg6 m (outs m) c)⟩,
        h (Proc.devRef .tc main_v4) (Finset.mem_filter.mpr ⟨StableHlo.devRef_mem_tcRefs main_v4, by decide⟩)⟩
    · iexact HSI

end Cert.Kernel

end
-- ==== Proof.Ideal.Words.lean ====
/-
  The integer words of the attention kernel in closed form: the tile at which its loops begin and end, the places its
  loads and stores are at, and the two side conditions it assumes of the words it reads from the prefetched tables.
-/
module

public import proofs.«01_k».proof.KernelIdeal

@[expose] public section

set_option maxRecDepth 16384

noncomputable section

namespace Cert.KernelIdeal

open Idealize.ShloMosaic

/-- The query tile number, as the word the outer loop counts in. -/
def tw (t : ℕ) : BitVec 32 := Scf.iv 0#32 1#32 t

/-- The word the kernel computes for the floor of `v / 256`. -/
def fl (v37 : BitVec 32) : BitVec 32 :=
  let c0_i32_19 : BitVec 32 := 0#32
  let v39 : BitVec 1 := Scalar.cmpi .sgt v37 c0_i32_19
  let v40 : BitVec 32 := Scalar.extui v39
  let c0_i32_20 : BitVec 32 := 0#32
  let v41 : BitVec 1 := Scalar.cmpi .slt v37 c0_i32_20
  let v42 : BitVec 32 := Scalar.extui v41
  let v43 : BitVec 32 := Scalar.subi v40 v42
  let c256_i32_18 : BitVec 32 := 256#32
  let c0_i32_21 : BitVec 32 := 0#32
  let v44 : BitVec 1 := Scalar.cmpi .sgt c256_i32_18 c0_i32_21
  let v45 : BitVec 32 := Scalar.extui v44
  let c0_i32_22 : BitVec 32 := 0#32
  let v46 : BitVec 1 := Scalar.cmpi .slt c256_i32_18 c0_i32_22
  let v47 : BitVec 32 := Scalar.extui v46
  let v48 : BitVec 32 := Scalar.subi v45 v47
  let v49 : BitVec 1 := Scalar.cmpi .ne v43 v48
  let v50 : BitVec 32 := Scalar.remsi v37 c256_i32_18
  let c0_i32_23 : BitVec 32 := 0#32
  let v51 : BitVec 1 := Scalar.cmpi .ne v50 c0_i32_23
  let v52 : BitVec 1 := Scalar.andi v49 v51
  let v38 : BitVec 32 := Scalar.divsi v37 c256_i32_18
  let c1_i32_24 : BitVec 32 := 1#32
  let v53 : BitVec 32 := Scalar.subi v38 c1_i32_24
  let v54 : BitVec 32 := Scalar.select v52 v53 v38
  v54

/-- The word the kernel computes for the floor of `(v + 255) / 256`. -/
def ce (v57 : BitVec 32) : BitVec 32 :=
  fl (Scalar.subi (Scalar.addi v57 256#32) 1#32)

theorem fl_small : ∀ n : Fin 8704, fl (BitVec.ofNat 32 n.val) = BitVec.ofNat 32 (n.val / 256) := by decide +kernel

theorem tw_eq (t : ℕ) : tw t = BitVec.ofNat 32 t := by
  unfold tw Scf.iv; simp

theorem fl_eq (v : BitVec 32) (h : v.toNat < 8704) : fl v = BitVec.ofNat 32 (v.toNat / 256) := by
  have := fl_small ⟨v.toNat, h⟩
  simpa using this

theorem ce_eq (v : BitVec 32) (h : v.toNat < 8192) : ce v = BitVec.ofNat 32 ((v.toNat + 255) / 256) := by
  have e : Scalar.subi (Scalar.addi v 256#32) 1#32 = BitVec.ofNat 32 (v.toNat + 255) := by
    unfold Scalar.subi Scalar.addi
    apply BitVec.eq_of_toNat_eq
    simp [IntOp.subi, IntOp.addi, BitVec.toNat_add, BitVec.toNat_sub]
    omega
  unfold ce
  rw [e, fl_eq _ (by simp; omega)]
  simp only [BitVec.toNat_ofNat]
  congr 2
  omega

/-- A loop from tile `a` up to tile `b`, the bounds as the kernel computes them. -/
def lp (a b : BitVec 32) : Scf.Loop 32 :=
  ⟨a, Scalar.addi a (Scalar.muli (Scalar.divsi (Scalar.subi b a) 1#32) 1#32), 1#32⟩

/-- What is left of a loop from tile `a` up to tile `b` after its main part, the bounds as the kernel computes them. -/
def lr (a b : BitVec 32) : Scf.Loop 32 :=
  ⟨Scalar.addi a (Scalar.muli (Scalar.divsi (Scalar.subi b a) 1#32) 1#32), Scalar.addi a (Scalar.subi b a), 1#32⟩

/-- The word of the tile at which the loops without a mask begin. -/
def jcw (t : ℕ) (l : BitVec 32) : BitVec 32 := Scalar.minsi (ce l) (tw t)

theorem t2_loop_eq (t : Fin k1_t1_loop.trips) (f l : BitVec 32) : k1_t2_loop t f l = lp (fl f) (jcw t l) := rfl
theorem t3_loop_eq (t : Fin k1_t1_loop.trips) (f l : BitVec 32) : k1_t3_loop t f l = lr (fl f) (jcw t l) := rfl
theorem t4_loop_eq (t : Fin k1_t1_loop.trips) (l : BitVec 32) : k1_t4_loop t l = lp (jcw t l) (tw t) := rfl
theorem t5_loop_eq (t : Fin k1_t1_loop.trips) (l : BitVec 32) : k1_t5_loop t l = lr (jcw t l) (tw t) := rfl
theorem t6_loop_eq (t : Fin k1_t1_loop.trips) (f : BitVec 32) : k1_t6_loop t f = lp (fl f) (Scalar.addi (tw t) 1#32) := rfl
theorem t7_loop_eq (t : Fin k1_t1_loop.trips) (f : BitVec 32) : k1_t7_loop t f = lr (fl f) (Scalar.addi (tw t) 1#32) := rfl

theorem lp_trips : ∀ a b : Fin 33, a.val ≤ b.val → (lp (BitVec.ofNat 32 a.val) (BitVec.ofNat 32 b.val)).trips = b.val - a.val
    ∧ (lp (BitVec.ofNat 32 a.val) (BitVec.ofNat 32 b.val)).OK := by decide +kernel
theorem lr_trips : ∀ a b : Fin 33, a.val ≤ b.val → (lr (BitVec.ofNat 32 a.val) (BitVec.ofNat 32 b.val)).trips = 0
    ∧ (lr (BitVec.ofNat 32 a.val) (BitVec.ofNat 32 b.val)).OK := by decide +kernel
theorem jcw_small : ∀ a : Fin 34, ∀ b : Fin 33, Scalar.minsi (BitVec.ofNat 32 a.val) (BitVec.ofNat 32 b.val) = BitVec.ofNat 32 (min a.val b.val) := by
  decide +kernel

/-- The first tile a query tile's loops visit. -/
def j0 (f : BitVec 32) : ℕ := f.toNat / 256
/-- The first tile that needs no mask. -/
def jc (t : ℕ) (l : BitVec 32) : ℕ := min ((l.toNat + 255) / 256) t

/-- What holds of the two table words of query tile `t`: the first visible key of the tile's first row is no later than
    the row, that of its last row is no earlier than the first row's and no later than the last row. -/
structure Good (t : ℕ) (f l : BitVec 32) : Prop where
  ht : t < 32
  hf : f.toNat ≤ 256 * t
  hfl : f.toNat ≤ l.toNat
  hl : l.toNat ≤ 256 * t + 255

namespace Good

variable {t : ℕ} {f l : BitVec 32} (h : Good t f l)
include h

theorem j0_le : j0 f ≤ t := by have := h.hf; unfold j0; omega
theorem j0_le_jc : j0 f ≤ jc t l := by have := h.hf; have := h.hfl; unfold j0 jc; omega
theorem jc_le : jc t l ≤ t := by unfold jc; omega
theorem fl_word : fl f = BitVec.ofNat 32 (j0 f) := fl_eq f (by have := h.hf; have := h.ht; omega)
theorem jc_word : jcw t l = BitVec.ofNat 32 (jc t l) := by
  have h1 := h.hl; have h2 := h.ht
  unfold jcw
  rw [ce_eq l (by omega), tw_eq]
  exact jcw_small ⟨(l.toNat + 255) / 256, by omega⟩ ⟨t, by omega⟩
theorem succ_word : Scalar.addi (tw t) 1#32 = BitVec.ofNat 32 (t + 1) := by
  have h2 := h.ht
  rw [tw_eq]
  apply BitVec.eq_of_toNat_eq
  simp [Scalar.addi, IntOp.addi, BitVec.toNat_add]

theorem lp02 : lp (fl f) (jcw t l) = lp (BitVec.ofNat 32 (j0 f)) (BitVec.ofNat 32 (jc t l)) := by rw [h.fl_word, h.jc_word]

theorem trips2 : (lp (fl f) (jcw t l)).trips = jc t l - j0 f ∧ (lp (fl f) (jcw t l)).OK := by
  have := h.jc_le; have := h.j0_le_jc; have := h.ht
  rw [h.fl_word, h.jc_word]
  exact lp_trips ⟨j0 f, by omega⟩ ⟨jc t l, by omega⟩ (by dsimp only; omega)
theorem trips3 : (lr (fl f) (jcw t l)).trips = 0 ∧ (lr (fl f) (jcw t l)).OK := by
  have := h.jc_le; have := h.j0_le_jc; have := h.ht
  rw [h.fl_word, h.jc_word]
  exact lr_trips ⟨j0 f, by omega⟩ ⟨jc t l, by omega⟩ (by dsimp only; omega)
theorem trips4 : (lp (jcw t l) (tw t)).trips = t - jc t l ∧ (lp (jcw t l) (tw t)).OK := by
  have := h.jc_le; have := h.ht
  rw [h.jc_word, tw_eq]
  exact lp_trips ⟨jc t l, by omega⟩ ⟨t, by omega⟩ (by dsimp only; omega)
theorem trips5 : (lr (jcw t l) (tw t)).trips = 0 ∧ (lr (jcw t l) (tw t)).OK := by
  have := h.jc_le; have := h.ht
  rw [h.jc_word, tw_eq]
  exact lr_trips ⟨jc t l, by omega⟩ ⟨t, by omega⟩ (by dsimp only; omega)
theorem trips6 : (lp (fl f) (Scalar.addi (tw t) 1#32)).trips = t + 1 - j0 f ∧ (lp (fl f) (Scalar.addi (tw t) 1#32)).OK := by
  have := h.j0_le; have := h.ht
  rw [h.fl_word, h.succ_word]
  exact lp_trips ⟨j0 f, by omega⟩ ⟨t + 1, by omega⟩ (by dsimp only; omega)
theorem trips7 : (lr (fl f) (Scalar.addi (tw t) 1#32)).trips = 0 ∧ (lr (fl f) (Scalar.addi (tw t) 1#32)).OK := by
  have := h.j0_le; have := h.ht
  rw [h.fl_word, h.succ_word]
  exact lr_trips ⟨j0 f, by omega⟩ ⟨t + 1, by omega⟩ (by dsimp only; omega)

end Good

/-- The induction variable of a loop that begins at tile `a`, after `k` trips. -/
theorem iv_ofNat (a k : ℕ) : Scf.iv (BitVec.ofNat 32 a) 1#32 k = BitVec.ofNat 32 (a + k) := by
  unfold Scf.iv
  rw [BitVec.mul_one, ← BitVec.ofNat_add]

/-- The first row of tile `n` as a word: `256 n`. -/
theorem row_word (n : ℕ) (h : n < 33) : (Scalar.muli (BitVec.ofNat 32 n) 256#32).toNat = 256 * n := by
  simp [Scalar.muli, IntOp.muli, BitVec.toNat_mul]
  omega

theorem row_word' (n : ℕ) : Scalar.muli (BitVec.ofNat 32 n) 256#32 = BitVec.ofNat 32 (256 * n) := by
  apply BitVec.eq_of_toNat_eq
  simp [Scalar.muli, IntOp.muli, BitVec.toNat_mul]
  omega

/-- The rectangle of rows at a tile word. -/
def orow (j : BitVec 32) : Fin 3 → ℕ := ![0, (Scalar.indexCast (Scalar.muli j 256#32)).toNat, 0]
/-- The rectangle of lanes at a tile word. -/
def olane (j : BitVec 32) : Fin 4 → ℕ := ![0, 0, 0, (Scalar.indexCast (Scalar.muli j 256#32)).toNat]
/-- The rectangle of the score scratch at a tile word. -/
def oslab (j : BitVec 32) : Fin 3 → ℕ := ![(Scalar.indexCast j).toNat, 0, 0]

theorem orow_eq (n : ℕ) (h : n < 33) : orow (BitVec.ofNat 32 n) = ![0, 256 * n, 0] := by
  unfold orow; rw [show (Scalar.indexCast (Scalar.muli (BitVec.ofNat 32 n) 256#32)) = Scalar.muli (BitVec.ofNat 32 n) 256#32 from rfl, row_word n h]
theorem olane_eq (n : ℕ) (h : n < 33) : olane (BitVec.ofNat 32 n) = ![0, 0, 0, 256 * n] := by
  unfold olane; rw [show (Scalar.indexCast (Scalar.muli (BitVec.ofNat 32 n) 256#32)) = Scalar.muli (BitVec.ofNat 32 n) 256#32 from rfl, row_word n h]
theorem oslab_eq (n : ℕ) (h : n < 33) : oslab (BitVec.ofNat 32 n) = ![n, 0, 0] := by
  unfold oslab; rw [show (Scalar.indexCast (BitVec.ofNat 32 n)) = BitVec.ofNat 32 n from rfl]
  simp only [BitVec.toNat_ofNat]
  rw [Nat.mod_eq_of_lt (by omega)]

theorem orow_inb (n : ℕ) (h : n < 32) : ∀ a, orow (BitVec.ofNat 32 n) a + S1x256x128.size a ≤ S1x8192x128.size a := by
  rw [orow_eq n (by omega)]
  intro a; fin_cases a <;> simp [S1x256x128, S1x8192x128] <;> omega
theorem olane_inb (n : ℕ) (h : n < 32) : ∀ a, olane (BitVec.ofNat 32 n) a + S1x1x1x256.size a ≤ S1x1x1x8192.size a := by
  rw [olane_eq n (by omega)]
  intro a; fin_cases a <;> simp [S1x1x1x256, S1x1x1x8192] <;> omega
theorem oslab_inb (n : ℕ) (h : n < 32) : ∀ a, oslab (BitVec.ofNat 32 n) a + S1x256x256.size a ≤ S32x256x256.size a := by
  rw [oslab_eq n (by omega)]
  intro a; fin_cases a <;> simp [S1x256x256, S32x256x256] <;> omega

theorem off1_eq (t : Fin k1_t1_loop.trips) : k1_off1 t = olane (tw t) := rfl
theorem off4_eq (t : Fin k1_t1_loop.trips) : k1_off4 t = orow (tw t) := rfl
theorem off17_eq (t : Fin k1_t1_loop.trips) : k1_off17 t = orow (tw t) := rfl
theorem off18_eq (t : Fin k1_t1_loop.trips) : k1_off18 t = olane (tw t) := rfl
theorem off19_eq (t : Fin k1_t1_loop.trips) : k1_off19 t = oslab (tw t) := rfl
theorem off5_eq (t : Fin k1_t1_loop.trips) (f l : BitVec 32) (k : Fin (k1_t2_loop t f l).trips) : k1_off5 t f l k = orow (Scf.iv (fl f) 1#32 k) := rfl
theorem off6_eq (t : Fin k1_t1_loop.trips) (f l : BitVec 32) (k : Fin (k1_t2_loop t f l).trips) : k1_off6 t f l k = olane (Scf.iv (fl f) 1#32 k) := rfl
theorem off7_eq (t : Fin k1_t1_loop.trips) (f l : BitVec 32) (k : Fin (k1_t2_loop t f l).trips) : k1_off7 t f l k = oslab (Scf.iv (fl f) 1#32 k) := rfl
theorem off11_eq (t : Fin k1_t1_loop.trips) (l : BitVec 32) (k : Fin (k1_t4_loop t l).trips) : k1_off11 t l k = orow (Scf.iv (jcw t l) 1#32 k) := rfl
theorem off12_eq (t : Fin k1_t1_loop.trips) (l : BitVec 32) (k : Fin (k1_t4_loop t l).trips) : k1_off12 t l k = olane (Scf.iv (jcw t l) 1#32 k) := rfl
theorem off13_eq (t : Fin k1_t1_loop.trips) (l : BitVec 32) (k : Fin (k1_t4_loop t l).trips) : k1_off13 t l k = oslab (Scf.iv (jcw t l) 1#32 k) := rfl
theorem off20_eq (t : Fin k1_t1_loop.trips) (f : BitVec 32) (k : Fin (k1_t6_loop t f).trips) : k1_off20 t f k = oslab (Scf.iv (fl f) 1#32 k) := rfl
theorem off21_eq (t : Fin k1_t1_loop.trips) (f : BitVec 32) (k : Fin (k1_t6_loop t f).trips) : k1_off21 t f k = orow (Scf.iv (fl f) 1#32 k) := rfl

theorem trips1 : k1_t1_loop.trips = 32 := by decide +kernel

theorem row_dvd (n : ℕ) (h : n < 33) : 256 ∣ (Scalar.muli (BitVec.ofNat 32 n) 256#32).toNat := by
  rw [row_word n h]; exact ⟨n, rfl⟩

variable {t : Fin k1_t1_loop.trips} {f l : BitVec 32}

theorem iv2 (h : Good t f l) (k : ℕ) : Scf.iv (fl f) 1#32 k = BitVec.ofNat 32 (j0 f + k) := by rw [h.fl_word, iv_ofNat]
theorem iv4 (h : Good t f l) (k : ℕ) : Scf.iv (jcw t l) 1#32 k = BitVec.ofNat 32 (jc t l + k) := by rw [h.jc_word, iv_ofNat]
theorem trips2 (h : Good t f l) : (k1_t2_loop t f l).trips = jc t l - j0 f := by rw [t2_loop_eq]; exact h.trips2.1
theorem trips3 (h : Good t f l) : (k1_t3_loop t f l).trips = 0 := by rw [t3_loop_eq]; exact h.trips3.1
theorem trips4 (h : Good t f l) : (k1_t4_loop t l).trips = t - jc t l := by rw [t4_loop_eq]; exact h.trips4.1
theorem trips5 (h : Good t f l) : (k1_t5_loop t l).trips = 0 := by rw [t5_loop_eq]; exact h.trips5.1
theorem trips6 (h : Good t f l) : (k1_t6_loop t f).trips = t + 1 - j0 f := by rw [t6_loop_eq]; exact h.trips6.1
theorem trips7 (h : Good t f l) : (k1_t7_loop t f).trips = 0 := by rw [t7_loop_eq]; exact h.trips7.1

theorem tile2_lt (h : Good t f l) (k : Fin (k1_t2_loop t f l).trips) : j0 f + k.val < jc t l := by
  have := k.isLt; have := trips2 h; omega
theorem tile4_lt (h : Good t f l) (k : Fin (k1_t4_loop t l).trips) : jc t l + k.val < t := by
  have := k.isLt; have := trips4 h; omega
theorem tile6_lt (h : Good t f l) (k : Fin (k1_t6_loop t f).trips) : j0 f + k.val < t + 1 := by
  have := k.isLt; have := trips6 h; omega

/-- The side condition assumed once the last row's word is read holds of good words. -/
theorem chk1 (h : Good t f l) : k1_chk1 t f l := by
  have ht := h.ht
  have hjc := h.jc_le
  have no3 : ∀ {P : Fin (k1_t3_loop t f l).trips → Prop}, ∀ k, P k := fun {P} k => absurd k.isLt (by have := trips3 h; omega)
  have no5 : ∀ {P : Fin (k1_t5_loop t l).trips → Prop}, ∀ k, P k := fun {P} k => absurd k.isLt (by have := trips5 h; omega)
  refine ⟨?_, ?_, ?_, ?_, ?_, ?_, no3, no3, no3, no3, ?_, ?_, ?_, ?_, ?_, ?_, no5, no5, no5, no5⟩
  · rw [t2_loop_eq]; exact h.trips2.2
  · intro k
    have := tile2_lt h k
    show 256 ∣ (Scalar.muli (Scf.iv (fl f) 1#32 k) 256#32).toNat
    rw [iv2 h]; exact row_dvd _ (by omega)
  · intro k
    have := tile2_lt h k
    rw [off5_eq, iv2 h]; exact orow_inb _ (by omega)
  · intro k
    have := tile2_lt h k
    rw [off6_eq, iv2 h]; exact olane_inb _ (by omega)
  · intro k
    have := tile2_lt h k
    rw [off7_eq, iv2 h]; exact oslab_inb _ (by omega)
  · rw [t3_loop_eq]; exact h.trips3.2
  · rw [t4_loop_eq]; exact h.trips4.2
  · intro k
    have := tile4_lt h k
    show 256 ∣ (Scalar.muli (Scf.iv (jcw t l) 1#32 k) 256#32).toNat
    rw [iv4 h]; exact row_dvd _ (by omega)
  · intro k
    have := tile4_lt h k
    rw [off11_eq, iv4 h]; exact orow_inb _ (by omega)
  · intro k
    have := tile4_lt h k
    rw [off12_eq, iv4 h]; exact olane_inb _ (by omega)
  · intro k
    have := tile4_lt h k
    rw [off13_eq, iv4 h]; exact oslab_inb _ (by omega)
  · rw [t5_loop_eq]; exact h.trips5.2

/-- The side condition assumed once the first row's word is read holds of good words. -/
theorem chk2 (h : Good t f l) : k1_chk2 t f := by
  have ht := h.ht
  have no7 : ∀ {P : Fin (k1_t7_loop t f).trips → Prop}, ∀ k, P k := fun {P} k => absurd k.isLt (by have := trips7 h; omega)
  refine ⟨?_, ?_, ?_, ?_, ?_, no7, no7, no7⟩
  · rw [t6_loop_eq]; exact h.trips6.2
  · intro k
    have := tile6_lt h k
    show 256 ∣ (Scalar.muli (Scf.iv (fl f) 1#32 k) 256#32).toNat
    rw [iv2 h]; exact row_dvd _ (by omega)
  · intro k
    have := tile6_lt h k
    rw [off20_eq, iv2 h]; exact oslab_inb _ (by omega)
  · intro k
    have := tile6_lt h k
    rw [off21_eq, iv2 h]; exact orow_inb _ (by omega)
  · rw [t7_loop_eq]; exact h.trips7.2

end Cert.KernelIdeal

end
-- ==== Proof.Ideal.DocStart.lean ====
/-
  The first kernel on words: where each row's document starts, by thirteen doubling steps of a running maximum. What is
  shown of its result, for any segment ids: a row's start is at most the row, starts never decrease along the rows, no
  row strictly between a row's start and the row begins a new document, and the start itself is row 0 or begins one.
-/
module

public import proofs.«01_k».proof.Proof.Ideal.Words
public import proofs.«01_k».proof.Proof.Gen.KernelIdeal.Skeleton
public import Idealize.ShloMosaic.Lib.KernelVsHost

@[expose] public section

set_option maxRecDepth 16384

noncomputable section

namespace Cert.KernelIdeal

open Idealize.ShloMosaic Cert.KernelIdeal.Gen

variable {F : FTy → Type} [FloatOps F] [Named F]

/-- The index of batch `b`, row `r`. -/
def ixB (b r : ℕ) : S8x8192.Idx := fun a => match a with
  | ⟨0, _⟩ => (⟨b % 8, Nat.mod_lt _ (by omega)⟩ : Fin 8)
  | ⟨1, _⟩ => (⟨r % 8192, Nat.mod_lt _ (by omega)⟩ : Fin 8192)

theorem ixB_self (y : S8x8192.Idx) : ixB (y 0).val (y 1).val = y := by
  have h0 : (y 0).val < 8 := (y 0).isLt
  have h1 : (y 1).val < 8192 := (y 1).isLt
  funext a; refine Fin.ext ?_
  fin_cases a
  · exact Nat.mod_eq_of_lt h0
  · exact Nat.mod_eq_of_lt h1

/-- The row number of every entry. -/
def rowsOf : IVec S8x8192 32 := iota .tc S8x8192 32 [1] iota_S8x8192_d1_w32

/-- One doubling step: each entry with the one `n` rows before it, if there is one. -/
def jump (n : BitVec 32) (x : IVec S8x8192 32) : IVec S8x8192 32 :=
  maxsi x (select (cmpi .sge rowsOf (broadcast S8x8192 n)) (dynamicRotate 1 n none x rotates_S8x8192_d1) (broadcast S8x8192 0#32))

/-- The rows that begin a document, marked with their number; every other row with zero. -/
def marks (v0 : IVec S8x8192 32) : IVec S8x8192 32 :=
  select (andi (cmpi .ne v0 (dynamicRotate 1 1#32 none v0 rotates_S8x8192_d1)) (cmpi .sgt rowsOf (broadcast S8x8192 0#32)))
    rowsOf (broadcast S8x8192 0#32)

/-- What the kernel stores. -/
def starts (v0 : IVec S8x8192 32) : IVec S8x8192 32 :=
  jump 4096#32 (jump 2048#32 (jump 1024#32 (jump 512#32 (jump 256#32 (jump 128#32 (jump 64#32 (jump 32#32 (jump 16#32
    (jump 8#32 (jump 4#32 (jump 2#32 (jump 1#32 (marks v0)))))))))))))

theorem pay_starts (v0 : Vec F S8x8192 .i32) :
    k0_pay1 (iota .tc S8x8192 32 [1] iota_S8x8192_d1_w32) (k0_pay3 (iota .tc S8x8192 32 [1] iota_S8x8192_d1_w32) (k0_pay2 v0) 32#32)
      (k0_pay4 (iota .tc S8x8192 32 [1] iota_S8x8192_d1_w32) (k0_pay2 v0) 32#32) (k0_pay5 (iota .tc S8x8192 32 [1] iota_S8x8192_d1_w32)) k0_pay6
      = starts v0 := rfl

theorem rowsOf_ix (b r : ℕ) (hr : r < 8192) : rowsOf (ixB b r) = BitVec.ofNat 32 r := by
  have hr' : r % 8192 = r := Nat.mod_eq_of_lt hr
  show BitVec.ofNat 32 (0 * 8192 + r % 8192) = _
  rw [hr']; simp

theorem rot_ix (n : BitVec 32) (hn : n.toNat < 8192) (x : IVec S8x8192 32) (b r : ℕ) (hr : r < 8192) (hnr : n.toNat ≤ r) :
    dynamicRotate 1 n none x rotates_S8x8192_d1 (ixB b r) = x (ixB b (r - n.toNat)) :=
  dynamicRotate_apply 1 n x _ _ _ fun a => by
    have hr' : r % 8192 = r := Nat.mod_eq_of_lt hr
    fin_cases a
    · rfl
    · show (r - n.toNat) % 8192 = ((r % 8192) + 8192 - n.toNat % 8192) % 8192
      rw [hr', Nat.mod_eq_of_lt hn]; omega

theorem ofNat_sle (a b : ℕ) (ha : a < 8192) (hb : b < 8192) : (BitVec.ofNat 32 a).sle (BitVec.ofNat 32 b) = decide (a ≤ b) := by
  rw [BitVec.sle_eq_decide, BitVec.toInt_eq_toNat_of_lt (by simp; omega), BitVec.toInt_eq_toNat_of_lt (by simp; omega)]
  simp; omega
theorem slt_small (x y : BitVec 32) (hx : x.toNat < 8192) (hy : y.toNat < 8192) : x.slt y = decide (x.toNat < y.toNat) := by
  rw [BitVec.slt_eq_decide, BitVec.toInt_eq_toNat_of_lt (by omega), BitVec.toInt_eq_toNat_of_lt (by omega)]
  simp
theorem sle_small (x y : BitVec 32) (hx : x.toNat < 8192) (hy : y.toNat < 8192) : x.sle y = decide (x.toNat ≤ y.toNat) := by
  rw [BitVec.sle_eq_decide, BitVec.toInt_eq_toNat_of_lt (by omega), BitVec.toInt_eq_toNat_of_lt (by omega)]
  simp

theorem maxsi_small (x y : BitVec 32) (hx : x.toNat < 8192) (hy : y.toNat < 8192) :
    (IntOp.maxsi x y).toNat = max x.toNat y.toNat := by
  unfold IntOp.maxsi
  rw [slt_small y x hy hx]
  by_cases h : y.toNat < x.toNat
  · rw [if_pos (by simpa using h)]; omega
  · rw [if_neg (by simpa using h)]; omega

/-- A row's mark as a number. -/
def mark (v0 : IVec S8x8192 32) (b r : ℕ) : ℕ := if 0 < r ∧ v0 (ixB b r) ≠ v0 (ixB b (r - 1)) then r else 0

theorem mark_le (v0 : IVec S8x8192 32) (b r : ℕ) : mark v0 b r ≤ r := by unfold mark; split <;> omega

theorem marks_ix (v0 : IVec S8x8192 32) (b r : ℕ) (hr : r < 8192) : marks v0 (ixB b r) = BitVec.ofNat 32 (mark v0 b r) := by
  show Scalar.select (IntOp.andi (IntOp.cmpi .ne (v0 (ixB b r)) (dynamicRotate 1 1#32 none v0 rotates_S8x8192_d1 (ixB b r)))
    (IntOp.cmpi .sgt (rowsOf (ixB b r)) 0#32)) (rowsOf (ixB b r)) 0#32 = _
  rw [rowsOf_ix b r hr]
  unfold mark
  by_cases h0 : 0 < r
  · rw [rot_ix 1#32 (by decide) v0 b r hr h0]
    have e1 : IntOp.cmpi .sgt (BitVec.ofNat 32 r) 0#32 = 1 := by
      show BitVec.ofBool ((0#32).slt (BitVec.ofNat 32 r)) = 1
      rw [slt_small _ _ (by simp) (by simp; omega)]
      have : (BitVec.ofNat 32 r).toNat = r := by simp; omega
      rw [this]; simp [h0]
    rw [e1]
    by_cases he : v0 (ixB b r) = v0 (ixB b (r - 1))
    · rw [if_neg (by simp [he])]
      have : v0 (ixB b r) = v0 (ixB b (r - (1#32).toNat)) := he
      rw [← this]
      simp [IntOp.cmpi, IntOp.andi, Scalar.select]
    · rw [if_pos ⟨h0, he⟩]
      have : v0 (ixB b r) ≠ v0 (ixB b (r - (1#32).toNat)) := he
      have e2 : IntOp.cmpi .ne (v0 (ixB b r)) (v0 (ixB b (r - (1#32).toNat))) = 1 := by
        show BitVec.ofBool (v0 (ixB b r) != v0 (ixB b (r - (1#32).toNat))) = 1
        rw [bne_iff_ne.mpr this]; rfl
      rw [e2]; rfl
  · have : r = 0 := by omega
    subst this
    rw [if_neg (by simp)]
    unfold Scalar.select; split <;> rfl

/-- What an entry is once steps covering `n` rows have been made: the greatest mark of the last `n` rows. -/
structure Upto (v0 : IVec S8x8192 32) (b n r : ℕ) (w : BitVec 32) : Prop where
  above : ∀ j, j ≤ r → r < j + n → mark v0 b j ≤ w.toNat
  mem : ∃ j, j ≤ r ∧ w.toNat = mark v0 b j

theorem Upto.lt {v0 : IVec S8x8192 32} {b n r : ℕ} {w : BitVec 32} (h : Upto v0 b n r w) (hr : r < 8192) : w.toNat < 8192 := by
  obtain ⟨j, hj, e⟩ := h.mem
  have := mark_le v0 b j; omega

theorem upto_marks (v0 : IVec S8x8192 32) (b r : ℕ) (hr : r < 8192) : Upto v0 b 1 r (marks v0 (ixB b r)) := by
  have hm := mark_le v0 b r
  have e : (marks v0 (ixB b r)).toNat = mark v0 b r := by rw [marks_ix v0 b r hr]; simp; omega
  exact ⟨fun j h1 h2 => by rw [e, show j = r by omega], ⟨r, le_refl _, e⟩⟩

/-- One doubling step doubles the rows covered. -/
theorem upto_jump (v0 x : IVec S8x8192 32) (b : ℕ) (n : BitVec 32) (hn : n.toNat < 8192)
    (h : ∀ r, r < 8192 → Upto v0 b n.toNat r (x (ixB b r))) (r : ℕ) (hr : r < 8192) :
    Upto v0 b (2 * n.toNat) r (jump n x (ixB b r)) := by
  have hx := h r hr
  have hxl := hx.lt hr
  have e : jump n x (ixB b r) = IntOp.maxsi (x (ixB b r)) (Scalar.select (IntOp.cmpi .sge (rowsOf (ixB b r)) n)
      (dynamicRotate 1 n none x rotates_S8x8192_d1 (ixB b r)) 0#32) := rfl
  have ec : IntOp.cmpi .sge (rowsOf (ixB b r)) n = BitVec.ofBool (decide (n.toNat ≤ r)) := by
    show BitVec.ofBool (n.sle (rowsOf (ixB b r))) = _
    rw [rowsOf_ix b r hr, sle_small _ _ hn (by simp; omega)]
    have : (BitVec.ofNat 32 r).toNat = r := by simp; omega
    rw [this]
  rw [ec] at e
  by_cases hnr : n.toNat ≤ r
  · have hy := h (r - n.toNat) (by omega)
    have hyl := hy.lt (by omega)
    rw [rot_ix n hn x b r hr hnr, decide_eq_true hnr] at e
    have e' : (jump n x (ixB b r)).toNat = max (x (ixB b r)).toNat (x (ixB b (r - n.toNat))).toNat := by
      rw [e]; exact maxsi_small _ _ hxl hyl
    refine ⟨fun j h1 h2 => ?_, ?_⟩
    · rw [e']
      by_cases hc : r < j + n.toNat
      · exact le_trans (hx.above j h1 hc) (le_max_left _ _)
      · exact le_trans (hy.above j (by omega) (by omega)) (le_max_right _ _)
    · rw [e']
      rcases le_total (x (ixB b r)).toNat (x (ixB b (r - n.toNat))).toNat with hc | hc
      · obtain ⟨j, h1, h2⟩ := hy.mem
        exact ⟨j, by omega, by rw [max_eq_right hc]; exact h2⟩
      · obtain ⟨j, h1, h2⟩ := hx.mem
        exact ⟨j, h1, by rw [max_eq_left hc]; exact h2⟩
  · rw [decide_eq_false hnr] at e
    have e' : (jump n x (ixB b r)).toNat = max (x (ixB b r)).toNat 0 := by
      rw [e, show Scalar.select (BitVec.ofBool false) (dynamicRotate 1 n none x rotates_S8x8192_d1 (ixB b r)) 0#32 = 0#32 from
        if_neg (by decide)]
      exact maxsi_small _ _ hxl (by decide)
    rw [Nat.max_zero] at e'
    refine ⟨fun j h1 h2 => ?_, ?_⟩
    · rw [e']; exact hx.above j h1 (by omega)
    · rw [e']; exact hx.mem

/-- The start of row `r` of batch `b`, as a number. -/
def st (v0 : IVec S8x8192 32) (b r : ℕ) : ℕ := (starts v0 (ixB b r)).toNat

theorem upto_starts (v0 : IVec S8x8192 32) (b r : ℕ) (hr : r < 8192) : Upto v0 b 8192 r (starts v0 (ixB b r)) :=
  upto_jump v0 _ b 4096#32 (by decide) (upto_jump v0 _ b 2048#32 (by decide) (upto_jump v0 _ b 1024#32 (by decide)
    (upto_jump v0 _ b 512#32 (by decide) (upto_jump v0 _ b 256#32 (by decide) (upto_jump v0 _ b 128#32 (by decide)
    (upto_jump v0 _ b 64#32 (by decide) (upto_jump v0 _ b 32#32 (by decide) (upto_jump v0 _ b 16#32 (by decide)
    (upto_jump v0 _ b 8#32 (by decide) (upto_jump v0 _ b 4#32 (by decide) (upto_jump v0 _ b 2#32 (by decide)
    (upto_jump v0 _ b 1#32 (by decide) (upto_marks v0 b))))))))))))) r hr

theorem st_le (v0 : IVec S8x8192 32) (b r : ℕ) (hr : r < 8192) : st v0 b r ≤ r := by
  obtain ⟨j, h1, h2⟩ := (upto_starts v0 b r hr).mem
  have := mark_le v0 b j
  unfold st; omega

theorem st_mono (v0 : IVec S8x8192 32) (b r r' : ℕ) (h : r ≤ r') (hr : r' < 8192) : st v0 b r ≤ st v0 b r' := by
  obtain ⟨j, h1, h2⟩ := (upto_starts v0 b r (by omega)).mem
  unfold st; rw [h2]
  exact (upto_starts v0 b r' hr).above j (by omega) (by omega)

/-- The table words of a query tile are in order: the starts of its first and its last row. -/
theorem good_starts (v0 : IVec S8x8192 32) (b t : ℕ) (ht : t < 32) :
    Good t (starts v0 (ixB b (256 * t))) (starts v0 (ixB b (256 * t + 255))) :=
  ⟨ht, st_le v0 b _ (by omega), st_mono v0 b _ _ (by omega) (by omega), st_le v0 b _ (by omega)⟩

/-- With segment ids that never decrease, the keys at or after a row's start, up to the row, are those of its document. -/
theorem st_le_iff (v0 : IVec S8x8192 32) (b : ℕ) (hs : ∀ r, r + 1 < 8192 → (v0 (ixB b r)).toInt ≤ (v0 (ixB b (r + 1))).toInt)
    (r k : ℕ) (hr : r < 8192) (hk : k ≤ r) : st v0 b r ≤ k ↔ v0 (ixB b k) = v0 (ixB b r) := by
  have hmono : ∀ d a, a + d < 8192 → (v0 (ixB b a)).toInt ≤ (v0 (ixB b (a + d))).toInt := by
    intro d; induction d with
    | zero => intro a _; exact le_refl _
    | succ d ih => intro a ha; exact le_trans (ih a (by omega)) (hs (a + d) (by omega))
  constructor
  · intro h
    have hz : ∀ j, k < j → j ≤ r → v0 (ixB b j) = v0 (ixB b (j - 1)) := by
      intro j h1 h2
      have hm := (upto_starts v0 b r hr).above j h2 (by omega)
      by_contra hne
      have : mark v0 b j = j := by unfold mark; rw [if_pos ⟨by omega, hne⟩]
      unfold st at h; omega
    have : ∀ d, k + d ≤ r → v0 (ixB b (k + d)) = v0 (ixB b k) := by
      intro d; induction d with
      | zero => intro _; rfl
      | succ d ih =>
        intro hd
        rw [hz (k + (d + 1)) (by omega) hd]; exact ih (by omega)
    have e := this (r - k) (by omega)
    rw [show k + (r - k) = r by omega] at e
    exact e.symm
  · intro h
    by_contra hlt
    obtain ⟨j, h1, h2⟩ := (upto_starts v0 b r hr).mem
    have hm := mark_le v0 b j
    unfold st at hlt
    have hj : k < j := by omega
    have hne : v0 (ixB b j) ≠ v0 (ixB b (j - 1)) := by
      intro he
      have : mark v0 b j = 0 := by unfold mark; rw [if_neg (by simp [he])]
      omega
    apply hne
    have a1 := hmono (j - 1 - k) k (by omega)
    have a2 := hmono 1 (j - 1) (by omega)
    have a3 := hmono (r - j) j (by omega)
    rw [show k + (j - 1 - k) = j - 1 by omega] at a1
    rw [show j - 1 + 1 = j by omega] at a2
    rw [show j + (r - j) = r by omega, ← h] at a3
    exact BitVec.eq_of_toInt_eq (by omega)

end Cert.KernelIdeal

end
-- ==== Proof.Ideal.Fun.lean ====
/-
  What the attention kernel computes for one query tile, as plain functions of the arrays it reads: the tiles of keys,
  values and scales, the score tile of each key tile, the running maximum, the running sum and the running product.
-/
module

public import proofs.«01_k».proof.Proof.Ideal.Words
public import proofs.«01_k».proof.Proof.Gen.KernelIdeal.Skeleton
public import Idealize.ShloMosaic.Lib.VecWindow

@[expose] public section

set_option maxRecDepth 16384

noncomputable section

namespace Cert.KernelIdeal

open Idealize.ShloMosaic Cert.KernelIdeal.Gen

variable {F : FTy → Type} [FloatOps F] [Named F]

theorem rows_inb (n : ℕ) : ∀ a, (![0, 256 * (n % 32), 0] : Fin 3 → ℕ) a + S1x256x128.size a ≤ S1x8192x128.size a := by
  have := orow_inb (n % 32) (Nat.mod_lt _ (by omega))
  rwa [orow_eq _ (by have := Nat.mod_lt n (show 32 > 0 by omega); omega)] at this
theorem lanes_inb (n : ℕ) : ∀ a, (![0, 0, 0, 256 * (n % 32)] : Fin 4 → ℕ) a + S1x1x1x256.size a ≤ S1x1x1x8192.size a := by
  have := olane_inb (n % 32) (Nat.mod_lt _ (by omega))
  rwa [olane_eq _ (by have := Nat.mod_lt n (show 32 > 0 by omega); omega)] at this
theorem words_inb (n : ℕ) : ∀ a, (![0, 0, 256 * (n % 32)] : Fin 3 → ℕ) a + S1x1x256.size a ≤ S1x1x8192.size a := by
  have := Nat.mod_lt n (show 32 > 0 by omega)
  intro a; fin_cases a <;> simp [S1x1x256, S1x1x8192] <;> omega

/-- Rows `256 n … 256 n + 255` of an array of rows. -/
def tileR {e : EltTy} (X : Vec F S1x8192x128 e) (n : ℕ) : Vec F S1x256x128 e :=
  VecWindow.window X ![0, 256 * (n % 32), 0] S1x256x128.size (rows_inb n)
/-- Lanes `256 n … 256 n + 255` of a row of scales. -/
def tileL {e : EltTy} (X : Vec F S1x1x1x8192 e) (n : ℕ) : Vec F S1x1x1x256 e :=
  VecWindow.window X ![0, 0, 0, 256 * (n % 32)] S1x1x1x256.size (lanes_inb n)
/-- Entries `256 n … 256 n + 255` of the row of document starts. -/
def tileD {e : EltTy} (X : Vec F S1x1x8192 e) (n : ℕ) : Vec F S1x1x256 e :=
  VecWindow.window X ![0, 0, 256 * (n % 32)] S1x1x256.size (words_inb n)

/-- The word of the first row of query tile `t`. -/
def v2w (t : ℕ) : BitVec 32 := Scalar.muli (tw t) 256#32

/-- A score tile with the causal and document mask: key tile `n` against query tile `t`. -/
def msc (q : FVec F S256x128 .fp8e4m3) (K : Vec F S1x8192x128 .fp8e4m3) (KS : Vec F S1x1x1x8192 .f32) (d : Vec F S256x128 .i32)
    (t n : ℕ) : FVec F S256x256 .f32 :=
  k1_pay24 (k1_pay20 q (tileR K n) (tileL KS n)) (k1_pay21 (BitVec.ofNat 32 n)) (k1_pay22 d d) (k1_pay23 (BitVec.ofNat 32 n) (v2w t))

/-- The score tile of key tile `n`: masked except where no key of the tile can be hidden from the query tile. -/
def score (q : FVec F S256x128 .fp8e4m3) (K : Vec F S1x8192x128 .fp8e4m3) (KS : Vec F S1x1x1x8192 .f32) (d : Vec F S256x128 .i32)
    (t : ℕ) (l : BitVec 32) (n : ℕ) : FVec F S256x256 .f32 :=
  if jc t l ≤ n ∧ n < t then k1_pay14 q (tileR K n) (tileL KS n) else msc q K KS d t n

/-- A score tile as the slab the scratch holds it in. -/
def slab (s : FVec F S256x256 .f32) : FVec F S1x256x256 .f32 := shapeCast S1x256x256 s shapeCasts_S256x256_S1x256x256

/-- One step of the running maximum: the two halves of the score tile joined into it. -/
def mxStep (s : FVec F S256x256 .f32) (m : FVec F S256x128 .f32) : FVec F S256x128 .f32 :=
  shapeCast S256x128 (maximumf m (maximumf (extractStridedSlice S256x128 ![0, 0] s slices_S256x256_o0_0_S256x128)
    (extractStridedSlice S256x128 ![0, 128] s slices_S256x256_o0_128_S256x128))) shapeCasts_S256x128_S256x128

/-- The running maximum after `k` key tiles from tile `a`. -/
def mx (s : ℕ → FVec F S256x256 .f32) (a : ℕ) : ℕ → FVec F S256x128 .f32
  | 0 => k1_pay4 (F := F)
  | k + 1 => mxStep (s (a + k)) (mx s a k)

/-- The running sum after `k` key tiles from tile `a`. -/
def ls (s : ℕ → FVec F S256x256 .f32) (cs m : FVec F S256x128 .f32) (a : ℕ) : ℕ → FVec F S256x128 .f32
  | 0 => k1_pay5 (F := F)
  | k + 1 => k1_pay29 (slab (s (a + k))) cs m (ls s cs m a k)

/-- The running product with the values after `k` key tiles from tile `a`. -/
def ac (s : ℕ → FVec F S256x256 .f32) (cs m : FVec F S256x128 .f32) (V : Vec F S1x8192x128 .fp8e4m3) (a : ℕ) : ℕ → FVec F S256x128 .f32
  | 0 => k1_pay6 (F := F)
  | k + 1 => k1_pay30 (slab (s (a + k))) cs m (ac s cs m V a k) (tileR V (a + k))

/-- What one query tile comes to: the rows the kernel stores for query tile `t`, whose table words are `f` and `l`. -/
def outTile (Q K V : Vec F S1x8192x128 .fp8e4m3) (QS KS : Vec F S1x1x1x8192 .f32) (VS : Vec F S1x1x1x128 .f32)
    (DS : Vec F S1x1x8192 .i32) (t : ℕ) (f l : BitVec 32) : FVec F S1x256x128 .bf16 :=
  let s := score (k1_pay7 (tileR Q t)) K KS (k1_pay3 (F := F) (tileD DS t)) t l
  let cs := k1_pay2 (tileL QS t)
  let m := k1_pay27 cs (mx s (j0 f) (t + 1 - j0 f))
  k1_pay1 (ls s cs m (j0 f) (t + 1 - j0 f)) (ac s cs m V (j0 f) (t + 1 - j0 f)) VS

/-- The whole block of one head: query tile `t` at rows `256 t … 256 t + 255`. -/
def outBlk (Q K V : Vec F S1x8192x128 .fp8e4m3) (QS KS : Vec F S1x1x1x8192 .f32) (VS : Vec F S1x1x1x128 .f32)
    (DS : Vec F S1x1x8192 .i32) (f l : ℕ → BitVec 32) : Vec F S1x8192x128 .bf16 :=
  fun y => outTile Q K V QS KS VS DS ((y 1).val / 256) (f ((y 1).val / 256)) (l ((y 1).val / 256))
    (fun a => match a with
      | ⟨0, _⟩ => (0 : Fin 1)
      | ⟨1, _⟩ => (⟨(y 1).val % 256, Nat.mod_lt _ (by omega)⟩ : Fin 256)
      | ⟨2, _⟩ => (y 2 : Fin 128))

theorem pay9_eq (t : Fin k1_t1_loop.trips) (v2 f v54 l : BitVec 32) (q : FVec F S256x128 .fp8e4m3) (k : Fin (k1_t2_loop t f l).trips)
    (kt : Vec F S1x256x128 .fp8e4m3) (ks : Vec F S1x1x1x256 .f32) (d d' : Vec F S256x128 .i32) :
    k1_pay9 t v2 f v54 l q k kt ks d d'
      = slab (k1_pay24 (k1_pay20 q kt ks) (k1_pay21 (Scf.iv v54 1#32 k)) (k1_pay22 d d') (k1_pay23 (Scf.iv v54 1#32 k) v2)) := rfl
theorem pay10_eq (t : Fin k1_t1_loop.trips) (v2 f v54 l : BitVec 32) (q : FVec F S256x128 .fp8e4m3) (k : Fin (k1_t2_loop t f l).trips)
    (kt : Vec F S1x256x128 .fp8e4m3) (ks : Vec F S1x1x1x256 .f32) (d d' : Vec F S256x128 .i32) (m : Vec F S256x128 .f32) :
    k1_pay10 t v2 f v54 l q k kt ks d d' m
      = mxStep (k1_pay24 (k1_pay20 q kt ks) (k1_pay21 (Scf.iv v54 1#32 k)) (k1_pay22 d d') (k1_pay23 (Scf.iv v54 1#32 k) v2)) m := rfl
theorem pay15_eq (q : FVec F S256x128 .fp8e4m3) (kt : Vec F S1x256x128 .fp8e4m3) (ks : Vec F S1x1x1x256 .f32) :
    k1_pay15 q kt ks = slab (k1_pay14 q kt ks) := rfl
theorem pay16_eq (q : FVec F S256x128 .fp8e4m3) (kt : Vec F S1x256x128 .fp8e4m3) (ks : Vec F S1x1x1x256 .f32) (m : Vec F S256x128 .f32) :
    k1_pay16 q kt ks m = mxStep (k1_pay14 q kt ks) m := rfl
theorem pay25_eq (v105 : FVec F S256x256 .f32) (v108 v114 : IVec S256x256 32) (v115 : IVec S256x256 1) :
    k1_pay25 (F := F) v105 v108 v114 v115 = slab (k1_pay24 v105 v108 v114 v115) := rfl
theorem pay26_eq (v105 : FVec F S256x256 .f32) (v108 v114 : IVec S256x256 32) (v115 : IVec S256x256 1) (m : Vec F S256x128 .f32) :
    k1_pay26 (F := F) v105 v108 v114 v115 m = mxStep (k1_pay24 v105 v108 v114 v115) m := rfl

/-- A load of a tile of rows, at the tile's word. -/
theorem load_rows [∀ e, Nonempty (Elt F e)] {e : EltTy} (M : Memref sig .tc .vmem S1x8192x128 e) (X : Vec F S1x8192x128 e) (n : ℕ) (hn : n < 32)
    {off : Fin 3 → ℕ} (hoff : off = orow (BitVec.ofNat 32 n)) (inb : ∀ a, off a + S1x256x128.size a ≤ S1x8192x128.size a) :
    M.view.readAt (Elt F) (Rect.unit (s := S1x8192x128) off S1x256x128.size inb).toLoadRect (M.view.rep X) = tileR X n :=
  View.readAt_rep_unit M.view X inb (by rw [hoff, orow_eq n (by omega), Nat.mod_eq_of_lt hn]) (rows_inb n)
/-- A load of a tile of lanes, at the tile's word. -/
theorem load_lanes [∀ e, Nonempty (Elt F e)] {e : EltTy} (M : Memref sig .tc .vmem S1x1x1x8192 e) (X : Vec F S1x1x1x8192 e) (n : ℕ) (hn : n < 32)
    {off : Fin 4 → ℕ} (hoff : off = olane (BitVec.ofNat 32 n)) (inb : ∀ a, off a + S1x1x1x256.size a ≤ S1x1x1x8192.size a) :
    M.view.readAt (Elt F) (Rect.unit (s := S1x1x1x8192) off S1x1x1x256.size inb).toLoadRect (M.view.rep X) = tileL X n :=
  View.readAt_rep_unit M.view X inb (by rw [hoff, olane_eq n (by omega), Nat.mod_eq_of_lt hn]) (lanes_inb n)

/-- What the score scratch holds: the score tiles of the key tiles in `[a, b)`, whatever lies elsewhere. -/
def Holds (S : Vec F S32x256x256 .f32) (s : ℕ → FVec F S256x256 .f32) (a b : ℕ) : Prop :=
  ∀ n (hn : n < 32), a ≤ n → n < b → VecWindow.window S ![n, 0, 0] S1x256x256.size (by
    have := oslab_inb n hn; rwa [oslab_eq _ (by omega)] at this) = slab (s n)

theorem Holds.empty (S : Vec F S32x256x256 .f32) (s : ℕ → FVec F S256x256 .f32) (a : ℕ) : Holds S s a a :=
  fun n _ h h' => absurd h' (by omega)

/-- Storing the score tile of key tile `b` extends what the scratch holds by it. -/
theorem Holds.put {S : Vec F S32x256x256 .f32} {s : ℕ → FVec F S256x256 .f32} {a b : ℕ} (h : Holds S s a b) :
    Holds (VecWindow.put S ![b, 0, 0] S1x256x256.size (slab (s b))) s a (b + 1) := by
  intro n hn h1 h2
  by_cases e : n = b
  · subst e; exact VecWindow.window_put_same ..
  · rw [VecWindow.window_put_of_disjoint S _ _ _ _ _ _ (0 : Fin 3) (Or.inl (by show n + 1 ≤ b; omega))]
    exact h n hn h1 (by omega)

end Cert.KernelIdeal

end
-- ==== Proof.Ideal.Trips.lean ====
/-
  One trip of each loop of the attention kernel over key tiles, at a symbolic trip: the two score loops (with and without
  the mask) and the loop that contracts the probabilities with the values. Each is stated as the loop's invariant: the
  scratch holds the score tiles so far, and the accumulators hold their values as plain functions of the arrays.
-/
module

public import proofs.«01_k».proof.Proof.Ideal.Fun
public import Idealize.ShloMosaic.Lib.Exec
public import Idealize.ShloMosaic.Lib.Tactic
public import Idealize.ShloMosaic.Lib.Pipeline.Kit

@[expose] public section

set_option maxRecDepth 16384
set_option maxHeartbeats 4000000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

/-- The resources of a run: one device's memory under the frame kit's algebra. -/
local notation "𝕄G" => MT nD τ sig Unit (Elt F) ℕ (UR sig nD τ) ℕ

variable (𝒱 : Variants) (c : Dev nD) (bd : Option 𝒱.V) (E : Set ℕ)
variable (i : grid1.Coords) (arg2 : Memref sig .tc .smem S8x32 .i32) (harg2 : arg2.IsWhole) (arg3 : Memref sig .tc .smem S8x32 .i32) (harg3 : arg3.IsWhole) (arg4 : Memref sig .tc .vmem S1x8192x128 .fp8e4m3) (harg4 : arg4.IsWhole) (arg5 : Memref sig .tc .vmem S1x8192x128 .fp8e4m3) (harg5 : arg5.IsWhole)
  (arg6 : Memref sig .tc .vmem S1x8192x128 .fp8e4m3) (harg6 : arg6.IsWhole) (arg7 : Memref sig .tc .vmem S1x1x1x8192 .f32) (harg7 : arg7.IsWhole) (arg8 : Memref sig .tc .vmem S1x1x1x8192 .f32) (harg8 : arg8.IsWhole) (arg9 : Memref sig .tc .vmem S1x1x1x128 .f32) (harg9 : arg9.IsWhole)
  (arg10 : Memref sig .tc .vmem S1x1x8192 .i32) (harg10 : arg10.IsWhole) (arg11 : Memref sig .tc .vmem S1x8192x128 .bf16) (harg11 : arg11.IsWhole) (arg12 : Memref sig .tc .vmem S32x256x256 .f32) (harg12 : arg12.IsWhole) (arg13 : Memref sig .tc .vmem S256x128 .f32) (harg13 : arg13.IsWhole)
  (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .i32) (harg17 : arg17.IsWhole)

/-- A whole buffer held at the values `X`. -/
abbrev at_ {sp : Space} {s : Shape} {e : EltTy} (m : Memref sig .tc sp s e) (X : s.Idx → Elt F e) : sProp 𝕄G :=
  m.view.loc (c : Thread nD τ) ↦[m.view.set]{fullShare} m.view.rep X

/-- A whole buffer held at some contents whose values satisfy `P`. -/
abbrev some_ {sp : Space} {s : Shape} {e : EltTy} (m : Memref sig .tc sp s e) (P : (s.Idx → Elt F e) → Prop) : sProp 𝕄G :=
  iprop(∃ X : s.Idx → Elt F e, at_ c m X ∗ ⌜P X⌝)

/-- The invariant of the two score loops: keys, key scales and document starts unchanged, the scratch holding the
    score tiles `s` of `[a, b + k)`, the running maximum that of these tiles. -/
abbrev scoreInv (K : Vec F S1x8192x128 .fp8e4m3) (KS : Vec F S1x1x1x8192 .f32) (d : Vec F S256x128 .i32)
    (s : ℕ → FVec F S256x256 .f32) (a b : ℕ) (k : ℕ) : sProp 𝕄G :=
  iprop(at_ c arg5 K ∗ at_ c arg8 KS ∗ at_ c arg17 d ∗ some_ c arg12 (fun S => Holds S s a (b + k)) ∗ at_ c arg13 (mx s a (b + k - a)))

/-- The invariant of the contraction loop: the scratch, the scale column and the shifted maximum unchanged, the running
    sum and the running product those of the first `k` tiles from `a`. -/
abbrev sumInv (V : Vec F S1x8192x128 .fp8e4m3) (S : Vec F S32x256x256 .f32) (s : ℕ → FVec F S256x256 .f32) (cs m : FVec F S256x128 .f32)
    (a : ℕ) (k : ℕ) : sProp 𝕄G :=
  iprop(at_ c arg6 V ∗ at_ c arg12 S ∗ at_ c arg16 cs ∗ at_ c arg13 m ∗ at_ c arg14 (ls s cs m a k) ∗ at_ c arg15 (ac s cs m V a k))

/-- A whole store leaves the stored values. -/
theorem at_store {sp : Space} {s : Shape} {e : EltTy} (m : Memref sig .tc sp s e) (f : m.view.ty.Contents (Elt F)) {off : Fin s.rank → ℕ}
    (inb : ∀ a, off a + s.size a ≤ s.size a) (w : (Rect.unit off s.size inb).shape.Idx → Elt F e) (L : List (View.Piece (Elt F) s e))
    (X : s.Idx → Elt F e) (h : w = X) :
    (m.view.loc (c : Thread nD τ) ↦[m.view.set]{fullShare} m.view.writes (Elt F) f (⟨Rect.unit off s.size inb, w⟩ :: L) : sProp 𝕄G)
    ⊢ at_ c m X :=
  pointsTo_rep_of_read (c : Thread nD τ) m (m.view.writes (Elt F) f (⟨Rect.unit off s.size inb, w⟩ :: L)) fullShare X ((View.read_writes_full m.view f inb w L).trans h)

/-- A store of the score tile of key tile `b` into the scratch. -/
theorem some_store (m : Memref sig .tc .vmem S32x256x256 .f32) (S : Vec F S32x256x256 .f32) (s : ℕ → FVec F S256x256 .f32) (a b : ℕ)
    (hb : b < 32) (hS : Holds S s a b) {off : Fin 3 → ℕ} (hoff : off = oslab (BitVec.ofNat 32 b))
    (inb : ∀ a, off a + S1x256x256.size a ≤ S32x256x256.size a) (w : FVec F S1x256x256 .f32) (hw : w = slab (s b)) :
    (m.view.loc (c : Thread nD τ) ↦[m.view.set]{fullShare} m.view.writes (Elt F) (m.view.rep S)
      [⟨Rect.unit (s := S32x256x256) off S1x256x256.size inb, w⟩] : sProp 𝕄G)
    ⊢ some_ c m (fun S => Holds S s a (b + 1)) := by
  subst hw
  have e := View.read_writes_rep_unit (Val := Elt F) m.view S inb (slab (s b)) (hoff.trans (oslab_eq b (by omega)))
  iintro H
  iexists (VecWindow.put S ![b, 0, 0] S1x256x256.size (slab (s b)))
  isplitl [H]
  · iapply pointsTo_rep_of_read (c : Thread nD τ) m (m.view.writes (Elt F) (m.view.rep S)
      [⟨Rect.unit (s := S32x256x256) off S1x256x256.size inb, slab (s b)⟩]) fullShare _ e
    iexact H
  · ipureintro
    exact hS.put

section Two
variable (t : Fin k1_t1_loop.trips) (f l : BitVec 32) (hg : Good t f l) (hw1 : k1_chk1 t f l) (hw2 : k1_chk2 t f)
variable (q : FVec F S256x128 .fp8e4m3) (v63 : BitVec 32) (v74 : BitVec 1) (v75 z : BitVec 32)
variable (Q K V : Vec F S1x8192x128 .fp8e4m3) (KS : Vec F S1x1x1x8192 .f32) (d : Vec F S256x128 .i32)

include hg in
/-- One trip of the score loop with the mask. -/
theorem trip2 (k : Fin (k1_t2_loop t f l).trips) (acc : BitVec 32) :
    scoreInv (F := F) c arg5 arg8 arg12 arg13 arg17 K KS d (score q K KS d t l) (j0 f) (j0 f) k
    ⊢ wp frame (wpE (defs₀ (F := F)) 𝒱 (c : Thread nD τ) bd) E
      (k1_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t (tw t) (v2w t) f (fl f) l hw1 q v63 v74 v75 z k acc)
      (fun _ => scoreInv (F := F) c arg5 arg8 arg12 arg13 arg17 K KS d (score q K KS d t l) (j0 f) (j0 f) (k.val + 1)) := by
  have hk := tile2_lt hg k
  have ht := hg.ht
  have hjc := hg.jc_le
  have hiv := iv2 hg k
  have hlt : j0 f + k.val < 32 := by omega
  have esc : score q K KS d t l (j0 f + k.val) = msc q K KS d t (j0 f + k.val) := if_neg (by omega)
  have e5 := fun inb => load_rows (F := F) arg5 K (j0 f + k.val) hlt ((off5_eq t f l k).trans (by rw [hiv])) inb
  have e8 := fun inb => load_lanes (F := F) arg8 KS (j0 f + k.val) hlt ((off6_eq t f l k).trans (by rw [hiv])) inb
  have e17 : ∀ X inb, View.readAt (Elt F) arg17.view (Rect.unit (s := S256x128) ![0, 0] S256x128.size inb).toLoadRect (arg17.view.rep X) = X := fun X inb => View.readAt_rep_full _ _ _
  have e13 : ∀ X inb, View.readAt (Elt F) arg13.view (Rect.unit (s := S256x128) ![0, 0] S256x128.size inb).toLoadRect (arg13.view.rep X) = X := fun X inb => View.readAt_rep_full _ _ _
  have hw : k1_pay9 (F := F) t (v2w t) f (fl f) l q k (tileR K (j0 f + k.val)) (tileL KS (j0 f + k.val)) d d
      = slab (score q K KS d t l (j0 f + k.val)) := by
    rw [pay9_eq, hiv, esc, msc]
  have hm : k1_pay10 (F := F) t (v2w t) f (fl f) l q k (tileR K (j0 f + k.val)) (tileL KS (j0 f + k.val)) d d
      (mx (score q K KS d t l) (j0 f) (j0 f + k.val - j0 f)) = mx (score q K KS d t l) (j0 f) (j0 f + (k.val + 1) - j0 f) := by
    rw [show j0 f + (k.val + 1) - j0 f = k.val + 1 by omega, show j0 f + k.val - j0 f = k.val by omega, pay10_eq, hiv, mx, esc, msc]
  unfold k1_t2_body
  iintro ⟨H5, H8, H17, ⟨%S, H12, %hS⟩, H13⟩
  sl_exec
  sl_step
  isplitl [H5]; · iexact H5
  isplitl [H8]; · iexact H8
  isplitl [H17]; · iexact H17
  isplitl [H12]
  · rw [show j0 f + (k.val + 1) = j0 f + k.val + 1 by omega, hw]
    iapply some_store c arg12 S _ (j0 f) (j0 f + k.val) hlt hS ((off7_eq t f l k).trans (by rw [hiv]))
      (w := slab (score q K KS d t l (j0 f + k.val))) (hw := rfl)
    iexact H12
  · rw [hm]
    iapply at_store c arg13 (w := mx (score q K KS d t l) (j0 f) (j0 f + (k.val + 1) - j0 f)) (h := rfl)
    iexact H13

include hg in
/-- One trip of the score loop without the mask. -/
theorem trip4 (k : Fin (k1_t4_loop t l).trips) (acc : BitVec 32) :
    scoreInv (F := F) c arg5 arg8 arg12 arg13 arg17 K KS d (score q K KS d t l) (j0 f) (jc t l) k
    ⊢ wp frame (wpE (defs₀ (F := F)) 𝒱 (c : Thread nD τ) bd) E
      (k1_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t (tw t) (v2w t) f (fl f) l hw1 q v63 v74 v75 z k acc)
      (fun _ => scoreInv (F := F) c arg5 arg8 arg12 arg13 arg17 K KS d (score q K KS d t l) (j0 f) (jc t l) (k.val + 1)) := by
  have hk := tile4_lt hg k
  have ht := hg.ht
  have hjc := hg.jc_le
  have hj := hg.j0_le_jc
  have hiv := iv4 hg k
  have hlt : jc t l + k.val < 32 := by omega
  have esc : score q K KS d t l (jc t l + k.val) = k1_pay14 q (tileR K (jc t l + k.val)) (tileL KS (jc t l + k.val)) :=
    if_pos (by omega)
  have e5 := fun inb => load_rows (F := F) arg5 K (jc t l + k.val) hlt ((off11_eq t l k).trans (by rw [hiv])) inb
  have e8 := fun inb => load_lanes (F := F) arg8 KS (jc t l + k.val) hlt ((off12_eq t l k).trans (by rw [hiv])) inb
  have e17 : ∀ X inb, View.readAt (Elt F) arg17.view (Rect.unit (s := S256x128) ![0, 0] S256x128.size inb).toLoadRect (arg17.view.rep X) = X := fun X inb => View.readAt_rep_full _ _ _
  have e13 : ∀ X inb, View.readAt (Elt F) arg13.view (Rect.unit (s := S256x128) ![0, 0] S256x128.size inb).toLoadRect (arg13.view.rep X) = X := fun X inb => View.readAt_rep_full _ _ _
  have hw : k1_pay15 (F := F) q (tileR K (jc t l + k.val)) (tileL KS (jc t l + k.val)) = slab (score q K KS d t l (jc t l + k.val)) := by
    rw [pay15_eq, esc]
  have hm : k1_pay16 (F := F) q (tileR K (jc t l + k.val)) (tileL KS (jc t l + k.val))
      (mx (score q K KS d t l) (j0 f) (jc t l + k.val - j0 f)) = mx (score q K KS d t l) (j0 f) (jc t l + (k.val + 1) - j0 f) := by
    rw [show jc t l + (k.val + 1) - j0 f = (jc t l + k.val - j0 f) + 1 by omega, pay16_eq, mx,
      show j0 f + (jc t l + k.val - j0 f) = jc t l + k.val by omega, esc]
  unfold k1_t4_body
  iintro ⟨H5, H8, H17, ⟨%S, H12, %hS⟩, H13⟩
  sl_exec
  sl_step
  isplitl [H5]; · iexact H5
  isplitl [H8]; · iexact H8
  isplitl [H17]; · iexact H17
  isplitl [H12]
  · rw [show jc t l + (k.val + 1) = jc t l + k.val + 1 by omega, hw]
    iapply some_store c arg12 S _ (j0 f) (jc t l + k.val) hlt hS ((off13_eq t l k).trans (by rw [hiv]))
      (w := slab (score q K KS d t l (jc t l + k.val))) (hw := rfl)
    iexact H12
  · rw [hm]
    iapply at_store c arg13 (w := mx (score q K KS d t l) (j0 f) (jc t l + (k.val + 1) - j0 f)) (h := rfl)
    iexact H13

include hg in
/-- One trip of the contraction loop. -/
theorem trip6 (S : Vec F S32x256x256 .f32) (s : ℕ → FVec F S256x256 .f32) (hS : Holds S s (j0 f) (t.val + 1)) (cs m : FVec F S256x128 .f32)
    (v105 : FVec F S256x256 .f32) (v108 v114 : IVec S256x256 32) (v115 : IVec S256x256 1)
    (k : Fin (k1_t6_loop t f).trips) (acc : BitVec 32) :
    sumInv (F := F) c arg6 arg12 arg13 arg14 arg15 arg16 V S s cs m (j0 f) k
    ⊢ wp frame (wpE (defs₀ (F := F)) 𝒱 (c : Thread nD τ) bd) E
      (k1_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t (tw t) f hw2 (fl f) v105 v108 v114 v115 k acc)
      (fun _ => sumInv (F := F) c arg6 arg12 arg13 arg14 arg15 arg16 V S s cs m (j0 f) (k.val + 1)) := by
  have hk := tile6_lt hg k
  have ht := hg.ht
  have hiv := iv2 hg k
  have hlt : j0 f + k.val < 32 := by omega
  have e6 := fun inb => load_rows (F := F) arg6 V (j0 f + k.val) hlt ((off21_eq t f k).trans (by rw [hiv])) inb
  have e12 : ∀ inb, arg12.view.readAt (Elt F) (Rect.unit (s := S32x256x256) (k1_off20 t f k) S1x256x256.size inb).toLoadRect (arg12.view.rep S)
      = slab (s (j0 f + k.val)) := fun inb => by
    have hb := oslab_inb (j0 f + k.val) hlt
    rw [oslab_eq _ (by omega)] at hb
    rw [View.readAt_rep_unit arg12.view S inb ((off20_eq t f k).trans (by rw [hiv]; exact oslab_eq _ (by omega))) hb]
    exact hS _ hlt (by omega) (by omega)
  have e13 : ∀ X inb, View.readAt (Elt F) arg13.view (Rect.unit (s := S256x128) ![0, 0] S256x128.size inb).toLoadRect (arg13.view.rep X) = X := fun X inb => View.readAt_rep_full _ _ _
  have e14 : ∀ X inb, View.readAt (Elt F) arg14.view (Rect.unit (s := S256x128) ![0, 0] S256x128.size inb).toLoadRect (arg14.view.rep X) = X := fun X inb => View.readAt_rep_full _ _ _
  have e15 : ∀ X inb, View.readAt (Elt F) arg15.view (Rect.unit (s := S256x128) ![0, 0] S256x128.size inb).toLoadRect (arg15.view.rep X) = X := fun X inb => View.readAt_rep_full _ _ _
  have e16 : ∀ X inb, View.readAt (Elt F) arg16.view (Rect.unit (s := S256x128) ![0, 0] S256x128.size inb).toLoadRect (arg16.view.rep X) = X := fun X inb => View.readAt_rep_full _ _ _
  have hl : k1_pay29 (F := F) (slab (s (j0 f + k.val))) cs m (ls s cs m (j0 f) k.val) = ls s cs m (j0 f) (k.val + 1) := by rw [ls]
  have ha : k1_pay30 (F := F) (slab (s (j0 f + k.val))) cs m (ac s cs m V (j0 f) k.val) (tileR V (j0 f + k.val))
      = ac s cs m V (j0 f) (k.val + 1) := by rw [ac]
  unfold k1_t6_body
  iintro ⟨H6, H12, H16, H13, H14, H15⟩
  sl_exec
  sl_step
  isplitl [H6]; · iexact H6
  isplitl [H12]; · iexact H12
  isplitl [H16]; · iexact H16
  isplitl [H13]; · iexact H13
  isplitl [H14]
  · rw [hl]
    iapply at_store c arg14 (w := ls s cs m (j0 f) (k.val + 1)) (h := rfl)
    iexact H14
  · rw [ha]
    iapply at_store c arg15 (w := ac s cs m V (j0 f) (k.val + 1)) (h := rfl)
    iexact H15

end Two

end Cert.KernelIdeal

end
-- ==== Proof.Ideal.DocStartRun.lean ====
/-
  The first kernel's run: it reads the segment ids and stores each row's document start.
-/
module

public import proofs.«01_k».proof.Proof.Ideal.DocStart
public import proofs.«01_k».proof.Proof.Ideal.Trips
public import Idealize.ShloMosaic.Lib.Exec
public import Idealize.ShloMosaic.Lib.Tactic
public import Idealize.ShloMosaic.Lib.Pipeline.Kit

@[expose] public section

set_option maxRecDepth 16384
set_option maxHeartbeats 400000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

/-- The resources of a run: one device's memory under the frame kit's algebra. -/
local notation "𝕄G" => MT nD τ sig Unit (Elt F) ℕ (UR sig nD τ) ℕ

variable (𝒱 : Variants) (c : Dev nD) (bd : Option 𝒱.V) (E : Set ℕ)
variable (arg0 : Memref sig .tc .vmem S8x8192 .i32) (harg0 : arg0.IsWhole) (arg1 : Memref sig .tc .vmem S8x8192 .i32) (harg1 : arg1.IsWhole)

/-- From the segment ids `v0` and a result buffer at anything, the kernel leaves the ids as they were and the result at
    the document starts of `v0`. -/
theorem docStartRun (v0 X : Vec F S8x8192 .i32) :
   iprop(at_ (F := F) c arg0 v0 ∗ at_ (F := F) c arg1 X)
   ⊢ wp frame (wpE (defs₀ (F := F)) 𝒱 (c : Thread nD τ) bd) E (cc0_doc_start (F := F) arg0 harg0 arg1 harg1)
     (fun _ => iprop(at_ (F := F) c arg0 v0 ∗ at_ (F := F) c arg1 (starts v0))) := by
  rw [cc0_doc_start_eq_skeleton]
  unfold cc0_doc_start_skel
  rw [k0_part1_eq_skeleton, k0_part2_eq_skeleton]
  unfold k0_part1_skel k0_part2_skel
  simp only [bind_assoc, pure_bind]
  have e0 : ∀ X inb, View.readAt (Elt F) arg0.view (Rect.unit (s := S8x8192) ![0, 0] S8x8192.size inb).toLoadRect (arg0.view.rep X) = X := fun X inb => View.readAt_rep_full _ _ _
  iintro ⟨H0, H1⟩
  sl_exec
  sl_step
  isplitl [H0]
  · iexact H0
  iapply at_store (h := pay_starts v0)
  iexact H1

end Cert.KernelIdeal

end
-- ==== Proof.Ideal.Tile.lean ====
/-
  One query tile of the attention kernel: the two score loops, the masked diagonal tile, the contraction loop and the
  store of the result rows, run through once.
-/
module

public import proofs.«01_k».proof.Proof.Ideal.Trips
public import Idealize.ShloMosaic.Lib.Exec
public import Idealize.ShloMosaic.Lib.Tactic
public import Idealize.ShloMosaic.Lib.Pipeline.Kit

@[expose] public section

set_option maxRecDepth 16384
set_option maxHeartbeats 400000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

/-- The resources of a run: one device's memory under the frame kit's algebra. -/
local notation "𝕄G" => MT nD τ sig Unit (Elt F) ℕ (UR sig nD τ) ℕ

/-- The place of query tile `t`'s word in a table. -/
def wIx (i : grid1.Coords) (t : ℕ) : S8x32.Idx := fun a => match a with
  | ⟨0, _⟩ => (i 0 : Fin 8)
  | ⟨1, _⟩ => (⟨t % 32, Nat.mod_lt _ (by omega)⟩ : Fin 32)

theorem read_word [∀ e, Nonempty (Elt F e)] {sp : Space} (M : Memref sig .tc sp S8x32 .i32) (X : Vec F S8x32 .i32) (i : grid1.Coords) (t : Fin k1_t1_loop.trips)
    (inb : ∀ a, k1_off3 i t a + S1x1.size a ≤ S8x32.size a) (y) :
    M.view.readAt (Elt F) (Rect.unit (s := S8x32) (k1_off3 i t) S1x1.size inb).toLoadRect (M.view.rep X) y = X (wIx i t) := by
  rw [View.readAt_rep]
  refine congrArg X (funext fun a => Fin.ext ?_)
  have ht : t.val < 32 := lt_of_lt_of_eq t.isLt trips1
  have hi : (i 0).val < 8 := (i 0).isLt
  have hy : (y a).val < S1x1.size a := (y a).isLt
  show k1_off3 i t a + 1 * (y a).val = _
  have e : k1_off3 i t = ![(BitVec.ofNat 32 (i 0).val).toNat, (tw t).toNat] := rfl
  have e' : k1_off3 i t a = (![(i 0).val, t.val] : Fin 2 → ℕ) a := by
    rw [e, tw_eq]; fin_cases a <;> simp <;> omega
  refine (congrArg (· + 1 * (y a).val) e').trans ?_
  fin_cases a
  · have : (y 0).val < 1 := hy
    simp [wIx]; omega
  · have : (y 1).val < 1 := hy
    simp [wIx]; omega

/-- A store of one tile of rows. -/
theorem row_store (c : Dev nD) (m : Memref sig .tc .vmem S1x8192x128 .bf16) (O : Vec F S1x8192x128 .bf16) (n : ℕ) (hn : n < 32)
    {off : Fin 3 → ℕ} (hoff : off = orow (BitVec.ofNat 32 n))
    (inb : ∀ a, off a + S1x256x128.size a ≤ S1x8192x128.size a) (w : FVec F S1x256x128 .bf16) :
    (m.view.loc (c : Thread nD τ) ↦[m.view.set]{fullShare} m.view.writes (Elt F) (m.view.rep O)
      [⟨Rect.unit (s := S1x8192x128) off S1x256x128.size inb, w⟩] : sProp 𝕄G)
    ⊢ at_ c m (VecWindow.put O ![0, 256 * n, 0] S1x256x128.size w) :=
  pointsTo_rep_of_read (c : Thread nD τ) m (m.view.writes (Elt F) (m.view.rep O)
      [⟨Rect.unit (s := S1x8192x128) off S1x256x128.size inb, w⟩]) fullShare _
    (View.read_writes_rep_unit (Val := Elt F) m.view O inb w (hoff.trans (orow_eq n (by omega))))

variable (𝒱 : Variants) (c : Dev nD) (bd : Option 𝒱.V) (E : Set ℕ)
variable (i : grid1.Coords) (arg2 : Memref sig .tc .smem S8x32 .i32) (harg2 : arg2.IsWhole) (arg3 : Memref sig .tc .smem S8x32 .i32) (harg3 : arg3.IsWhole) (arg4 : Memref sig .tc .vmem S1x8192x128 .fp8e4m3) (harg4 : arg4.IsWhole) (arg5 : Memref sig .tc .vmem S1x8192x128 .fp8e4m3) (harg5 : arg5.IsWhole)
  (arg6 : Memref sig .tc .vmem S1x8192x128 .fp8e4m3) (harg6 : arg6.IsWhole) (arg7 : Memref sig .tc .vmem S1x1x1x8192 .f32) (harg7 : arg7.IsWhole) (arg8 : Memref sig .tc .vmem S1x1x1x8192 .f32) (harg8 : arg8.IsWhole) (arg9 : Memref sig .tc .vmem S1x1x1x128 .f32) (harg9 : arg9.IsWhole)
  (arg10 : Memref sig .tc .vmem S1x1x8192 .i32) (harg10 : arg10.IsWhole) (arg11 : Memref sig .tc .vmem S1x8192x128 .bf16) (harg11 : arg11.IsWhole) (arg12 : Memref sig .tc .vmem S32x256x256 .f32) (harg12 : arg12.IsWhole) (arg13 : Memref sig .tc .vmem S256x128 .f32) (harg13 : arg13.IsWhole)
  (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .i32) (harg17 : arg17.IsWhole)

variable (t : Fin k1_t1_loop.trips) (TF TL : Vec F S8x32 .i32) (Q K V : Vec F S1x8192x128 .fp8e4m3)
  (QS KS : Vec F S1x1x1x8192 .f32) (VS : Vec F S1x1x1x128 .f32) (DS : Vec F S1x1x8192 .i32)

/-- What a head's run holds but for its result and the scratch. -/
abbrev ins (TF TL : Vec F S8x32 .i32) (Q K V : Vec F S1x8192x128 .fp8e4m3)
    (QS KS : Vec F S1x1x1x8192 .f32) (VS : Vec F S1x1x1x128 .f32) (DS : Vec F S1x1x8192 .i32) : sProp 𝕄G :=
  iprop(at_ c arg2 TF ∗ at_ c arg3 TL ∗ at_ c arg4 Q ∗ at_ c arg5 K ∗ at_ c arg6 V ∗ at_ c arg7 QS ∗ at_ c arg8 KS ∗ at_ c arg9 VS ∗ at_ c arg10 DS)

/-- The scratch, at whatever contents. -/
abbrev scr : sProp 𝕄G :=
  iprop(some_ (F := F) c arg12 (fun _ => True) ∗ some_ (F := F) c arg13 (fun _ => True) ∗ some_ (F := F) c arg14 (fun _ => True)
    ∗ some_ (F := F) c arg15 (fun _ => True) ∗ some_ (F := F) c arg16 (fun _ => True) ∗ some_ (F := F) c arg17 (fun _ => True))

/-- One query tile. -/
theorem trip1 (a0 : BitVec 32) (hg : Good t (TF (wIx i t)) (TL (wIx i t))) (O : Vec F S1x8192x128 .bf16) :
   iprop(ins (F := F) c arg2 arg3 arg4 arg5 arg6 arg7 arg8 arg9 arg10 TF TL Q K V QS KS VS DS ∗ at_ c arg11 O
     ∗ scr (F := F) c arg12 arg13 arg14 arg15 arg16 arg17)
   ⊢ wp frame (wpE (defs₀ (F := F)) 𝒱 (c : Thread nD τ) bd) E (k1_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 a0 t ⟨⟩)
     (fun _ => iprop(ins (F := F) c arg2 arg3 arg4 arg5 arg6 arg7 arg8 arg9 arg10 TF TL Q K V QS KS VS DS
       ∗ at_ c arg11 (VecWindow.put O ![0, 256 * t.val, 0] S1x256x128.size (outTile Q K V QS KS VS DS t (TF (wIx i t)) (TL (wIx i t))))
       ∗ scr (F := F) c arg12 arg13 arg14 arg15 arg16 arg17)) := by
  generalize hf : TF (wIx i t) = f at *
  generalize hl : TL (wIx i t) = l at *
  have h2 := chk2 hg
  have h1 := chk1 hg
  have ht := hg.ht
  have e4 := fun inb => load_rows (F := F) arg4 Q t.val ht ((off4_eq t).trans (by rw [tw_eq])) inb
  have e5 := fun inb => load_rows (F := F) arg5 K t.val ht ((off17_eq t).trans (by rw [tw_eq])) inb
  have e8 := fun inb => load_lanes (F := F) arg8 KS t.val ht ((off18_eq t).trans (by rw [tw_eq])) inb
  have e7 := fun inb => load_lanes (F := F) arg7 QS t.val ht ((off1_eq t).trans (by rw [tw_eq])) inb
  have e13 : ∀ X inb, View.readAt (Elt F) arg13.view (Rect.unit (s := S256x128) ![0, 0] S256x128.size inb).toLoadRect (arg13.view.rep X) = X := fun X inb => View.readAt_rep_full _ _ _
  have e14 : ∀ X inb, View.readAt (Elt F) arg14.view (Rect.unit (s := S256x128) ![0, 0] S256x128.size inb).toLoadRect (arg14.view.rep X) = X := fun X inb => View.readAt_rep_full _ _ _
  have e15 : ∀ X inb, View.readAt (Elt F) arg15.view (Rect.unit (s := S256x128) ![0, 0] S256x128.size inb).toLoadRect (arg15.view.rep X) = X := fun X inb => View.readAt_rep_full _ _ _
  have e16 : ∀ X inb, View.readAt (Elt F) arg16.view (Rect.unit (s := S256x128) ![0, 0] S256x128.size inb).toLoadRect (arg16.view.rep X) = X := fun X inb => View.readAt_rep_full _ _ _
  have e17 : ∀ X inb, View.readAt (Elt F) arg17.view (Rect.unit (s := S256x128) ![0, 0] S256x128.size inb).toLoadRect (arg17.view.rep X) = X := fun X inb => View.readAt_rep_full _ _ _
  have e9 : ∀ X inb, View.readAt (Elt F) arg9.view (Rect.unit (s := S1x1x1x128) ![0, 0, 0, 0] S1x1x1x128.size inb).toLoadRect (arg9.view.rep X) = X := fun X inb => View.readAt_rep_full _ _ _
  have e10 : ∀ inb, arg10.view.readAt (Elt F) (Rect.unit (s := S1x1x8192) (k1_off2 t) S1x1x256.size inb).toLoadRect (arg10.view.rep DS)
      = tileD DS t.val := fun inb => View.readAt_rep_unit arg10.view DS inb (by
        rw [show k1_off2 t = ![0, 0, (Scalar.indexCast (Scalar.muli (tw t) 256#32)).toNat] from rfl, tw_eq,
          show Scalar.indexCast (Scalar.muli (BitVec.ofNat 32 t.val) 256#32) = Scalar.muli (BitVec.ofNat 32 t.val) 256#32 from rfl,
          row_word _ (by omega), Nat.mod_eq_of_lt ht]) (words_inb t.val)
  have htr3 := trips3 hg
  have htr5 := trips5 hg
  have htr7 := trips7 hg
  unfold k1_t1_body
  rw [k1_part1_eq_skeleton, k1_part2_eq_skeleton, k1_part3_eq_skeleton, k1_part4_eq_skeleton]
  unfold k1_part1_skel k1_part2_skel k1_part3_skel k1_part4_skel
  iintro ⟨⟨H2, H3, H4, H5, H6, H7, H8, H9, H10⟩, H11, ⟨%S12, H12, %u12⟩, ⟨%S13, H13, %u13⟩, ⟨%S14, H14, %u14⟩, ⟨%S15, H15, %u15⟩, ⟨%S16, H16, %u16⟩, ⟨%S17, H17, %u17⟩⟩
  sl_exec
  have e2 : trip1.sl.r i arg2 t TF = f := by
    unfold trip1.sl.r
    rw [read_word, hf]
  rw [e2]
  sl_exec
  have e3 : trip1.sl.r_1 i arg3 t TL = l := by
    unfold trip1.sl.r_1
    rw [read_word, hl]
  rw [e3]
  sl_exec

  rw [show trip1.sl.arg18 t = tw t from rfl, show trip1.sl.v1 t = v2w t from rfl, show trip1.sl.v54 f = fl f from rfl]
  generalize trip1.sl.v63 l = v63
  generalize trip1.sl.v74 l = v74
  generalize trip1.sl.v75 l = v75
  ihave H13 := (at_store c arg13 (w := k1_pay4 (F := F)) (h := rfl)) $$ H13
  ihave H14 := (at_store c arg14 (w := k1_pay5 (F := F)) (h := rfl)) $$ H14
  ihave H15 := (at_store c arg15 (w := k1_pay6 (F := F)) (h := rfl)) $$ H15
  ihave H16 := (at_store c arg16 (w := k1_pay2 (F := F) (tileL QS t.val)) (h := rfl)) $$ H16
  ihave H17 := (at_store c arg17 (w := k1_pay3 (F := F) (tileD DS t.val)) (h := rfl)) $$ H17

  generalize hq : k1_pay7 (tileR Q t.val) = q
  generalize hd : k1_pay3 (F := F) (tileD DS t.val) = d
  generalize hcs : k1_pay2 (F := F) (tileL QS t.val) = cs
  have hT2 : (k1_t2_loop t f l).trips = jc t l - j0 f := trips2 hg
  have hT4 : (k1_t4_loop t l).trips = t.val - jc t l := trips4 hg
  have hT6 : (k1_t6_loop t f).trips = t.val + 1 - j0 f := trips6 hg
  have hj := hg.j0_le
  have hjc := hg.j0_le_jc
  have hct := hg.jc_le
  have hin0 : mx (score q K KS d t.val l) (j0 f) (j0 f + 0 - j0 f) = k1_pay4 (F := F) := by
    rw [show j0 f + 0 - j0 f = 0 by omega, mx]
  rw [← hin0]
  have hS12 : Holds S12 (score q K KS d t.val l) (j0 f) (j0 f + 0) := Holds.empty _ _ _
  let L2 : LoopInv (M := 𝕄G) Idealize.ShloMosaic.frame (wpE (defs₀ (F := F)) 𝒱 (c : Thread nD τ) bd) E (k1_t2_loop t f l).lb (k1_t2_loop t f l).ub (k1_t2_loop t f l).st (k1_t2_ok t f l h1) (0#32)
      (k1_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t (tw t) (v2w t) f (fl f) l h1 q v63 v74 v75 0#32) :=
    { inv := fun k _ => scoreInv (F := F) c arg5 arg8 arg12 arg13 arg17 K KS d (score q K KS d t.val l) (j0 f) (j0 f) k
      step := fun k acc => trip2 (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t f l hg h1 q v63 v74 v75 0#32 K KS d k acc }
  simp only [bind_assoc]
  sl_exec
  have hXL := hL4
  rw [show (j0 f + Scf.trips (k1_t2_loop t f l).lb (k1_t2_loop t f l).ub (k1_t2_loop t f l).st - j0 f) = jc t l + 0 - j0 f by
    have : Scf.trips (k1_t2_loop t f l).lb (k1_t2_loop t f l).ub (k1_t2_loop t f l).st = jc t l - j0 f := hT2
    omega]
  have hXL' : Holds XL0 (score q K KS d t.val l) (j0 f) (jc t l + 0) := by
    have e : j0 f + (k1_t2_loop t f l).trips = jc t l + 0 := by omega
    rw [← e]; exact hXL
  let L4 : LoopInv (M := 𝕄G) Idealize.ShloMosaic.frame (wpE (defs₀ (F := F)) 𝒱 (c : Thread nD τ) bd) E (k1_t4_loop t l).lb (k1_t4_loop t l).ub (k1_t4_loop t l).st (k1_t4_ok t f l h1) (0#32)
      (k1_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t (tw t) (v2w t) f (fl f) l h1 q v63 v74 v75 0#32) :=
    { inv := fun k _ => scoreInv (F := F) c arg5 arg8 arg12 arg13 arg17 K KS d (score q K KS d t.val l) (j0 f) (jc t l) k
      step := fun k acc => trip4 (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t f l hg h1 q v63 v74 v75 0#32 K KS d k acc }
  sl_exec
  dsimp only
  unfold trip1.sl.H13_2
  have hXM := hL4
  have hXM' : Holds XL0 (score q K KS d t.val l) (j0 f) t.val := by
    have hXM : Holds XL0 (score q K KS d t.val l) (j0 f) (jc t l + (k1_t4_loop t l).trips) := hXM
    have e : jc t l + (k1_t4_loop t l).trips = t.val := by omega
    rwa [show jc t.val l + (k1_t4_loop t l).trips = t.val from e] at hXM
  have esc : score q K KS d t l t.val = msc q K KS d t t.val := if_neg (by omega)
  have hw : k1_pay25 (F := F) (k1_pay20 q (tileR K t.val) (tileL KS t.val)) (k1_pay21 (tw t.val)) (k1_pay22 (F := F) d d) (k1_pay23 (tw t.val) (v2w t.val))
      = slab (score q K KS d t l t.val) := by
    rw [pay25_eq, esc, msc, tw_eq]
  have ex : trip1.sl.x arg13 t K KS f l q d = mx (score q K KS d t l) (j0 f) (t.val + 1 - j0 f) := by
    unfold trip1.sl.x trip1.sl.H13_1
    rw [View.readCov_full]
    rw [show t.val + 1 - j0 f = (t.val - j0 f) + 1 by omega, mx, show j0 f + (t.val - j0 f) = t.val by omega, esc, msc, ← tw_eq]
    rw [show (jc t l + Scf.trips (k1_t4_loop t l).lb (k1_t4_loop t l).ub (k1_t4_loop t l).st - j0 f) = t.val - j0 f by
      have : Scf.trips (k1_t4_loop t l).lb (k1_t4_loop t l).ub (k1_t4_loop t l).st = t.val - jc t l := hT4
      omega]
    exact pay26_eq _ _ _ _ _
  rw [ex, hw]
  ihave H12 := (some_store (F := F) c arg12 XL0 (score q K KS d t l) (j0 f) t.val ht hXM' ((off19_eq t).trans (by rw [tw_eq]))
      (w := slab (score q K KS d t l t.val)) (hw := rfl)) $$ H12
  ihave H13 := (at_store (F := F) c arg13 (w := k1_pay27 cs (mx (score q K KS d t l) (j0 f) (t.val + 1 - j0 f))) (h := rfl)) $$ H13
  icases H12 with ⟨%XF, H12, %hXF⟩
  have hl0 : k1_pay5 (F := F) = ls (score q K KS d t l) cs (k1_pay27 cs (mx (score q K KS d t l) (j0 f) (t.val + 1 - j0 f))) (j0 f) 0 := by rw [ls]
  have ha0 : k1_pay6 (F := F) = ac (score q K KS d t l) cs (k1_pay27 cs (mx (score q K KS d t l) (j0 f) (t.val + 1 - j0 f))) V (j0 f) 0 := by rw [ac]
  rw [hl0, ha0]
  let L6 : LoopInv (M := 𝕄G) Idealize.ShloMosaic.frame (wpE (defs₀ (F := F)) 𝒱 (c : Thread nD τ) bd) E (k1_t6_loop t f).lb (k1_t6_loop t f).ub (k1_t6_loop t f).st (k1_t6_ok t f h2) (0#32)
      (k1_t6_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t (tw t) f h2 (fl f) (k1_pay20 q (tileR K t.val) (tileL KS t.val)) (k1_pay21 (tw t.val)) (k1_pay22 (F := F) d d) (k1_pay23 (tw t.val) (v2w t.val))) :=
    { inv := fun k _ => sumInv (F := F) c arg6 arg12 arg13 arg14 arg15 arg16 V XF (score q K KS d t l) cs (k1_pay27 cs (mx (score q K KS d t l) (j0 f) (t.val + 1 - j0 f))) (j0 f) k
      step := fun k acc => trip6 (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 t f l hg h2 V XF (score q K KS d t l) hXF cs (k1_pay27 cs (mx (score q K KS d t l) (j0 f) (t.val + 1 - j0 f))) (k1_pay20 q (tileR K t.val) (tileL KS t.val)) (k1_pay21 (tw t.val)) (k1_pay22 (F := F) d d) (k1_pay23 (tw t.val) (v2w t.val)) k acc }
  sl_exec
  sl_step
  have eT : Scf.trips (k1_t6_loop t f).lb (k1_t6_loop t f).ub (k1_t6_loop t f).st = t.val + 1 - j0 f := hT6
  rw [eT]
  have hO : k1_pay1 (ls (score q K KS d t l) cs (k1_pay27 cs (mx (score q K KS d t l) (j0 f) (t.val + 1 - j0 f))) (j0 f) (t.val + 1 - j0 f))
      (ac (score q K KS d t l) cs (k1_pay27 cs (mx (score q K KS d t l) (j0 f) (t.val + 1 - j0 f))) V (j0 f) (t.val + 1 - j0 f)) VS
      = outTile Q K V QS KS VS DS t f l := by
    rw [← hq, ← hd, ← hcs]; rfl
  rw [hO]
  ihave H11 := (row_store (F := F) c arg11 O t.val ht ((off17_eq t).trans (by rw [tw_eq])) (w := outTile Q K V QS KS VS DS t f l)) $$ H11
  isplitl [H2 H3 H4 H5 H6 H7 H8 H9 H10]
  · isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    iexact H10
  isplitl [H11]
  · iexact H11
  isplitl [H12]
  · iexists _
    isplitl [H12]
    · iexact H12
    · ipureintro; trivial
  isplitl [H13]
  · iexists _
    isplitl [H13]
    · iexact H13
    · ipureintro; trivial
  isplitl [H14]
  · iexists _
    isplitl [H14]
    · iexact H14
    · ipureintro; trivial
  isplitl [H15]
  · iexists _
    isplitl [H15]
    · iexact H15
    · ipureintro; trivial
  isplitl [H16]
  · iexists _
    isplitl [H16]
    · iexact H16
    · ipureintro; trivial
  iexists _
  isplitl [H17]
  · iexact H17
  · ipureintro; trivial
end Cert.KernelIdeal
end
-- ==== Proof.Ideal.Attend.lean ====
/-
  The attention kernel on one head: query tile after query tile, until the head's whole result is stored.
-/
module

public import proofs.«01_k».proof.Proof.Ideal.Tile
public import Idealize.ShloMosaic.Lib.Exec
public import Idealize.ShloMosaic.Lib.Tactic
public import Idealize.ShloMosaic.Lib.Pipeline.Kit

@[expose] public section

set_option maxRecDepth 16384
set_option maxHeartbeats 400000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F] [Named F]

/-- The resources of a run: one device's memory under the frame kit's algebra. -/
local notation "𝕄G" => MT nD τ sig Unit (Elt F) ℕ (UR sig nD τ) ℕ

variable (𝒱 : Variants) (c : Dev nD) (bd : Option 𝒱.V) (E : Set ℕ)
variable (i : grid1.Coords) (arg2 : Memref sig .tc .smem S8x32 .i32) (harg2 : arg2.IsWhole) (arg3 : Memref sig .tc .smem S8x32 .i32) (harg3 : arg3.IsWhole) (arg4 : Memref sig .tc .vmem S1x8192x128 .fp8e4m3) (harg4 : arg4.IsWhole) (arg5 : Memref sig .tc .vmem S1x8192x128 .fp8e4m3) (harg5 : arg5.IsWhole)
  (arg6 : Memref sig .tc .vmem S1x8192x128 .fp8e4m3) (harg6 : arg6.IsWhole) (arg7 : Memref sig .tc .vmem S1x1x1x8192 .f32) (harg7 : arg7.IsWhole) (arg8 : Memref sig .tc .vmem S1x1x1x8192 .f32) (harg8 : arg8.IsWhole) (arg9 : Memref sig .tc .vmem S1x1x1x128 .f32) (harg9 : arg9.IsWhole)
  (arg10 : Memref sig .tc .vmem S1x1x8192 .i32) (harg10 : arg10.IsWhole) (arg11 : Memref sig .tc .vmem S1x8192x128 .bf16) (harg11 : arg11.IsWhole) (arg12 : Memref sig .tc .vmem S32x256x256 .f32) (harg12 : arg12.IsWhole) (arg13 : Memref sig .tc .vmem S256x128 .f32) (harg13 : arg13.IsWhole)
  (arg14 : Memref sig .tc .vmem S256x128 .f32) (harg14 : arg14.IsWhole) (arg15 : Memref sig .tc .vmem S256x128 .f32) (harg15 : arg15.IsWhole) (arg16 : Memref sig .tc .vmem S256x128 .f32) (harg16 : arg16.IsWhole) (arg17 : Memref sig .tc .vmem S256x128 .i32) (harg17 : arg17.IsWhole)

variable (TF TL : Vec F S8x32 .i32) (Q K V : Vec F S1x8192x128 .fp8e4m3)
  (QS KS : Vec F S1x1x1x8192 .f32) (VS : Vec F S1x1x1x128 .f32) (DS : Vec F S1x1x8192 .i32)

/-- The result rows below row `n` are the head's. -/
def Rows (O G : Vec F S1x8192x128 .bf16) (n : ℕ) : Prop := ∀ y, (y 1).val < n → O y = G y

/-- The head's whole result, the tables' words read at the head's batch. -/
abbrev headOut : Vec F S1x8192x128 .bf16 :=
  outBlk Q K V QS KS VS DS (fun n => TF (wIx i n)) (fun n => TL (wIx i n))

/-- Storing query tile `t` extends the rows by `256`. -/
theorem Rows.put {O : Vec F S1x8192x128 .bf16} (t : ℕ)
    (h : Rows O (headOut i TF TL Q K V QS KS VS DS) (256 * t)) :
    Rows (VecWindow.put O ![0, 256 * t, 0] S1x256x128.size (outTile Q K V QS KS VS DS t (TF (wIx i t)) (TL (wIx i t))))
      (headOut i TF TL Q K V QS KS VS DS) (256 * (t + 1)) := by
  intro y hy
  have hy0 : (y 0).val < 1 := (y 0).isLt
  have hy2 : (y 2).val < 128 := (y 2).isLt
  unfold VecWindow.put
  by_cases hlt : (y 1).val < 256 * t
  · rw [dif_neg (fun hm => by have h1 : 256 * t ≤ (y 1).val := (hm 1).1; omega)]
    exact h y hlt
  · have e : (y 1).val / 256 = t := by omega
    have hin : ∀ a, (![0, 256 * t, 0] : Fin 3 → ℕ) a ≤ (y a).val ∧ (y a).val < (![0, 256 * t, 0] : Fin 3 → ℕ) a + S1x256x128.size a := by
      intro a
      fin_cases a
      · exact ⟨Nat.zero_le _, by show (y 0).val < 0 + 1; omega⟩
      · exact ⟨by show 256 * t ≤ (y 1).val; omega, by show (y 1).val < 256 * t + 256; omega⟩
      · exact ⟨Nat.zero_le _, by show (y 2).val < 0 + 128; omega⟩
    rw [dif_pos hin]
    show _ = outTile Q K V QS KS VS DS ((y 1).val / 256) (TF (wIx i ((y 1).val / 256))) (TL (wIx i ((y 1).val / 256))) _
    rw [e]
    refine congrArg _ (funext fun a => Fin.ext ?_)
    fin_cases a
    · show (y 0).val - 0 = 0; omega
    · show (y 1).val - 256 * t = (y 1).val % 256; omega
    · rfl

/-- The kernel on one head: from its blocks and tables to the head's result, the scratch at whatever is left in it. -/
theorem attendRun (hg : ∀ t : ℕ, t < 32 → Good t (TF (wIx i t)) (TL (wIx i t))) :
   iprop(ins (F := F) c arg2 arg3 arg4 arg5 arg6 arg7 arg8 arg9 arg10 TF TL Q K V QS KS VS DS ∗ some_ (F := F) c arg11 (fun _ => True)
     ∗ scr (F := F) c arg12 arg13 arg14 arg15 arg16 arg17)
   ⊢ wp frame (wpE (defs₀ (F := F)) 𝒱 (c : Thread nD τ) bd) E (cc1_attend (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17)
     (fun _ => iprop(ins (F := F) c arg2 arg3 arg4 arg5 arg6 arg7 arg8 arg9 arg10 TF TL Q K V QS KS VS DS
       ∗ at_ c arg11 (headOut i TF TL Q K V QS KS VS DS)
       ∗ scr (F := F) c arg12 arg13 arg14 arg15 arg16 arg17)) := by
  let L1 : LoopInv (M := 𝕄G) Idealize.ShloMosaic.frame (wpE (defs₀ (F := F)) 𝒱 (c : Thread nD τ) bd) E k1_t1_loop.lb k1_t1_loop.ub k1_t1_loop.st k1_t1_ok (⟨⟩ : PUnit)
      (k1_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (BitVec.ofNat 32 (i 0).val)) :=
    { inv := fun k _ => iprop(ins (F := F) c arg2 arg3 arg4 arg5 arg6 arg7 arg8 arg9 arg10 TF TL Q K V QS KS VS DS
        ∗ some_ (F := F) c arg11 (fun O => Rows O (headOut i TF TL Q K V QS KS VS DS) (256 * k))
        ∗ scr (F := F) c arg12 arg13 arg14 arg15 arg16 arg17)
      step := fun k acc => by
        iintro ⟨HI, ⟨%O, HO, %hO⟩, HS⟩
        have hk : k.val < 32 := lt_of_lt_of_eq k.isLt trips1
        have T := trip1 (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 k TF TL Q K V QS KS VS DS (BitVec.ofNat 32 (i 0).val) (hg k.val hk) O
        iapply (wp_mono (hQ := fun _ => ?_))
        rotate_left
        · iapply T
          isplitl [HI]
          · iexact HI
          isplitl [HO]
          · iexact HO
          iexact HS
        · iintro ⟨HI, HO, HS⟩
          isplitl [HI]
          · iexact HI
          isplitl [HO]
          · iexists _
            isplitl [HO]
            · iexact HO
            · ipureintro
              exact Rows.put i TF TL Q K V QS KS VS DS k.val hO
          iexact HS }
  rw [cc1_attend_eq_skeleton]
  unfold cc1_attend_skel
  iintro ⟨⟨H2, H3, H4, H5, H6, H7, H8, H9, H10⟩, ⟨%O, H11, %u11⟩, ⟨%S12, H12, %u12⟩, ⟨%S13, H13, %u13⟩, ⟨%S14, H14, %u14⟩, ⟨%S15, H15, %u15⟩, ⟨%S16, H16, %u16⟩, ⟨%S17, H17, %u17⟩⟩
  have hR0 : Rows O (headOut i TF TL Q K V QS KS VS DS) (256 * 0) := fun y hy => absurd hy (Nat.not_lt_zero _)
  sl_exec
  sl_step
  have eO : XL0 = headOut i TF TL Q K V QS KS VS DS := funext fun y => hL10 y (by
    have e : Scf.trips k1_t1_loop.lb k1_t1_loop.ub k1_t1_loop.st = 32 := trips1
    have hy : (y 1).val < 8192 := (y 1).isLt
    rw [e]; omega)
  rw [eO]
  isplitl [H2 H3 H4 H5 H6 H7 H8 H9 H10]
  · isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    iexact H10
  isplitl [H11]
  · iexact H11
  isplitl [H12]
  · iexists _
    isplitl [H12]
    · iexact H12
    · ipureintro; trivial
  isplitl [H13]
  · iexists _
    isplitl [H13]
    · iexact H13
    · ipureintro; trivial
  isplitl [H14]
  · iexists _
    isplitl [H14]
    · iexact H14
    · ipureintro; trivial
  isplitl [H15]
  · iexists _
    isplitl [H15]
    · iexact H15
    · ipureintro; trivial
  isplitl [H16]
  · iexists _
    isplitl [H16]
    · iexact H16
    · ipureintro; trivial
  iexists _
  isplitl [H17]
  · iexact H17
  · ipureintro; trivial

end Cert.KernelIdeal
end
-- ==== Proof.Ideal.Dats.lean ====
/-
  The two calls as pipelines: what each window's buffer holds after each grid point, and that a run of the kernel's body
  at any point takes the one state to the next.
-/
module

public import proofs.«01_k».proof.Proof.Ideal.DocStartRun
public import proofs.«01_k».proof.Proof.Ideal.Attend
public import proofs.«01_k».proof.Proof.Gen.KernelIdeal.Regions
public import proofs.«01_k».proof.Proof.Gen.KernelIdeal.Points
public import Idealize.ShloMosaic.Lib.Pipeline.FrameBody
public import Idealize.ShloMosaic.Lib.Pipeline.TableIdle
public import Idealize.ShloMosaic.Lib.Pipeline.RegionArraysS
public import Idealize.ShloMosaic.Lib.Pipeline.RegionArraysTS

@[expose] public section

set_option maxRecDepth 16384
set_option maxHeartbeats 400000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen

variable {F : FTy → Type} [FloatOps F] [Named F]

/-- The resources of a run: one device's memory under the frame kit's algebra. -/
local notation "𝕄G" => MT nD τ sig Unit (Elt F) ℕ (UR sig nD τ) ℕ

variable (c : Dev nD)

/-! ## The first call -/

/-- The segment ids among a device's buffers. -/
abbrev segOf (V : Valuation τ sig (Elt F)) : Vec F S8x8192 .i32 := V main_arg6

/-- The first call's proof data over the buffers `V`: the result's buffer ends at the document starts. -/
def dat0 (V : Valuation τ sig (Elt F)) : Dat τ (Elt F) Unit ℕ (UR sig nD τ) ℕ cfg0 c where
  A w := V (Proc.devRef .tc (Pipeline.arrRef spec0 w))
  after w _ := match w with
    | ⟨0, _⟩ => segOf V
    | ⟨1, _⟩ => (starts (segOf V) : Vec F S8x8192 .i32)
  Φ _ := Pipeline.scopedRest (Ix := Unit) (Name := ℕ) (U := UR sig nD τ) (Lvl := ℕ) (Val := Elt F) spec0 c
  q _ := fullShare
  owed _ := 0

theorem before0 (V : Valuation τ sig (Elt F)) (d : (cfg0.win 0).block.Idx → Elt F (cfg0.win 0).elt) :
    (dat0 c V).before 0 t0_0 d = segOf V := by
  unfold Dat.before; rw [if_pos (by decide)]
  have hz : (fun a => win0_0.index t0_0 a * main_arg6.ty.shape.size a) = fun _ => 0 := funext fun a => by fin_cases a <;> decide
  exact Memref.read_access_unit_zero (Elt F) main_arg6 hz (fun a => by rw [congrFun hz a]; simp) (segOf V)

/-- A run with a resource riding along. -/
theorem riding {α : Type} {p : Prog (TpuEff nD τ sig (Elt F) Λ₀ .tc) α} {P R : sProp 𝕄G} {Q : α → sProp 𝕄G} {E : Set ℕ}
    (h : P ⊢ wp frame (wpE (defs₀ (F := F)) Variants.none (c : Thread nD τ) none) E p Q) {Q' : α → sProp 𝕄G} (hQ : ∀ x, iprop(Q x ∗ R) ⊢ Q' x) :
    iprop(P ∗ R) ⊢ wp frame (wpE (defs₀ (F := F)) Variants.none (c : Thread nD τ) none) E p Q' :=
  (sep_mono h .rfl).trans ((wp_frame_r _ _ _).trans (wp_mono _ _ _ hQ))

attribute [local irreducible] starts in
theorem body0 (V : Valuation τ sig (Elt F)) : BodyObligation (dat0 (F := F) c V) (defs₀ (F := F)) Variants.none () Set.univ := fun t => by
  obtain rfl := fin_N0 t
  rw [bigSep_W0, bigSep_W0]
  rw [show (dat0 c V).Φ t0_0.castSucc = Pipeline.scopedRest spec0 c from rfl, show (dat0 c V).Φ t0_0.succ = Pipeline.scopedRest spec0 c from rfl]
  unfold Dat.owesAt Pipeline.owesWithin
  rw [show (dat0 c V).owed t0_0.castSucc = 0 from rfl, show (dat0 c V).owed t0_0.succ = 0 from rfl]
  simp only [before0]
  iintro ⟨HR, ⟨%W, %hW, HO⟩, ⟨%d0, H0⟩, ⟨%d1, H1⟩⟩
  ihave H0 := (rep_of_owns _ _ _ _) $$ H0
  ihave H1 := (rep_of_owns _ _ _ _) $$ H1
  have T := docStartRun (F := F) Variants.none c none Set.univ (win0_0.stage 0) (hstage0_0 0) (win0_1.stage 0) (hstage0_1 0) (segOf V) ((dat0 c V).before 1 t0_0 d1)
  iapply (riding c T (R := iprop(Pipeline.scopedRest (Ix := Unit) (Name := ℕ) (U := UR sig nD τ) (Lvl := ℕ) (Val := Elt F) spec0 c ∗ owes (c : Thread nD τ) (0 : CellTallies nD τ sig Unit) W)) (fun _ => ?_))
  rotate_left
  · isplitl [H0 H1]
    · isplitl [H0]
      · iexact H0
      iexact H1
    isplitl [HR]
    · iexact HR
    iexact HO
  · iintro ⟨⟨H0, H1⟩, HR, HO⟩
    isplitl [HR]
    · iexact HR
    isplitl [HO]
    · iexists W
      isplitr
      · ipureintro
        exact fun _ _ => Or.inl trivial
      iexact HO
    isplitl [H0]
    · iapply (owns_of_rep (c : Thread nD τ) (win0_0.stage 0) fullShare (segOf V))
      iexact H0
    iapply (owns_of_rep (c : Thread nD τ) (win0_1.stage 0) fullShare (starts (segOf V) : Vec F S8x8192 .i32))
    iexact H1

/-! ## The second call -/

variable (a : (pcfg1 (F := F)).Adm) (V : Valuation τ sig (Elt F)) (t : Fin grid1.N)

/-- The block of queries that grid point `t` reads. -/
abbrev qBlk : Vec F S1x8192x128 .fp8e4m3 := ((win1 a 0).blk t).view.read (Elt F) (V main_arg0)
/-- The block of keys that grid point `t` reads. -/
abbrev kBlk : Vec F S1x8192x128 .fp8e4m3 := ((win1 a 1).blk t).view.read (Elt F) (V main_arg2)
/-- The block of values that grid point `t` reads. -/
abbrev vBlk : Vec F S1x8192x128 .fp8e4m3 := ((win1 a 2).blk t).view.read (Elt F) (V main_arg4)
/-- The block of query scales that grid point `t` reads. -/
abbrev qsBlk : Vec F S1x1x1x8192 .f32 := ((win1 a 3).blk t).view.read (Elt F) (V main_arg1)
/-- The block of key scales that grid point `t` reads. -/
abbrev ksBlk : Vec F S1x1x1x8192 .f32 := ((win1 a 4).blk t).view.read (Elt F) (V main_arg3)
/-- The block of value scales that grid point `t` reads. -/
abbrev vsBlk : Vec F S1x1x1x128 .f32 := ((win1 a 5).blk t).view.read (Elt F) (V main_arg5)
/-- The block of document starts that grid point `t` reads. -/
abbrev dsBlk : Vec F S1x1x8192 .i32 := ((win1 a 6).blk t).view.read (Elt F) (V main_v3)

/-- The two tables of words that the call prefetches. -/
abbrev tf : Vec F S8x32 .i32 := a.1 0
abbrev tl : Vec F S8x32 .i32 := a.1 1

/-- What the body stores at point `t`: the head's output. -/
def outAt : Vec F S1x8192x128 .bf16 := headOut (grid1.coords t) (tf a) (tl a) (qBlk a V t) (kBlk a V t) (vBlk a V t) (qsBlk a V t) (ksBlk a V t) (vsBlk a V t) (dsBlk a V t)

/-- What the body leaves alone or scratches: the buffers no window stages, and the tables. -/
abbrev inv1 : sProp 𝕄G := iprop(Pipeline.scopedRest (Ix := Unit) (Name := ℕ) (U := UR sig nD τ) (Lvl := ℕ) (Val := Elt F) spec1 c
    ∗ Pipeline.prefHeld (Ix := Unit) (Name := ℕ) (U := UR sig nD τ) (Lvl := ℕ) pre1 c (fun _ => fullShare) a.1)

/-- The second call's proof data over the buffers `V` and the tables `a`. -/
def dat1 : Dat τ (Elt F) Unit ℕ (UR sig nD τ) ℕ (cfg1 a) c where
  A w := V (Proc.devRef .tc (Pipeline.arrRef spec1 w))
  after w t := match w with
    | ⟨0, _⟩ => qBlk a V t
    | ⟨1, _⟩ => kBlk a V t
    | ⟨2, _⟩ => vBlk a V t
    | ⟨3, _⟩ => qsBlk a V t
    | ⟨4, _⟩ => ksBlk a V t
    | ⟨5, _⟩ => vsBlk a V t
    | ⟨6, _⟩ => dsBlk a V t
    | ⟨7, _⟩ => outAt a V t
  Φ _ := inv1 c a
  q _ := fullShare
  owed _ := 0

theorem before1_0 (d : (win1 a 0).block.Idx → Elt F (win1 a 0).elt) : (dat1 c a V).before 0 t d = qBlk a V t :=
  Dat.before_in_eq_fetched (dat1 c a V) 0 rfl (fun _ => rfl) (fun _ _ _ => rfl) (fun _ => rfl) t d
theorem before1_1 (d : (win1 a 1).block.Idx → Elt F (win1 a 1).elt) : (dat1 c a V).before 1 t d = kBlk a V t :=
  Dat.before_in_eq_fetched (dat1 c a V) 1 rfl (fun _ => rfl) (fun _ _ _ => rfl) (fun _ => rfl) t d
theorem before1_2 (d : (win1 a 2).block.Idx → Elt F (win1 a 2).elt) : (dat1 c a V).before 2 t d = vBlk a V t :=
  Dat.before_in_eq_fetched (dat1 c a V) 2 rfl (fun _ => rfl) (fun _ _ _ => rfl) (fun _ => rfl) t d
theorem before1_3 (d : (win1 a 3).block.Idx → Elt F (win1 a 3).elt) : (dat1 c a V).before 3 t d = qsBlk a V t :=
  Dat.before_in_eq_fetched (dat1 c a V) 3 rfl (fun _ => rfl) (fun _ _ _ => rfl) (fun _ => rfl) t d
theorem before1_4 (d : (win1 a 4).block.Idx → Elt F (win1 a 4).elt) : (dat1 c a V).before 4 t d = ksBlk a V t :=
  Dat.before_in_eq_fetched (dat1 c a V) 4 rfl (fun _ => rfl) (fun _ _ _ => rfl) (fun _ => rfl) t d
theorem before1_5 (d : (win1 a 5).block.Idx → Elt F (win1 a 5).elt) : (dat1 c a V).before 5 t d = vsBlk a V t :=
  Dat.before_in_eq_fetched (dat1 c a V) 5 rfl (fun _ => rfl) (fun _ _ _ => rfl) (fun _ => rfl) t d
theorem before1_6 (d : (win1 a 6).block.Idx → Elt F (win1 a 6).elt) : (dat1 c a V).before 6 t d = dsBlk a V t :=
  Dat.before_in_eq_fetched (dat1 c a V) 6 rfl (fun _ => rfl) (fun _ _ _ => rfl) (fun _ => rfl) t d

/-! ### The body at a point -/

theorem whole_to [∀ e, Nonempty (Elt F e)] (b : Ref sig .tc) (f : Buf (Elt F) ((c : Thread nD τ).loc b)) :
    ((((c : Thread nD τ).loc b) ↦{fullShare} f) : sProp 𝕄G) ⊢ at_ c (Memref.whole b) f := by
  refine BIBase.Entails.trans ?_ (rep_of_owns (c : Thread nD τ) (Memref.whole b) fullShare f)
  unfold owns
  iintro H
  iexists f
  isplitr
  · ipureintro
    simp only [Memref.view_whole, View.read_whole]
  simp only [Memref.view_whole, View.set_whole]
  iexact H

theorem whole_of [∀ e, Nonempty (Elt F e)] (b : Ref sig .tc) (f : Buf (Elt F) ((c : Thread nD τ).loc b)) :
    (at_ c (Memref.whole b) f : sProp 𝕄G) ⊢ (((c : Thread nD τ).loc b) ↦{fullShare} f) := by
  refine BIBase.Entails.trans (owns_of_rep (c : Thread nD τ) (Memref.whole b) fullShare f) ?_
  unfold owns
  simp only [Memref.view_whole, View.read_whole, View.set_whole]
  iintro ⟨%g, %e, H⟩
  subst e
  iexact H

theorem some_to [∀ e, Nonempty (Elt F e)] (b : Ref sig .tc) :
    (iprop(∃ f : Buf (Elt F) ((c : Thread nD τ).loc b), ((c : Thread nD τ).loc b) ↦{fullShare} f) : sProp 𝕄G)
    ⊢ some_ (F := F) c (Memref.whole b) (fun _ => True) := by
  iintro ⟨%f, H⟩
  iexists f
  isplitl [H]
  · iapply (whole_to c b f)
    iexact H
  ipureintro
  trivial

theorem some_of [∀ e, Nonempty (Elt F e)] (b : Ref sig .tc) :
    (some_ (F := F) c (Memref.whole b) (fun _ => True) : sProp 𝕄G)
    ⊢ iprop(∃ f : Buf (Elt F) ((c : Thread nD τ).loc b), ((c : Thread nD τ).loc b) ↦{fullShare} f) := by
  iintro ⟨%f, H, %h⟩
  iexists f
  iapply (whole_of c b f)
  iexact H

/-- The scratch buffers of the second call, at whatever contents. -/
abbrev scr1 : sProp 𝕄G := scr (F := F) c (Memref.whole cc1_scratch0) (Memref.whole cc1_scratch1) (Memref.whole cc1_scratch2) (Memref.whole cc1_scratch3) (Memref.whole cc1_scratch4) (Memref.whole cc1_scratch5)

/-- The buffers the second call never touches. -/
abbrev idle1 : sProp 𝕄G := iprop((∃ f : Buf (Elt F) ((c : Thread nD τ).loc cc0_stg0_0), ((c : Thread nD τ).loc cc0_stg0_0) ↦{fullShare} f)
  ∗ (∃ f : Buf (Elt F) ((c : Thread nD τ).loc cc0_stg1_0), ((c : Thread nD τ).loc cc0_stg1_0) ↦{fullShare} f))

theorem pref_eq : (Pipeline.prefHeld (Ix := Unit) (Name := ℕ) (U := UR sig nD τ) (Lvl := ℕ) pre1 c (fun _ => fullShare) a.1 : sProp 𝕄G)
    = iprop((((c : Thread nD τ).loc main_v1) ↦{fullShare} tf a) ∗ (((c : Thread nD τ).loc main_v2) ↦{fullShare} tl a)) :=
  bigSep_univ_eq_bigSepL [(0 : Fin 2), (1 : Fin 2)] (by decide) (by decide) _

/-- The invariant, taken apart. -/
theorem inv_to : inv1 c a
    ⊢ iprop(idle1 (F := F) c ∗ at_ c (Memref.whole main_v1) (tf a) ∗ at_ c (Memref.whole main_v2) (tl a) ∗ scr1 (F := F) c) := by
  unfold inv1
  rw [pref_eq, scopedRest1_eq]
  iintro ⟨⟨I0, I1, S0, S1, S2, S3, S4, S5⟩, T1, T2⟩
  isplitl [I0 I1]
  · isplitl [I0]
    · iexact I0
    iexact I1
  isplitl [T1]
  · iapply (whole_to c main_v1 (tf a)); iexact T1
  isplitl [T2]
  · iapply (whole_to c main_v2 (tl a)); iexact T2
  isplitl [S0]
  · iapply (some_to c cc1_scratch0); iexact S0
  isplitl [S1]
  · iapply (some_to c cc1_scratch1); iexact S1
  isplitl [S2]
  · iapply (some_to c cc1_scratch2); iexact S2
  isplitl [S3]
  · iapply (some_to c cc1_scratch3); iexact S3
  isplitl [S4]
  · iapply (some_to c cc1_scratch4); iexact S4
  iapply (some_to c cc1_scratch5); iexact S5

/-- The invariant, put together. -/
theorem inv_of : iprop(idle1 (F := F) c ∗ at_ c (Memref.whole main_v1) (tf a) ∗ at_ c (Memref.whole main_v2) (tl a) ∗ scr1 (F := F) c)
    ⊢ inv1 c a := by
  unfold inv1
  rw [pref_eq, scopedRest1_eq]
  iintro ⟨⟨I0, I1⟩, T1, T2, S0, S1, S2, S3, S4, S5⟩
  isplitr [T1 T2]
  · isplitl [I0]
    · iexact I0
    isplitl [I1]
    · iexact I1
    isplitl [S0]
    · iapply (some_of c cc1_scratch0); iexact S0
    isplitl [S1]
    · iapply (some_of c cc1_scratch1); iexact S1
    isplitl [S2]
    · iapply (some_of c cc1_scratch2); iexact S2
    isplitl [S3]
    · iapply (some_of c cc1_scratch3); iexact S3
    isplitl [S4]
    · iapply (some_of c cc1_scratch4); iexact S4
    iapply (some_of c cc1_scratch5); iexact S5
  isplitl [T1]
  · iapply (whole_of c main_v1 (tf a)); iexact T1
  iapply (whole_of c main_v2 (tl a)); iexact T2

attribute [local irreducible] outAt in
theorem body1 (hg : ∀ (i : grid1.Coords) (t : ℕ), t < 32 → Good t (tf a (wIx i t)) (tl a (wIx i t))) :
    BodyObligation (dat1 (F := F) c a V) (defs₀ (F := F)) Variants.none () Set.univ := fun t => by
  rw [bigSep_W1, bigSep_W1]
  rw [show (dat1 c a V).Φ t.castSucc = inv1 c a from rfl, show (dat1 c a V).Φ t.succ = inv1 c a from rfl]
  unfold Dat.owesAt Pipeline.owesWithin
  rw [show (dat1 c a V).owed t.castSucc = 0 from rfl, show (dat1 c a V).owed t.succ = 0 from rfl]
  simp only [before1_0, before1_1, before1_2, before1_3, before1_4, before1_5, before1_6]
  iintro ⟨HI, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
  ihave HI := (inv_to c a) $$ HI
  icases HI with ⟨HI, T1, T2, HS⟩
  ihave H0 := (rep_of_owns _ _ _ _) $$ H0
  ihave H1 := (rep_of_owns _ _ _ _) $$ H1
  ihave H2 := (rep_of_owns _ _ _ _) $$ H2
  ihave H3 := (rep_of_owns _ _ _ _) $$ H3
  ihave H4 := (rep_of_owns _ _ _ _) $$ H4
  ihave H5 := (rep_of_owns _ _ _ _) $$ H5
  ihave H6 := (rep_of_owns _ _ _ _) $$ H6
  ihave H7 := (rep_of_owns _ _ _ _) $$ H7
  have T := attendRun (F := F) Variants.none c none Set.univ (grid1.coords t) (Memref.whole main_v1) (Memref.isWhole_whole _) (Memref.whole main_v2) (Memref.isWhole_whole _)
    (spec1_0.stage ((cfg1 a).slots t 0)) (hstage1_0 (((cfg1 a).slots t 0).cast nbuf1_0)) (spec1_1.stage ((cfg1 a).slots t 1)) (hstage1_1 (((cfg1 a).slots t 1).cast nbuf1_1)) (spec1_2.stage ((cfg1 a).slots t 2)) (hstage1_2 (((cfg1 a).slots t 2).cast nbuf1_2)) (spec1_3.stage ((cfg1 a).slots t 3)) (hstage1_3 (((cfg1 a).slots t 3).cast nbuf1_3)) (spec1_4.stage ((cfg1 a).slots t 4)) (hstage1_4 (((cfg1 a).slots t 4).cast nbuf1_4)) (spec1_5.stage ((cfg1 a).slots t 5)) (hstage1_5 (((cfg1 a).slots t 5).cast nbuf1_5)) (spec1_6.stage ((cfg1 a).slots t 6)) (hstage1_6 (((cfg1 a).slots t 6).cast nbuf1_6)) (spec1_7.stage ((cfg1 a).slots t 7)) (hstage1_7 (((cfg1 a).slots t 7).cast nbuf1_7))
    (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _)
    (tf a) (tl a) (qBlk a V t) (kBlk a V t) (vBlk a V t) (qsBlk a V t) (ksBlk a V t) (vsBlk a V t) (dsBlk a V t) (hg (grid1.coords t))
  iapply (riding c T (R := iprop(idle1 (F := F) c ∗ owes (c : Thread nD τ) (0 : CellTallies nD τ sig Unit) W)) (fun _ => ?_))
  rotate_left
  · isplitr [HI HO]
    · isplitr [H7 HS]
      · isplitl [T1]
        · iexact T1
        isplitl [T2]
        · iexact T2
        isplitl [H0]
        · iexact H0
        isplitl [H1]
        · iexact H1
        isplitl [H2]
        · iexact H2
        isplitl [H3]
        · iexact H3
        isplitl [H4]
        · iexact H4
        isplitl [H5]
        · iexact H5
        iexact H6
      isplitl [H7]
      · iexists ((dat1 c a V).before 7 t d7)
        isplitl [H7]
        · iexact H7
        ipureintro
        trivial
      iexact HS
    isplitl [HI]
    · iexact HI
    iexact HO
  · iintro ⟨⟨⟨T1, T2, H0, H1, H2, H3, H4, H5, H6⟩, H7, HS⟩, HI, HO⟩
    isplitl [T1 T2 HS HI]
    · iapply (inv_of c a)
      isplitl [HI]
      · iexact HI
      isplitl [T1]
      · iexact T1
      isplitl [T2]
      · iexact T2
      iexact HS
    isplitl [HO]
    · iexists W
      isplitr
      · ipureintro
        exact fun _ _ => Or.inl trivial
      iexact HO
    isplitl [H0]
    · iapply (owns_of_rep (c : Thread nD τ) (spec1_0.stage ((cfg1 a).slots t 0)) fullShare (qBlk a V t))
      iexact H0
    isplitl [H1]
    · iapply (owns_of_rep (c : Thread nD τ) (spec1_1.stage ((cfg1 a).slots t 1)) fullShare (kBlk a V t))
      iexact H1
    isplitl [H2]
    · iapply (owns_of_rep (c : Thread nD τ) (spec1_2.stage ((cfg1 a).slots t 2)) fullShare (vBlk a V t))
      iexact H2
    isplitl [H3]
    · iapply (owns_of_rep (c : Thread nD τ) (spec1_3.stage ((cfg1 a).slots t 3)) fullShare (qsBlk a V t))
      iexact H3
    isplitl [H4]
    · iapply (owns_of_rep (c : Thread nD τ) (spec1_4.stage ((cfg1 a).slots t 4)) fullShare (ksBlk a V t))
      iexact H4
    isplitl [H5]
    · iapply (owns_of_rep (c : Thread nD τ) (spec1_5.stage ((cfg1 a).slots t 5)) fullShare (vsBlk a V t))
      iexact H5
    isplitl [H6]
    · iapply (owns_of_rep (c : Thread nD τ) (spec1_6.stage ((cfg1 a).slots t 6)) fullShare (dsBlk a V t))
      iexact H6
    iapply (owns_of_rep (c : Thread nD τ) (spec1_7.stage ((cfg1 a).slots t 7)) fullShare (outAt a V t))
    rw [outAt]
    iexact H7

end Cert.KernelIdeal

end
-- ==== Proof.Ideal.Run.lean ====
/-
  The whole run: the first call, the three host operations, the second call. Every weakly fair execution ends with the
  arguments as they were and the result at the contents the second call leaves.
-/
module

public import proofs.«01_k».proof.Proof.Ideal.Dats
public import Idealize.ShloMosaic.Lib.Pointwise.ShapeOpsCore

@[expose] public section

set_option maxRecDepth 16384
set_option maxHeartbeats 400000

noncomputable section

namespace Cert.KernelIdeal

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg)
open Cert.KernelIdeal.Gen

variable {F : FTy → Type} [FloatOps F] [Named F]

/-- The resources of a run: one device's memory under the frame kit's algebra. -/
local notation "𝕄G" => MT nD τ sig Unit (Elt F) ℕ (UR sig nD τ) ℕ

attribute [local irreducible] starts

variable (m : (ℓ : Loc nD τ sig) → Buf (Elt F) ℓ) (ρ : Dev nD → PrngReg)

/-! ## The buffers along the way -/

/-- A device's buffers after the first call. -/
def WA (c : Dev nD) : Valuation τ sig (Elt F) := Function.update (V0 m c) main_v0 (starts (segOf (V0 m c)) : Vec F S8x8192 .i32)

/-- A device's buffers before the second call. -/
def WB (c : Dev nD) : Valuation τ sig (Elt F) := StableHlo.after hostOps1 (WA m c)

/-- The tables the second call prefetches. -/
def tabs : (pcfg1 (F := F)).Adm := ⟨fun k => WB m (0 : Fin 1) (Proc.devRef .tc (pre1.ref k)), trivial⟩

abbrev adm : (p : Fin 2) → (pcfgs (F := F) p).Adm := fun | ⟨0, _⟩ => cfg0.toPCfg_adm | ⟨1, _⟩ => tabs m | ⟨_ + 2, h⟩ => absurd h (by omega)

/-- The two calls' proof data. -/
abbrev dats : (p : Fin 2) → (c : Dev nD) → Dat τ (Elt F) Unit ℕ (UR sig nD τ) ℕ (Pipeline.pin (pcfgs (F := F)) (adm m) p) c
  | ⟨0, _⟩, c => dat0 c (V0 m c)
  | ⟨1, _⟩, c => dat1 c (tabs m) (WB m c)
  | ⟨_ + 2, h⟩, _ => absurd h (by omega)

/-- What the calls leave in the buffers they write. -/
def outs : Outs (F := F) := fun J r c => match J with
  | 1 => WA m c r
  | _ => Pipeline.afterRegion (dat1 c (tabs m) (WB m c)) (WB m c) r

theorem WA_v0 (c : Dev nD) : WA m c main_v0 = (starts (segOf (V0 m c)) : Vec F S8x8192 .i32) := by
  unfold WA
  rw [Function.update_self]

theorem V1_eq (c : Dev nD) : V1 m (outs m) c = WA m c := by
  show Function.update (V0 m c) main_v0 (WA m c main_v0) = WA m c
  unfold WA
  rw [Function.update_self]

theorem V2_eq (c : Dev nD) : V2 m (outs m) c = WB m c := congrArg (StableHlo.after hostOps1) (V1_eq m c)

/-- The first call's result array ends at the document starts. -/
theorem final0 (c : Dev nD) (V : Valuation τ sig (Elt F)) : (dat0 c V).arrAt 1 cfg0.N = (starts (segOf V) : Vec F S8x8192 .i32) := by
  have hz : (fun a => win0_1.index t0_0 a * main_v0.ty.shape.size a) = fun _ => 0 := funext fun a => by fin_cases a <;> decide
  refine (dat0 c V).arrAt_eq_of_cover 1 (starts (segOf V) : Vec F S8x8192 .i32) (fun t hf => ?_) fun i => ⟨t0_0, flush0_1 _, ?_⟩
  · obtain rfl := fin_N0 t
    exact (Memref.read_access_unit_zero (Elt F) main_v0 hz (fun a => by rw [congrFun hz a]; simp) (starts (segOf V) : Vec F S8x8192 .i32)).symm
  · show i ∈ ((View.whole main_v0).slice (win0_1.rect t0_0)).set
    rw [View.set_slice_whole, Rect.mem_set_unit]
    intro a
    have h0 : (i 0 : Nat) < 8 := (i 0).isLt
    have h1 : (i 1 : Nat) < 8192 := (i 1).isLt
    match a with
    | ⟨0, _⟩ => show win0_1.index t0_0 0 * win0_1.size 0 ≤ (i 0 : Nat) ∧ (i 0 : Nat) < win0_1.index t0_0 0 * win0_1.size 0 + win0_1.xsize (grid0.coords t0_0) 0
                rw [show win0_1.index t0_0 0 * win0_1.size 0 = 0 from by decide +kernel, show win0_1.xsize (grid0.coords t0_0) 0 = 8 from by decide +kernel]; omega
    | ⟨1, _⟩ => show win0_1.index t0_0 1 * win0_1.size 1 ≤ (i 1 : Nat) ∧ (i 1 : Nat) < win0_1.index t0_0 1 * win0_1.size 1 + win0_1.xsize (grid0.coords t0_0) 1
                rw [show win0_1.index t0_0 1 * win0_1.size 1 = 0 from by decide +kernel, show win0_1.xsize (grid0.coords t0_0) 1 = 8192 from by decide +kernel]; omega

omit [FloatOps F] [Named F] in
/-- Two valuations that agree on every unscoped reference hold the same. -/
theorem held_ext (c : Dev nD) (W W' : Valuation τ sig (Elt F)) (h : ∀ r : Ref sig .tc, W (Proc.devRef .tc r) = W' (Proc.devRef .tc r)) :
    (StableHlo.held (c : Thread nD τ) (Pipeline.ucRefs τ sig) W : sProp 𝕄G) = StableHlo.held (c : Thread nD τ) (Pipeline.ucRefs τ sig) W' :=
  StableHlo.held_congr (c : Thread nD τ) fun b hb => by
    obtain ⟨r, -, rfl⟩ := Finset.mem_map.mp (Finset.mem_filter.mp hb).1
    exact h r

theorem after0_eq (c : Dev nD) (r : Ref sig .tc) :
    Pipeline.afterRegion (dat0 c (V0 m c)) (V0 m c) (Proc.devRef .tc r) = V1 m (outs m) c (Proc.devRef .tc r) := by
  rw [V1_eq]
  by_cases h : r = main_v0
  · subst h
    refine (Pipeline.afterRegion_arr (dat0 c (V0 m c)) (V0 m c) winFacts0.arr_inj 1).trans ((final0 c _).trans ?_)
    exact (WA_v0 m c).symm
  · refine (Pipeline.afterRegion_keeps (dat0 c (V0 m c)) (V0 m c) winFacts0.arr_inj (fun _ => rfl) r fun w e => ?_).trans ?_
    · match w with
      | ⟨0, _⟩ => rfl
      | ⟨1, _⟩ => exact absurd e.symm h
    · unfold WA
      rw [Function.update_of_ne (StableHlo.devRef_ne_of_ne h)]

theorem after1_eq (c : Dev nD) (r : Ref sig .tc) :
    Pipeline.afterRegion (dat1 c (tabs m) (WB m c)) (WB m c) (Proc.devRef .tc r) = V3 m (outs m) c (Proc.devRef .tc r) := by
  by_cases h : r = main_v4
  · subst h
    show _ = Function.update (V2 m (outs m) c) (Proc.devRef .tc main_v4) (outs m 3 main_v4 c) (Proc.devRef .tc main_v4)
    rw [Function.update_self]
    rfl
  · refine (Pipeline.afterRegion_keeps (dat1 c (tabs m) (WB m c)) (WB m c) winFacts1.arr_inj (fun _ => rfl) r fun w e => ?_).trans ?_
    · match w with
      | ⟨0, _⟩ => rfl
      | ⟨1, _⟩ => rfl
      | ⟨2, _⟩ => rfl
      | ⟨3, _⟩ => rfl
      | ⟨4, _⟩ => rfl
      | ⟨5, _⟩ => rfl
      | ⟨6, _⟩ => rfl
      | ⟨7, _⟩ => exact absurd e.symm h
    · show _ = Function.update (V2 m (outs m) c) main_v4 _ (Proc.devRef .tc r)
      rw [Function.update_of_ne (StableHlo.devRef_ne_of_ne h), V2_eq]

/-! ## The two calls as segments of the run -/

/-- One level at every semaphore of a device's core. -/
abbrev lvls : GSem nD τ sig → Finset Unit := fun g => if g.1.2 = .tc then {()} else ∅

/-- What a core owes between items: nothing. -/
abbrev rest (c : Dev nD) : sProp 𝕄G := iprop(∃ W, owes (c : Thread nD τ) (0 : CellTallies nD τ sig Unit) W)

theorem cut (p : Fin 2) : Pipeline.LevelCut (pcfgs (F := F)) (adm m) () lvls (fun _ _ => (0 : ℕ)) p (fun _ => 0) (fun _ => 0) :=
  ⟨fun c w s => by simp [lvls], fun _ _ _ => le_refl _, fun _ _ _ h => absurd h (lt_irrefl _)⟩

/-- The first row's start of every tile, out of the starts of all rows. -/
theorem WB_v1 (c : Dev nD) : WB m c main_v1 = Host.slice S8x32 ![0, 0] ![1, 256] (starts (segOf (V0 m c)) : Vec F S8x8192 .i32) slicesBy_S8x8192_S8x32_0s1_0s256 := by
  unfold WB
  simp only [StableHlo.after_cons, StableHlo.after_nil]
  rw [StableHlo.reshape_result_ne _ _ _ _ _ (by decide), StableHlo.unary_result_ne _ _ _ _ (by decide), StableHlo.unary_result, WA_v0]
  all_goals decide

/-- The last row's. -/
theorem WB_v2 (c : Dev nD) : WB m c main_v2 = Host.slice S8x32 ![0, 255] ![1, 256] (starts (segOf (V0 m c)) : Vec F S8x8192 .i32) slicesBy_S8x8192_S8x32_0s1_255s256 := by
  unfold WB
  simp only [StableHlo.after_cons, StableHlo.after_nil]
  rw [StableHlo.reshape_result_ne _ _ _ _ _ (by decide), StableHlo.unary_result, StableHlo.unary_result_ne _ _ _ _ (by decide), WA_v0]
  all_goals decide

/-- All rows', in the shape the second call stages. -/
theorem WB_v3 (c : Dev nD) : WB m c main_v3 = shapeCast S8x1x8192 (starts (segOf (V0 m c)) : Vec F S8x8192 .i32) shapeCasts_S8x8192_S8x1x8192 := by
  unfold WB
  simp only [StableHlo.after_cons, StableHlo.after_nil]
  rw [StableHlo.reshape_result, StableHlo.unary_result_ne _ _ _ _ (by decide), StableHlo.unary_result_ne _ _ _ _ (by decide), WA_v0]
  all_goals first | rfl | decide

/-- The other arrays reach the second call as launched. -/
theorem WB_of (c : Dev nD) (r : Ref sig .tc) (h : r ∉ hostOps1_W) (h' : r ≠ main_v0) : WB m c (Proc.devRef .tc r) = m (c, Proc.devRef .tc r) := by
  rw [← V2_eq]
  exact (V2_of m (outs m) c r h).trans (V1_of m (outs m) c r (by simpa using h'))

theorem tf_eq (i : grid1.Coords) (t : ℕ) (ht : t < 32) : tf (tabs m) (wIx i t) = starts (segOf (V0 m 0)) (ixB (i 0).val (256 * t)) := by
  show WB m 0 main_v1 (wIx i t) = _
  rw [WB_v1]
  rw [Host.slice_apply]
  refine congrArg _ (funext fun a => Fin.ext ?_)
  have hi : (i 0).val < 8 := (i 0).isLt
  match a with
  | ⟨0, _⟩ => show 0 + 1 * (i 0).val = (i 0).val % 8; omega
  | ⟨1, _⟩ => show 0 + 256 * (t % 32) = 256 * t % 8192; omega

theorem tl_eq (i : grid1.Coords) (t : ℕ) (ht : t < 32) : tl (tabs m) (wIx i t) = starts (segOf (V0 m 0)) (ixB (i 0).val (256 * t + 255)) := by
  show WB m 0 main_v2 (wIx i t) = _
  rw [WB_v2]
  rw [Host.slice_apply]
  refine congrArg _ (funext fun a => Fin.ext ?_)
  have hi : (i 0).val < 8 := (i 0).isLt
  match a with
  | ⟨0, _⟩ => show 0 + 1 * (i 0).val = (i 0).val % 8; omega
  | ⟨1, _⟩ => show 255 + 256 * (t % 32) = (256 * t + 255) % 8192; omega

/-- Every tile's two words are in order and within its rows. -/
theorem good_tabs (i : grid1.Coords) (t : ℕ) (ht : t < 32) : Good t (tf (tabs m) (wIx i t)) (tl (tabs m) (wIx i t)) := by
  rw [tf_eq m i t ht, tl_eq m i t ht]
  exact good_starts _ _ t ht

set_option backward.isDefEq.respectTransparency.types false in
/-- The first call. -/
def seg0 : Pipeline.RegionSeg (pcfgs (F := F)) (adm m) (dats m) () defs₀ Variants.none lvls (fun _ _ => (0 : ℕ)) 0 :=
  Pipeline.RegionSeg.ofHeldIn (pcfgs (F := F)) (adm m) (dats m) () defs₀ Variants.none lvls (fun _ _ => (0 : ℕ)) 0 (fun _ => 0) (Pipeline.ucRefs τ sig)
    (fun _ => iprop(emp)) (fun _ => iprop(emp)) launch0 rfl
    (fun c => (body0 c (V0 m c)).loose) (fun _ _ => rfl) (fun _ => rfl) (fun c w => (dats m 0 c).share_full (fun _ => rfl) w)
    (fun c => show iprop(Pipeline.scopedRest (Ix := Unit) (Name := ℕ) (U := UR sig nD τ) (Lvl := ℕ) (Val := Elt F) spec0 c ∗ emp) ⊢ Pipeline.scopedRest (Ix := Unit) (Name := ℕ) (U := UR sig nD τ) (Lvl := ℕ) (Val := Elt F) spec0 c from by
      iintro ⟨H, -⟩
      iexact H)
    (fun c => show Pipeline.scopedRest (Ix := Unit) (Name := ℕ) (U := UR sig nD τ) (Lvl := ℕ) (Val := Elt F) spec0 c ⊢ iprop(Pipeline.scopedRest (Ix := Unit) (Name := ℕ) (U := UR sig nD τ) (Lvl := ℕ) (Val := Elt F) spec0 c ∗ emp) from by
      iintro H
      isplitl [H]
      · iexact H
      iempintro)
    (fun _ => 0) (cut m 0) (fun _ => iprop(emp)) (V0 m) (fun _ _ => rfl)

set_option backward.isDefEq.respectTransparency.types false in
/-- The second call. -/
def seg2 : Pipeline.RegionSeg (pcfgs (F := F)) (adm m) (dats m) () defs₀ Variants.none lvls (fun _ _ => (0 : ℕ)) 1 :=
  Pipeline.RegionSeg.ofHeldInT (pcfgs (F := F)) (adm m) (dats m) () defs₀ Variants.none lvls (fun _ _ => (0 : ℕ)) 1 (fun _ => 0) (Pipeline.ucRefs τ sig)
    (fun _ => iprop(emp)) (fun _ => iprop(emp)) launch1
    (fun c => (body1 c (tabs m) (WB m c) (good_tabs m)).loose) (fun _ _ => rfl) (fun _ => rfl) (fun c w => (dats m 1 c).share_full (fun _ => rfl) w)
    (fun c => show iprop((Pipeline.scopedRest (Ix := Unit) (Name := ℕ) (U := UR sig nD τ) (Lvl := ℕ) (Val := Elt F) spec1 c ∗ emp) ∗ Pipeline.prefHeld (Ix := Unit) (Name := ℕ) (U := UR sig nD τ) (Lvl := ℕ) pre1 c (fun _ => fullShare) (tabs m).1) ⊢ inv1 c (tabs m) from by
      iintro ⟨⟨H, -⟩, HT⟩
      isplitl [H]
      · iexact H
      iexact HT)
    (fun c => show inv1 c (tabs m) ⊢ iprop((Pipeline.scopedRest (Ix := Unit) (Name := ℕ) (U := UR sig nD τ) (Lvl := ℕ) (Val := Elt F) spec1 c ∗ emp) ∗ Pipeline.prefHeld (Ix := Unit) (Name := ℕ) (U := UR sig nD τ) (Lvl := ℕ) pre1 c (fun _ => fullShare) (tabs m).1) from by
      iintro ⟨H, HT⟩
      isplitl [H]
      · isplitl [H]
        · iexact H
        iempintro
      iexact HT)
    (fun _ => 0) (cut m 1) (fun _ => iprop(emp)) (WB m) (fun _ _ => rfl) (fun c k => by rw [Subsingleton.elim c 0]; rfl)

theorem arrs0 : Pipeline.arrRefs (τ := τ) (pcfgs (F := F) 0).spec ⊆ Pipeline.ucRefs τ sig := Pipeline.arrRefs_sub_ucRefs _ (by decide : ∀ w, (Pipeline.arrRef spec0 w).isScoped = false)
theorem arrs1 : Pipeline.arrRefs (τ := τ) (pcfgs (F := F) 1).spec ⊆ Pipeline.ucRefs τ sig := Pipeline.arrRefs_sub_ucRefs _ (by decide : ∀ w, (Pipeline.arrRef spec1 w).isScoped = false)
theorem tbls1 : Pipeline.tblRefs (τ := τ) (pcfgs (F := F) 1).pre ⊆ Pipeline.ucRefs τ sig := Pipeline.tblRefs_sub_ucRefs _ (by decide : ∀ k, (pre1.ref k).isScoped = false)

theorem hpre0 (c : Dev nD) : iprop(StableHlo.held (c : Thread nD τ) (Pipeline.ucRefs τ sig) (V0 m c) ∗ rest (F := F) c) ⊢ (seg0 m).pre c := by
  unfold seg0
  refine BIBase.Entails.trans ?_ (Pipeline.RegionSeg.ofHeldIn_pre (arrs0 (F := F)) c)
  iintro ⟨Hh, HO⟩
  isplitl [Hh]
  · iexact Hh
  isplitl [HO]
  · iexact HO
  isplitl <;> iempintro

theorem hpost0 (c : Dev nD) : (seg0 m).post c ⊢ iprop(StableHlo.held (c : Thread nD τ) (Pipeline.ucRefs τ sig) (V1 m (outs m) c) ∗ rest (F := F) c) := by
  unfold seg0
  refine BIBase.Entails.trans (Pipeline.RegionSeg.ofHeldIn_post (arrs0 (F := F)) c) ?_
  rw [show StableHlo.held (c : Thread nD τ) (Pipeline.ucRefs τ sig) (Pipeline.afterRegion (dats m 0 c) (V0 m c))
    = (StableHlo.held (c : Thread nD τ) (Pipeline.ucRefs τ sig) (V1 m (outs m) c) : sProp 𝕄G) from held_ext c _ _ (after0_eq m c)]
  iintro ⟨Hh, HO, -⟩
  isplitl [Hh]
  · iexact Hh
  iexact HO

theorem hpre1 (c : Dev nD) : iprop(StableHlo.held (c : Thread nD τ) (Pipeline.ucRefs τ sig) (V2 m (outs m) c) ∗ rest (F := F) c) ⊢ (seg2 m).pre c := by
  rw [V2_eq]
  unfold seg2
  refine BIBase.Entails.trans ?_ (Pipeline.RegionSeg.ofHeldInT_pre (arrs1 (F := F)) (tbls1 (F := F)) c)
  iintro ⟨Hh, HO⟩
  isplitl [Hh]
  · iexact Hh
  isplitl [HO]
  · iexact HO
  isplitl <;> iempintro

theorem hpost1 (c : Dev nD) : (seg2 m).post c ⊢ iprop(StableHlo.held (c : Thread nD τ) (Pipeline.ucRefs τ sig) (V3 m (outs m) c) ∗ rest (F := F) c) := by
  unfold seg2
  refine BIBase.Entails.trans (Pipeline.RegionSeg.ofHeldInT_post (arrs1 (F := F)) (tbls1 (F := F)) c) ?_
  rw [show StableHlo.held (c : Thread nD τ) (Pipeline.ucRefs τ sig) (Pipeline.afterRegion (dats m 1 c) (WB m c))
    = (StableHlo.held (c : Thread nD τ) (Pipeline.ucRefs τ sig) (V3 m (outs m) c) : sProp 𝕄G) from held_ext c _ _ (after1_eq m c)]
  iintro ⟨Hh, HO, -⟩
  isplitl [Hh]
  · iexact Hh
  iexact HO

/-! ## The run -/

set_option backward.isDefEq.respectTransparency.types false in
/-- From any memory with zero counters, every weakly fair execution terminates with the arguments as launched, the
    result at what the second call leaves, and every counter at zero. -/
theorem run : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.mem ((c.tc : Thread nD τ).loc main_v4) = V3 m (outs m) c main_v4)
      ∧ r.2.sem = fun _ => 0) := by
  refine Pipeline.θ_run_regions_kit_dev_sems (pcfgs (F := F)) (adm m) (dats m) () (cellOf_inj (adm m)) emb₁ defs₀ Variants.none lvls (fun _ _ => (0 : ℕ)) m ρ main
    (segs m (outs m) Variants.none lvls (fun _ _ => (0 : ℕ)) (fun _ => rest) () (adm m) (dats m) (seg0 m) (seg2 m))
    (fun c Q => by
      rewrite [main_chain c, Seg.run_eq_chain,
        show (segs m (outs m) Variants.none lvls (fun _ _ => (0 : ℕ)) (fun _ => rest) () (adm m) (dats m) (seg0 m) (seg2 m) c).map Seg.prog = [
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) (fun _ => 0) (fun g hg => if_neg hg) (fun _ => iprop(emp))
    (initOf (Pipeline.cells (Pipeline.pin (pcfgs (F := F)) (adm m)) (cellOf_inj (adm m))) (Pipeline.launchToks (Pipeline.pin (pcfgs (F := F)) (adm m)) (cellOf_inj (adm m))))
    (by
      iintro Hu
      imodintro
      isplitl [Hu]
      · iapply (show (ownU _ : sProp 𝕄G) ⊢ BI.own (emb₁ _) from .rfl)
        iexact Hu
      iapply (show (BI.emp : sProp 𝕄G) ⊢ bigSep Finset.univ (fun _ : Dev nD => (BI.emp : sProp 𝕄G)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (V3 m (outs m) c))
    (hch := fun c => ⟨hpre0 m c, hpost0 m c, hpre1 m c, hpost1 m c⟩)
    (hinit := ?_) (QY := fun c s => (s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6)) ∧ s.mem ((c.tc : Thread nD τ).loc main_v4) = V3 m (outs m) c main_v4)
    (hfin := fun c s' => ?_) (hQ := fun _ h hz => ⟨h, funext fun g => hz g (.inr (regions_no_unscoped g.2))⟩)
  · refine Pipeline.initEach lvls (fun _ _ => (0 : ℕ)) fun c => ?_
    rw [show unscopedBufs c (fun b => m ((c.tc : Thread nD τ).loc b)) = StableHlo.held (c.tc : Thread nD τ) (Pipeline.ucRefs τ sig) (V0 m c)
      from Pipeline.unscopedBufs_held (Ix := Unit) (Name := ℕ) (U := UR sig nD τ) (Lvl := ℕ) c (V0 m c)]
    iintro ⟨⟨Hh, -, HO, -⟩, -⟩
    imodintro
    isplitl [Hh]
    · iexact Hh
    iexists _
    iexact HO
  · -- the end: each argument's buffer read off the last valuation
    unfold StableHlo.held
    iintro ⟨Hh, HSI⟩
    ihave Hr := (pointsTo_read_all (Pipeline.ucRefs τ sig) (fun b => ((c : Thread nD τ).1, b)) (V3 m (outs m) c) s') $$ [Hh HSI]
    · isplitl [Hh] <;> iassumption
    icases Hr with ⟨%h, HSI⟩
    imodintro
    isplitr
    · ipureintro
      exact ⟨⟨(h (Proc.devRef .tc main_arg0) (Finset.mem_filter.mpr ⟨StableHlo.devRef_mem_tcRefs main_arg0, by decide⟩)).trans (V3_main_arg0 m (outs m) c),
        (h (Proc.devRef .tc main_arg1) (Finset.mem_filter.mpr ⟨StableHlo.devRef_mem_tcRefs main_arg1, by decide⟩)).trans (V3_main_arg1 m (outs m) c),
        (h (Proc.devRef .tc main_arg2) (Finset.mem_filter.mpr ⟨StableHlo.devRef_mem_tcRefs main_arg2, by decide⟩)).trans (V3_main_arg2 m (outs m) c),
        (h (Proc.devRef .tc main_arg3) (Finset.mem_filter.mpr ⟨StableHlo.devRef_mem_tcRefs main_arg3, by decide⟩)).trans (V3_main_arg3 m (outs m) c),
        (h (Proc.devRef .tc main_arg4) (Finset.mem_filter.mpr ⟨StableHlo.devRef_mem_tcRefs main_arg4, by decide⟩)).trans (V3_main_arg4 m (outs m) c),
        (h (Proc.devRef .tc main_arg5) (Finset.mem_filter.mpr ⟨StableHlo.devRef_mem_tcRefs main_arg5, by decide⟩)).trans (V3_main_arg5 m (outs m) c),
        (h (Proc.devRef .tc main_arg6) (Finset.mem_filter.mpr ⟨StableHlo.devRef_mem_tcRefs main_arg6, by decide⟩)).trans (V3_main_arg6 m (outs m) c)⟩,
        h (Proc.devRef .tc main_v4) (Finset.mem_filter.mpr ⟨StableHlo.devRef_mem_tcRefs main_v4, by decide⟩)⟩
    · iexact HSI

end Cert.KernelIdeal

end
-- ==== Proof.Claims.lean ====
/-
  The frames and the named constants: every argument of the kernel and of the reference is left as it was and every
  semaphore at zero, and the two constants the kernel names are what their bit patterns stand for.
-/
module

public import proofs.«01_k».proof.Defs
public import proofs.«01_k».proof.Proof.Run
public import proofs.«01_k».proof.Proof.Ideal.Run
public import proofs.«01_k».proof.Proof.Gen.ReferenceIdeal.Value

@[expose] public section

noncomputable section

namespace Cert.Proof

open Idealize.ShloMosaic Idealize.SL.Sem

/-- The kernel's run ends, its arguments unchanged. -/
theorem frame_kernel : Cert.quiescent_Kernel (hKernel := Cert.Kernel.Gen.facts) := fun m g _ =>
  (θ_run Cert.Kernel.defs _ _).mono (fun _ h => ⟨fun c => (h.1 c).1, h.2⟩) (Cert.Kernel.run (F := Bits) m g)

/-- The same of the idealized kernel. -/
theorem frame_ideal : Cert.quiescent_KernelIdeal (hKernelIdeal := Cert.KernelIdeal.Gen.facts) := fun m g _ =>
  (θ_run Cert.KernelIdeal.defs _ _).mono (fun _ h => ⟨fun c => (h.1 c).1, h.2⟩) (Cert.KernelIdeal.run (F := Ideal) m g)

/-- The reference's run ends, its arguments unchanged. -/
theorem frame_reference : Cert.quiescent_ReferenceIdeal (hReferenceIdeal := Cert.ReferenceIdeal.Gen.facts) := fun m g _ =>
  Cert.ReferenceIdeal.Gen.frame (F := Ideal) m g

/-- The two constants the idealized kernel names: the softmax scale in base two and the logarithm of the largest code. -/
theorem preserves : Cert.preserves_Kernel_KernelIdeal :=
  ⟨IdealRules.named_const.statement Cert.KernelIdeal.κ "log2_scale" .f32 0x3E0293EE#32 (((Real.sqrt 128)⁻¹ * (Real.log 2)⁻¹ : ℝ) : EReal) rfl,
    IdealRules.named_const.statement Cert.KernelIdeal.κ "log2_fp8_max" .f32 0x410CEAED#32 (((Real.log 448) * (Real.log 2)⁻¹ : ℝ) : EReal) rfl⟩

end Cert.Proof

end
-- ==== Proof.Value.Sums.lean ====
/-
  Sums and maxima over the keys, taken tile by tile: 256 keys a tile, each tile in two halves of 128 lanes.
-/
module

public import Idealize.ShloMosaic.PureOps.Ideal.Laws

@[expose] public section

noncomputable section

namespace Cert.Sums

/-- The two halves of a tile's lanes. -/
theorem halves (g : ℕ → EReal) : ∑ j : Fin 128, (g j.val + g (128 + j.val)) = ∑ x : Fin 256, g x.val := by
  rw [Fin.sum_univ_eq_sum_range g 256, Fin.sum_univ_eq_sum_range (fun j => g j + g (128 + j)) 128, Finset.sum_add_distrib,
    show 256 = 128 + 128 from rfl, Finset.sum_range_add]

/-- The tiles `a … a + k − 1` are the keys `256 a … 256 (a + k) − 1`. -/
theorem tiles_Ico (g : ℕ → EReal) (a k : ℕ) :
    ∑ i ∈ Finset.range k, ∑ x : Fin 256, g (256 * (a + i) + x.val) = ∑ y ∈ Finset.Ico (256 * a) (256 * (a + k)), g y := by
  induction k with
  | zero => simp
  | succ k ih =>
    rw [Finset.sum_range_succ, ih, ← Finset.sum_Ico_consecutive g (show 256 * a ≤ 256 * (a + k) by omega) (show 256 * (a + k) ≤ 256 * (a + (k + 1)) by omega),
      Fin.sum_univ_eq_sum_range (fun x => g (256 * (a + k) + x)) 256, Finset.sum_Ico_eq_sum_range g (256 * (a + k)),
      show 256 * (a + (k + 1)) - 256 * (a + k) = 256 by omega]

/-- A sum over tiles outside of which every term is zero is the sum over all keys. -/
theorem tiles (g : ℕ → EReal) (a k : ℕ) (hk : a + k ≤ 32) (h0 : ∀ y, y < 8192 → (y < 256 * a ∨ 256 * (a + k) ≤ y) → g y = 0) :
    ∑ i ∈ Finset.range k, ∑ x : Fin 256, g (256 * (a + i) + x.val) = ∑ y : Fin 8192, g y.val := by
  rw [tiles_Ico, Fin.sum_univ_eq_sum_range g 8192]
  refine Finset.sum_subset (fun y hy => ?_) (fun y hy hn => ?_)
  · rw [Finset.mem_Ico] at hy; rw [Finset.mem_range]; omega
  · rw [Finset.mem_range] at hy; rw [Finset.mem_Ico] at hn
    exact h0 y hy (by omega)

/-- A maximum over the two halves of tiles outside of which every score is `⊥` is the maximum over all keys. -/
theorem sup_tiles (T : ℕ → EReal) (a k : ℕ) (hk : a + k ≤ 32) (h0 : ∀ y, y < 8192 → (y < 256 * a ∨ 256 * (a + k) ≤ y) → T y = ⊥) :
    Finset.univ.sup (fun j : Fin 128 => (Finset.range k).sup fun i => max (T (256 * (a + i) + j.val)) (T (256 * (a + i) + (128 + j.val))))
      = Finset.univ.sup (fun y : Fin 8192 => T y.val) := by
  apply le_antisymm
  · refine Finset.sup_le fun j _ => Finset.sup_le fun i hi => ?_
    rw [Finset.mem_range] at hi
    have hj := j.isLt
    exact max_le
      (Finset.le_sup (f := fun y : Fin 8192 => T y.val) (Finset.mem_univ ⟨256 * (a + i) + j.val, by omega⟩))
      (Finset.le_sup (f := fun y : Fin 8192 => T y.val) (Finset.mem_univ ⟨256 * (a + i) + (128 + j.val), by omega⟩))
  · refine Finset.sup_le fun y _ => ?_
    by_cases hy : y.val < 256 * a ∨ 256 * (a + k) ≤ y.val
    · rw [h0 y.val y.isLt hy]; exact bot_le
    · have hi : y.val / 256 - a < k := by omega
      have hm : y.val % 256 < 256 := Nat.mod_lt _ (by omega)
      by_cases hh : y.val % 256 < 128
      · refine le_trans ?_ (Finset.le_sup (f := fun j : Fin 128 => (Finset.range k).sup fun i => max (T (256 * (a + i) + j.val)) (T (256 * (a + i) + (128 + j.val)))) (Finset.mem_univ ⟨y.val % 256, hh⟩))
        refine le_trans ?_ (Finset.le_sup (f := fun i => max (T (256 * (a + i) + y.val % 256)) (T (256 * (a + i) + (128 + y.val % 256)))) (Finset.mem_range.mpr hi))
        have e : 256 * (a + (y.val / 256 - a)) + y.val % 256 = y.val := by omega
        show T y.val ≤ max (T (256 * (a + (y.val / 256 - a)) + y.val % 256)) _
        rw [e]; exact le_max_left _ _
      · refine le_trans ?_ (Finset.le_sup (f := fun j : Fin 128 => (Finset.range k).sup fun i => max (T (256 * (a + i) + j.val)) (T (256 * (a + i) + (128 + j.val)))) (Finset.mem_univ ⟨y.val % 256 - 128, by omega⟩))
        refine le_trans ?_ (Finset.le_sup (f := fun i => max (T (256 * (a + i) + (y.val % 256 - 128))) (T (256 * (a + i) + (128 + (y.val % 256 - 128))))) (Finset.mem_range.mpr hi))
        have e : 256 * (a + (y.val / 256 - a)) + (128 + (y.val % 256 - 128)) = y.val := by omega
        show T y.val ≤ max _ (T (256 * (a + (y.val / 256 - a)) + (128 + (y.val % 256 - 128))))
        rw [e]; exact le_max_right _ _

end Cert.Sums

end
-- ==== Proof.Value.Softmax.lean ====
/-
  The mathematics of one row of the attention, over the extended reals: the weights the kernel takes to the base two,
  already scaled by the largest code, against the reference's weights to the base e.
-/
module

public import Idealize.ShloMosaic.PureOps.Ideal
public import Idealize.ShloMosaic.PureOps.Ideal.Laws

@[expose] public section

noncomputable section

namespace Cert.Softmax

open Idealize.ShloMosaic

/-- The word of minus infinity. -/
theorem neg_inf : Ideal.ofBits .f32 0xFF800000#32 = (⊥ : EReal) := by
  simp [Ideal.ofBits, Ideal.ieee]
/-- The word of the largest code, 448. -/
theorem big : Ideal.ofBits .f32 0x43E00000#32 = ((448 : ℝ) : EReal) := by
  simp [Ideal.ofBits, Ideal.ieee, -EReal.coe_mul]; norm_num
/-- The word of the least code, −448. -/
theorem neg_big : Ideal.ofBits .f32 0xC3E00000#32 = ((-448 : ℝ) : EReal) := by
  simp [Ideal.ofBits, Ideal.ieee, -EReal.coe_mul, -EReal.coe_neg]; norm_num

/-- A fold by `max` from `⊥` is the supremum. -/
theorem fold_sup {ι : Type} (s : Finset ι) (f : ι → EReal) : s.fold max ⊥ f = s.sup f := rfl

/-- A weight, both ways. Of a scaled score no greater than the maximum the reference's weight is a real `p` in `[0, 1]`, and
    the kernel's power of two is `448 p`: also where the maximum is infinite, where both are zero. -/
theorem weight (t M : EReal) (h : t ≤ M) (r l : ℝ) (hr : r = (Real.log 2)⁻¹) (hl : l = Real.log 448 * (Real.log 2)⁻¹) :
    ∃ p : ℝ, 0 ≤ p ∧ p ≤ 1 ∧ Ideal.exp (t - M) = (p : EReal) ∧ Ideal.exp2 (t * r - (M * r - l)) = ((p * 448 : ℝ) : EReal) := by
  have h2 : 0 < Real.log 2 := Real.log_pos (by norm_num)
  have hr0 : 0 < r := by rw [hr]; positivity
  induction M using EReal.rec with
  | bot =>
    obtain rfl : t = ⊥ := le_bot_iff.mp h
    refine ⟨0, le_rfl, zero_le_one, ?_, ?_⟩
    · rw [EReal.bot_sub]; exact EReal.coe_zero.symm
    · rw [EReal.bot_mul_coe_of_pos hr0, EReal.bot_sub]; rw [zero_mul]; exact EReal.coe_zero.symm
  | top =>
    refine ⟨0, le_rfl, zero_le_one, ?_, ?_⟩
    · rw [EReal.sub_top]; exact EReal.coe_zero.symm
    · rw [EReal.top_mul_coe_of_pos hr0, EReal.top_sub_coe, EReal.sub_top]; rw [zero_mul]; exact EReal.coe_zero.symm
  | coe M =>
    induction t using EReal.rec with
    | bot =>
      refine ⟨0, le_rfl, zero_le_one, ?_, ?_⟩
      · rw [EReal.bot_sub]; exact EReal.coe_zero.symm
      · rw [EReal.bot_mul_coe_of_pos hr0, EReal.bot_sub]; rw [zero_mul]; exact EReal.coe_zero.symm
    | top => exact absurd (top_le_iff.mp h) (EReal.coe_ne_top M)
    | coe t =>
      have h' : t ≤ M := EReal.coe_le_coe_iff.mp h
      refine ⟨Real.exp (t - M), (Real.exp_pos _).le, ?_, ?_, ?_⟩
      · rw [Real.exp_le_one_iff]; linarith
      · rw [← EReal.coe_sub]; rfl
      · rw [← EReal.coe_mul, ← EReal.coe_mul, ← EReal.coe_sub, ← EReal.coe_sub]
        show ((Real.rpow 2 _ : ℝ) : EReal) = _
        congr 1
        show (2 : ℝ) ^ (t * r - (M * r - l)) = _
        rw [Real.rpow_def_of_pos (by norm_num), hr, hl,
          show Real.log 2 * (t * (Real.log 2)⁻¹ - (M * (Real.log 2)⁻¹ - Real.log 448 * (Real.log 2)⁻¹))
            = (t - M) + Real.log 448 from by field_simp; ring,
          Real.exp_add, Real.exp_log (by norm_num)]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A score scaled by a positive number is no greater than the maximum so scaled, and the maximum of the scaled scores is
    the maximum scaled. -/
theorem sup_scale {ι : Type} [Fintype ι] (t : ι → EReal) (σ : EReal) (hσ : 0 < σ) :
    Finset.univ.sup (fun k => t k * σ) = Finset.univ.sup t * σ := by
  classical
  refine (Finset.comp_sup_eq_sup_comp_of_is_total (fun x => x * σ) ?_ ?_).symm
  · intro a b hab
    exact mul_le_mul_of_nonneg_right hab hσ.le
  · exact EReal.bot_mul_of_pos hσ

/-- ONE ROW. `t` the scores before the query's scale (`⊥` where masked), `v` a column of the values, `w` its scale: what the
    kernel divides is what the reference divides. -/
theorem row_eq {ι : Type} [Fintype ι] (t v : ι → EReal) (w σ c : EReal) (l : ℝ) (hσ : 0 < σ) (hc : c = σ * (((Real.log 2)⁻¹ : ℝ) : EReal))
    (hl : l = Real.log 448 * (Real.log 2)⁻¹) :
    Ideal.div ((∑ k, min (Ideal.exp2 (t k * c - (Finset.univ.sup t * c - l))) ((448 : ℝ) : EReal) * v k) * w)
        (∑ k, Ideal.exp2 (t k * c - (Finset.univ.sup t * c - l)))
      = Ideal.div ((∑ k, min ((448 : ℝ) : EReal) (max ((-448 : ℝ) : EReal)
            (Ideal.exp (t k * σ - Finset.univ.sup (fun k => t k * σ)) * ((448 : ℝ) : EReal))) * v k)
          * (((1 / 448 : ℝ) : EReal) * w))
        (∑ k, Ideal.exp (t k * σ - Finset.univ.sup (fun k => t k * σ))) := by
  rw [sup_scale t σ hσ, hc]
  simp only [← mul_assoc _ σ _]
  choose p h0 h1 he h2 using fun k => weight (t k * σ) (Finset.univ.sup t * σ)
    (mul_le_mul_of_nonneg_right (Finset.le_sup (Finset.mem_univ k)) hσ.le) _ l rfl hl
  simp only [he, h2]
  have ha : ∀ k, min (((p k * 448 : ℝ)) : EReal) ((448 : ℝ) : EReal) = ((p k * 448 : ℝ) : EReal) := fun k =>
    min_eq_left (EReal.coe_le_coe_iff.mpr (by nlinarith [h1 k]))
  have hb : ∀ k, min ((448 : ℝ) : EReal) (max ((-448 : ℝ) : EReal) ((p k : EReal) * ((448 : ℝ) : EReal))) = ((p k * 448 : ℝ) : EReal) := fun k => by
    rw [← EReal.coe_mul, max_eq_right (EReal.coe_le_coe_iff.mpr (by nlinarith [h0 k])), min_eq_right (EReal.coe_le_coe_iff.mpr (by nlinarith [h1 k]))]
  simp only [ha, hb]
  rw [← coe_sum, ← coe_sum, ← Finset.sum_mul]
  generalize hO : ∑ k, ((p k * 448 : ℝ) : EReal) * v k = O
  have hL0 : 0 ≤ ∑ k, p k := Finset.sum_nonneg fun k _ => h0 k
  rcases hL0.eq_or_lt with hz | hpos
  · have hp : ∀ k, p k = 0 := fun k => (Finset.sum_eq_zero_iff_of_nonneg fun k _ => h0 k).mp hz.symm k (Finset.mem_univ k)
    have : O = 0 := by rw [← hO]; exact Finset.sum_eq_zero fun k _ => by rw [hp k]; simp
    rw [this, ← hz]; simp
  · generalize hL : ∑ k, p k = L at *
    have e1 : ((L * 448 : ℝ) : EReal) ≠ 0 := by
      rw [Ne, EReal.coe_eq_zero]; positivity
    have e2 : ((L : ℝ) : EReal) ≠ 0 := by
      rw [Ne, EReal.coe_eq_zero]; positivity
    unfold Ideal.div
    rw [if_neg e1, if_neg e2, ← EReal.coe_inv, ← EReal.coe_inv, mul_assoc, mul_assoc, mul_comm _ w, mul_assoc, ← EReal.coe_mul]
    congr 3
    rw [mul_inv]; ring

end Cert.Softmax

end
-- ==== Proof.Value.Tiles.lean ====
/-
  What the kernel computes for one query tile, read at an element: the scores of each key tile, the maximum and the sums
  over the tiles as a maximum and sums over all the keys.
-/
module

public import proofs.«01_k».proof.Proof.Ideal.Fun
public import proofs.«01_k».proof.Proof.Value.Sums
public import proofs.«01_k».proof.Proof.Value.Softmax
public import Idealize.ShloMosaic.Lib.Pointwise

@[expose] public section

set_option maxRecDepth 16384

noncomputable section

namespace Cert.KernelIdeal

open Idealize.ShloMosaic Cert.KernelIdeal.Gen

theorem tileR_apply {e : EltTy} (X : Vec Ideal S1x8192x128 e) (n : ℕ) (hn : n < 32) (r : Fin 256) (d : Fin 128) :
    tileR X n (ix3 0 r d) = X (ix3 0 ⟨256 * n + r.val, by omega⟩ d) := by
  unfold tileR VecWindow.window
  congr 1
  funext a
  match a with
  | ⟨0, _⟩ => rfl
  | ⟨1, _⟩ => exact Fin.ext (by show 256 * (n % 32) + 1 * r.val = 256 * n + r.val; rw [Nat.mod_eq_of_lt hn, one_mul])
  | ⟨2, _⟩ => exact Fin.ext (by show 0 + 1 * d.val = d.val; omega)
theorem tileL_apply {e : EltTy} (X : Vec Ideal S1x1x1x8192 e) (n : ℕ) (hn : n < 32) (x : Fin 256) :
    tileL X n (ix4 0 0 0 x) = X (ix4 0 0 0 ⟨256 * n + x.val, by omega⟩) := by
  unfold tileL VecWindow.window
  congr 1
  funext a
  match a with
  | ⟨0, _⟩ => rfl
  | ⟨1, _⟩ => rfl
  | ⟨2, _⟩ => rfl
  | ⟨3, _⟩ => exact Fin.ext (by show 256 * (n % 32) + 1 * x.val = 256 * n + x.val; rw [Nat.mod_eq_of_lt hn, one_mul])
theorem tileD_apply {e : EltTy} (X : Vec Ideal S1x1x8192 e) (n : ℕ) (hn : n < 32) (x : Fin 256) :
    tileD X n (ix3 0 0 x) = X (ix3 0 0 ⟨256 * n + x.val, by omega⟩) := by
  unfold tileD VecWindow.window
  congr 1
  funext a
  match a with
  | ⟨0, _⟩ => rfl
  | ⟨1, _⟩ => rfl
  | ⟨2, _⟩ => exact Fin.ext (by show 256 * (n % 32) + 1 * x.val = 256 * n + x.val; rw [Nat.mod_eq_of_lt hn, one_mul])

/-- The score of a query row against a key, before the query's scale and the mask. -/
def raw (Q K : Vec Ideal S1x8192x128 .fp8e4m3) (KS : Vec Ideal S1x1x1x8192 .f32) (row key : Fin 8192) : EReal :=
  (∑ d : Fin 128, Q (ix3 0 row d) * K (ix3 0 key d)) * KS (ix4 0 0 0 key)

/-- The masked score: `⊥` for a key before the row's document and for a key after the row. -/
def T (Q K : Vec Ideal S1x8192x128 .fp8e4m3) (KS : Vec Ideal S1x1x1x8192 .f32) (DS : Vec Ideal S1x1x8192 .i32) (row key : Fin 8192) : EReal :=
  if (DS (ix3 0 0 row) : BitVec 32).toNat ≤ key.val ∧ key.val ≤ row.val then raw Q K KS row key else ⊥

/-- A select on two signed comparisons of small words. -/
theorem select_and (a b c d : ℕ) (ha : a < 8192) (hb : b < 8192) (w : BitVec 32) (hw : w.toNat < 8192) (x y : EReal) :
    Scalar.select (IntOp.andi (IntOp.cmpi CmpIPredicate.sle (BitVec.ofNat 32 a) (BitVec.ofNat 32 b))
        (IntOp.cmpi CmpIPredicate.sge (BitVec.ofNat 32 a) w)) x y = if w.toNat ≤ a ∧ a ≤ b then x else y := by
  have e1 : IntOp.cmpi CmpIPredicate.sle (BitVec.ofNat 32 a) (BitVec.ofNat 32 b) = BitVec.ofBool (decide (a ≤ b)) := by
    simp only [IntOp.cmpi]
    congr 1
    rw [BitVec.sle_eq_decide, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    exact decide_eq_decide.mpr (by omega)
  have e2 : IntOp.cmpi CmpIPredicate.sge (BitVec.ofNat 32 a) w = BitVec.ofBool (decide (w.toNat ≤ a)) := by
    simp only [IntOp.cmpi]
    congr 1
    rw [BitVec.sle_eq_decide, BitVec.toInt_eq_toNat_of_lt (by omega), BitVec.toInt_eq_toNat_of_lt (by rw [BitVec.toNat_ofNat]; omega),
      BitVec.toNat_ofNat, Nat.mod_eq_of_lt (by omega)]
    exact decide_eq_decide.mpr (by omega)
  rw [e1, e2]
  by_cases h1 : a ≤ b <;> by_cases h2 : w.toNat ≤ a <;> simp [h1, h2, IntOp.andi, Scalar.select]

variable (Q K V : Vec Ideal S1x8192x128 .fp8e4m3) (QS KS : Vec Ideal S1x1x1x8192 .f32) (VS : Vec Ideal S1x1x1x128 .f32)
  (DS : Vec Ideal S1x1x8192 .i32)

/-- The unmasked score tile. -/
theorem plain_apply (t n : ℕ) (ht : t < 32) (hn : n < 32) (r x : Fin 256) :
    k1_pay14 (F := Ideal) (k1_pay7 (tileR Q t)) (tileR K n) (tileL KS n) (ix2 r x)
      = raw Q K KS ⟨256 * t + r.val, by omega⟩ ⟨256 * n + x.val, by omega⟩ := by
  pointwise [k1_pay14, k1_pay7]
  simp only [tileR_apply _ t ht, tileR_apply _ n hn, tileL_apply _ n hn]
  rfl

/-- The masked score tile. -/
theorem msc_apply (t n : ℕ) (ht : t < 32) (hn : n < 32) (r x : Fin 256) (hd : (DS (ix3 0 0 ⟨256 * t + r.val, by omega⟩) : BitVec 32).toNat < 8192) :
    msc (F := Ideal) (k1_pay7 (tileR Q t)) K KS (k1_pay3 (F := Ideal) (tileD DS t)) t n (ix2 r x)
      = T Q K KS DS ⟨256 * t + r.val, by omega⟩ ⟨256 * n + x.val, by omega⟩ := by
  unfold msc
  pointwise [k1_pay24, k1_pay21, k1_pay22, k1_pay23, k1_pay3]
  rw [show k1_pay20 (F := Ideal) (k1_pay7 (tileR Q t)) (tileR K n) (tileL KS n) (ix2 r x) = _ from plain_apply Q K KS t n ht hn r x]
  simp only [tileD_apply _ t ht, Softmax.neg_inf, dite_eq_ite, ite_self]
  rw [show v2w t = BitVec.ofNat 32 (256 * t) from by unfold v2w; rw [tw_eq, row_word'], row_word']
  simp only [IntOp.addi, ← BitVec.ofNat_add]
  rw [select_and _ _ 0 0 (by omega) (by omega) _ hd]
  rfl

/-- The score tile the kernel takes is the masked one: where it leaves the mask out, no key of the tile is masked. -/
theorem score_apply (t n : ℕ) (ht : t < 32) (hn : n ≤ t) (l : BitVec 32) (r x : Fin 256)
    (hd : (DS (ix3 0 0 ⟨256 * t + r.val, by omega⟩) : BitVec 32).toNat ≤ l.toNat) (hl : l.toNat < 8192) :
    score (F := Ideal) (k1_pay7 (tileR Q t)) K KS (k1_pay3 (F := Ideal) (tileD DS t)) t l n (ix2 r x)
      = T Q K KS DS ⟨256 * t + r.val, by omega⟩ ⟨256 * n + x.val, by omega⟩ := by
  unfold score
  split
  · rename_i h
    rw [plain_apply Q K KS t n ht (by omega) r x]
    unfold T
    rw [if_pos]
    have h1 := h.1; have h2 := h.2
    unfold jc at h1
    refine ⟨?_, ?_⟩
    · show _ ≤ 256 * n + x.val; omega
    · show 256 * n + x.val ≤ 256 * t + r.val; omega
  · exact msc_apply Q K KS DS t n ht (by omega) r x (by omega)

/-- The masked scores of a row by the key's number. -/
def Tn (row : Fin 8192) (y : ℕ) : EReal := if h : y < 8192 then T Q K KS DS row ⟨y, h⟩ else ⊥
/-- A column of the values by the key's number. -/
def Vn (d : Fin 128) (y : ℕ) : EReal := if h : y < 8192 then V (ix3 0 ⟨y, h⟩ d) else 0

section Loops
variable (s : ℕ → FVec Ideal S256x256 .f32) (g : ℕ → EReal) (a k : ℕ) (r : Fin 256)

/-- The running maximum of a row's lane over the tiles so far. -/
theorem mx_apply (hs : ∀ i, i < k → ∀ x : Fin 256, s (a + i) (ix2 r x) = g (256 * (a + i) + x.val)) (j : Fin 128) :
    mx (F := Ideal) s a k (ix2 r j) = (Finset.range k).sup fun i => max (g (256 * (a + i) + j.val)) (g (256 * (a + i) + (128 + j.val))) := by
  induction k with
  | zero =>
    show k1_pay4 (F := Ideal) (ix2 r j) = _
    pointwise [k1_pay4]
    rw [Softmax.neg_inf]; rfl
  | succ k ih =>
    show mxStep (F := Ideal) (s (a + k)) (mx s a k) (ix2 r j) = _
    pointwise [mxStep]
    rw [ih fun i hi => hs i (by omega), hs k (by omega), hs k (by omega), Finset.range_add_one, Finset.sup_insert]
    exact max_comm _ _

variable (cs m : FVec Ideal S256x128 .f32) (c μ : EReal) (hc : ∀ j, cs (ix2 r j) = c) (hm : ∀ j, m (ix2 r j) = μ)
include hc hm

/-- The running sum of a row's lane over the tiles so far. -/
theorem ls_apply (hs : ∀ i, i < k → ∀ x : Fin 256, s (a + i) (ix2 r x) = g (256 * (a + i) + x.val)) (j : Fin 128) :
    ls (F := Ideal) s cs m a k (ix2 r j) = ∑ i ∈ Finset.range k,
      (Ideal.exp2 (g (256 * (a + i) + j.val) * c - μ) + Ideal.exp2 (g (256 * (a + i) + (128 + j.val)) * c - μ)) := by
  induction k with
  | zero =>
    show k1_pay5 (F := Ideal) (ix2 r j) = _
    pointwise [k1_pay5]
    exact (Finset.sum_range_zero _).symm
  | succ k ih =>
    show k1_pay29 (F := Ideal) (slab (F := Ideal) (s (a + k))) cs m (ls s cs m a k) (ix2 r j) = _
    pointwise [k1_pay29, k1_pay28, slab]
    rw [ih fun i hi => hs i (by omega), hs k (by omega), hs k (by omega), Finset.sum_range_succ, hc, hm]
    rfl

/-- The running product of a row's lane over the tiles so far. -/
theorem ac_apply (hs : ∀ i, i < k → ∀ x : Fin 256, s (a + i) (ix2 r x) = g (256 * (a + i) + x.val)) (hk : a + k ≤ 32) (d : Fin 128) :
    ac (F := Ideal) s cs m V a k (ix2 r d) = ∑ i ∈ Finset.range k, ∑ x : Fin 256,
      min (Ideal.exp2 (g (256 * (a + i) + x.val) * c - μ)) ((448 : ℝ) : EReal) * Vn V d (256 * (a + i) + x.val) := by
  induction k with
  | zero =>
    show k1_pay6 (F := Ideal) (ix2 r d) = _
    pointwise [k1_pay6]
    exact (Finset.sum_range_zero _).symm
  | succ k ih =>
    show k1_pay30 (F := Ideal) (slab (F := Ideal) (s (a + k))) cs m (ac s cs m V a k) (tileR V (a + k)) (ix2 r d) = _
    pointwise [k1_pay30, k1_pay28, slab]
    rw [ih (fun i hi => hs i (by omega)) (by omega), Finset.sum_range_succ,
      ← Sums.halves (fun x => min (Ideal.exp2 (g (256 * (a + k) + x) * c - μ)) ((448 : ℝ) : EReal) * Vn V d (256 * (a + k) + x)), Finset.sum_add_distrib]
    simp only [hs k (Nat.lt_succ_self k), hc, hm, Softmax.big, tileR_apply V (a + k) (by omega)]
    congr 1
    congr 1
    · refine Finset.sum_congr rfl fun x _ => ?_
      unfold Vn
      rw [dif_pos (by omega)]
      rfl
    · refine Finset.sum_congr rfl fun x _ => ?_
      unfold Vn
      rw [dif_pos (by omega)]
      rfl

end Loops

/-- The kernel's two named constants. -/
theorem log2_scale : Named.named (F := Ideal) κ "log2_scale" (φ := .f32) 0x3E0293EE#32 = (((Real.sqrt 128)⁻¹ * (Real.log 2)⁻¹ : ℝ) : EReal) := rfl
theorem log2_max : Named.named (F := Ideal) κ "log2_fp8_max" (φ := .f32) 0x410CEAED#32 = ((Real.log 448 * (Real.log 2)⁻¹ : ℝ) : EReal) := rfl

/-- A masked key's weight is zero, whatever the maximum. -/
theorem exp2_masked (c : EReal) (hc : 0 < c) (μ : EReal) : Ideal.exp2 (⊥ * c - μ) = 0 := by
  rw [EReal.bot_mul_of_pos hc, EReal.bot_sub]; rfl

/-- ONE QUERY TILE AT AN ELEMENT: the sum over all keys of the codes of the weights times the values, scaled and divided by
    the sum of the weights; the keys of the tiles the kernel skips weigh nothing. -/
theorem outTile_apply (t : ℕ) (f l : BitVec 32) (hg : Good t f l) (r : Fin 256) (d : Fin 128) (row : Fin 8192) (hrow : row.val = 256 * t + r.val)
    (hfd : f.toNat ≤ (DS (ix3 0 0 row) : BitVec 32).toNat) (hdl : (DS (ix3 0 0 row) : BitVec 32).toNat ≤ l.toNat)
    (c : EReal) (lm : ℝ) (hc : c = QS (ix4 0 0 0 row) * (((Real.sqrt 128)⁻¹ * (Real.log 2)⁻¹ : ℝ) : EReal)) (hc0 : 0 < c)
    (hlm : lm = Real.log 448 * (Real.log 2)⁻¹) :
    outTile (F := Ideal) Q K V QS KS VS DS t f l (ix3 0 r d)
      = Ideal.div ((∑ y : Fin 8192, min (Ideal.exp2 (T Q K KS DS row y * c - (Finset.univ.sup (T Q K KS DS row) * c - lm))) ((448 : ℝ) : EReal)
            * V (ix3 0 y d)) * VS (ix4 0 0 0 d))
          (∑ y : Fin 8192, Ideal.exp2 (T Q K KS DS row y * c - (Finset.univ.sup (T Q K KS DS row) * c - lm))) := by
  have ht := hg.ht
  have hlt : 256 * t + r.val < 8192 := by omega
  obtain ⟨row, hrl⟩ := row
  replace hrow : row = 256 * t + r.val := hrow
  subst hrow
  have hj0 := hg.j0_le
  have hs : ∀ i, i < t + 1 - j0 f → ∀ x : Fin 256,
      score (F := Ideal) (k1_pay7 (tileR Q t)) K KS (k1_pay3 (F := Ideal) (tileD DS t)) t l (j0 f + i) (ix2 r x)
        = Tn Q K KS DS ⟨256 * t + r.val, by omega⟩ (256 * (j0 f + i) + x.val) := by
    intro i hi x
    rw [score_apply Q K KS DS t (j0 f + i) ht (by omega) l r x hdl (by have := hg.hl; omega)]
    unfold Tn
    rw [dif_pos]
  have hout : ∀ y, y < 8192 → (y < 256 * j0 f ∨ 256 * (j0 f + (t + 1 - j0 f)) ≤ y) → Tn Q K KS DS ⟨256 * t + r.val, by omega⟩ y = ⊥ := by
    intro y hy h
    unfold Tn T
    rw [dif_pos hy, if_neg]
    rintro ⟨h1, h2⟩
    have h1' : (DS (ix3 0 0 ⟨256 * t + r.val, by omega⟩) : BitVec 32).toNat ≤ y := h1
    have h2' : y ≤ 256 * t + r.val := h2
    unfold j0 at h hj0
    omega
  have hcs : ∀ j, k1_pay2 (F := Ideal) (tileL QS t) (ix2 r j) = c := by
    intro j
    pointwise [k1_pay2]
    rw [tileL_apply QS t ht, log2_scale, hc]
  have hTn : ∀ y : Fin 8192, Tn Q K KS DS ⟨256 * t + r.val, by omega⟩ y.val = T Q K KS DS ⟨256 * t + r.val, by omega⟩ y := by
    intro y; unfold Tn; rw [dif_pos y.isLt]
  have hm : ∀ j, k1_pay27 (F := Ideal) (k1_pay2 (F := Ideal) (tileL QS t)) (mx (score (F := Ideal) (k1_pay7 (tileR Q t)) K KS (k1_pay3 (F := Ideal) (tileD DS t)) t l) (j0 f) (t + 1 - j0 f)) (ix2 r j)
      = Finset.univ.sup (T Q K KS DS ⟨256 * t + r.val, by omega⟩) * c - (lm : EReal) := by
    intro j
    pointwise [k1_pay27]
    rw [hcs, log2_max, ← hlm, Softmax.neg_inf]
    simp only [mx_apply _ _ _ _ r hs]
    have := Sums.sup_tiles (Tn Q K KS DS ⟨256 * t + r.val, by omega⟩) (j0 f) (t + 1 - j0 f) (by omega) hout
    simp only [hTn] at this
    rw [← this]
    rfl
  show k1_pay1 (F := Ideal) _ _ VS (ix3 0 r d) = _
  pointwise [k1_pay1]
  simp only [ls_apply _ _ _ _ r _ _ _ _ hcs hm hs, ac_apply V _ _ _ _ r _ _ _ _ hcs hm hs (by omega)]
  rw [Sums.tiles (fun y => min (Ideal.exp2 (Tn Q K KS DS ⟨256 * t + r.val, by omega⟩ y * c - (Finset.univ.sup (T Q K KS DS ⟨256 * t + r.val, by omega⟩) * c - lm))) ((448 : ℝ) : EReal) * Vn V d y)
      (j0 f) (t + 1 - j0 f) (by omega) (fun y hy h => by
        show min (Ideal.exp2 (Tn Q K KS DS _ y * c - _)) _ * _ = 0
        rw [hout y hy h, exp2_masked c hc0, min_eq_left (EReal.coe_nonneg.mpr (by norm_num)), zero_mul])]
  rw [Finset.sum_comm]
  rw [Finset.sum_congr rfl fun i _ => Sums.halves fun y => Ideal.exp2 (Tn Q K KS DS ⟨256 * t + r.val, by omega⟩ (256 * (j0 f + i) + y) * c - (Finset.univ.sup (T Q K KS DS ⟨256 * t + r.val, by omega⟩) * c - lm))]
  rw [Sums.tiles (fun y => Ideal.exp2 (Tn Q K KS DS ⟨256 * t + r.val, by omega⟩ y * c - (Finset.univ.sup (T Q K KS DS ⟨256 * t + r.val, by omega⟩) * c - lm)))
      (j0 f) (t + 1 - j0 f) (by omega) (fun y hy h => by
        show Ideal.exp2 (Tn Q K KS DS _ y * c - _) = 0
        rw [hout y hy h, exp2_masked c hc0])]
  have hVn : ∀ y : Fin 8192, Vn V d y.val = V (ix3 0 y d) := by
    intro y; unfold Vn; rw [dif_pos y.isLt]
  simp only [hTn, hVn]

end Cert.KernelIdeal

end
-- ==== Proof.Value.Blocks.lean ====
/-
  The second call's arrays at an element: each input block is the batch and head's part of its array, and the result array
  holds, at every row and column of a head, what the body stored there at the head's grid point.
-/
module

public import proofs.«01_k».proof.Proof.Ideal.Run
public import proofs.«01_k».proof.Proof.Value.Tiles
public import Idealize.ShloMosaic.Lib.Pipeline.ValueKit
public import Idealize.ShloMosaic.Lib.Pointwise

@[expose] public section

set_option maxRecDepth 16384
set_option maxHeartbeats 400000

noncomputable section

namespace Cert.KernelIdeal

open Idealize.ShloMosaic Idealize.ShloMosaic.TcCoe
open Idealize.ShloMosaic.Pipeline (Dat Cfg Window)
open Cert.KernelIdeal.Gen

attribute [local irreducible] starts

variable {F : FTy → Type} [FloatOps F] [Named F]

/-- The grid point of a batch and a head. -/
def pt (b : Fin 8) (h : Fin 16) : Fin grid1.N := ⟨b.val * 16 + h.val, by show _ < 128; omega⟩

/-- Column `d` of head `h` in a row of all heads. -/
def col (h : Fin 16) (d : Fin 128) : Fin 2048 := ⟨h.val * 128 + d.val, by omega⟩

theorem pt_coords : ∀ b h, ((grid1.coords (pt b h)) 0).val = b.val ∧ ((grid1.coords (pt b h)) 1).val = h.val := by decide +kernel

theorem map0 : ∀ b h, cc1_transform_0 (grid1.coords (pt b h)) = ![b.val, 0, h.val] := by decide +kernel
theorem map1 : ∀ b h, cc1_transform_1 (grid1.coords (pt b h)) = ![b.val, 0, h.val] := by decide +kernel
theorem map2 : ∀ b h, cc1_transform_2 (grid1.coords (pt b h)) = ![b.val, 0, h.val] := by decide +kernel
theorem map3 : ∀ b h, cc1_transform_3 (grid1.coords (pt b h)) = ![b.val, h.val, 0, 0] := by decide +kernel
theorem map4 : ∀ b h, cc1_transform_4 (grid1.coords (pt b h)) = ![b.val, h.val, 0, 0] := by decide +kernel
theorem map5 : ∀ b h, cc1_transform_5 (grid1.coords (pt b h)) = ![b.val, h.val, 0, 0] := by decide +kernel
theorem map6 : ∀ b h, cc1_transform_6 (grid1.coords (pt b h)) = ![b.val, 0, 0] := by decide +kernel
theorem map7 : ∀ b h, cc1_transform_7 (grid1.coords (pt b h)) = ![b.val, 0, h.val] := by decide +kernel
theorem map7_inj : ∀ t t' : Fin grid1.N, cc1_transform_7 (grid1.coords t) = cc1_transform_7 (grid1.coords t') → t = t' := by decide +kernel

variable (a : (pcfg1 (F := F)).Adm) (V : Valuation τ sig (Elt F)) (b : Fin 8) (h : Fin 16)

theorem qBlk_apply (r : Fin 8192) (d : Fin 128) : qBlk a V (pt b h) (ix3 0 r d) = V main_arg0 (ix3 b r (col h d)) := by
  refine congrArg (V main_arg0) (funext fun x => Fin.ext ?_)
  match x with
  | ⟨0, _⟩ => show cc1_transform_0 (grid1.coords (pt b h)) 0 * 1 + 1 * 0 = b.val; rw [map0]; show b.val * 1 + 1 * 0 = b.val; omega
  | ⟨1, _⟩ => show cc1_transform_0 (grid1.coords (pt b h)) 1 * 8192 + 1 * r.val = r.val; rw [map0]; show 0 * 8192 + 1 * r.val = r.val; omega
  | ⟨2, _⟩ => show cc1_transform_0 (grid1.coords (pt b h)) 2 * 128 + 1 * d.val = h.val * 128 + d.val; rw [map0]; show h.val * 128 + 1 * d.val = _; omega

theorem kBlk_apply (r : Fin 8192) (d : Fin 128) : kBlk a V (pt b h) (ix3 0 r d) = V main_arg2 (ix3 b r (col h d)) := by
  refine congrArg (V main_arg2) (funext fun x => Fin.ext ?_)
  match x with
  | ⟨0, _⟩ => show cc1_transform_1 (grid1.coords (pt b h)) 0 * 1 + 1 * 0 = b.val; rw [map1]; show b.val * 1 + 1 * 0 = b.val; omega
  | ⟨1, _⟩ => show cc1_transform_1 (grid1.coords (pt b h)) 1 * 8192 + 1 * r.val = r.val; rw [map1]; show 0 * 8192 + 1 * r.val = r.val; omega
  | ⟨2, _⟩ => show cc1_transform_1 (grid1.coords (pt b h)) 2 * 128 + 1 * d.val = h.val * 128 + d.val; rw [map1]; show h.val * 128 + 1 * d.val = _; omega

theorem vBlk_apply (r : Fin 8192) (d : Fin 128) : vBlk a V (pt b h) (ix3 0 r d) = V main_arg4 (ix3 b r (col h d)) := by
  refine congrArg (V main_arg4) (funext fun x => Fin.ext ?_)
  match x with
  | ⟨0, _⟩ => show cc1_transform_2 (grid1.coords (pt b h)) 0 * 1 + 1 * 0 = b.val; rw [map2]; show b.val * 1 + 1 * 0 = b.val; omega
  | ⟨1, _⟩ => show cc1_transform_2 (grid1.coords (pt b h)) 1 * 8192 + 1 * r.val = r.val; rw [map2]; show 0 * 8192 + 1 * r.val = r.val; omega
  | ⟨2, _⟩ => show cc1_transform_2 (grid1.coords (pt b h)) 2 * 128 + 1 * d.val = h.val * 128 + d.val; rw [map2]; show h.val * 128 + 1 * d.val = _; omega

theorem qsBlk_apply (r : Fin 8192) : qsBlk a V (pt b h) (ix4 0 0 0 r) = V main_arg1 (ix4 b h 0 r) := by
  refine congrArg (V main_arg1) (funext fun x => Fin.ext ?_)
  match x with
  | ⟨0, _⟩ => show cc1_transform_3 (grid1.coords (pt b h)) 0 * 1 + 1 * 0 = b.val; rw [map3]; show b.val * 1 + 1 * 0 = b.val; omega
  | ⟨1, _⟩ => show cc1_transform_3 (grid1.coords (pt b h)) 1 * 1 + 1 * 0 = h.val; rw [map3]; show h.val * 1 + 1 * 0 = h.val; omega
  | ⟨2, _⟩ => show cc1_transform_3 (grid1.coords (pt b h)) 2 * 1 + 1 * 0 = 0; rw [map3]; rfl
  | ⟨3, _⟩ => show cc1_transform_3 (grid1.coords (pt b h)) 3 * 8192 + 1 * r.val = r.val; rw [map3]; show 0 * 8192 + 1 * r.val = r.val; omega

theorem ksBlk_apply (r : Fin 8192) : ksBlk a V (pt b h) (ix4 0 0 0 r) = V main_arg3 (ix4 b h 0 r) := by
  refine congrArg (V main_arg3) (funext fun x => Fin.ext ?_)
  match x with
  | ⟨0, _⟩ => show cc1_transform_4 (grid1.coords (pt b h)) 0 * 1 + 1 * 0 = b.val; rw [map4]; show b.val * 1 + 1 * 0 = b.val; omega
  | ⟨1, _⟩ => show cc1_transform_4 (grid1.coords (pt b h)) 1 * 1 + 1 * 0 = h.val; rw [map4]; show h.val * 1 + 1 * 0 = h.val; omega
  | ⟨2, _⟩ => show cc1_transform_4 (grid1.coords (pt b h)) 2 * 1 + 1 * 0 = 0; rw [map4]; rfl
  | ⟨3, _⟩ => show cc1_transform_4 (grid1.coords (pt b h)) 3 * 8192 + 1 * r.val = r.val; rw [map4]; show 0 * 8192 + 1 * r.val = r.val; omega

theorem vsBlk_apply (d : Fin 128) : vsBlk a V (pt b h) (ix4 0 0 0 d) = V main_arg5 (ix4 b h 0 d) := by
  refine congrArg (V main_arg5) (funext fun x => Fin.ext ?_)
  match x with
  | ⟨0, _⟩ => show cc1_transform_5 (grid1.coords (pt b h)) 0 * 1 + 1 * 0 = b.val; rw [map5]; show b.val * 1 + 1 * 0 = b.val; omega
  | ⟨1, _⟩ => show cc1_transform_5 (grid1.coords (pt b h)) 1 * 1 + 1 * 0 = h.val; rw [map5]; show h.val * 1 + 1 * 0 = h.val; omega
  | ⟨2, _⟩ => show cc1_transform_5 (grid1.coords (pt b h)) 2 * 1 + 1 * 0 = 0; rw [map5]; rfl
  | ⟨3, _⟩ => show cc1_transform_5 (grid1.coords (pt b h)) 3 * 128 + 1 * d.val = d.val; rw [map5]; show 0 * 128 + 1 * d.val = d.val; omega

theorem dsBlk_apply (r : Fin 8192) : dsBlk a V (pt b h) (ix3 0 0 r) = V main_v3 (ix3 b 0 r) := by
  refine congrArg (V main_v3) (funext fun x => Fin.ext ?_)
  match x with
  | ⟨0, _⟩ => show cc1_transform_6 (grid1.coords (pt b h)) 0 * 1 + 1 * 0 = b.val; rw [map6]; show b.val * 1 + 1 * 0 = b.val; omega
  | ⟨1, _⟩ => show cc1_transform_6 (grid1.coords (pt b h)) 1 * 1 + 1 * 0 = 0; rw [map6]; rfl
  | ⟨2, _⟩ => show cc1_transform_6 (grid1.coords (pt b h)) 2 * 8192 + 1 * r.val = r.val; rw [map6]; show 0 * 8192 + 1 * r.val = r.val; omega

/-- Where the result's block at a grid point puts a row and a column of its head. -/
theorem out_emb (r : Fin 8192) (d : Fin 128) : ((win1 a 7).blk (pt b h)).view.emb (ix3 0 r d) = (ix3 b r (col h d) : S8x8192x2048.Idx) := by
  refine funext fun x => Fin.ext ?_
  match x with
  | ⟨0, _⟩ => show cc1_transform_7 (grid1.coords (pt b h)) 0 * 1 + 1 * 0 = b.val; rw [map7]; show b.val * 1 + 1 * 0 = b.val; omega
  | ⟨1, _⟩ => show cc1_transform_7 (grid1.coords (pt b h)) 1 * 8192 + 1 * r.val = r.val; rw [map7]; show 0 * 8192 + 1 * r.val = r.val; omega
  | ⟨2, _⟩ => show cc1_transform_7 (grid1.coords (pt b h)) 2 * 128 + 1 * d.val = h.val * 128 + d.val; rw [map7]; show h.val * 128 + 1 * d.val = _; omega

/-- The result's block is written back at every point: consecutive points have different blocks. -/
theorem flush7 (t : Fin grid1.N) : (win1 a 7).flush t = true :=
  (by decide +kernel : ∀ t : Fin grid1.N, Window.flushOf grid1 true cc1_transform_7 t = true) t

/-- The result array at an element: what the body stored there at the head's grid point. -/
theorem arr_out (c : Dev nD) (r : Fin 8192) (d : Fin 128) :
    (dat1 c a V).arrAt 7 (cfg1 a).N (ix3 b r (col h d) : S8x8192x2048.Idx) = outAt a V (pt b h) (ix3 0 r d) := by
  have hdisj := Window.hdisj_of_index_inj (win1 a 7) (fun t t' _ _ e => map7_inj t t' e)
  have := (dat1 c a V).arrAt_emb_eq_flushed 7 hdisj (pt b h) (flush7 a _) (ix3 0 r d)
  rw [← out_emb a b h r d]
  exact this

variable (m : (ℓ : Loc nD τ sig) → Buf (Elt F) ℓ) (c : Dev nD)

/-- The result of the run at an element. -/
theorem result_out (r : Fin 8192) (d : Fin 128) :
    V3 m (outs m) c main_v4 (ix3 b r (col h d) : S8x8192x2048.Idx) = outAt (tabs m) (WB m c) (pt b h) (ix3 0 r d) := by
  rw [← arr_out (tabs m) (WB m c) b h c r d]
  refine congrFun ((after1_eq m c main_v4).symm.trans ?_) _
  exact Pipeline.afterRegion_arr (dat1 c (tabs m) (WB m c)) (WB m c) winFacts1.arr_inj 7

/-- The document start of a row, as the second call reads it. -/
theorem ds_apply (r : Fin 8192) : dsBlk (tabs m) (WB m c) (pt b h) (ix3 0 0 r) = starts (segOf (V0 m c)) (ixB b.val r.val) := by
  rw [dsBlk_apply, WB_v3]
  pointwise []
  refine congrArg _ (funext fun x => Fin.ext ?_)
  match x with
  | ⟨0, _⟩ => show b.val = b.val % 8; omega
  | ⟨1, _⟩ => show r.val = r.val % 8192; omega

end Cert.KernelIdeal

end
-- ==== Proof.Value.Reference.lean ====
/-
  What the reference computes, read at an element: attention of one query row over all the keys of its batch and head,
  masked to the keys of the row's document up to the row.
-/
module

public import proofs.«01_k».proof.Proof.Gen.ReferenceIdeal.Value
public import proofs.«01_k».proof.Proof.Value.Softmax
public import Idealize.ShloMosaic.Lib.Pointwise

@[expose] public section

set_option maxRecDepth 16384

noncomputable section

namespace Cert.ReferenceIdeal

open Idealize.ShloMosaic Cert.ReferenceIdeal.Gen

/-- Column `d` of head `h` in a row of all heads. -/
def col (h : Fin 16) (d : Fin 128) : Fin 2048 := ⟨h.val * 128 + d.val, by omega⟩

variable (q k v : Vec Ideal S8x8192x2048 .fp8e4m3) (qs ks : Vec Ideal S8x16x1x8192 .f32) (vs : Vec Ideal S8x16x1x128 .f32)
  (seg : Vec Ideal S8x8192 .i32)

/-- The masked score of a row against a key, before the query's scale. -/
def T (b : Fin 8) (h : Fin 16) (row key : Fin 8192) : EReal :=
  if key.val ≤ row.val ∧ seg (ix2 b key) = seg (ix2 b row) then
    (∑ d : Fin 128, q (ix3 b row (col h d)) * k (ix3 b key (col h d))) * ks (ix4 b h 0 key)
  else ⊥

/-- A select on a comparison of small words and an equality. -/
theorem select_and (a b : ℕ) (ha : a < 8192) (hb : b < 8192) (u w : BitVec 32) (x y : EReal) :
    Scalar.select (IntOp.andi (IntOp.cmpi CmpIPredicate.sle (BitVec.ofNat 32 a) (BitVec.ofNat 32 b))
        (IntOp.cmpi CmpIPredicate.eq u w)) x y = if a ≤ b ∧ u = w then x else y := by
  have e1 : IntOp.cmpi CmpIPredicate.sle (BitVec.ofNat 32 a) (BitVec.ofNat 32 b) = BitVec.ofBool (decide (a ≤ b)) := by
    simp only [IntOp.cmpi]
    congr 1
    rw [BitVec.sle_eq_decide, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    exact decide_eq_decide.mpr (by omega)
  rw [e1]
  have e2 : IntOp.cmpi CmpIPredicate.eq u w = BitVec.ofBool (decide (u = w)) := by
    simp only [IntOp.cmpi]
    congr 1
  rw [e2]
  by_cases h1 : a ≤ b <;> by_cases h2 : u = w <;> simp [h1, h2, IntOp.andi, Scalar.select]

/-- The reference's two named constants. -/
theorem sm_scale : Named.named (F := Ideal) κ "sm_scale" (φ := .f32) 0x3DB504F3#32 = (((Real.sqrt 128)⁻¹ : ℝ) : EReal) := rfl
theorem p_scale : Named.named (F := Ideal) κ "p_scale" (φ := .f32) 0x3B124925#32 = ((1 / 448 : ℝ) : EReal) := rfl

/-- The member of the stack of heads that is head `h` of batch `b`. -/
def mem (b : Fin 8) (h : Fin 16) : Fin 128 := ⟨b.val * 16 + h.val, by omega⟩

/-- The reference's scores are the masked ones times the query's scale. -/
theorem scores_apply (b : Fin 8) (h : Fin 16) (row key : Fin 8192) (σ : EReal)
    (hσ : σ = qs (ix4 b h 0 row) * (((Real.sqrt 128)⁻¹ : ℝ) : EReal)) (hσ0 : 0 < σ) : k0_pay2 (F := Ideal) q k qs ks seg (ix3 (mem b h) row key) = T q k ks seg b h row key * σ := by
  have e1 : (mem b h).val / 16 = b.val := by show (b.val * 16 + h.val) / 16 = b.val; omega
  have e2 : (mem b h).val % 16 = h.val := by show (b.val * 16 + h.val) % 16 = h.val; omega
  pointwise [k0_pay2]
  simp only [e1, e2, Fin.eta]
  rw [select_and _ _ key.isLt row.isLt, Softmax.neg_inf, sm_scale, ← hσ]
  unfold T
  split
  · rw [mul_assoc, mul_assoc, mul_comm σ]
    rfl
  · exact (EReal.bot_mul_of_pos hσ0).symm

/-- The row maximum of any scores. -/
theorem max_apply (b : Fin 8) (h : Fin 16) (row y : Fin 8192) :
    k0_pay3 (F := Ideal) q k qs ks seg (ix3 (mem b h) row y)
      = Finset.univ.sup (fun y => k0_pay2 (F := Ideal) q k qs ks seg (ix3 (mem b h) row y)) := by
  pointwise [k0_pay3]
  rw [Softmax.neg_inf]
  exact Softmax.fold_sup _ _

/-- The quotient the reference takes, of any scores `s` and any maxima `mx`. -/
theorem quotient_apply (s mx : FVec Ideal S128x8192x8192 .f32) (b : Fin 8) (h : Fin 16) (row : Fin 8192) (d : Fin 128) :
    k0_pay1 (F := Ideal) s mx v vs (ix3 b row (col h d))
      = Ideal.div ((∑ y : Fin 8192, min ((448 : ℝ) : EReal) (max ((-448 : ℝ) : EReal)
            (Ideal.exp (s (ix3 (mem b h) row y) - mx (ix3 (mem b h) row y)) * ((448 : ℝ) : EReal))) * v (ix3 b y (col h d)))
          * (((1 / 448 : ℝ) : EReal) * vs (ix4 b h 0 d)))
        (∑ y : Fin 8192, Ideal.exp (s (ix3 (mem b h) row y) - mx (ix3 (mem b h) row y))) := by
  have e1 : b.val * 16 + (col h d).val / 128 = (mem b h).val := by
    show b.val * 16 + (h.val * 128 + d.val) / 128 = b.val * 16 + h.val; omega
  have e2 : (mem b h).val % 16 = h.val := by show (b.val * 16 + h.val) % 16 = h.val; omega
  have e3 : (col h d).val % 128 = d.val := by show (h.val * 128 + d.val) % 128 = d.val; omega
  generalize hx : col h d = x at e1 e3 ⊢
  pointwise [k0_pay1]
  simp only [e1, e2, e3, Fin.eta, p_scale, Softmax.big, Softmax.neg_big]

/-- ONE ELEMENT of the reference's result. -/
theorem result_apply (b : Fin 8) (h : Fin 16) (row : Fin 8192) (d : Fin 128) (σ : EReal)
    (hσ : σ = qs (ix4 b h 0 row) * (((Real.sqrt 128)⁻¹ : ℝ) : EReal)) (hσ0 : 0 < σ) :
    Value.G7 (F := Ideal) q qs k ks v vs seg (ix3 b row (col h d))
      = Ideal.div ((∑ y : Fin 8192, min ((448 : ℝ) : EReal) (max ((-448 : ℝ) : EReal)
            (Ideal.exp (T q k ks seg b h row y * σ - Finset.univ.sup (fun y => T q k ks seg b h row y * σ)) * ((448 : ℝ) : EReal)))
              * v (ix3 b y (col h d)))
          * (((1 / 448 : ℝ) : EReal) * vs (ix4 b h 0 d)))
        (∑ y : Fin 8192, Ideal.exp (T q k ks seg b h row y * σ - Finset.univ.sup (fun y => T q k ks seg b h row y * σ))) := by
  unfold Value.G7
  rw [quotient_apply]
  simp only [max_apply, scores_apply q k qs ks seg b h row _ σ hσ hσ0]

end Cert.ReferenceIdeal

end
-- ==== Proof.Value.Equal.lean ====
/-
  The idealized kernel's result is the reference's, element by element: on arguments whose query scales are positive
  and whose segment ids never decrease along a batch.
-/
module

public import proofs.«01_k».proof.Proof.Value.Blocks
public import proofs.«01_k».proof.Proof.Value.Reference

@[expose] public section

set_option maxRecDepth 16384
set_option maxHeartbeats 400000

noncomputable section

namespace Cert.KernelIdeal

open Idealize.ShloMosaic Idealize.ShloMosaic.TcCoe
open Cert.KernelIdeal.Gen

attribute [local irreducible] starts

/-- The kernel's quotient at a row, of any scores, once its scores are the reference's. -/
theorem quotient_congr (t t' v v' : Fin 8192 → EReal) (w w' : EReal) (ht : t = t') (hv : v = v') (hw : w = w') (c : EReal) (l : ℝ) :
    Ideal.div ((∑ y : Fin 8192, min (Ideal.exp2 (t y * c - (Finset.univ.sup t * c - l))) ((448 : ℝ) : EReal) * v y) * w)
        (∑ y : Fin 8192, Ideal.exp2 (t y * c - (Finset.univ.sup t * c - l)))
      = Ideal.div ((∑ y : Fin 8192, min (Ideal.exp2 (t' y * c - (Finset.univ.sup t' * c - l))) ((448 : ℝ) : EReal) * v' y) * w')
        (∑ y : Fin 8192, Ideal.exp2 (t' y * c - (Finset.univ.sup t' * c - l))) := by
  subst ht hv hw; rfl

variable (m : (ℓ : Loc nD τ sig) → Buf (Elt Ideal) ℓ) (c : Dev nD)

/-! The arguments the memory holds. -/

abbrev A0 : Vec Ideal S8x8192x2048 .fp8e4m3 := m (c, Proc.devRef .tc main_arg0)
abbrev A1 : Vec Ideal S8x16x1x8192 .f32 := m (c, Proc.devRef .tc main_arg1)
abbrev A2 : Vec Ideal S8x8192x2048 .fp8e4m3 := m (c, Proc.devRef .tc main_arg2)
abbrev A3 : Vec Ideal S8x16x1x8192 .f32 := m (c, Proc.devRef .tc main_arg3)
abbrev A4 : Vec Ideal S8x8192x2048 .fp8e4m3 := m (c, Proc.devRef .tc main_arg4)
abbrev A5 : Vec Ideal S8x16x1x128 .f32 := m (c, Proc.devRef .tc main_arg5)
abbrev A6 : Vec Ideal S8x8192 .i32 := m (c, Proc.devRef .tc main_arg6)

theorem ixB_ix2 (b : Fin 8) (r : Fin 8192) : ixB b.val r.val = ix2 b r := by
  refine funext fun x => Fin.ext ?_
  match x with
  | ⟨0, _⟩ => show b.val % 8 = b.val; omega
  | ⟨1, _⟩ => show r.val % 8192 = r.val; omega

/-- The scores agree: a key is at or after its row's document start exactly when it is of the row's segment. -/
theorem scores_eq (hs : ∀ b r : ℕ, b < 8 → r + 1 < 8192 → (A6 m c (ixB b r)).toInt ≤ (A6 m c (ixB b (r + 1))).toInt)
    (b : Fin 8) (h : Fin 16) (row : Fin 8192) :
    T (qBlk (tabs m) (WB m c) (pt b h)) (kBlk (tabs m) (WB m c) (pt b h)) (ksBlk (tabs m) (WB m c) (pt b h)) (dsBlk (tabs m) (WB m c) (pt b h)) row
      = ReferenceIdeal.T (A0 m c) (A2 m c) (A3 m c) (A6 m c) b h row := by
  funext key
  unfold T ReferenceIdeal.T raw
  have hiff : ((dsBlk (tabs m) (WB m c) (pt b h) (ix3 0 0 row) : BitVec 32).toNat ≤ key.val ∧ key.val ≤ row.val)
      ↔ (key.val ≤ row.val ∧ A6 m c (ix2 b key) = A6 m c (ix2 b row)) := by
    rw [ds_apply]
    constructor
    · rintro ⟨h1, h2⟩
      refine ⟨h2, ?_⟩
      have := (st_le_iff (segOf (V0 m c)) b.val (fun r hr => hs b.val r b.isLt hr) row.val key.val row.isLt h2).mp h1
      rw [← ixB_ix2, ← ixB_ix2]; exact this
    · rintro ⟨h2, h1⟩
      refine ⟨?_, h2⟩
      refine (st_le_iff (segOf (V0 m c)) b.val (fun r hr => hs b.val r b.isLt hr) row.val key.val row.isLt h2).mpr ?_
      rw [ixB_ix2, ixB_ix2]; exact h1
  refine if_congr hiff ?_ rfl
  rw [ksBlk_apply, WB_of m c main_arg3 (by decide) (by decide)]
  refine congrArg (· * _) (Finset.sum_congr rfl fun d _ => ?_)
  rw [qBlk_apply, kBlk_apply, WB_of m c main_arg0 (by decide) (by decide), WB_of m c main_arg2 (by decide) (by decide)]
  rfl

/-- ONE ELEMENT of the kernel's result is the reference's. -/
theorem element_eq (hs : ∀ b r : ℕ, b < 8 → r + 1 < 8192 → (A6 m c (ixB b r)).toInt ≤ (A6 m c (ixB b (r + 1))).toInt)
    (hq : ∀ x, 0 < A1 m c x)
    (b : Fin 8) (h : Fin 16) (row : Fin 8192) (d : Fin 128) :
    V3 m (outs m) c main_v4 (ix3 b row (col h d) : S8x8192x2048.Idx)
      = ReferenceIdeal.Value.G7 (F := Ideal) (A0 m c) (A1 m c) (A2 m c) (A3 m c) (A4 m c) (A5 m c) (A6 m c) (ix3 b row (ReferenceIdeal.col h d)) := by
  have hσ0 : 0 < A1 m c (ix4 b h 0 row) * (((Real.sqrt 128)⁻¹ : ℝ) : EReal) :=
    EReal.mul_pos (hq _) (EReal.coe_pos.mpr (by positivity))
  have h2 : 0 < Real.log 2 := Real.log_pos (by norm_num)
  have hc0' : 0 < A1 m c (ix4 b h 0 row) * (((Real.sqrt 128)⁻¹ * (Real.log 2)⁻¹ : ℝ) : EReal) :=
    EReal.mul_pos (hq _) (EReal.coe_pos.mpr (by positivity))
  rw [ReferenceIdeal.result_apply _ _ _ _ _ _ _ b h row d _ rfl hσ0, result_out]
  obtain rfl : c = 0 := Subsingleton.elim c 0
  have ht : row.val / 256 < 32 := by have := row.isLt; omega
  have hc0 : ((grid1.coords (pt b h)) 0).val = b.val := (pt_coords b h).1
  have hf : tf (tabs m) (wIx (grid1.coords (pt b h)) (row.val / 256)) = starts (segOf (V0 m 0)) (ixB b.val (256 * (row.val / 256))) := by
    rw [tf_eq m _ _ ht, hc0]
  have hl : tl (tabs m) (wIx (grid1.coords (pt b h)) (row.val / 256)) = starts (segOf (V0 m 0)) (ixB b.val (256 * (row.val / 256) + 255)) := by
    rw [tl_eq m _ _ ht, hc0]
  have key := outTile_apply (qBlk (tabs m) (WB m 0) (pt b h)) (kBlk (tabs m) (WB m 0) (pt b h)) (vBlk (tabs m) (WB m 0) (pt b h))
    (qsBlk (tabs m) (WB m 0) (pt b h)) (ksBlk (tabs m) (WB m 0) (pt b h)) (vsBlk (tabs m) (WB m 0) (pt b h)) (dsBlk (tabs m) (WB m 0) (pt b h))
    (row.val / 256) _ _ (good_tabs m (grid1.coords (pt b h)) (row.val / 256) ht) ⟨row.val % 256, Nat.mod_lt _ (by omega)⟩ d row
    (by show row.val = 256 * (row.val / 256) + row.val % 256; omega)
    (by rw [hf, ds_apply]; exact st_mono _ b.val _ _ (by omega) row.isLt)
    (by rw [hl, ds_apply]; exact st_mono _ b.val _ _ (by omega) (by omega))
    (A1 m 0 (ix4 b h 0 row) * (((Real.sqrt 128)⁻¹ * (Real.log 2)⁻¹ : ℝ) : EReal)) _
    (by rw [qsBlk_apply, WB_of m 0 main_arg1 (by decide) (by decide)]) hc0' rfl
  refine Eq.trans key ?_
  rw [EReal.coe_mul, ← mul_assoc]
  refine Eq.trans (quotient_congr _ _ _ (fun y => A4 m 0 (ix3 b y (ReferenceIdeal.col h d))) _ (A5 m 0 (ix4 b h 0 d)) (scores_eq m 0 hs b h row) ?_ ?_ _ _)
    (Softmax.row_eq (ReferenceIdeal.T (A0 m 0) (A2 m 0) (A3 m 0) (A6 m 0) b h row) (fun y => A4 m 0 (ix3 b y (ReferenceIdeal.col h d)))
      (A5 m 0 (ix4 b h 0 d)) _ _ _ hσ0 rfl rfl)
  · funext y
    rw [vBlk_apply, WB_of m 0 main_arg4 (by decide) (by decide)]
    rfl
  · rw [vsBlk_apply, WB_of m 0 main_arg5 (by decide) (by decide)]

/-- Every index of the result is a row and a column of a head. -/
theorem ix_eq (y : S8x8192x2048.Idx) : ∃ b h row d, y = (ix3 b row (col h d) : S8x8192x2048.Idx) := by
  have h2 : (y 2).val < 2048 := (y 2).isLt
  refine ⟨y 0, ⟨(y 2).val / 128, by omega⟩, y 1, ⟨(y 2).val % 128, Nat.mod_lt _ (by omega)⟩, funext fun x => Fin.ext ?_⟩
  match x with
  | ⟨0, _⟩ => rfl
  | ⟨1, _⟩ => rfl
  | ⟨2, _⟩ => show (y 2).val = (y 2).val / 128 * 128 + (y 2).val % 128; omega

/-- THE RESULT of the kernel is the reference's. -/
theorem result_eq (hs : ∀ b r : ℕ, b < 8 → r + 1 < 8192 → (A6 m c (ixB b r)).toInt ≤ (A6 m c (ixB b (r + 1))).toInt)
    (hq : ∀ x, 0 < A1 m c x) :
    V3 m (outs m) c main_v4
      = ReferenceIdeal.Value.G7 (F := Ideal) (A0 m c) (A1 m c) (A2 m c) (A3 m c) (A4 m c) (A5 m c) (A6 m c) := by
  funext y
  obtain ⟨b, h, row, d, rfl⟩ := ix_eq y
  exact element_eq m c hs hq b h row d

end Cert.KernelIdeal

end
-- ==== Proof.Algebraic.lean ====
/-
  The value claim: from arguments the precondition admits, the idealized kernel and the reference leave the same result.
-/
module

public import proofs.«01_k».proof.Defs
public import proofs.«01_k».proof.Proof.Value.Equal

@[expose] public section

set_option maxRecDepth 16384
set_option maxHeartbeats 400000

noncomputable section

namespace Cert.Proof

open Idealize.ShloMosaic Idealize.ShloMosaic.TcCoe Idealize.SL.Sem

/-- The shape relations the precondition's operations take. -/
theorem pre_facts : Cert.Pre_pre.Facts where
  slices_S8x8192_S8x8191_0_1 := by decide
  slices_S8x8192_S8x8191_0_0 := by decide
  bcast_S_S8x16x1x8192 := by decide

/-- The word of zero. -/
theorem zero_word : Ideal.ofBits .f32 0x00000000#32 = (0 : EReal) := by
  simp [Ideal.ofBits, Ideal.ieee]

/-- A comparison that reads one holds. -/
theorem ofBool_one {p : Bool} (h : BitVec.ofBool p = 1#1) : p = true := by
  cases p
  · exact absurd h (by decide)
  · rfl

section
variable (m : (ℓ : Loc Cert.KernelIdeal.nD Cert.KernelIdeal.τ Cert.KernelIdeal.sig) → Buf (Elt Ideal) ℓ)
  (hp : Cert.Pre_KernelIdeal_pre (hPre_pre := pre_facts) m) (c : Dev Cert.KernelIdeal.nD)
include hp

/-- What the precondition says of the segment ids: each is at least the one before it, as signed words. -/
theorem pre_seg (b r : ℕ) (hb : b < 8) (hr : r + 1 < 8192) :
    (Cert.KernelIdeal.A6 m c (Cert.KernelIdeal.ixB b r)).toInt ≤ (Cert.KernelIdeal.A6 m c (Cert.KernelIdeal.ixB b (r + 1))).toInt := by
  have h := congrFun (hp c).1 (ix2 (⟨b, hb⟩ : Fin 8) (⟨r, by omega⟩ : Fin 8191))
  have h' : IntOp.cmpi CmpIPredicate.sge (Cert.KernelIdeal.A6 m c (Cert.KernelIdeal.ixB b (r + 1))) (Cert.KernelIdeal.A6 m c (Cert.KernelIdeal.ixB b r)) = 1#1 := by
    refine Eq.trans ?_ h
    unfold Cert.Pre_pre.fn
    pointwise []
    refine congrArg₂ (IntOp.cmpi CmpIPredicate.sge) (congrArg _ (funext fun x => Fin.ext ?_)) (congrArg _ (funext fun x => Fin.ext ?_))
    · match x with
      | ⟨0, _⟩ => show b % 8 = b; omega
      | ⟨1, _⟩ => show (r + 1) % 8192 = 1 + r; omega
    · match x with
      | ⟨0, _⟩ => show b % 8 = b; omega
      | ⟨1, _⟩ => show r % 8192 = r; omega
  simp only [IntOp.cmpi] at h'
  exact BitVec.sle_iff_toInt_le.mp (ofBool_one h')

/-- What it says of the query scales: each is positive. -/
theorem pre_scale (x) : 0 < Cert.KernelIdeal.A1 m c x := by
  have h1 := congrFun (hp c).2 x
  have h1' : FloatOps.cmpf (F := Ideal) (φ := .f32) CmpFPredicate.ogt (Cert.KernelIdeal.A1 m c x) (Ideal.ofBits .f32 0x00000000#32) = 1#1 := h1
  rw [zero_word] at h1'
  exact of_decide_eq_true (ofBool_one h1')

end

/-- The idealized kernel and the reference end with the same result, whatever runs them. -/
theorem algebraic : Cert.algebraic_KernelIdeal_ReferenceIdeal_pre_pre (hKernelIdeal := Cert.KernelIdeal.Gen.facts)
    (hReferenceIdeal := Cert.ReferenceIdeal.Gen.facts) (hPre_pre := pre_facts) := fun m g m' g' hp ha => by
  refine ⟨fun c => Cert.KernelIdeal.Gen.V3 m (Cert.KernelIdeal.outs m) c Cert.KernelIdeal.main_v4, ?_, ?_⟩
  · exact (θ_run Cert.KernelIdeal.defs _ _).mono (fun _ h c => ⟨(h.1 c).2, (h.1 c).1⟩) (Cert.KernelIdeal.run (F := Ideal) m g)
  · refine (θ_run Cert.ReferenceIdeal.defs _ _).mono (fun _ h c => ⟨(h c).1.trans ?_, (h c).2⟩) (Cert.ReferenceIdeal.Value.run (F := Ideal) m' g')
    obtain ⟨h0, h1, h2, h3, h4, h5, h6⟩ := ha c
    refine Eq.trans ?_ (Cert.KernelIdeal.result_eq m c (pre_seg m hp c) (pre_scale m hp c)).symm
    rw [h0, h1, h2, h3, h4, h5, h6]

end Cert.Proof

end
-- ==== Proof.Quant.Scale.lean ====
/-
  The scale of one row, over the extended reals: the exponent that the kernel finds by comparing with words of powers of two,
  against the reference's, which is the floor of a logarithm.
-/
module

public import Idealize.ShloMosaic.PureOps.Ideal
public import Idealize.ShloMosaic.PureOps.Ideal.Laws

@[expose] public section

noncomputable section

namespace Cert.Scale

open Idealize.ShloMosaic

/-- The word with exponent field `n` and nothing else. -/
def code (n : ℕ) : BitVec 32 := BitVec.ofNat 32 (n <<< 23)

theorem code_or (n k : ℕ) : code n ||| code k = code (n ||| k) := by
  unfold code
  rw [Nat.shiftLeft_or_distrib, BitVec.ofNat_or]

theorem code_toNat (n : ℕ) (h : n < 256) : (code n).toNat = n * 8388608 := by
  unfold code
  rw [BitVec.toNat_ofNat, Nat.shiftLeft_eq]
  omega

/-- The word with exponent field `n` is the power of two of `n - 127`. -/
theorem code_val (n : ℕ) (h1 : 1 ≤ n) (h2 : n ≤ 254) : Ideal.ofBits .f32 (code n) = (((2 : ℝ) ^ ((n : ℤ) - 127) : ℝ) : EReal) := by
  have e1 : ((code n).extractLsb' 23 8).toNat = n := by
    rw [BitVec.extractLsb'_toNat, code_toNat n (by omega), Nat.shiftRight_eq_div_pow]; omega
  have e2 : ((code n).extractLsb' 0 23).toNat = 0 := by
    rw [BitVec.extractLsb'_toNat, code_toNat n (by omega), Nat.shiftRight_eq_div_pow]; omega
  have e3 : ((code n).extractLsb' (8 + 23) 1 == 1#1) = false := by
    rw [beq_eq_false_iff_ne]
    intro h
    have h' := congrArg BitVec.toNat h
    rw [BitVec.extractLsb'_toNat, code_toNat n (by omega), Nat.shiftRight_eq_div_pow] at h'
    simp at h'
    omega
  show Ideal.ieee 8 23 (code n) = _
  unfold Ideal.ieee
  simp only [e1, e2, e3]
  rw [if_neg (by norm_num; omega), if_neg (by omega)]
  have e4 : ((n : ℤ) - (2 ^ (8 - 1) - 1) - ((23 : ℕ) : ℤ)) = ((n : ℤ) - 127) + (-23) := by norm_num; ring
  rw [e4, zpow_add₀ (by norm_num : (2 : ℝ) ≠ 0), EReal.coe_eq_coe_iff]
  generalize (2 : ℝ) ^ ((n : ℤ) - 127) = p
  norm_num
  ring

/-- The word with every exponent bit is infinity. -/
theorem code_top : Ideal.ofBits .f32 (code 255) = (⊤ : EReal) := by
  show Ideal.ieee 8 23 (code 255) = _
  have e1 : ((code 255).extractLsb' 23 8).toNat = 255 := by decide
  have e2 : ((code 255).extractLsb' 0 23).toNat = 0 := by decide
  have e3 : ((code 255).extractLsb' (8 + 23) 1 == 1#1) = false := by decide
  unfold Ideal.ieee
  simp only [e1, e2, e3]
  norm_num

/-- One step of the kernel's search: keep the bit `b` if the ratio is at least the power of two that the word then names. -/
def step (r : EReal) (b e : BitVec 32) : BitVec 32 := Scalar.select (Ideal.cmp .oge r (Ideal.ofBits .f32 (e ||| b))) (e ||| b) e

/-- The kernel's search, from the highest exponent bit to the lowest. -/
def expo (r : EReal) : BitVec 32 :=
  step r 8388608#32 <| step r 16777216#32 <| step r 33554432#32 <| step r 67108864#32 <|
    step r 134217728#32 <| step r 268435456#32 <| step r 536870912#32 <| step r 1073741824#32 0#32

/-- The word of the kernel's scale: the next power of two, or one where the search found nothing. -/
def up (r : EReal) : BitVec 32 := Scalar.select (IntOp.cmpi .eq (expo r) 0#32) 1065353216#32 (IntOp.addi (expo r) 8388608#32)

/-- The kernel's scale. -/
def scale (r : EReal) : EReal := Ideal.ofBits .f32 (up r)

/-- The kernel's inverse scale. -/
def inv (r : EReal) : EReal := Ideal.ofBits .f32 (IntOp.subi 2130706432#32 (up r))

/-- The ratio `r` is below the power of two of `j + 1` and at least that of `j` (fields of the exponent; zero for zero). -/
def Level (r : EReal) (j : ℕ) : Prop := ∀ n, 1 ≤ n → n ≤ 255 → (Ideal.ofBits .f32 (code n) ≤ r ↔ n ≤ j)

/-- A step of the search on exponent fields. -/
def nstep (j k n : ℕ) : ℕ := if n ||| k ≤ j then n ||| k else n

theorem nstep_lt (j k n : ℕ) (hk : k < 256) (hn : n < 256) : nstep j k n < 256 := by
  unfold nstep
  split
  · exact Nat.or_lt_two_pow (n := 8) hn hk
  · exact hn

theorem step_code {r : EReal} {j : ℕ} (h : Level r j) (k n : ℕ) (hk1 : 1 ≤ k) (hk : k < 256) (hn : n < 256) :
    step r (code k) (code n) = code (nstep j k n) := by
  have h1 : 1 ≤ n ||| k := hk1.trans Nat.right_le_or
  have h2 : n ||| k ≤ 255 := by have : n ||| k < 2 ^ 8 := Nat.or_lt_two_pow hn hk; omega
  unfold step nstep
  rw [code_or]
  show Scalar.select (BitVec.ofBool (decide (Ideal.ofBits .f32 (code (n ||| k)) ≤ r))) _ _ = _
  by_cases hc : n ||| k ≤ j
  · rw [decide_eq_true ((h _ h1 h2).mpr hc), if_pos hc]; rfl
  · rw [decide_eq_false (fun hh => hc ((h _ h1 h2).mp hh)), if_neg hc]; rfl

/-- The whole search on exponent fields. -/
def nexpo (j : ℕ) : ℕ := nstep j 1 <| nstep j 2 <| nstep j 4 <| nstep j 8 <| nstep j 16 <| nstep j 32 <| nstep j 64 <| nstep j 128 0

theorem nexpo_eq : ∀ j < 256, nexpo j = j := by decide +kernel

/-- The search finds the exponent field of the ratio. -/
theorem expo_eq {r : EReal} {j : ℕ} (h : Level r j) (hj : j < 256) : expo r = code j := by
  have b0 : nstep j 128 0 < 256 := nstep_lt _ _ _ (by norm_num) (by norm_num)
  have b1 := nstep_lt j 64 _ (by norm_num) b0
  have b2 := nstep_lt j 32 _ (by norm_num) b1
  have b3 := nstep_lt j 16 _ (by norm_num) b2
  have b4 := nstep_lt j 8 _ (by norm_num) b3
  have b5 := nstep_lt j 4 _ (by norm_num) b4
  have b6 := nstep_lt j 2 _ (by norm_num) b5
  show step r (code 1) (step r (code 2) (step r (code 4) (step r (code 8) (step r (code 16) (step r (code 32) (step r (code 64)
    (step r (code 128) (code 0)))))))) = _
  rw [step_code h 128 0 (by norm_num) (by norm_num) (by norm_num), step_code h 64 _ (by norm_num) (by norm_num) b0,
    step_code h 32 _ (by norm_num) (by norm_num) b1, step_code h 16 _ (by norm_num) (by norm_num) b2,
    step_code h 8 _ (by norm_num) (by norm_num) b3, step_code h 4 _ (by norm_num) (by norm_num) b4,
    step_code h 2 _ (by norm_num) (by norm_num) b5, step_code h 1 _ (by norm_num) (by norm_num) b6]
  exact congrArg code (nexpo_eq j hj)

/-- The scale's exponent field, of the ratio's. -/
def upn (j : ℕ) : ℕ := if j = 0 then 127 else j + 1

theorem up_word : ∀ j < 253, Scalar.select (IntOp.cmpi .eq (code j) 0#32) 1065353216#32 (IntOp.addi (code j) 8388608#32) = code (upn j) := by
  decide +kernel

theorem up_eq {r : EReal} {j : ℕ} (h : Level r j) (hj : j < 253) : up r = code (upn j) := by
  unfold up
  rw [expo_eq h (by omega)]
  exact up_word j hj

theorem inv_word : ∀ j < 253, IntOp.subi 2130706432#32 (code (upn j)) = code (254 - upn j) := by decide +kernel

theorem upn_bound (j : ℕ) (hj : j < 253) : 1 ≤ upn j ∧ upn j ≤ 253 := by unfold upn; split <;> omega

theorem scale_eq {r : EReal} {j : ℕ} (h : Level r j) (hj : j < 253) : scale r = (((2 : ℝ) ^ ((upn j : ℤ) - 127) : ℝ) : EReal) := by
  have := upn_bound j hj
  unfold scale
  rw [up_eq h hj, code_val _ this.1 (by omega)]

theorem inv_eq {r : EReal} {j : ℕ} (h : Level r j) (hj : j < 253) : inv r = (((2 : ℝ) ^ (-((upn j : ℤ) - 127)) : ℝ) : EReal) := by
  have := upn_bound j hj
  unfold inv
  rw [up_eq h hj, inv_word j hj, code_val _ (by omega) (by omega)]
  congr 2
  omega

theorem level_zero : Level 0 0 := by
  intro n h1 h2
  refine ⟨fun h => ?_, fun h => by omega⟩
  rcases Nat.lt_or_ge n 255 with hn | hn
  · rw [code_val n h1 (by omega), ← EReal.coe_zero, EReal.coe_le_coe_iff] at h
    exact absurd h (not_le.mpr (by positivity))
  · obtain rfl : n = 255 := by omega
    rw [code_top] at h
    exact absurd h (by simp)

theorem level_coe (r : ℝ) (j : ℕ) (hj : j < 255) (h1 : (2 : ℝ) ^ ((j : ℤ) - 127) ≤ r) (h2 : r < (2 : ℝ) ^ ((j : ℤ) - 127 + 1)) :
    Level (r : EReal) j := by
  intro n hn1 hn2
  rcases Nat.lt_or_ge n 255 with hn | hn
  · rw [code_val n hn1 (by omega), EReal.coe_le_coe_iff]
    constructor
    · intro h
      have := (zpow_lt_zpow_iff_right₀ (by norm_num : (1 : ℝ) < 2)).mp (h.trans_lt h2)
      omega
    · intro h
      exact le_trans (zpow_le_zpow_right₀ (by norm_num) (by omega)) h1
  · obtain rfl : n = 255 := by omega
    rw [code_top]
    constructor
    · intro h
      exact absurd (top_le_iff.mp h) (EReal.coe_ne_top r)
    · intro h
      omega

/-- The reference's exponent, of the greatest magnitude of the row, with constants `c` and `l`. -/
def rexpOf (c l a : EReal) : EReal :=
  Scalar.select (Ideal.cmp .oeq a (Ideal.ofBits .f32 0x00000000#32)) (Ideal.ofBits .f32 0x00000000#32)
    (Ideal.liftRound Int.floor (Ideal.div (Ideal.log (a * c)) l) + Ideal.ofBits .f32 0x3F800000#32)

/-- The reference's exponent: `c` is one over the largest code and `l` the logarithm of two. -/
def rexp (a : EReal) : EReal := rexpOf (((1 / 448 : ℝ) : ℝ) : EReal) ((Real.log 2 : ℝ) : EReal) a

theorem zero_word : Ideal.ofBits .f32 0x00000000#32 = (0 : EReal) := by
  simp [Ideal.ofBits, Ideal.ieee]

theorem one_word : Ideal.ofBits .f32 0x3F800000#32 = (1 : EReal) := by
  have := code_val 127 (by norm_num) (by norm_num)
  rw [show (0x3F800000#32) = code 127 from by decide, this]
  norm_num

/-- What the precondition says of the greatest magnitude of a row: zero, or in the range of normal numbers once scaled. -/
def Normal (a : EReal) : Prop := a = 0 ∨ ((448 * (2 : ℝ) ^ (-126 : ℤ) : ℝ) : EReal) ≤ a ∧ a ≤ (((2 : ℝ) ^ (128 : ℤ) : ℝ) : EReal)

/-- Of an admitted row the kernel's scale and its inverse are the reference's. -/
theorem both {a : EReal} (h : Normal a) :
    scale (a * (((1 / 448 : ℝ) : ℝ) : EReal)) = Ideal.exp2 (rexp a) ∧
      inv (a * (((1 / 448 : ℝ) : ℝ) : EReal)) = Ideal.exp2 (Ideal.ofBits .f32 0x00000000#32 - rexp a) := by
  rcases h with rfl | ⟨h1, h2⟩
  · have e : rexp 0 = 0 := by
      unfold rexp rexpOf
      rw [zero_word]
      show Scalar.select (BitVec.ofBool (decide ((0 : EReal) = 0))) _ _ = _
      rw [decide_eq_true rfl]; rfl
    rw [zero_mul, e, zero_word, scale_eq level_zero (by norm_num), inv_eq level_zero (by norm_num), sub_zero]
    have : Ideal.exp2 0 = ((1 : ℝ) : EReal) := by
      show ((Real.rpow 2 0 : ℝ) : EReal) = _
      congr 1
      exact Real.rpow_zero 2
    rw [this]
    constructor <;> congr 1
  · induction a using EReal.rec with
    | bot => exact absurd (le_bot_iff.mp h1) (EReal.coe_ne_bot _)
    | top => exact absurd (top_le_iff.mp h2) (EReal.coe_ne_top _)
    | coe a =>
      rw [EReal.coe_le_coe_iff] at h1 h2
      have hl2 : 0 < Real.log 2 := Real.log_pos (by norm_num)
      set r : ℝ := a * (1 / 448) with hr
      have r1 : (2 : ℝ) ^ (-126 : ℤ) ≤ r := by rw [hr]; norm_num at h1 ⊢; linarith
      have r2 : r < (2 : ℝ) ^ (126 : ℤ) := by
        rw [hr]
        have : (2 : ℝ) ^ (128 : ℤ) = 4 * 2 ^ (126 : ℤ) := by norm_num
        have : (0 : ℝ) < 2 ^ (126 : ℤ) := by positivity
        linarith
      have r0 : 0 < r := lt_of_lt_of_le (by positivity) r1
      have a0 : a ≠ 0 := by rintro rfl; rw [hr, zero_mul] at r0; exact lt_irrefl _ r0
      set z : ℤ := ⌊Real.log r / Real.log 2⌋ with hz
      have z1 : (2 : ℝ) ^ z ≤ r := by
        rw [← Real.log_le_log_iff (by positivity) r0, Real.log_zpow]
        exact (le_div_iff₀ hl2).mp (Int.floor_le _)
      have z2 : r < (2 : ℝ) ^ (z + 1) := by
        rw [← Real.log_lt_log_iff r0 (by positivity), Real.log_zpow]
        push_cast
        exact (div_lt_iff₀ hl2).mp (Int.lt_floor_add_one _)
      have z3 : -126 ≤ z := by
        have := (zpow_lt_zpow_iff_right₀ (by norm_num : (1 : ℝ) < 2)).mp (r1.trans_lt z2)
        omega
      have z4 : z < 126 := (zpow_lt_zpow_iff_right₀ (by norm_num : (1 : ℝ) < 2)).mp (z1.trans_lt r2)
      obtain ⟨j, hj⟩ : ∃ j : ℕ, (j : ℤ) = z + 127 := ⟨(z + 127).toNat, by omega⟩
      have lv : Level (r : EReal) j := level_coe r j (by omega) (by rwa [hj, add_sub_cancel_right]) (by rwa [hj, add_sub_cancel_right])
      have hu : ((upn j : ℤ) - 127) = z + 1 := by unfold upn; rw [if_neg (by omega)]; push_cast; omega
      have e : rexp (a : EReal) = (((z : ℝ) + 1 : ℝ) : EReal) := by
        unfold rexp rexpOf
        rw [zero_word, one_word, ← EReal.coe_mul]
        show Scalar.select (BitVec.ofBool (decide ((a : EReal) = 0))) _ _ = _
        rw [decide_eq_false (by rw [← EReal.coe_zero, EReal.coe_eq_coe_iff]; exact a0)]
        show Ideal.liftRound Int.floor (Ideal.div (if r ≤ 0 then ⊥ else (Real.log r : EReal)) _) + 1 = _
        rw [if_neg (not_le.mpr r0)]
        unfold Ideal.div
        rw [if_neg (by rw [← EReal.coe_zero, EReal.coe_eq_coe_iff]; exact hl2.ne'), ← EReal.coe_inv, ← EReal.coe_mul, ← div_eq_mul_inv]
        show ((z : ℝ) : EReal) + 1 = _
        rw [EReal.coe_add]; rfl
      rw [← EReal.coe_mul, ← hr, e, zero_word, scale_eq lv (by omega), inv_eq lv (by omega), hu, zero_sub, ← EReal.coe_neg]
      constructor
      · show _ = ((Real.rpow 2 ((z : ℝ) + 1) : ℝ) : EReal)
        congr 1
        have := Real.rpow_intCast (2 : ℝ) (z + 1)
        push_cast at this
        exact this.symm
      · show _ = ((Real.rpow 2 (-((z : ℝ) + 1)) : ℝ) : EReal)
        congr 1
        have := Real.rpow_intCast (2 : ℝ) (-(z + 1))
        push_cast at this
        rw [← this]
        rfl

/-- The greatest magnitude of a row. -/
def amax {ι : Type} [Fintype ι] (f : ι → EReal) : EReal := Finset.univ.sup fun d => max (f d) (-(f d))

/-- The mean of a column of all tokens. -/
def mean (f : Fin 8192 → EReal) : EReal := Ideal.div (∑ s, f s) (Ideal.ofBits .f32 0x46000000#32)

/-- A code: a scaled value clipped to the largest code. -/
def clip (x : EReal) : EReal := min (Ideal.ofBits .f32 0x43E00000#32) (max (Ideal.ofBits .f32 0xC3E00000#32) x)

theorem neg_inf : Ideal.ofBits .f32 0xFF800000#32 = (⊥ : EReal) := by
  simp [Ideal.ofBits, Ideal.ieee]

/-- A fold by `max` from `⊥` is the supremum. -/
theorem fold_sup {ι : Type} (s : Finset ι) (f : ι → EReal) : s.fold max ⊥ f = s.sup f := rfl

/-- A fold by `max` from the word of minus infinity is the greatest magnitude. -/
theorem fold_amax {ι : Type} [Fintype ι] (f : ι → EReal) :
    Finset.univ.fold max (Ideal.ofBits .f32 0xFF800000#32) (fun d => FloatOps.absf (F := Ideal) (φ := .f32) (f d)) = amax f := by
  rw [neg_inf]; rfl

theorem exp2_apply {sh : Shape} (v : FVec Ideal sh .f32) (i : sh.Idx) : exp2 v i = Ideal.exp2 (v i) := rfl

theorem exp2_neg_apply {sh : Shape} (v : FVec Ideal sh .f32) (i : sh.Idx) :
    exp2 (subf (broadcast sh (Scalar.ofBits .f32 0x00000000#32)) v) i = Ideal.exp2 (Ideal.ofBits .f32 0x00000000#32 - v i) := rfl

end Cert.Scale

end
-- ==== Proof.Quant.Tile.lean ====
/-
  What the quantiser computes on one block of 512 tokens, read at an element: the ratio, the scale and the codes of each row,
  and the running sum and greatest magnitude of the statistics loop.
-/
module

public import proofs.«01_k».proof.Proof.Gen.QuantIdeal.Skeleton
public import proofs.«01_k».proof.Proof.Quant.Scale
public import Idealize.ShloMosaic.Lib.Pointwise

@[expose] public section

set_option maxRecDepth 16384

noncomputable section

namespace Cert.QuantIdeal

open Idealize.ShloMosaic Cert.QuantIdeal.Gen Cert.Scale

/-- One over the largest code. -/
def k448 : EReal := (((1 / 448 : ℝ) : ℝ) : EReal)

theorem ratio_const : Named.named (F := Ideal) κ "inv_fp8_max" (φ := .f32) 0x3B124925#32 = k448 := rfl

/-- A step of the search, on a whole vector. -/
def stepV {sh : Shape} (b : BitVec 32) (r : FVec Ideal sh .f32) (e : IVec sh 32) : IVec sh 32 :=
  select (cmpf .oge r (bitcastToFloat .f32 (ori e (broadcast sh b)))) (ori e (broadcast sh b)) e

theorem stepV_apply {sh : Shape} (b : BitVec 32) (r : FVec Ideal sh .f32) (e : IVec sh 32) (i : sh.Idx) :
    stepV b r e i = step (r i) b (e i) := rfl

/-- The search, on a whole vector. -/
def expoV {sh : Shape} (r : FVec Ideal sh .f32) : IVec sh 32 :=
  stepV 8388608#32 r <| stepV 16777216#32 r <| stepV 33554432#32 r <| stepV 67108864#32 r <|
    stepV 134217728#32 r <| stepV 268435456#32 r <| stepV 536870912#32 r <| stepV 1073741824#32 r (broadcast sh 0#32)

theorem expoV_apply {sh : Shape} (r : FVec Ideal sh .f32) (i : sh.Idx) : expoV r i = expo (r i) := by
  unfold expoV expo
  simp only [stepV_apply]
  rfl

/-- The words of the scales, on a whole vector. -/
def upV {sh : Shape} (r : FVec Ideal sh .f32) : IVec sh 32 :=
  select (cmpi .eq (expoV r) (broadcast sh 0#32)) (broadcast sh 1065353216#32) (addi (expoV r) (broadcast sh 8388608#32))

theorem upV_apply {sh : Shape} (r : FVec Ideal sh .f32) (i : sh.Idx) : upV r i = up (r i) := by
  unfold up
  rw [← expoV_apply]
  rfl

/-- The scales and their inverses, on a whole vector. -/
def scaleV {sh : Shape} (r : FVec Ideal sh .f32) : FVec Ideal sh .f32 := bitcastToFloat .f32 (upV r)
def invV {sh : Shape} (r : FVec Ideal sh .f32) : FVec Ideal sh .f32 := bitcastToFloat .f32 (subi (broadcast sh 2130706432#32) (upV r))

theorem scaleV_apply {sh : Shape} (r : FVec Ideal sh .f32) (i : sh.Idx) : scaleV r i = scale (r i) := by
  unfold scale
  rw [← upV_apply]
  rfl

theorem invV_apply {sh : Shape} (r : FVec Ideal sh .f32) (i : sh.Idx) : invV r i = Scale.inv (r i) := by
  unfold Scale.inv
  rw [← upV_apply]
  rfl

/-- The codes of a block, of its values and the inverses of its scales. -/
def codesV (w y : FVec Ideal S512x128 .f32) : FVec Ideal S1x512x128 .fp8e4m3 :=
  shapeCast S1x512x128 (truncf .fp8e4m3 (minimumf (broadcast S512x128 (Scalar.ofBits .f32 0x43E00000#32))
    (maximumf (broadcast S512x128 (Scalar.ofBits .f32 0xC3E00000#32)) (mulf w y))) bitsLt_fp8e4m3_f32) shapeCasts_S512x128_S1x512x128

variable (r : Fin 512) (d : Fin 128)

theorem codesV_apply (w y : FVec Ideal S512x128 .f32) : codesV w y (ix3 0 r d) = clip (w (ix2 r d) * y (ix2 r d)) := by
  pointwise [codesV]
  rw [clip]

/-- The greatest magnitudes of a block's rows, over the largest code. -/
def ratioV (w : FVec Ideal S512x128 .f32) : FVec Ideal S512x128 .f32 :=
  mulf (broadcastTo S512x128 (shapeCast S512x1 (shapeCast S512x1 (multiReduction .maximumf [1] S512 (absf w) 0xFF800000#32 reduces_S512x128_S512
    (.inl rfl) rfl) shapeCasts_S512_S512x1) shapeCasts_S512x1_S512x1) broadcasts_S512x1_S512x128)
    (broadcast S512x128 (Named.named κ "inv_fp8_max" 0x3B124925#32))

theorem ratioV_apply (w : FVec Ideal S512x128 .f32) : ratioV w (ix2 r d) = amax (fun d => w (ix2 r d)) * k448 := by
  pointwise [ratioV]
  rw [fold_amax, ratio_const]

variable (v : Vec Ideal S1x512x128 .bf16)

theorem pay7_apply : k0_pay7 (F := Ideal) v (ix2 r d) = v (ix3 0 r d) := by
  pointwise [k0_pay7]

theorem pay8_eq : k0_pay8 (F := Ideal) v = ratioV (k0_pay7 (F := Ideal) v) := by
  unfold k0_pay8 ratioV
  rfl

theorem pay12_eq : k0_pay12 (F := Ideal) (k0_pay8 v) (k0_pay9 v) (k0_pay10 v) (k0_pay11 v) = upV (k0_pay8 (F := Ideal) v) := by
  unfold k0_pay12 k0_pay11 k0_pay10 k0_pay9 upV expoV stepV
  rfl

theorem pay13_eq : k0_pay13 (F := Ideal) (k0_pay8 v) (k0_pay9 v) (k0_pay10 v) (k0_pay11 v) = scaleV (ratioV (k0_pay7 (F := Ideal) v)) := by
  unfold k0_pay13 scaleV
  rw [pay12_eq, pay8_eq]

theorem pay14_eq : k0_pay14 (F := Ideal) (k0_pay7 v) (k0_pay8 v) (k0_pay9 v) (k0_pay10 v) (k0_pay11 v)
    = codesV (k0_pay7 (F := Ideal) v) (invV (ratioV (k0_pay7 (F := Ideal) v))) := by
  unfold k0_pay14
  rw [pay12_eq, pay8_eq]
  unfold codesV invV
  rfl

variable (z : FVec Ideal S1x128 .f32)

theorem pay19_apply : k0_pay19 (F := Ideal) z v (ix2 r d) = v (ix3 0 r d) - z (ix2 0 d) := by
  pointwise [k0_pay19]

theorem pay20_eq : k0_pay20 (F := Ideal) z v = ratioV (k0_pay19 (F := Ideal) z v) := by
  unfold k0_pay20 ratioV
  rfl

theorem pay23_eq : k0_pay23 (F := Ideal) (k0_pay20 z v) (k0_pay21 z v) (k0_pay22 z v) = upV (k0_pay20 (F := Ideal) z v) := by
  unfold k0_pay23 k0_pay22 k0_pay21 upV expoV stepV
  rfl

theorem pay24_eq : k0_pay24 (F := Ideal) (k0_pay20 z v) (k0_pay21 z v) (k0_pay22 z v) = scaleV (ratioV (k0_pay19 (F := Ideal) z v)) := by
  unfold k0_pay24 scaleV
  rw [pay23_eq, pay20_eq]

theorem pay25_eq : k0_pay25 (F := Ideal) (k0_pay19 z v) (k0_pay20 z v) (k0_pay21 z v) (k0_pay22 z v)
    = codesV (k0_pay19 (F := Ideal) z v) (invV (ratioV (k0_pay19 (F := Ideal) z v))) := by
  unfold k0_pay25
  rw [pay23_eq, pay20_eq]
  unfold codesV invV
  rfl

variable (g : FVec Ideal S8x128 .f32)

theorem pay1_eq : k0_pay1 (F := Ideal) (k0_pay32 g) (k0_pay33 g) = upV (k0_pay32 (F := Ideal) g) := by
  unfold k0_pay1 k0_pay33 upV expoV stepV
  rfl

theorem pay2_apply : k0_pay2 (F := Ideal) (k0_pay32 g) (k0_pay33 g) (ix2 0 d) = Scale.inv (k0_pay32 (F := Ideal) g (ix2 0 d)) := by
  rw [← invV_apply]
  unfold k0_pay2 invV
  rw [pay1_eq]

theorem pay3_apply : k0_pay3 (F := Ideal) (k0_pay32 g) (k0_pay33 g) (ix4 0 0 0 d) = scale (k0_pay32 (F := Ideal) g (ix2 0 d)) := by
  rw [← scaleV_apply]
  unfold k0_pay3
  rw [pay1_eq]
  change shapeCast S1x1x1x128 (scaleV (k0_pay32 (F := Ideal) g)) _ _ = _
  generalize scaleV (k0_pay32 (F := Ideal) g) = y
  pointwise []

theorem pay6_eq : k0_pay6 (F := Ideal) z v = codesV (k0_pay7 (F := Ideal) v) (broadcastTo S512x128 z broadcasts_S1x128_S512x128) := by
  unfold k0_pay6 k0_pay7 codesV
  rfl

theorem pay6_apply : k0_pay6 (F := Ideal) z v (ix3 0 r d) = clip (v (ix3 0 r d) * z (ix2 0 d)) := by
  rw [pay6_eq, codesV_apply, pay7_apply]
  pointwise []

/-- The row of a block's scales from its columns: 128 of them at a time. -/
theorem pay15_apply (w : FVec Ideal S512x128 .f32) : k0_pay15 (F := Ideal) w (ix4 0 0 0 d) = w (ix2 ⟨d.val, by omega⟩ 0) := by
  pointwise [k0_pay15]
theorem pay16_apply (w : FVec Ideal S512x128 .f32) : k0_pay16 (F := Ideal) w (ix4 0 0 0 d) = w (ix2 ⟨128 + d.val, by omega⟩ 0) := by
  pointwise [k0_pay16]
theorem pay17_apply (w : FVec Ideal S512x128 .f32) : k0_pay17 (F := Ideal) w (ix4 0 0 0 d) = w (ix2 ⟨256 + d.val, by omega⟩ 0) := by
  pointwise [k0_pay17]
theorem pay18_apply (w : FVec Ideal S512x128 .f32) : k0_pay18 (F := Ideal) w (ix4 0 0 0 d) = w (ix2 ⟨384 + d.val, by omega⟩ 0) := by
  pointwise [k0_pay18]

theorem pay29_apply (i : Fin 8) : k0_pay29 (F := Ideal) g v (ix2 i d) = g (ix2 i d) + ∑ t : Fin 64, v (ix3 0 ⟨t.val * 8 + i.val, by omega⟩ d) := by
  pointwise [k0_pay29]
theorem pay30_apply (i : Fin 8) : k0_pay30 (F := Ideal) g v (ix2 i d) = max (g (ix2 i d)) (amax fun t : Fin 64 => v (ix3 0 ⟨t.val * 8 + i.val, by omega⟩ d)) := by
  pointwise [k0_pay30]
  rw [fold_amax]
theorem pay31_apply : k0_pay31 (F := Ideal) g (ix2 0 d) = (∑ i : Fin 8, g (ix2 i d)) * Ideal.ofBits .f32 0x39000000#32 := by
  pointwise [k0_pay31]
theorem pay32_apply : k0_pay32 (F := Ideal) g (ix2 0 d) = (Finset.univ.sup fun i : Fin 8 => g (ix2 i d)) * k448 := by
  pointwise [k0_pay32]
  rw [ratio_const, neg_inf, fold_sup]

end Cert.QuantIdeal

end
-- ==== Proof.Quant.Pieces.lean ====
/-
  The blocks that the quantiser's main loop writes, read back: each trip's stores are parts of one array of codes and of one row
  of scales, so the buffers after the loop hold those arrays.
-/
module

public import proofs.«01_k».proof.Proof.Gen.QuantIdeal.Value
public import proofs.«01_k».proof.Proof.Quant.Tile
public import Idealize.ShloMosaic.Lib.Pipeline.ReadBack
public import Idealize.ShloMosaic.Lib.WholeRead

@[expose] public section

set_option maxRecDepth 16384

noncomputable section

namespace Cert.QuantIdeal

open Idealize.ShloMosaic Idealize.ShloMosaic.TcCoe Idealize.ShloMosaic.Tactic
open Idealize.SL Idealize.SL.RA Idealize.SL.BI
open Idealize.SL.Sem
open Cert.QuantIdeal.Gen Cert.Scale

/-- Coordinates of a block that starts at token `512 k`. -/
theorem emb2 (k : Fin k0_t2_loop.trips) (hk : k.val < 16) (inb : ∀ a, k0_off2 k a + (![1, 512, 128] : Fin 3 → ℕ) a ≤ S1x8192x128.size a) (r : Fin 512) (d : Fin 128) :
    (Rect.unit (s := S1x8192x128) (k0_off2 k) ![1, 512, 128] inb).emb (ix3 0 r d) = ix3 0 ⟨512 * k.val + r.val, by omega⟩ d := by
  refine funext fun a => Fin.ext ?_
  match a with
  | ⟨0, _⟩ => show k0_off2 k 0 + 1 * 0 = 0; rw [k0_off2_eq]; rfl
  | ⟨1, _⟩ => show k0_off2 k 1 + 1 * r.val = 512 * k.val + r.val; rw [k0_off2_eq]; show 512 * k.val + 1 * r.val = _; omega
  | ⟨2, _⟩ => show k0_off2 k 2 + 1 * d.val = d.val; rw [k0_off2_eq]; show 0 + 1 * d.val = _; omega

/-- A load of a block of a whole array. -/
theorem load2 (k : Fin k0_t2_loop.trips) (hk : k.val < 16) (inb : ∀ a, k0_off2 k a + (![1, 512, 128] : Fin 3 → ℕ) a ≤ S1x8192x128.size a) (r : Fin 512) (d : Fin 128)
    (arg : Memref sig .tc .vmem S1x8192x128 .bf16) (harg : arg.IsWhole) (x : Vec Ideal S1x8192x128 .bf16) :
    View.readAt (Elt Ideal) arg.view (Rect.unit (s := S1x8192x128) (k0_off2 k) ![1, 512, 128] inb).toLoadRect (harg.unread x) (ix3 0 r d)
      = x (ix3 0 ⟨512 * k.val + r.val, by omega⟩ d) := by
  refine (harg.readAt_unread x _ _).trans (congrArg x ?_)
  exact emb2 k hk inb r d

/-- The array of codes of rows `W`. -/
def codesOf (W : Fin 8192 → Fin 128 → EReal) : Vec Ideal S1x8192x128 .fp8e4m3 :=
  fun y => clip (W (y 1) (y 2) * Scale.inv (amax (W (y 1)) * k448))

/-- The row of scales of rows `W`. -/
def scalesOf (W : Fin 8192 → Fin 128 → EReal) : Vec Ideal S1x1x1x8192 .f32 :=
  fun y => scale (amax (W (y 3)) * k448)

/-- A block's codes are part of the array of codes. -/
theorem codes_piece (W : Fin 8192 → Fin 128 → EReal) (k : Fin k0_t2_loop.trips) (hk : k.val < 16)
    (inb : ∀ a, k0_off2 k a + (![1, 512, 128] : Fin 3 → ℕ) a ≤ S1x8192x128.size a) (w : FVec Ideal S512x128 .f32)
    (hw : ∀ r d, w (ix2 r d) = W ⟨512 * k.val + r.val, by omega⟩ d) (x : S1x512x128.Idx) :
    codesV w (invV (ratioV w)) x = codesOf W ((Rect.unit (s := S1x8192x128) (k0_off2 k) ![1, 512, 128] inb).emb x) := by
  obtain ⟨r, d, rfl⟩ : ∃ (r : Fin 512) (d : Fin 128), x = ix3 0 r d := ⟨x 1, x 2, by
    refine (eq_ix3 x).trans ?_
    rw [show x 0 = (0 : Fin 1) from Subsingleton.elim (α := Fin 1) _ _]⟩
  rw [emb2 k hk inb r d, codesV_apply, invV_apply, ratioV_apply]
  simp only [hw]
  rfl

/-- A block's scales, 128 of them, are part of the row of scales. -/
theorem scales_piece (W : Fin 8192 → Fin 128 → EReal) (k : Fin k0_t2_loop.trips) (hk : k.val < 16) (o : ℕ) (ho : o + 128 ≤ 512)
    (off : Fin 4 → ℕ) (hoff : off = ![0, 0, 0, 512 * k.val + o])
    (inb : ∀ a, off a + (![1, 1, 1, 128] : Fin 4 → ℕ) a ≤ S1x1x1x8192.size a) (w : FVec Ideal S512x128 .f32)
    (hw : ∀ r d, w (ix2 r d) = W ⟨512 * k.val + r.val, by omega⟩ d) (p : FVec Ideal S1x1x1x128 .f32)
    (hp : ∀ d : Fin 128, p (ix4 0 0 0 d) = scaleV (ratioV w) (ix2 ⟨o + d.val, by omega⟩ 0)) (x : S1x1x1x128.Idx) :
    p x = scalesOf W ((Rect.unit (s := S1x1x1x8192) off ![1, 1, 1, 128] inb).emb x) := by
  obtain ⟨d, rfl⟩ : ∃ d : Fin 128, x = ix4 0 0 0 d := ⟨x 3, by
    refine (eq_ix4 x).trans ?_
    rw [show x 0 = (0 : Fin 1) from Subsingleton.elim (α := Fin 1) _ _, show x 1 = (0 : Fin 1) from Subsingleton.elim (α := Fin 1) _ _,
      show x 2 = (0 : Fin 1) from Subsingleton.elim (α := Fin 1) _ _]⟩
  rw [hp, scaleV_apply, ratioV_apply]
  simp only [hw]
  have e : ((Rect.unit (s := S1x1x1x8192) off ![1, 1, 1, 128] inb).emb (ix4 0 0 0 d)) 3 = (⟨512 * k.val + (o + d.val), by omega⟩ : Fin 8192) := by
    refine Fin.ext ?_
    show off 3 + 1 * d.val = 512 * k.val + (o + d.val)
    rw [hoff]
    show 512 * k.val + o + 1 * d.val = _
    omega
  unfold scalesOf
  rw [e]

/-- The rows of `x`, of `k` less its mean `z`. -/
def rowsOf (x : Vec Ideal S1x8192x128 .bf16) : Fin 8192 → Fin 128 → EReal := fun s d => x (ix3 0 s d)
def smoothOf (x : Vec Ideal S1x8192x128 .bf16) (z : FVec Ideal S1x128 .f32) : Fin 8192 → Fin 128 → EReal := fun s d => x (ix3 0 s d) - z (ix2 0 d)

/-- The codes of `v`, of one scale for each column. -/
def vcodesOf (x : Vec Ideal S1x8192x128 .bf16) (z : FVec Ideal S1x128 .f32) : Vec Ideal S1x8192x128 .fp8e4m3 :=
  fun y => clip (x (ix3 0 (y 1) (y 2)) * z (ix2 0 (y 2)))

/-- The block of 512 tokens of an input that trip `k` loads. -/
def blk {e : EltTy} (arg : Memref sig .tc .vmem S1x8192x128 e) (X : BufTy.Contents (Elt Ideal) arg.view.ty) (k : Fin k0_t2_loop.trips) : Vec Ideal S1x512x128 e :=
  View.readAt (Elt Ideal) arg.view (Rect.unit (s := S1x8192x128) (k0_off2 k) S1x512x128.size (k0_off2_inb k)).toLoadRect X

section
variable (arg : Memref sig .tc .vmem S1x8192x128 .bf16) (X : BufTy.Contents (Elt Ideal) arg.view.ty) (k : Fin k0_t2_loop.trips) (z : FVec Ideal S1x128 .f32)

theorem v154_eq : trip_k0_t2.sl.v154 (F := Ideal) arg X k = codesV (k0_pay7 (F := Ideal) (blk arg X k)) (invV (ratioV (k0_pay7 (F := Ideal) (blk arg X k)))) :=
  Eq.trans (by rfl) (pay14_eq (blk arg X k))
theorem v163_eq : trip_k0_t2.sl.v163 (F := Ideal) arg X k = k0_pay15 (F := Ideal) (scaleV (ratioV (k0_pay7 (F := Ideal) (blk arg X k)))) :=
  Eq.trans (by rfl) (congrArg (k0_pay15 (F := Ideal)) (pay13_eq (blk arg X k)))
theorem v172_eq : trip_k0_t2.sl.v172 (F := Ideal) arg X k = k0_pay16 (F := Ideal) (scaleV (ratioV (k0_pay7 (F := Ideal) (blk arg X k)))) :=
  Eq.trans (by rfl) (congrArg (k0_pay16 (F := Ideal)) (pay13_eq (blk arg X k)))
theorem v181_eq : trip_k0_t2.sl.v181 (F := Ideal) arg X k = k0_pay17 (F := Ideal) (scaleV (ratioV (k0_pay7 (F := Ideal) (blk arg X k)))) :=
  Eq.trans (by rfl) (congrArg (k0_pay17 (F := Ideal)) (pay13_eq (blk arg X k)))
theorem v190_eq : trip_k0_t2.sl.v190 (F := Ideal) arg X k = k0_pay18 (F := Ideal) (scaleV (ratioV (k0_pay7 (F := Ideal) (blk arg X k)))) :=
  Eq.trans (by rfl) (congrArg (k0_pay18 (F := Ideal)) (pay13_eq (blk arg X k)))
theorem v251_eq : trip_k0_t2.sl.v251 (F := Ideal) arg z X k = scaleV (ratioV (k0_pay19 (F := Ideal) z (blk arg X k))) :=
  Eq.trans (by rfl) (pay24_eq (blk arg X k) z)
theorem v264_eq : trip_k0_t2.sl.v264 (F := Ideal) arg z X k = codesV (k0_pay19 (F := Ideal) z (blk arg X k)) (invV (ratioV (k0_pay19 (F := Ideal) z (blk arg X k)))) :=
  Eq.trans (by rfl) (pay25_eq (blk arg X k) z)
theorem v273_eq : trip_k0_t2.sl.v273 (F := Ideal) arg z X k = k0_pay15 (F := Ideal) (scaleV (ratioV (k0_pay19 (F := Ideal) z (blk arg X k)))) :=
  Eq.trans (by rfl) (congrArg (k0_pay15 (F := Ideal)) (pay24_eq (blk arg X k) z))
theorem v282_eq : trip_k0_t2.sl.v282 (F := Ideal) arg z X k = k0_pay16 (F := Ideal) (scaleV (ratioV (k0_pay19 (F := Ideal) z (blk arg X k)))) :=
  Eq.trans (by rfl) (congrArg (k0_pay16 (F := Ideal)) (pay24_eq (blk arg X k) z))
theorem pay4_eq (w : FVec Ideal S512x128 .f32) : k0_pay4 (F := Ideal) w = k0_pay17 (F := Ideal) w := rfl
theorem pay5_eq (w : FVec Ideal S512x128 .f32) : k0_pay5 (F := Ideal) w = k0_pay18 (F := Ideal) w := rfl
end

/-- The rows of a loaded block. -/
theorem rows_blk (arg : Memref sig .tc .vmem S1x8192x128 .bf16) (harg : arg.IsWhole) (x : Vec Ideal S1x8192x128 .bf16) (k : Fin k0_t2_loop.trips) (hk : k.val < 16)
    (r : Fin 512) (d : Fin 128) : k0_pay7 (F := Ideal) (blk arg (harg.unread x) k) (ix2 r d) = rowsOf x ⟨512 * k.val + r.val, by omega⟩ d := by
  rw [pay7_apply]
  exact load2 k hk _ r d arg harg x
theorem smooth_blk (arg : Memref sig .tc .vmem S1x8192x128 .bf16) (harg : arg.IsWhole) (x : Vec Ideal S1x8192x128 .bf16) (z : FVec Ideal S1x128 .f32) (k : Fin k0_t2_loop.trips) (hk : k.val < 16)
    (r : Fin 512) (d : Fin 128) : k0_pay19 (F := Ideal) z (blk arg (harg.unread x) k) (ix2 r d) = smoothOf x z ⟨512 * k.val + r.val, by omega⟩ d := by
  rw [pay19_apply]
  exact congrArg (· - z (ix2 0 d)) (load2 k hk _ r d arg harg x)

theorem off3_0 (k : Fin k0_t2_loop.trips) : k0_off3 k 0#32 = ![0, 0, 0, 512 * k.val + 0] := k0_off3_eq k ⟨0, by decide⟩
theorem off3_1 (k : Fin k0_t2_loop.trips) : k0_off3 k 128#32 = ![0, 0, 0, 512 * k.val + 128] := k0_off3_eq k ⟨1, by decide⟩
theorem off3_2 (k : Fin k0_t2_loop.trips) : k0_off3 k 256#32 = ![0, 0, 0, 512 * k.val + 256] := k0_off3_eq k ⟨2, by decide⟩
theorem off3_3 (k : Fin k0_t2_loop.trips) : k0_off3 k 384#32 = ![0, 0, 0, 512 * k.val + 384] := k0_off3_eq k ⟨3, by decide⟩

section
variable (𝒱 : Variants) (c : Dev nD) (bd : Option 𝒱.V) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e4m3) (harg5 : arg5.IsWhole) (arg6 : Memref sig .tc .vmem S1x1x1x8192 .f32) (harg6 : arg6.IsWhole) (arg7 : Memref sig .tc .vmem S1x8192x128 .fp8e4m3) (harg7 : arg7.IsWhole) (arg8 : Memref sig .tc .vmem S1x1x1x8192 .f32) (harg8 : arg8.IsWhole) (arg9 : Memref sig .tc .vmem S1x8192x128 .fp8e4m3) (harg9 : arg9.IsWhole) (arg10 : Memref sig .tc .vmem S1x1x1x128 .f32) (harg10 : arg10.IsWhole) (v6 : FVec Ideal S1x128 .f32) (v10 : FVec Ideal S1x128 .f32) (v41 : IVec S1x128 32) (k : Fin k0_t2_loop.trips) (x0 x1 : Vec Ideal S1x8192x128 .bf16) (x2 : Vec Ideal S1x8192x128 .bf16)

theorem trip_x : View.PiecesOf (codesOf (rowsOf x0)) (trip_k0_t2 (F := Ideal) 𝒱 c bd i arg2 harg2 arg3 harg3 arg4 harg4 arg5 harg5 arg6 harg6 arg7 harg7 arg8 harg8 arg9 harg9 arg10 harg10 v6 v10 v41 (harg2.unread x0) (harg3.unread x1) (harg4.unread x2) k).1 := by
  have hk : k.val < 16 := Nat.lt_of_lt_of_le k.isLt k0_t2_abs.2.1
  unfold trip_k0_t2; dsimp only
  rw [v154_eq]
  exact ⟨codes_piece (rowsOf x0) k hk (k0_off2_inb k) (k0_pay7 (F := Ideal) (blk arg2 (harg2.unread x0) k)) (rows_blk arg2 harg2 x0 k hk), trivial⟩

theorem trip_xs : View.PiecesOf (scalesOf (rowsOf x0)) (trip_k0_t2 (F := Ideal) 𝒱 c bd i arg2 harg2 arg3 harg3 arg4 harg4 arg5 harg5 arg6 harg6 arg7 harg7 arg8 harg8 arg9 harg9 arg10 harg10 v6 v10 v41 (harg2.unread x0) (harg3.unread x1) (harg4.unread x2) k).2.1 := by
  have hk : k.val < 16 := Nat.lt_of_lt_of_le k.isLt k0_t2_abs.2.1
  unfold trip_k0_t2; dsimp only
  rw [v163_eq, v172_eq, v181_eq, v190_eq]
  have hw := rows_blk arg2 harg2 x0 k hk
  generalize k0_pay7 (F := Ideal) (blk arg2 (harg2.unread x0) k) = w at hw
  refine ⟨?_, ?_, ?_, ?_, trivial⟩
  · exact scales_piece (rowsOf x0) k hk 384 (by omega) _ (off3_3 k) (k0_off3_inb k ⟨3, by decide⟩) w hw (k0_pay18 (F := Ideal) (scaleV (ratioV w))) (fun d => pay18_apply d _)
  · exact scales_piece (rowsOf x0) k hk 256 (by omega) _ (off3_2 k) (k0_off3_inb k ⟨2, by decide⟩) w hw (k0_pay17 (F := Ideal) (scaleV (ratioV w))) (fun d => pay17_apply d _)
  · exact scales_piece (rowsOf x0) k hk 128 (by omega) _ (off3_1 k) (k0_off3_inb k ⟨1, by decide⟩) w hw (k0_pay16 (F := Ideal) (scaleV (ratioV w))) (fun d => pay16_apply d _)
  · exact scales_piece (rowsOf x0) k hk 0 (by omega) _ (off3_0 k) (k0_off3_inb k ⟨0, by decide⟩) w hw (k0_pay15 (F := Ideal) (scaleV (ratioV w))) (fun d => (pay15_apply d _).trans (congrArg (fun n => scaleV (ratioV w) (ix2 n 0)) (Fin.ext (Nat.zero_add _).symm)))

theorem trip_k : View.PiecesOf (codesOf (smoothOf x1 v6)) (trip_k0_t2 (F := Ideal) 𝒱 c bd i arg2 harg2 arg3 harg3 arg4 harg4 arg5 harg5 arg6 harg6 arg7 harg7 arg8 harg8 arg9 harg9 arg10 harg10 v6 v10 v41 (harg2.unread x0) (harg3.unread x1) (harg4.unread x2) k).2.2.1 := by
  have hk : k.val < 16 := Nat.lt_of_lt_of_le k.isLt k0_t2_abs.2.1
  unfold trip_k0_t2; dsimp only
  rw [v264_eq]
  exact ⟨codes_piece (smoothOf x1 v6) k hk (k0_off2_inb k) (k0_pay19 (F := Ideal) v6 (blk arg3 (harg3.unread x1) k)) (smooth_blk arg3 harg3 x1 v6 k hk), trivial⟩

theorem trip_ks : View.PiecesOf (scalesOf (smoothOf x1 v6)) (trip_k0_t2 (F := Ideal) 𝒱 c bd i arg2 harg2 arg3 harg3 arg4 harg4 arg5 harg5 arg6 harg6 arg7 harg7 arg8 harg8 arg9 harg9 arg10 harg10 v6 v10 v41 (harg2.unread x0) (harg3.unread x1) (harg4.unread x2) k).2.2.2.1 := by
  have hk : k.val < 16 := Nat.lt_of_lt_of_le k.isLt k0_t2_abs.2.1
  unfold trip_k0_t2; dsimp only
  rw [v273_eq, v282_eq, v251_eq, pay4_eq, pay5_eq]
  have hw := smooth_blk arg3 harg3 x1 v6 k hk
  generalize k0_pay19 (F := Ideal) v6 (blk arg3 (harg3.unread x1) k) = w at hw
  refine ⟨?_, ?_, ?_, ?_, trivial⟩
  · exact scales_piece (smoothOf x1 v6) k hk 384 (by omega) _ (off3_3 k) (k0_off3_inb k ⟨3, by decide⟩) w hw (k0_pay18 (F := Ideal) (scaleV (ratioV w))) (fun d => pay18_apply d _)
  · exact scales_piece (smoothOf x1 v6) k hk 256 (by omega) _ (off3_2 k) (k0_off3_inb k ⟨2, by decide⟩) w hw (k0_pay17 (F := Ideal) (scaleV (ratioV w))) (fun d => pay17_apply d _)
  · exact scales_piece (smoothOf x1 v6) k hk 128 (by omega) _ (off3_1 k) (k0_off3_inb k ⟨1, by decide⟩) w hw (k0_pay16 (F := Ideal) (scaleV (ratioV w))) (fun d => pay16_apply d _)
  · exact scales_piece (smoothOf x1 v6) k hk 0 (by omega) _ (off3_0 k) (k0_off3_inb k ⟨0, by decide⟩) w hw (k0_pay15 (F := Ideal) (scaleV (ratioV w))) (fun d => (pay15_apply d _).trans (congrArg (fun n => scaleV (ratioV w) (ix2 n 0)) (Fin.ext (Nat.zero_add _).symm)))

theorem trip_v : View.PiecesOf (vcodesOf x2 (k0_pay2 (F := Ideal) v10 v41)) (trip_k0_t2 (F := Ideal) 𝒱 c bd i arg2 harg2 arg3 harg3 arg4 harg4 arg5 harg5 arg6 harg6 arg7 harg7 arg8 harg8 arg9 harg9 arg10 harg10 v6 v10 v41 (harg2.unread x0) (harg3.unread x1) (harg4.unread x2) k).2.2.2.2.1 := by
  have hk : k.val < 16 := Nat.lt_of_lt_of_le k.isLt k0_t2_abs.2.1
  unfold trip_k0_t2; dsimp only
  generalize k0_pay2 (F := Ideal) v10 v41 = z
  refine ⟨fun x => ?_, trivial⟩
  obtain ⟨r, d, rfl⟩ : ∃ (r : Fin 512) (d : Fin 128), x = ix3 0 r d := ⟨x 1, x 2, by
    refine (eq_ix3 x).trans ?_
    rw [show x 0 = (0 : Fin 1) from Subsingleton.elim (α := Fin 1) _ _]⟩
  refine (pay6_apply r d _ z).trans ?_
  refine Eq.trans ?_ (congrArg (vcodesOf x2 z) (emb2 k hk (k0_off2_inb k) r d)).symm
  exact congrArg (fun e => clip (e * z (ix2 0 d))) (load2 k hk (k0_off2_inb k) r d arg4 harg4 x2)

end

end Cert.QuantIdeal

end
-- ==== Proof.Quant.Outs.lean ====
/-
  What the quantiser's body leaves in its six output blocks: the codes and scales of the rows of `x`, those of the rows of `k`
  less the mean of their columns, and those of the columns of `v`.
-/
module

public import proofs.«01_k».proof.Proof.Gen.QuantIdeal.Value
public import proofs.«01_k».proof.Proof.Quant.Pieces
public import Idealize.ShloMosaic.Lib.Pipeline.ReadBack
public import Idealize.ShloMosaic.Lib.WholeRead

@[expose] public section

set_option maxRecDepth 16384

noncomputable section

namespace Cert.QuantIdeal

open Idealize.ShloMosaic Idealize.ShloMosaic.TcCoe Idealize.ShloMosaic.Tactic
open Idealize.SL Idealize.SL.RA Idealize.SL.BI
open Idealize.SL.Sem
open Cert.QuantIdeal.Gen Cert.Scale

theorem piecesOf_append {s : Shape} {e : EltTy} {G : s.Idx → Elt Ideal e} {L L' : List (View.Piece (Elt Ideal) s e)} (h : View.PiecesOf G L) (h' : View.PiecesOf G L') :
    View.PiecesOf G (L ++ L') := by
  induction L with
  | nil => exact h'
  | cons p L ih => exact ⟨h.1, ih h.2⟩

theorem read_pieces {s : Shape} {e : EltTy} {G : s.Idx → Elt Ideal e} {L : List (View.Piece (Elt Ideal) s e)} (v : View sig .tc .vmem s e) (h : View.PiecesOf G L)
    (hc : ∀ y, ∃ p ∈ L, y ∈ p.1.set) : v.read (Elt Ideal) (v.writes (Elt Ideal) v.junk L) = G := by
  rw [View.read_writes_junk_eq_canon]
  funext y
  have := View.canon_append_of_piecesOf G [] L h y (hc y)
  rwa [List.append_nil] at this

section
variable (𝒱 : Variants) (c : Dev nD) (bd : Option 𝒱.V) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e4m3) (harg5 : arg5.IsWhole) (arg6 : Memref sig .tc .vmem S1x1x1x8192 .f32) (harg6 : arg6.IsWhole) (arg7 : Memref sig .tc .vmem S1x8192x128 .fp8e4m3) (harg7 : arg7.IsWhole) (arg8 : Memref sig .tc .vmem S1x1x1x8192 .f32) (harg8 : arg8.IsWhole) (arg9 : Memref sig .tc .vmem S1x8192x128 .fp8e4m3) (harg9 : arg9.IsWhole) (arg10 : Memref sig .tc .vmem S1x1x1x128 .f32) (harg10 : arg10.IsWhole) (v6 : FVec Ideal S1x128 .f32) (v10 : FVec Ideal S1x128 .f32) (v41 : IVec S1x128 32)  (x0 x1 x2 : Vec Ideal S1x8192x128 .bf16)

theorem all_pieces (n : ℕ) (hn : n ≤ k0_t2_loop.trips) :
    View.PiecesOf (codesOf (rowsOf x0)) (pb_k0_t2 (F := Ideal) 𝒱 c bd i arg2 harg2 arg3 harg3 arg4 harg4 arg5 harg5 arg6 harg6 arg7 harg7 arg8 harg8 arg9 harg9 arg10 harg10 v6 v10 v41 (harg2.unread x0) (harg3.unread x1) (harg4.unread x2) n).1 ∧
    View.PiecesOf (scalesOf (rowsOf x0)) (pb_k0_t2 (F := Ideal) 𝒱 c bd i arg2 harg2 arg3 harg3 arg4 harg4 arg5 harg5 arg6 harg6 arg7 harg7 arg8 harg8 arg9 harg9 arg10 harg10 v6 v10 v41 (harg2.unread x0) (harg3.unread x1) (harg4.unread x2) n).2.1 ∧
    View.PiecesOf (codesOf (smoothOf x1 v6)) (pb_k0_t2 (F := Ideal) 𝒱 c bd i arg2 harg2 arg3 harg3 arg4 harg4 arg5 harg5 arg6 harg6 arg7 harg7 arg8 harg8 arg9 harg9 arg10 harg10 v6 v10 v41 (harg2.unread x0) (harg3.unread x1) (harg4.unread x2) n).2.2.1 ∧
    View.PiecesOf (scalesOf (smoothOf x1 v6)) (pb_k0_t2 (F := Ideal) 𝒱 c bd i arg2 harg2 arg3 harg3 arg4 harg4 arg5 harg5 arg6 harg6 arg7 harg7 arg8 harg8 arg9 harg9 arg10 harg10 v6 v10 v41 (harg2.unread x0) (harg3.unread x1) (harg4.unread x2) n).2.2.2.1 ∧
    View.PiecesOf (vcodesOf x2 (k0_pay2 (F := Ideal) v10 v41)) (pb_k0_t2 (F := Ideal) 𝒱 c bd i arg2 harg2 arg3 harg3 arg4 harg4 arg5 harg5 arg6 harg6 arg7 harg7 arg8 harg8 arg9 harg9 arg10 harg10 v6 v10 v41 (harg2.unread x0) (harg3.unread x1) (harg4.unread x2) n).2.2.2.2 := by
  induction n with
  | zero => exact ⟨trivial, trivial, trivial, trivial, trivial⟩
  | succ n ih =>
    obtain ⟨h1, h2, h3, h4, h5⟩ := ih (by omega)
    have e := pb_k0_t2_succ (F := Ideal) 𝒱 c bd i arg2 harg2 arg3 harg3 arg4 harg4 arg5 harg5 arg6 harg6 arg7 harg7 arg8 harg8 arg9 harg9 arg10 harg10 v6 v10 v41 (harg2.unread x0) (harg3.unread x1) (harg4.unread x2) ⟨n, by omega⟩
    dsimp only at e
    rw [e]
    exact ⟨piecesOf_append (trip_x 𝒱 c bd i arg2 harg2 arg3 harg3 arg4 harg4 arg5 harg5 arg6 harg6 arg7 harg7 arg8 harg8 arg9 harg9 arg10 harg10 v6 v10 v41  ⟨n, by omega⟩ x0 x1 x2) h1, piecesOf_append (trip_xs 𝒱 c bd i arg2 harg2 arg3 harg3 arg4 harg4 arg5 harg5 arg6 harg6 arg7 harg7 arg8 harg8 arg9 harg9 arg10 harg10 v6 v10 v41  ⟨n, by omega⟩ x0 x1 x2) h2, piecesOf_append (trip_k 𝒱 c bd i arg2 harg2 arg3 harg3 arg4 harg4 arg5 harg5 arg6 harg6 arg7 harg7 arg8 harg8 arg9 harg9 arg10 harg10 v6 v10 v41  ⟨n, by omega⟩ x0 x1 x2) h3,
      piecesOf_append (trip_ks 𝒱 c bd i arg2 harg2 arg3 harg3 arg4 harg4 arg5 harg5 arg6 harg6 arg7 harg7 arg8 harg8 arg9 harg9 arg10 harg10 v6 v10 v41  ⟨n, by omega⟩ x0 x1 x2) h4, piecesOf_append (trip_v 𝒱 c bd i arg2 harg2 arg3 harg3 arg4 harg4 arg5 harg5 arg6 harg6 arg7 harg7 arg8 harg8 arg9 harg9 arg10 harg10 v6 v10 v41  ⟨n, by omega⟩ x0 x1 x2) h5⟩

end

section
variable (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e4m3) (harg5 : arg5.IsWhole) (arg6 : Memref sig .tc .vmem S1x1x1x8192 .f32) (harg6 : arg6.IsWhole) (arg7 : Memref sig .tc .vmem S1x8192x128 .fp8e4m3) (harg7 : arg7.IsWhole) (arg8 : Memref sig .tc .vmem S1x1x1x8192 .f32) (harg8 : arg8.IsWhole) (arg9 : Memref sig .tc .vmem S1x8192x128 .fp8e4m3) (harg9 : arg9.IsWhole) (arg10 : Memref sig .tc .vmem S1x1x1x128 .f32) (harg10 : arg10.IsWhole) (x0 x1 x2 : Vec Ideal S1x8192x128 .bf16)

/-- The carried pair of the kernel's first loop, after its trips. -/
def stat : FVec Ideal S8x128 .f32 × FVec Ideal S8x128 .f32 :=
  st_k0_t1 (F := Ideal) Variants.none c none i arg2 harg2 arg3 harg3 arg4 harg4 arg5 harg5 arg6 harg6 arg7 harg7 arg8 harg8 arg9 harg9 arg10 harg10 (harg3.unread x1) (harg4.unread x2) (k0_pay28, k0_pay28) (Scf.trips k0_t1_loop.lb k0_t1_loop.ub k0_t1_loop.st)

theorem out3 : out0_A_3 (F := Ideal) c i arg2 harg2 arg3 harg3 arg4 harg4 arg5 harg5 arg6 harg6 arg7 harg7 arg8 harg8 arg9 harg9 arg10 harg10 x0 x1 x2 = codesOf (rowsOf x0) := by
  unfold out0_A_3
  refine read_pieces _ ?_ (cover0_A_3 c i arg2 harg2 arg3 harg3 arg4 harg4 arg5 harg5 arg6 harg6 arg7 harg7 arg8 harg8 arg9 harg9 arg10 harg10 x0 x1 x2)
  unfold kernelRun0_A; dsimp only
  exact (all_pieces Variants.none c none i arg2 harg2 arg3 harg3 arg4 harg4 arg5 harg5 arg6 harg6 arg7 harg7 arg8 harg8 arg9 harg9 arg10 harg10 _ _ _ x0 x1 x2 _ (Nat.le_refl _)).1

theorem out4 : out0_A_4 (F := Ideal) c i arg2 harg2 arg3 harg3 arg4 harg4 arg5 harg5 arg6 harg6 arg7 harg7 arg8 harg8 arg9 harg9 arg10 harg10 x0 x1 x2 = scalesOf (rowsOf x0) := by
  unfold out0_A_4
  refine read_pieces _ ?_ (cover0_A_4 c i arg2 harg2 arg3 harg3 arg4 harg4 arg5 harg5 arg6 harg6 arg7 harg7 arg8 harg8 arg9 harg9 arg10 harg10 x0 x1 x2)
  unfold kernelRun0_A; dsimp only
  exact (all_pieces Variants.none c none i arg2 harg2 arg3 harg3 arg4 harg4 arg5 harg5 arg6 harg6 arg7 harg7 arg8 harg8 arg9 harg9 arg10 harg10 _ _ _ x0 x1 x2 _ (Nat.le_refl _)).2.1

theorem out5 : out0_A_5 (F := Ideal) c i arg2 harg2 arg3 harg3 arg4 harg4 arg5 harg5 arg6 harg6 arg7 harg7 arg8 harg8 arg9 harg9 arg10 harg10 x0 x1 x2 = codesOf (smoothOf x1 (k0_pay31 (F := Ideal) (stat c i arg2 harg2 arg3 harg3 arg4 harg4 arg5 harg5 arg6 harg6 arg7 harg7 arg8 harg8 arg9 harg9 arg10 harg10 x1 x2).1)) := by
  unfold out0_A_5
  refine read_pieces _ ?_ (cover0_A_5 c i arg2 harg2 arg3 harg3 arg4 harg4 arg5 harg5 arg6 harg6 arg7 harg7 arg8 harg8 arg9 harg9 arg10 harg10 x0 x1 x2)
  unfold kernelRun0_A; dsimp only
  exact (all_pieces Variants.none c none i arg2 harg2 arg3 harg3 arg4 harg4 arg5 harg5 arg6 harg6 arg7 harg7 arg8 harg8 arg9 harg9 arg10 harg10 _ _ _ x0 x1 x2 _ (Nat.le_refl _)).2.2.1

theorem out6 : out0_A_6 (F := Ideal) c i arg2 harg2 arg3 harg3 arg4 harg4 arg5 harg5 arg6 harg6 arg7 harg7 arg8 harg8 arg9 harg9 arg10 harg10 x0 x1 x2 = scalesOf (smoothOf x1 (k0_pay31 (F := Ideal) (stat c i arg2 harg2 arg3 harg3 arg4 harg4 arg5 harg5 arg6 harg6 arg7 harg7 arg8 harg8 arg9 harg9 arg10 harg10 x1 x2).1)) := by
  unfold out0_A_6
  refine read_pieces _ ?_ (cover0_A_6 c i arg2 harg2 arg3 harg3 arg4 harg4 arg5 harg5 arg6 harg6 arg7 harg7 arg8 harg8 arg9 harg9 arg10 harg10 x0 x1 x2)
  unfold kernelRun0_A; dsimp only
  exact (all_pieces Variants.none c none i arg2 harg2 arg3 harg3 arg4 harg4 arg5 harg5 arg6 harg6 arg7 harg7 arg8 harg8 arg9 harg9 arg10 harg10 _ _ _ x0 x1 x2 _ (Nat.le_refl _)).2.2.2.1

theorem out7 : out0_A_7 (F := Ideal) c i arg2 harg2 arg3 harg3 arg4 harg4 arg5 harg5 arg6 harg6 arg7 harg7 arg8 harg8 arg9 harg9 arg10 harg10 x0 x1 x2
    = vcodesOf x2 (k0_pay2 (F := Ideal) (k0_pay32 (F := Ideal) (stat c i arg2 harg2 arg3 harg3 arg4 harg4 arg5 harg5 arg6 harg6 arg7 harg7 arg8 harg8 arg9 harg9 arg10 harg10 x1 x2).2) (k0_pay33 (F := Ideal) (stat c i arg2 harg2 arg3 harg3 arg4 harg4 arg5 harg5 arg6 harg6 arg7 harg7 arg8 harg8 arg9 harg9 arg10 harg10 x1 x2).2)) := by
  unfold out0_A_7
  refine read_pieces _ ?_ (cover0_A_7 c i arg2 harg2 arg3 harg3 arg4 harg4 arg5 harg5 arg6 harg6 arg7 harg7 arg8 harg8 arg9 harg9 arg10 harg10 x0 x1 x2)
  unfold kernelRun0_A; dsimp only
  exact (all_pieces Variants.none c none i arg2 harg2 arg3 harg3 arg4 harg4 arg5 harg5 arg6 harg6 arg7 harg7 arg8 harg8 arg9 harg9 arg10 harg10 _ _ _ x0 x1 x2 _ (Nat.le_refl _)).2.2.2.2

theorem out8 : out0_A_8 (F := Ideal) c i arg2 harg2 arg3 harg3 arg4 harg4 arg5 harg5 arg6 harg6 arg7 harg7 arg8 harg8 arg9 harg9 arg10 harg10 x0 x1 x2
    = k0_pay3 (F := Ideal) (k0_pay32 (F := Ideal) (stat c i arg2 harg2 arg3 harg3 arg4 harg4 arg5 harg5 arg6 harg6 arg7 harg7 arg8 harg8 arg9 harg9 arg10 harg10 x1 x2).2) (k0_pay33 (F := Ideal) (stat c i arg2 harg2 arg3 harg3 arg4 harg4 arg5 harg5 arg6 harg6 arg7 harg7 arg8 harg8 arg9 harg9 arg10 harg10 x1 x2).2) := by
  unfold out0_A_8
  refine read_pieces _ ?_ (cover0_A_8 c i arg2 harg2 arg3 harg3 arg4 harg4 arg5 harg5 arg6 harg6 arg7 harg7 arg8 harg8 arg9 harg9 arg10 harg10 x0 x1 x2)
  unfold kernelRun0_A; dsimp only
  unfold kernelRun0_A.sl.H8_1
  refine ⟨fun x => ?_, trivial⟩
  refine congrArg (k0_pay3 (F := Ideal) _ _) (funext fun a => Fin.ext ?_)
  match a with
  | ⟨0, _⟩ => show (x 0).val = 0 + 1 * (x 0).val; omega
  | ⟨1, _⟩ => show (x 1).val = 0 + 1 * (x 1).val; omega
  | ⟨2, _⟩ => show (x 2).val = 0 + 1 * (x 2).val; omega
  | ⟨3, _⟩ => show (x 3).val = 0 + 1 * (x 3).val; omega

end

end Cert.QuantIdeal

end
-- ==== Proof.Quant.Stats.lean ====
/-
  The statistics that the quantiser's first loop carries: after its sixteen trips, eight partial sums of each column of `k` and
  eight partial maxima of the magnitudes of each column of `v`. Together they are the column's mean and its greatest magnitude.
-/
module

public import proofs.«01_k».proof.Proof.Gen.QuantIdeal.Value
public import proofs.«01_k».proof.Proof.Quant.Outs
public import Idealize.ShloMosaic.Lib.Pipeline.ReadBack
public import Idealize.ShloMosaic.Lib.WholeRead

@[expose] public section

set_option maxRecDepth 16384

noncomputable section

namespace Cert.QuantIdeal

open Idealize.ShloMosaic Idealize.ShloMosaic.TcCoe Idealize.ShloMosaic.Tactic
open Idealize.SL Idealize.SL.RA Idealize.SL.BI
open Idealize.SL.Sem
open Cert.QuantIdeal.Gen Cert.Scale

/-- The token that trip `k` adds, at step `t`, to partial result `i`. -/
def tok (k : Fin 16) (t : Fin 64) (i : Fin 8) : Fin 8192 := ⟨512 * k.val + (t.val * 8 + i.val), by omega⟩

theorem sum_tok (f : Fin 8192 → EReal) : ∑ i : Fin 8, ∑ k : Fin 16, ∑ t : Fin 64, f (tok k t i) = ∑ s, f s := by
  have e : ∑ s, f s = ∑ k : Fin 16, ∑ t : Fin 64, ∑ i : Fin 8, f (tok k t i) := by
    rw [← (finProdFinEquiv (m := 16) (n := 512)).sum_comp f, Fintype.sum_prod_type]
    refine Finset.sum_congr rfl fun k _ => ?_
    rw [← (finProdFinEquiv (m := 64) (n := 8)).sum_comp, Fintype.sum_prod_type]
    refine Finset.sum_congr rfl fun t _ => Finset.sum_congr rfl fun i _ => congrArg f (Fin.ext ?_)
    show i.val + 8 * t.val + 512 * k.val = 512 * k.val + (t.val * 8 + i.val)
    omega
  rw [e, Finset.sum_comm]
  exact Finset.sum_congr rfl fun k _ => Finset.sum_comm

theorem amax_le {n : ℕ} (f : Fin n → EReal) (y : EReal) (h : ∀ s, max (f s) (-(f s)) ≤ y) : amax f ≤ y := Finset.sup_le fun s _ => h s
theorem le_amax {n : ℕ} (f : Fin n → EReal) (s : Fin n) : max (f s) (-(f s)) ≤ amax f := Finset.le_sup (f := fun d => max (f d) (-(f d))) (Finset.mem_univ s)

theorem mag_nonneg (x : EReal) : 0 ≤ max x (-x) := by
  rcases le_total 0 x with h | h
  · exact le_max_of_le_left h
  · exact le_max_of_le_right (EReal.neg_nonneg.mpr h)

theorem sup_tok (f : Fin 8192 → EReal) :
    (Finset.univ.sup fun i : Fin 8 => max (0 : EReal) (Finset.univ.sup fun k : Fin 16 => amax fun t : Fin 64 => f (tok k t i))) = amax f := by
  apply le_antisymm
  · refine Finset.sup_le fun i _ => max_le ?_ (Finset.sup_le fun k _ => amax_le _ _ fun t => le_amax f _)
    exact (mag_nonneg (f 0)).trans (le_amax f 0)
  · refine amax_le _ _ fun s => ?_
    have hs := s.isLt
    let k : Fin 16 := ⟨s.val / 512, by omega⟩
    let t : Fin 64 := ⟨s.val % 512 / 8, by omega⟩
    let i : Fin 8 := ⟨s.val % 8, by omega⟩
    have e : s = tok k t i := Fin.ext (by show s.val = 512 * (s.val / 512) + (s.val % 512 / 8 * 8 + s.val % 8); omega)
    refine le_trans ?_ (Finset.le_sup (f := fun i : Fin 8 => max (0 : EReal) (Finset.univ.sup fun k : Fin 16 => amax fun t : Fin 64 => f (tok k t i))) (Finset.mem_univ i))
    refine le_trans ?_ (le_max_right _ _)
    refine le_trans ?_ (Finset.le_sup (f := fun k : Fin 16 => amax fun t : Fin 64 => f (tok k t i)) (Finset.mem_univ k))
    rw [e]
    exact le_amax (fun t : Fin 64 => f (tok k t i)) t

/-- A load of a block in the first loop. -/
theorem load1 (k : Fin k0_t1_loop.trips) (hk : k.val < 16) (inb : ∀ a, k0_off1 k a + (![1, 512, 128] : Fin 3 → ℕ) a ≤ S1x8192x128.size a) (r : Fin 512) (d : Fin 128)
    (arg : Memref sig .tc .vmem S1x8192x128 .bf16) (harg : arg.IsWhole) (x : Vec Ideal S1x8192x128 .bf16) :
    View.readAt (Elt Ideal) arg.view (Rect.unit (s := S1x8192x128) (k0_off1 k) ![1, 512, 128] inb).toLoadRect (harg.unread x) (ix3 0 r d)
      = x (ix3 0 ⟨512 * k.val + r.val, by omega⟩ d) := by
  refine (harg.readAt_unread x _ _).trans (congrArg x ?_)
  refine funext fun a => Fin.ext ?_
  match a with
  | ⟨0, _⟩ => show k0_off1 k 0 + 1 * 0 = 0; rw [k0_off1_eq]; rfl
  | ⟨1, _⟩ => show k0_off1 k 1 + 1 * r.val = 512 * k.val + r.val; rw [k0_off1_eq]; show 512 * k.val + 1 * r.val = _; omega
  | ⟨2, _⟩ => show k0_off1 k 2 + 1 * d.val = d.val; rw [k0_off1_eq]; show 0 + 1 * d.val = _; omega

theorem word_8192 : Ideal.ofBits .f32 0x46000000#32 = ((8192 : ℝ) : EReal) := by
  rw [show (0x46000000#32) = code 140 from by decide, code_val 140 (by norm_num) (by norm_num)]
  norm_num
theorem word_inv8192 : Ideal.ofBits .f32 0x39000000#32 = ((1 / 8192 : ℝ) : EReal) := by
  rw [show (0x39000000#32) = code 114 from by decide, code_val 114 (by norm_num) (by norm_num)]
  norm_num

theorem mean_eq (f : Fin 8192 → EReal) : (∑ s, f s) * Ideal.ofBits .f32 0x39000000#32 = mean f := by
  unfold mean Ideal.div
  rw [word_8192, word_inv8192, if_neg (by norm_num)]
  refine congrArg _ ?_
  rw [← EReal.coe_inv]
  norm_num

section
variable (c : Dev nD) (i : grid0.Coords) (arg2 : Memref sig .tc .vmem S1x8192x128 .bf16) (harg2 : arg2.IsWhole) (arg3 : Memref sig .tc .vmem S1x8192x128 .bf16) (harg3 : arg3.IsWhole) (arg4 : Memref sig .tc .vmem S1x8192x128 .bf16) (harg4 : arg4.IsWhole) (arg5 : Memref sig .tc .vmem S1x8192x128 .fp8e4m3) (harg5 : arg5.IsWhole) (arg6 : Memref sig .tc .vmem S1x1x1x8192 .f32) (harg6 : arg6.IsWhole) (arg7 : Memref sig .tc .vmem S1x8192x128 .fp8e4m3) (harg7 : arg7.IsWhole) (arg8 : Memref sig .tc .vmem S1x1x1x8192 .f32) (harg8 : arg8.IsWhole) (arg9 : Memref sig .tc .vmem S1x8192x128 .fp8e4m3) (harg9 : arg9.IsWhole) (arg10 : Memref sig .tc .vmem S1x1x1x128 .f32) (harg10 : arg10.IsWhole) (x0 x1 x2 : Vec Ideal S1x8192x128 .bf16)

theorem pay28_apply (i : Fin 8) (d : Fin 128) : k0_pay28 (F := Ideal) (ix2 i d) = 0 := by
  have : k0_pay28 (F := Ideal) (ix2 i d) = Ideal.ofBits .f32 0x00000000#32 := rfl
  rw [this, zero_word]

theorem stat_n (n : ℕ) (hn : n ≤ 16) (j : Fin 8) (d : Fin 128) :
    (st_k0_t1 (F := Ideal) Variants.none c none i arg2 harg2 arg3 harg3 arg4 harg4 arg5 harg5 arg6 harg6 arg7 harg7 arg8 harg8 arg9 harg9 arg10 harg10 (harg3.unread x1) (harg4.unread x2) (k0_pay28, k0_pay28) n).1 (ix2 j d)
        = ∑ k : Fin n, ∑ t : Fin 64, x1 (ix3 0 (tok (k.castLE hn) t j) d) ∧
    (st_k0_t1 (F := Ideal) Variants.none c none i arg2 harg2 arg3 harg3 arg4 harg4 arg5 harg5 arg6 harg6 arg7 harg7 arg8 harg8 arg9 harg9 arg10 harg10 (harg3.unread x1) (harg4.unread x2) (k0_pay28, k0_pay28) n).2 (ix2 j d)
        = max 0 (Finset.univ.sup fun k : Fin n => amax fun t : Fin 64 => x2 (ix3 0 (tok (k.castLE hn) t j) d)) := by
  induction n with
  | zero =>
    refine ⟨?_, ?_⟩
    · rw [st_k0_t1_zero]; exact pay28_apply j d
    · rw [st_k0_t1_zero]; refine (pay28_apply j d).trans ?_; simp
  | succ n ih =>
    obtain ⟨h1, h2⟩ := ih (by omega)
    have ht : k0_t1_loop.trips = 16 := by decide +kernel
    have e := st_k0_t1_succ (F := Ideal) Variants.none c none i arg2 harg2 arg3 harg3 arg4 harg4 arg5 harg5 arg6 harg6 arg7 harg7 arg8 harg8 arg9 harg9 arg10 harg10 (harg3.unread x1) (harg4.unread x2) (k0_pay28, k0_pay28) ⟨n, by omega⟩
    dsimp only at e
    rw [e]
    generalize st_k0_t1 (F := Ideal) Variants.none c none i arg2 harg2 arg3 harg3 arg4 harg4 arg5 harg5 arg6 harg6 arg7 harg7 arg8 harg8 arg9 harg9 arg10 harg10 (harg3.unread x1) (harg4.unread x2) (k0_pay28, k0_pay28) n = acc at h1 h2
    unfold tripR_k0_t1 trip_k0_t1
    dsimp only
    refine ⟨?_, ?_⟩
    · refine (pay29_apply d _ acc.1 j).trans ?_
      refine Eq.trans ?_ (Fin.sum_univ_castSucc fun k : Fin (n + 1) => ∑ t : Fin 64, x1 (ix3 0 (tok (k.castLE hn) t j) d)).symm
      refine congrArg₂ (fun x y : EReal => x + y) h1 (Finset.sum_congr rfl fun t _ => ?_)
      exact load1 ⟨n, by omega⟩ (by show n < 16; omega) (k0_off1_inb _) ⟨t.val * 8 + j.val, by omega⟩ d arg3 harg3 x1
    · refine (pay30_apply d _ acc.2 j).trans ?_
      rw [h2, max_assoc]
      refine congrArg (max 0) ?_
      have e3 : (Finset.univ.sup fun k : Fin (n + 1) => amax fun t : Fin 64 => x2 (ix3 0 (tok (k.castLE hn) t j) d))
          = max (Finset.univ.sup fun k : Fin n => amax fun t : Fin 64 => x2 (ix3 0 (tok (k.castLE (by omega : n ≤ 16)) t j) d)) (amax fun t : Fin 64 => x2 (ix3 0 (tok ⟨n, by omega⟩ t j) d)) := by
        rw [Fin.univ_castSuccEmb, Finset.sup_cons, Finset.sup_map, max_comm]
        rfl
      rw [e3]
      refine congrArg (max _) (congrArg amax (funext fun t => ?_))
      exact load1 ⟨n, by omega⟩ (by show n < 16; omega) (k0_off1_inb _) ⟨t.val * 8 + j.val, by omega⟩ d arg4 harg4 x2

theorem stat_mean (d : Fin 128) : k0_pay31 (F := Ideal) (stat c i arg2 harg2 arg3 harg3 arg4 harg4 arg5 harg5 arg6 harg6 arg7 harg7 arg8 harg8 arg9 harg9 arg10 harg10 x1 x2).1 (ix2 0 d) = mean fun s => x1 (ix3 0 s d) := by
  rw [pay31_apply, ← mean_eq, ← sum_tok]
  refine congrArg (· * _) (Finset.sum_congr rfl fun j _ => ?_)
  exact (stat_n c i arg2 harg2 arg3 harg3 arg4 harg4 arg5 harg5 arg6 harg6 arg7 harg7 arg8 harg8 arg9 harg9 arg10 harg10 x1 x2 16 (Nat.le_refl _) j d).1

theorem stat_amax (d : Fin 128) : k0_pay32 (F := Ideal) (stat c i arg2 harg2 arg3 harg3 arg4 harg4 arg5 harg5 arg6 harg6 arg7 harg7 arg8 harg8 arg9 harg9 arg10 harg10 x1 x2).2 (ix2 0 d) = amax (fun s => x2 (ix3 0 s d)) * k448 := by
  rw [pay32_apply, ← sup_tok]
  refine congrArg (· * k448) (congrArg (Finset.univ.sup) (funext fun j => ?_))
  exact (stat_n c i arg2 harg2 arg3 harg3 arg4 harg4 arg5 harg5 arg6 harg6 arg7 harg7 arg8 harg8 arg9 harg9 arg10 harg10 x1 x2 16 (Nat.le_refl _) j d).2

end

end Cert.QuantIdeal

end
-- ==== Proof.Quant.Reference.lean ====
/-
  What the quantiser's reference computes, read at an element: each code is the value times the inverse of its row's scale,
  clipped; each scale is a power of two whose exponent is the reference's, of the row's greatest magnitude.
-/
module

public import proofs.«01_k».proof.Proof.Gen.QuantReferenceIdeal.Value
public import proofs.«01_k».proof.Proof.Quant.Scale
public import Idealize.ShloMosaic.Lib.Pointwise

@[expose] public section

set_option maxRecDepth 16384

noncomputable section

namespace Cert.QuantReferenceIdeal

open Idealize.ShloMosaic Cert.QuantReferenceIdeal.Gen Cert.Scale

/-- Column `d` of head `h` in a row of all heads. -/
def col (h : Fin 16) (d : Fin 128) : Fin 2048 := ⟨h.val * 128 + d.val, by omega⟩

/-- The reference's named constants. -/
theorem ratio_const : Named.named (F := Ideal) κ "inv_fp8_max" (φ := .f32) 0x3B124925#32 = ((1 / 448 : ℝ) : EReal) := rfl
theorem log_const : Named.named (F := Ideal) κ "log_2" (φ := .f32) 0x3F317218#32 = ((Real.log 2 : ℝ) : EReal) := rfl

variable (a : Vec Ideal S8x8192x2048 .bf16) (b : Fin 8) (h : Fin 16) (s : Fin 8192) (d : Fin 128)

theorem heads_apply : k0_pay5 (F := Ideal) a (ix4 b s h d) = a (ix3 b s (col h d)) := by
  pointwise [k0_pay5]
  rfl

theorem heads'_apply : k0_pay6 (F := Ideal) a (ix4 b s h d) = a (ix3 b s (col h d)) := by
  pointwise [k0_pay6]
  rfl

theorem smooth_apply : k0_pay4 (F := Ideal) a (ix4 b s h d) = a (ix3 b s (col h d)) - mean (fun s => a (ix3 b s (col h d))) := by
  pointwise [k0_pay4]
  rfl

/-- The reference's exponents are all of one form. -/
theorem rexp_const (a : EReal) : rexpOf (Named.named (F := Ideal) κ "inv_fp8_max" (φ := .f32) 0x3B124925#32)
    (Named.named (F := Ideal) κ "log_2" (φ := .f32) 0x3F317218#32) a = rexp a := by
  rw [rexp, ratio_const, log_const]

variable (w : FVec Ideal S8x8192x16x128 .f32)

/-- The greatest magnitude of each row of a head. -/
def rowMax : FVec Ideal S8x8192x16x1 .f32 :=
  shapeCast S8x8192x16x1 (multiReduction .maximumf [3] S8x8192x16 (absf w) 0xFF800000#32 reduces_S8x8192x16x128_S8x8192x16 (.inl rfl) rfl)
    shapeCasts_S8x8192x16_S8x8192x16x1

/-- The greatest magnitude of each column of a head, over the tokens. -/
def colMax : FVec Ideal S8x1x16x128 .f32 :=
  shapeCast S8x1x16x128 (multiReduction .maximumf [1] S8x16x128 (absf w) 0xFF800000#32 reduces_S8x8192x16x128_S8x16x128 (.inl rfl) rfl)
    shapeCasts_S8x16x128_S8x1x16x128

theorem rowMax_apply : rowMax w (ix4 b s h 0) = amax fun d => w (ix4 b s h d) := by
  pointwise [rowMax]
  exact fold_amax _

theorem colMax_apply : colMax w (ix4 b 0 h d) = amax fun s => w (ix4 b s h d) := by
  pointwise [colMax]
  exact fold_amax _

/-- The exponents of an array of greatest magnitudes, as the program states them. -/
def expVec {sh : Shape} (v : FVec Ideal sh .f32) : FVec Ideal sh .f32 :=
  select (cmpf .oeq v (broadcast sh (Scalar.ofBits .f32 0x00000000#32))) (broadcast sh (Scalar.ofBits .f32 0x00000000#32))
    (addf (floor (divf (log (mulf v (broadcast sh (Named.named κ "inv_fp8_max" 0x3B124925#32))))
      (broadcast sh (Named.named κ "log_2" 0x3F317218#32)))) (broadcast sh (Scalar.ofBits .f32 0x3F800000#32)))

theorem expVec_apply {sh : Shape} (v : FVec Ideal sh .f32) (i : sh.Idx) : expVec v i = rexp (v i) :=
  Eq.trans rfl (rexp_const (v i))

theorem pay7_eq : k0_pay7 (F := Ideal) a = expVec (rowMax (k0_pay5 (F := Ideal) a)) := by
  unfold k0_pay7 expVec rowMax
  rfl

theorem pay11_eq : k0_pay11 (F := Ideal) w = expVec (rowMax w) := by
  unfold k0_pay11 expVec rowMax
  rfl

theorem pay1_eq : k0_pay1 (F := Ideal) w = expVec (colMax w) := by
  unfold k0_pay1 expVec colMax
  rfl

/-- An array scaled row by row by the inverses of the scales and clipped. -/
theorem pay8_apply : k0_pay8 (F := Ideal) a (ix4 b s h d)
    = clip (k0_pay5 (F := Ideal) a (ix4 b s h d) * Ideal.exp2 (Ideal.ofBits .f32 0x00000000#32 - k0_pay7 (F := Ideal) a (ix4 b s h 0))) := by
  rw [← exp2_neg_apply]
  unfold k0_pay8
  generalize exp2 (subf _ (k0_pay7 (F := Ideal) a)) = e
  generalize k0_pay5 (F := Ideal) a = x
  pointwise []
  rw [clip]

theorem pay9_apply (x : FVec Ideal S8x8192x16x128 .fp8e4m3) : k0_pay9 (F := Ideal) x (ix3 b s (col h d)) = x (ix4 b s h d) := by
  have e1 : (col h d).val / 128 = h.val := by show (h.val * 128 + d.val) / 128 = h.val; omega
  have e2 : (col h d).val % 128 = d.val := by show (h.val * 128 + d.val) % 128 = d.val; omega
  generalize hx : col h d = y at e1 e2 ⊢
  pointwise [k0_pay9]
  simp only [e1, e2, Fin.eta]

theorem pay12_apply : k0_pay12 (F := Ideal) w (ix3 b s (col h d))
    = clip (w (ix4 b s h d) * Ideal.exp2 (Ideal.ofBits .f32 0x00000000#32 - k0_pay11 (F := Ideal) w (ix4 b s h 0))) := by
  have e1 : (col h d).val / 128 = h.val := by show (h.val * 128 + d.val) / 128 = h.val; omega
  have e2 : (col h d).val % 128 = d.val := by show (h.val * 128 + d.val) % 128 = d.val; omega
  generalize hx : col h d = y at e1 e2 ⊢
  rw [← exp2_neg_apply]
  unfold k0_pay12
  generalize exp2 (subf _ (k0_pay11 (F := Ideal) w)) = e
  pointwise []
  simp only [e1, e2, Fin.eta]
  rw [clip]

theorem pay2_apply : k0_pay2 (F := Ideal) w (ix3 b s (col h d))
    = clip (w (ix4 b s h d) * Ideal.exp2 (Ideal.ofBits .f32 0x00000000#32 - k0_pay1 (F := Ideal) w (ix4 b 0 h d))) := by
  have e1 : (col h d).val / 128 = h.val := by show (h.val * 128 + d.val) / 128 = h.val; omega
  have e2 : (col h d).val % 128 = d.val := by show (h.val * 128 + d.val) % 128 = d.val; omega
  generalize hx : col h d = y at e1 e2 ⊢
  rw [← exp2_neg_apply]
  unfold k0_pay2
  generalize exp2 (subf _ (k0_pay1 (F := Ideal) w)) = e
  pointwise []
  simp only [e1, e2, Fin.eta]
  rw [clip]

theorem pay10_apply (e : FVec Ideal S8x8192x16x1 .f32) : k0_pay10 (F := Ideal) e (ix4 b h 0 s) = Ideal.exp2 (e (ix4 b s h 0)) := by
  rw [← exp2_apply]
  unfold k0_pay10
  generalize exp2 e = y
  pointwise []

theorem pay13_apply : k0_pay13 (F := Ideal) w (ix4 b h 0 s) = Ideal.exp2 (k0_pay11 (F := Ideal) w (ix4 b s h 0)) := by
  rw [← exp2_apply]
  unfold k0_pay13
  generalize exp2 (k0_pay11 (F := Ideal) w) = y
  pointwise []

theorem pay3_apply : k0_pay3 (F := Ideal) w (ix4 b h 0 d) = Ideal.exp2 (k0_pay1 (F := Ideal) w (ix4 b 0 h d)) := by
  rw [← exp2_apply]
  unfold k0_pay3
  generalize exp2 (k0_pay1 (F := Ideal) w) = y
  pointwise []

/-- The row of one token and head. -/
def row (a : Vec Ideal S8x8192x2048 .bf16) (b : Fin 8) (h : Fin 16) (s : Fin 8192) : Fin 128 → EReal := fun d => a (ix3 b s (col h d))

/-- The column of one head and coordinate. -/
def column (a : Vec Ideal S8x8192x2048 .bf16) (b : Fin 8) (h : Fin 16) (d : Fin 128) : Fin 8192 → EReal := fun s => a (ix3 b s (col h d))

/-- The row of one token and head, less the mean of all tokens. -/
def smooth (a : Vec Ideal S8x8192x2048 .bf16) (b : Fin 8) (h : Fin 16) (s : Fin 8192) : Fin 128 → EReal :=
  fun d => a (ix3 b s (col h d)) - mean (column a b h d)

/-- The inverse of the reference's scale. -/
def rinv (a : EReal) : EReal := Ideal.exp2 (Ideal.ofBits .f32 0x00000000#32 - rexp a)

variable (a1 a2 : Vec Ideal S8x8192x2048 .bf16)

theorem pay14_eq : k0_pay14 (F := Ideal) a1 a a2 = k0_pay4 (F := Ideal) a := by
  unfold k0_pay14
  rw [View.ld_unit_zero (S := S8x8192x2048) Value.hz0 _ a]
theorem pay15_eq : k0_pay15 (F := Ideal) a1 a2 a = k0_pay6 (F := Ideal) a := by
  unfold k0_pay15
  rw [View.ld_unit_zero (S := S8x8192x2048) Value.hz0 _ a]

theorem x_codes : Value.G3 (F := Ideal) a a1 a2 (ix3 b s (col h d)) = clip (row a b h s d * rinv (amax (row a b h s))) := by
  unfold Value.G3
  rw [pay9_apply, pay8_apply, pay7_eq, expVec_apply, rowMax_apply]
  simp only [heads_apply]
  rfl

theorem x_scale : Value.G4 (F := Ideal) a a1 a2 (ix4 b h 0 s) = Ideal.exp2 (rexp (amax (row a b h s))) := by
  unfold Value.G4
  rw [pay10_apply, pay7_eq, expVec_apply, rowMax_apply]
  simp only [heads_apply]
  rfl

theorem k_codes : Value.G5 (F := Ideal) a1 a a2 (ix3 b s (col h d)) = clip (smooth a b h s d * rinv (amax (smooth a b h s))) := by
  unfold Value.G5
  rw [pay14_eq, pay12_apply, pay11_eq, expVec_apply, rowMax_apply, smooth_apply]
  rw [funext fun d => smooth_apply a b h s d]
  rfl

theorem k_scale : Value.G6 (F := Ideal) a1 a a2 (ix4 b h 0 s) = Ideal.exp2 (rexp (amax (smooth a b h s))) := by
  unfold Value.G6
  rw [pay14_eq, pay13_apply, pay11_eq, expVec_apply, rowMax_apply]
  rw [funext fun d => smooth_apply a b h s d]
  rfl

theorem v_codes : Value.G7 (F := Ideal) a1 a2 a (ix3 b s (col h d)) = clip (column a b h d s * rinv (amax (column a b h d))) := by
  unfold Value.G7
  rw [pay15_eq, pay2_apply, pay1_eq, expVec_apply, colMax_apply, heads'_apply]
  rw [funext fun s => heads'_apply a b h s d]
  rfl

theorem v_scale : Value.G8 (F := Ideal) a1 a2 a (ix4 b h 0 d) = Ideal.exp2 (rexp (amax (column a b h d))) := by
  unfold Value.G8
  rw [pay15_eq, pay3_apply, pay1_eq, expVec_apply, colMax_apply]
  rw [funext fun s => heads'_apply a b h s d]
  rfl

end Cert.QuantReferenceIdeal

end
-- ==== Proof.Quant.Blocks.lean ====
/-
  The quantiser's arrays at an element: each input block is the batch and head's part of its array, and each result holds, at a
  row or column of a head, the codes and scales of that row or column.
-/
module

public import proofs.«01_k».proof.Proof.Quant.Stats
public import proofs.«01_k».proof.Proof.Quant.Reference
public import Idealize.ShloMosaic.Lib.Pipeline.ValueKit

@[expose] public section

set_option maxRecDepth 16384
set_option maxHeartbeats 400000

noncomputable section

namespace Cert.QuantIdeal

open Idealize.ShloMosaic Idealize.ShloMosaic.TcCoe
open Idealize.ShloMosaic.Pipeline (Dat Cfg Window)
open Cert.QuantIdeal.Gen Cert.Scale
open Cert.QuantReferenceIdeal (col row column smooth)

/-- The grid point of a batch and a head. -/
def pt (b : Fin 8) (h : Fin 16) : Fin cfg0.N := ⟨b.val * 16 + h.val, by show _ < 128; omega⟩

theorem map0 : ∀ b h, cc0_transform_0 (grid0.coords (pt b h)) = ![b.val, 0, h.val] := by decide +kernel
theorem map1 : ∀ b h, cc0_transform_1 (grid0.coords (pt b h)) = ![b.val, 0, h.val] := by decide +kernel
theorem map2 : ∀ b h, cc0_transform_2 (grid0.coords (pt b h)) = ![b.val, 0, h.val] := by decide +kernel
theorem map3 : ∀ b h, cc0_transform_3 (grid0.coords (pt b h)) = ![b.val, 0, h.val] := by decide +kernel
theorem map5 : ∀ b h, cc0_transform_5 (grid0.coords (pt b h)) = ![b.val, 0, h.val] := by decide +kernel
theorem map7 : ∀ b h, cc0_transform_7 (grid0.coords (pt b h)) = ![b.val, 0, h.val] := by decide +kernel
theorem map4 : ∀ b h, cc0_transform_4 (grid0.coords (pt b h)) = ![b.val, h.val, 0, 0] := by decide +kernel
theorem map6 : ∀ b h, cc0_transform_6 (grid0.coords (pt b h)) = ![b.val, h.val, 0, 0] := by decide +kernel
theorem map8 : ∀ b h, cc0_transform_8 (grid0.coords (pt b h)) = ![b.val, h.val, 0, 0] := by decide +kernel
theorem flush3 (t : Fin cfg0.N) : (cfg0.win 3).flush t = true :=
  (by decide +kernel : ∀ t : Fin grid0.N, Window.flushOf grid0 true cc0_transform_3 t = true) t
theorem flush4 (t : Fin cfg0.N) : (cfg0.win 4).flush t = true :=
  (by decide +kernel : ∀ t : Fin grid0.N, Window.flushOf grid0 true cc0_transform_4 t = true) t
theorem flush5 (t : Fin cfg0.N) : (cfg0.win 5).flush t = true :=
  (by decide +kernel : ∀ t : Fin grid0.N, Window.flushOf grid0 true cc0_transform_5 t = true) t
theorem flush6 (t : Fin cfg0.N) : (cfg0.win 6).flush t = true :=
  (by decide +kernel : ∀ t : Fin grid0.N, Window.flushOf grid0 true cc0_transform_6 t = true) t
theorem flush7 (t : Fin cfg0.N) : (cfg0.win 7).flush t = true :=
  (by decide +kernel : ∀ t : Fin grid0.N, Window.flushOf grid0 true cc0_transform_7 t = true) t
theorem flush8 (t : Fin cfg0.N) : (cfg0.win 8).flush t = true :=
  (by decide +kernel : ∀ t : Fin grid0.N, Window.flushOf grid0 true cc0_transform_8 t = true) t

variable (m : (ℓ : Loc nD τ sig) → Buf (Elt Ideal) ℓ) (c : Dev nD) (b : Fin 8) (h : Fin 16)

/-- The three arguments. -/
def A0 : Vec Ideal S8x8192x2048 .bf16 := m ((c : Thread nD τ).loc main_arg0)
def A1 : Vec Ideal S8x8192x2048 .bf16 := m ((c : Thread nD τ).loc main_arg1)
def A2 : Vec Ideal S8x8192x2048 .bf16 := m ((c : Thread nD τ).loc main_arg2)

theorem blk0 (r : Fin 8192) (d : Fin 128) : iblk m c 0 (pt b h) (ix3 0 r d) = A0 m c (ix3 b r (col h d)) := by
  refine congrArg (A0 m c) (funext fun x => Fin.ext ?_)
  match x with
  | ⟨0, _⟩ => show cc0_transform_0 (grid0.coords (pt b h)) 0 * 1 + 1 * 0 = b.val; rw [map0]; show b.val * 1 + 1 * 0 = b.val; omega
  | ⟨1, _⟩ => show cc0_transform_0 (grid0.coords (pt b h)) 1 * 8192 + 1 * r.val = r.val; rw [map0]; show 0 * 8192 + 1 * r.val = r.val; omega
  | ⟨2, _⟩ => show cc0_transform_0 (grid0.coords (pt b h)) 2 * 128 + 1 * d.val = h.val * 128 + d.val; rw [map0]; show h.val * 128 + 1 * d.val = _; omega

theorem blk1 (r : Fin 8192) (d : Fin 128) : iblk m c 1 (pt b h) (ix3 0 r d) = A1 m c (ix3 b r (col h d)) := by
  refine congrArg (A1 m c) (funext fun x => Fin.ext ?_)
  match x with
  | ⟨0, _⟩ => show cc0_transform_1 (grid0.coords (pt b h)) 0 * 1 + 1 * 0 = b.val; rw [map1]; show b.val * 1 + 1 * 0 = b.val; omega
  | ⟨1, _⟩ => show cc0_transform_1 (grid0.coords (pt b h)) 1 * 8192 + 1 * r.val = r.val; rw [map1]; show 0 * 8192 + 1 * r.val = r.val; omega
  | ⟨2, _⟩ => show cc0_transform_1 (grid0.coords (pt b h)) 2 * 128 + 1 * d.val = h.val * 128 + d.val; rw [map1]; show h.val * 128 + 1 * d.val = _; omega

theorem blk2 (r : Fin 8192) (d : Fin 128) : iblk m c 2 (pt b h) (ix3 0 r d) = A2 m c (ix3 b r (col h d)) := by
  refine congrArg (A2 m c) (funext fun x => Fin.ext ?_)
  match x with
  | ⟨0, _⟩ => show cc0_transform_2 (grid0.coords (pt b h)) 0 * 1 + 1 * 0 = b.val; rw [map2]; show b.val * 1 + 1 * 0 = b.val; omega
  | ⟨1, _⟩ => show cc0_transform_2 (grid0.coords (pt b h)) 1 * 8192 + 1 * r.val = r.val; rw [map2]; show 0 * 8192 + 1 * r.val = r.val; omega
  | ⟨2, _⟩ => show cc0_transform_2 (grid0.coords (pt b h)) 2 * 128 + 1 * d.val = h.val * 128 + d.val; rw [map2]; show h.val * 128 + 1 * d.val = _; omega

theorem arr3 (r : Fin 8192) (d : Fin 128) : (dats (F := Ideal) m 0 c).arrAt 3 cfg0.N (ix3 b r (col h d) : S8x8192x2048.Idx)
    = out0_A_3 (F := Ideal) c (grid0.coords (pt b h)) (ms0_0 (pt b h)) (hs0_0 (pt b h)) (ms0_1 (pt b h)) (hs0_1 (pt b h)) (ms0_2 (pt b h)) (hs0_2 (pt b h)) (ms0_3 (pt b h)) (hs0_3 (pt b h)) (ms0_4 (pt b h)) (hs0_4 (pt b h)) (ms0_5 (pt b h)) (hs0_5 (pt b h)) (ms0_6 (pt b h)) (hs0_6 (pt b h)) (ms0_7 (pt b h)) (hs0_7 (pt b h)) (ms0_8 (pt b h)) (hs0_8 (pt b h)) (iblk m c 0 (pt b h)) (iblk m c 1 (pt b h)) (iblk m c 2 (pt b h)) (ix3 0 r d) := by
  have e : ((cfg0.win 3).blk (pt b h)).view.emb (ix3 0 r d) = (ix3 b r (col h d) : S8x8192x2048.Idx) := by
    refine funext fun x => Fin.ext ?_
    match x with
    | ⟨0, _⟩ => show cc0_transform_3 (grid0.coords (pt b h)) 0 * 1 + 1 * 0 = b.val; rw [map3]; show b.val * 1 + 1 * 0 = b.val; omega
    | ⟨1, _⟩ => show cc0_transform_3 (grid0.coords (pt b h)) 1 * 8192 + 1 * r.val = r.val; rw [map3]; show 0 * 8192 + 1 * r.val = r.val; omega
    | ⟨2, _⟩ => show cc0_transform_3 (grid0.coords (pt b h)) 2 * 128 + 1 * d.val = h.val * 128 + d.val; rw [map3]; show h.val * 128 + 1 * d.val = _; omega
  have := congrFun ((Value.blocks3 (F := Ideal) m c (pt b h) (flush3 _)).trans (Value.flushed3_A (F := Ideal) m c (pt b h))) (ix3 0 r d)
  rw [← e]
  exact this

theorem arr5 (r : Fin 8192) (d : Fin 128) : (dats (F := Ideal) m 0 c).arrAt 5 cfg0.N (ix3 b r (col h d) : S8x8192x2048.Idx)
    = out0_A_5 (F := Ideal) c (grid0.coords (pt b h)) (ms0_0 (pt b h)) (hs0_0 (pt b h)) (ms0_1 (pt b h)) (hs0_1 (pt b h)) (ms0_2 (pt b h)) (hs0_2 (pt b h)) (ms0_3 (pt b h)) (hs0_3 (pt b h)) (ms0_4 (pt b h)) (hs0_4 (pt b h)) (ms0_5 (pt b h)) (hs0_5 (pt b h)) (ms0_6 (pt b h)) (hs0_6 (pt b h)) (ms0_7 (pt b h)) (hs0_7 (pt b h)) (ms0_8 (pt b h)) (hs0_8 (pt b h)) (iblk m c 0 (pt b h)) (iblk m c 1 (pt b h)) (iblk m c 2 (pt b h)) (ix3 0 r d) := by
  have e : ((cfg0.win 5).blk (pt b h)).view.emb (ix3 0 r d) = (ix3 b r (col h d) : S8x8192x2048.Idx) := by
    refine funext fun x => Fin.ext ?_
    match x with
    | ⟨0, _⟩ => show cc0_transform_5 (grid0.coords (pt b h)) 0 * 1 + 1 * 0 = b.val; rw [map5]; show b.val * 1 + 1 * 0 = b.val; omega
    | ⟨1, _⟩ => show cc0_transform_5 (grid0.coords (pt b h)) 1 * 8192 + 1 * r.val = r.val; rw [map5]; show 0 * 8192 + 1 * r.val = r.val; omega
    | ⟨2, _⟩ => show cc0_transform_5 (grid0.coords (pt b h)) 2 * 128 + 1 * d.val = h.val * 128 + d.val; rw [map5]; show h.val * 128 + 1 * d.val = _; omega
  have := congrFun ((Value.blocks5 (F := Ideal) m c (pt b h) (flush5 _)).trans (Value.flushed5_A (F := Ideal) m c (pt b h))) (ix3 0 r d)
  rw [← e]
  exact this

theorem arr7 (r : Fin 8192) (d : Fin 128) : (dats (F := Ideal) m 0 c).arrAt 7 cfg0.N (ix3 b r (col h d) : S8x8192x2048.Idx)
    = out0_A_7 (F := Ideal) c (grid0.coords (pt b h)) (ms0_0 (pt b h)) (hs0_0 (pt b h)) (ms0_1 (pt b h)) (hs0_1 (pt b h)) (ms0_2 (pt b h)) (hs0_2 (pt b h)) (ms0_3 (pt b h)) (hs0_3 (pt b h)) (ms0_4 (pt b h)) (hs0_4 (pt b h)) (ms0_5 (pt b h)) (hs0_5 (pt b h)) (ms0_6 (pt b h)) (hs0_6 (pt b h)) (ms0_7 (pt b h)) (hs0_7 (pt b h)) (ms0_8 (pt b h)) (hs0_8 (pt b h)) (iblk m c 0 (pt b h)) (iblk m c 1 (pt b h)) (iblk m c 2 (pt b h)) (ix3 0 r d) := by
  have e : ((cfg0.win 7).blk (pt b h)).view.emb (ix3 0 r d) = (ix3 b r (col h d) : S8x8192x2048.Idx) := by
    refine funext fun x => Fin.ext ?_
    match x with
    | ⟨0, _⟩ => show cc0_transform_7 (grid0.coords (pt b h)) 0 * 1 + 1 * 0 = b.val; rw [map7]; show b.val * 1 + 1 * 0 = b.val; omega
    | ⟨1, _⟩ => show cc0_transform_7 (grid0.coords (pt b h)) 1 * 8192 + 1 * r.val = r.val; rw [map7]; show 0 * 8192 + 1 * r.val = r.val; omega
    | ⟨2, _⟩ => show cc0_transform_7 (grid0.coords (pt b h)) 2 * 128 + 1 * d.val = h.val * 128 + d.val; rw [map7]; show h.val * 128 + 1 * d.val = _; omega
  have := congrFun ((Value.blocks7 (F := Ideal) m c (pt b h) (flush7 _)).trans (Value.flushed7_A (F := Ideal) m c (pt b h))) (ix3 0 r d)
  rw [← e]
  exact this

theorem arr4 (r : Fin 8192) : (dats (F := Ideal) m 0 c).arrAt 4 cfg0.N (ix4 b h 0 r : S8x16x1x8192.Idx)
    = out0_A_4 (F := Ideal) c (grid0.coords (pt b h)) (ms0_0 (pt b h)) (hs0_0 (pt b h)) (ms0_1 (pt b h)) (hs0_1 (pt b h)) (ms0_2 (pt b h)) (hs0_2 (pt b h)) (ms0_3 (pt b h)) (hs0_3 (pt b h)) (ms0_4 (pt b h)) (hs0_4 (pt b h)) (ms0_5 (pt b h)) (hs0_5 (pt b h)) (ms0_6 (pt b h)) (hs0_6 (pt b h)) (ms0_7 (pt b h)) (hs0_7 (pt b h)) (ms0_8 (pt b h)) (hs0_8 (pt b h)) (iblk m c 0 (pt b h)) (iblk m c 1 (pt b h)) (iblk m c 2 (pt b h)) (ix4 0 0 0 r) := by
  have e : ((cfg0.win 4).blk (pt b h)).view.emb (ix4 0 0 0 r) = (ix4 b h 0 r : S8x16x1x8192.Idx) := by
    refine funext fun x => Fin.ext ?_
    match x with
    | ⟨0, _⟩ => show cc0_transform_4 (grid0.coords (pt b h)) 0 * 1 + 1 * 0 = b.val; rw [map4]; show b.val * 1 + 1 * 0 = b.val; omega
    | ⟨1, _⟩ => show cc0_transform_4 (grid0.coords (pt b h)) 1 * 1 + 1 * 0 = h.val; rw [map4]; show h.val * 1 + 1 * 0 = h.val; omega
    | ⟨2, _⟩ => show cc0_transform_4 (grid0.coords (pt b h)) 2 * 1 + 1 * 0 = 0; rw [map4]; rfl
    | ⟨3, _⟩ => show cc0_transform_4 (grid0.coords (pt b h)) 3 * 8192 + 1 * r.val = r.val; rw [map4]; show 0 * 8192 + 1 * r.val = r.val; omega
  have := congrFun ((Value.blocks4 (F := Ideal) m c (pt b h) (flush4 _)).trans (Value.flushed4_A (F := Ideal) m c (pt b h))) (ix4 0 0 0 r)
  rw [← e]
  exact this

theorem arr6 (r : Fin 8192) : (dats (F := Ideal) m 0 c).arrAt 6 cfg0.N (ix4 b h 0 r : S8x16x1x8192.Idx)
    = out0_A_6 (F := Ideal) c (grid0.coords (pt b h)) (ms0_0 (pt b h)) (hs0_0 (pt b h)) (ms0_1 (pt b h)) (hs0_1 (pt b h)) (ms0_2 (pt b h)) (hs0_2 (pt b h)) (ms0_3 (pt b h)) (hs0_3 (pt b h)) (ms0_4 (pt b h)) (hs0_4 (pt b h)) (ms0_5 (pt b h)) (hs0_5 (pt b h)) (ms0_6 (pt b h)) (hs0_6 (pt b h)) (ms0_7 (pt b h)) (hs0_7 (pt b h)) (ms0_8 (pt b h)) (hs0_8 (pt b h)) (iblk m c 0 (pt b h)) (iblk m c 1 (pt b h)) (iblk m c 2 (pt b h)) (ix4 0 0 0 r) := by
  have e : ((cfg0.win 6).blk (pt b h)).view.emb (ix4 0 0 0 r) = (ix4 b h 0 r : S8x16x1x8192.Idx) := by
    refine funext fun x => Fin.ext ?_
    match x with
    | ⟨0, _⟩ => show cc0_transform_6 (grid0.coords (pt b h)) 0 * 1 + 1 * 0 = b.val; rw [map6]; show b.val * 1 + 1 * 0 = b.val; omega
    | ⟨1, _⟩ => show cc0_transform_6 (grid0.coords (pt b h)) 1 * 1 + 1 * 0 = h.val; rw [map6]; show h.val * 1 + 1 * 0 = h.val; omega
    | ⟨2, _⟩ => show cc0_transform_6 (grid0.coords (pt b h)) 2 * 1 + 1 * 0 = 0; rw [map6]; rfl
    | ⟨3, _⟩ => show cc0_transform_6 (grid0.coords (pt b h)) 3 * 8192 + 1 * r.val = r.val; rw [map6]; show 0 * 8192 + 1 * r.val = r.val; omega
  have := congrFun ((Value.blocks6 (F := Ideal) m c (pt b h) (flush6 _)).trans (Value.flushed6_A (F := Ideal) m c (pt b h))) (ix4 0 0 0 r)
  rw [← e]
  exact this

theorem arr8 (r : Fin 128) : (dats (F := Ideal) m 0 c).arrAt 8 cfg0.N (ix4 b h 0 r : S8x16x1x128.Idx)
    = out0_A_8 (F := Ideal) c (grid0.coords (pt b h)) (ms0_0 (pt b h)) (hs0_0 (pt b h)) (ms0_1 (pt b h)) (hs0_1 (pt b h)) (ms0_2 (pt b h)) (hs0_2 (pt b h)) (ms0_3 (pt b h)) (hs0_3 (pt b h)) (ms0_4 (pt b h)) (hs0_4 (pt b h)) (ms0_5 (pt b h)) (hs0_5 (pt b h)) (ms0_6 (pt b h)) (hs0_6 (pt b h)) (ms0_7 (pt b h)) (hs0_7 (pt b h)) (ms0_8 (pt b h)) (hs0_8 (pt b h)) (iblk m c 0 (pt b h)) (iblk m c 1 (pt b h)) (iblk m c 2 (pt b h)) (ix4 0 0 0 r) := by
  have e : ((cfg0.win 8).blk (pt b h)).view.emb (ix4 0 0 0 r) = (ix4 b h 0 r : S8x16x1x128.Idx) := by
    refine funext fun x => Fin.ext ?_
    match x with
    | ⟨0, _⟩ => show cc0_transform_8 (grid0.coords (pt b h)) 0 * 1 + 1 * 0 = b.val; rw [map8]; show b.val * 1 + 1 * 0 = b.val; omega
    | ⟨1, _⟩ => show cc0_transform_8 (grid0.coords (pt b h)) 1 * 1 + 1 * 0 = h.val; rw [map8]; show h.val * 1 + 1 * 0 = h.val; omega
    | ⟨2, _⟩ => show cc0_transform_8 (grid0.coords (pt b h)) 2 * 1 + 1 * 0 = 0; rw [map8]; rfl
    | ⟨3, _⟩ => show cc0_transform_8 (grid0.coords (pt b h)) 3 * 128 + 1 * r.val = r.val; rw [map8]; show 0 * 128 + 1 * r.val = r.val; omega
  have := congrFun ((Value.blocks8 (F := Ideal) m c (pt b h) (flush8 _)).trans (Value.flushed8_A (F := Ideal) m c (pt b h))) (ix4 0 0 0 r)
  rw [← e]
  exact this

theorem rows_eq : rowsOf (iblk m c 0 (pt b h)) = row (A0 m c) b h := funext fun s => funext fun d => blk0 m c b h s d

theorem smooth_eq (z : FVec Ideal S1x128 .f32) (hz : ∀ d, z (ix2 0 d) = mean (column (A1 m c) b h d)) :
    smoothOf (iblk m c 1 (pt b h)) z = smooth (A1 m c) b h := by
  refine funext fun s => funext fun d => ?_
  unfold smoothOf smooth
  rw [blk1, hz]

theorem column_eq1 (d : Fin 128) : (fun s => iblk m c 1 (pt b h) (ix3 0 s d)) = column (A1 m c) b h d := funext fun s => blk1 m c b h s d
theorem column_eq2 (d : Fin 128) : (fun s => iblk m c 2 (pt b h) (ix3 0 s d)) = column (A2 m c) b h d := funext fun s => blk2 m c b h s d

theorem vcodes_apply (x : Vec Ideal S1x8192x128 .bf16) (z : FVec Ideal S1x128 .f32) (r : Fin 8192) (d : Fin 128) :
    vcodesOf x z (ix3 0 r d) = clip (x (ix3 0 r d) * z (ix2 0 d)) := rfl

theorem x_codes (r : Fin 8192) (d : Fin 128) : (dats (F := Ideal) m 0 c).arrAt 3 cfg0.N (ix3 b r (col h d) : S8x8192x2048.Idx)
    = clip (row (A0 m c) b h r d * Scale.inv (amax (row (A0 m c) b h r) * k448)) := by
  rw [arr3, out3, rows_eq]
  rfl

theorem x_scale (r : Fin 8192) : (dats (F := Ideal) m 0 c).arrAt 4 cfg0.N (ix4 b h 0 r : S8x16x1x8192.Idx)
    = scale (amax (row (A0 m c) b h r) * k448) := by
  rw [arr4, out4, rows_eq]
  rfl

theorem k_codes (r : Fin 8192) (d : Fin 128) : (dats (F := Ideal) m 0 c).arrAt 5 cfg0.N (ix3 b r (col h d) : S8x8192x2048.Idx)
    = clip (smooth (A1 m c) b h r d * Scale.inv (amax (smooth (A1 m c) b h r) * k448)) := by
  rw [arr5, out5, smooth_eq m c b h _ fun d => (stat_mean ..).trans (congrArg mean (column_eq1 m c b h d))]
  rfl

theorem k_scale (r : Fin 8192) : (dats (F := Ideal) m 0 c).arrAt 6 cfg0.N (ix4 b h 0 r : S8x16x1x8192.Idx)
    = scale (amax (smooth (A1 m c) b h r) * k448) := by
  rw [arr6, out6, smooth_eq m c b h _ fun d => (stat_mean ..).trans (congrArg mean (column_eq1 m c b h d))]
  rfl

theorem v_codes (r : Fin 8192) (d : Fin 128) : (dats (F := Ideal) m 0 c).arrAt 7 cfg0.N (ix3 b r (col h d) : S8x8192x2048.Idx)
    = clip (column (A2 m c) b h d r * Scale.inv (amax (column (A2 m c) b h d) * k448)) := by
  rw [arr7, out7]
  refine (vcodes_apply _ _ r d).trans ?_
  rw [pay2_apply, stat_amax, column_eq2, blk2]
  rfl

theorem v_scale (d : Fin 128) : (dats (F := Ideal) m 0 c).arrAt 8 cfg0.N (ix4 b h 0 d : S8x16x1x128.Idx)
    = scale (amax (column (A2 m c) b h d) * k448) := by
  rw [arr8, out8, pay3_apply, stat_amax, column_eq2]

end Cert.QuantIdeal

end
-- ==== Proof.Quant.Pre.lean ====
/-
  The value claim of the quantiser: from arguments the precondition admits, the idealized kernel and its reference leave the same
  codes and the same scales.
-/
module

public import proofs.«01_k».proof.Defs
public import proofs.«01_k».proof.Proof.Quant.Blocks

@[expose] public section

set_option maxRecDepth 16384
set_option maxHeartbeats 400000

noncomputable section

namespace Cert.Pre_pre_quant

open Idealize.ShloMosaic Cert.Scale
open Cert.QuantReferenceIdeal (col row column smooth)

/-- The shape relations the precondition's operations take. -/
theorem facts : Cert.Pre_pre_quant.Facts where
  bitsLt_bf16_f32 := by decide
  shapeCasts_S8x8192x2048_S8x8192x16x128 := by decide
  reducesTo_S8x8192x16x128_S8x16x128_d1 := by decide
  h_S_ := by decide
  bcast_S8x16x128_S8x1x16x128_0_2_3 := by decide
  bcast_S_S8x1x16x128 := by decide
  bcast_S8x1x16x128_S8x8192x16x128_0_1_2_3 := by decide
  reducesTo_S8x8192x16x128_S8x8192x16_d3 := by decide
  bcast_S_S8x8192x16 := by decide
  bcast_S_S8x16x128 := by decide

attribute [local instance] facts
open Facts

/-- The precondition's test of an array of greatest magnitudes. -/
def test {sh : Shape} (y : FVec Ideal sh .f32) (h : S_.BroadcastsInDim sh (![] : Fin 0 → Fin sh.rank)) : IVec sh 1 :=
  ori (cmpf .oeq y (broadcastInDim sh ![] h (constant S_ .f32 0x00000000#32)))
    (andi (cmpf .oge y (broadcastInDim sh ![] h (constant S_ .f32 0x04E00000#32))) (cmpf .ole y (broadcastInDim sh ![] h (constant S_ .f32 0x7F7FFFFF#32))))

theorem ofBool_or {p q r : Bool} (h : BitVec.ofBool p ||| (BitVec.ofBool q &&& BitVec.ofBool r) = 1#1) : p = true ∨ q = true ∧ r = true := by
  revert p q r; decide

theorem low_word : Ideal.ofBits .f32 0x04E00000#32 = ((448 * (2 : ℝ) ^ (-126 : ℤ) : ℝ) : EReal) := by
  simp [Ideal.ofBits, Ideal.ieee]
  rw [← EReal.coe_mul, ← EReal.coe_mul]
  norm_num

theorem high_word : Ideal.ofBits .f32 0x7F7FFFFF#32 ≤ (((2 : ℝ) ^ (128 : ℤ) : ℝ) : EReal) := by
  simp [Ideal.ofBits, Ideal.ieee]
  rw [← EReal.coe_pow, ← EReal.coe_pow, ← EReal.coe_mul, EReal.coe_le_coe_iff]
  norm_num

/-- Where the test holds, the magnitude is zero or in range. -/
theorem test_normal {sh : Shape} (y : FVec Ideal sh .f32) (h : S_.BroadcastsInDim sh (![] : Fin 0 → Fin sh.rank)) (i : sh.Idx) (ht : test y h i = 1#1) : Normal (y i) := by
  have h' : BitVec.ofBool (decide (y i = Ideal.ofBits .f32 0x00000000#32))
      ||| (BitVec.ofBool (decide (Ideal.ofBits .f32 0x04E00000#32 ≤ y i)) &&& BitVec.ofBool (decide (y i ≤ Ideal.ofBits .f32 0x7F7FFFFF#32))) = 1#1 := ht
  rcases ofBool_or h' with h0 | ⟨h1, h2⟩
  · exact Or.inl ((of_decide_eq_true h0).trans zero_word)
  · exact Or.inr ⟨le_trans (le_of_eq low_word.symm) (of_decide_eq_true h1), (of_decide_eq_true h2).trans high_word⟩

/-- The greatest magnitudes of rows and of columns, as the precondition states them. -/
def rowR (w : FVec Ideal S8x8192x16x128 .f32) : FVec Ideal S8x8192x16 .f32 :=
  Host.reduce FloatOps.maximumf (Host.absf w) (constant S_ .f32 0xFF800000#32) reducesTo_S8x8192x16x128_S8x8192x16_d3 h_S_
def colR (w : FVec Ideal S8x8192x16x128 .f32) : FVec Ideal S8x16x128 .f32 :=
  Host.reduce FloatOps.maximumf (Host.absf w) (constant S_ .f32 0xFF800000#32) reducesTo_S8x8192x16x128_S8x16x128_d1 h_S_

/-- An argument by heads, and one less the mean of its columns. -/
def headsR (a : FVec Ideal S8x8192x2048 .bf16) : FVec Ideal S8x8192x16x128 .f32 :=
  shapeCast S8x8192x16x128 ((extf .f32 · bitsLt_bf16_f32) a) shapeCasts_S8x8192x2048_S8x8192x16x128
def smoothR (a : FVec Ideal S8x8192x2048 .bf16) : FVec Ideal S8x8192x16x128 .f32 :=
  subf (headsR a) (broadcastInDim S8x8192x16x128 ![0, 1, 2, 3] bcast_S8x1x16x128_S8x8192x16x128_0_1_2_3
    (Host.divf (broadcastInDim S8x1x16x128 ![0, 2, 3] bcast_S8x16x128_S8x1x16x128_0_2_3
      (Host.reduceAdd (headsR a) (constant S_ .f32 0x00000000#32) reducesTo_S8x8192x16x128_S8x16x128_d1 h_S_))
      (broadcastInDim S8x1x16x128 ![] bcast_S_S8x1x16x128 (constant S_ .f32 0x46000000#32))))

theorem fn_eq (a0 a1 a2 : FVec Ideal S8x8192x2048 .bf16) :
    fn (F := Ideal) a0 a1 a2 = (test (rowR (headsR a0)) bcast_S_S8x8192x16, test (rowR (smoothR a1)) bcast_S_S8x8192x16, test (colR (headsR a2)) bcast_S_S8x16x128) := by
  unfold fn fn_part1 fn_part2 rowR colR smoothR headsR test
  rfl

section
variable (w : FVec Ideal S8x8192x16x128 .f32) (a : FVec Ideal S8x8192x2048 .bf16) (b : Fin 8) (s : Fin 8192) (h : Fin 16) (d : Fin 128)

theorem rowR_apply : rowR w (ix3 b s h) = amax fun d => w (ix4 b s h d) := by
  pointwise [rowR]
  exact fold_amax _

theorem colR_apply : colR w (ix3 b h d) = amax fun s => w (ix4 b s h d) := by
  pointwise [colR]
  exact fold_amax _

theorem headsR_apply : headsR a (ix4 b s h d) = a (ix3 b s (col h d)) := by
  pointwise [headsR]
  rfl

theorem smoothR_apply : smoothR a (ix4 b s h d) = smooth a b h s d := by
  pointwise [smoothR]
  simp only [headsR_apply]
  rfl

end

end Cert.Pre_pre_quant

end
-- ==== Proof.Quant.Algebraic.lean ====
/-
  The value claim of the quantiser: from arguments the precondition admits, the idealized kernel and its reference leave the same
  codes and the same scales.
-/
module

public import proofs.«01_k».proof.Defs
public import proofs.«01_k».proof.Proof.Quant.Pre
public import proofs.«01_k».proof.Proof.Quant.Blocks
public import proofs.«01_k».proof.Proof.Gen.Quant.Frame

@[expose] public section

set_option maxRecDepth 16384
set_option maxHeartbeats 400000

noncomputable section

namespace Cert.QuantProof

open Idealize.ShloMosaic Idealize.ShloMosaic.TcCoe Idealize.SL.Sem
open Cert.Scale Cert.QuantIdeal
open Cert.QuantReferenceIdeal (col row column smooth rinv)

/-- The shape relations the precondition's operations take. -/
theorem pre_facts : Cert.Pre_pre_quant.Facts := Cert.Pre_pre_quant.facts

theorem frame_quant : Cert.quiescent_Quant (hQuant := Cert.Quant.Gen.facts) := fun m g _ => Cert.Quant.Gen.frame m g
theorem frame_ideal : Cert.quiescent_QuantIdeal (hQuantIdeal := Cert.QuantIdeal.Gen.facts) := fun m g _ => Cert.QuantIdeal.Gen.frame m g
theorem frame_reference : Cert.quiescent_QuantReferenceIdeal (hQuantReferenceIdeal := Cert.QuantReferenceIdeal.Gen.facts) := fun m g _ => Cert.QuantReferenceIdeal.Gen.frame m g

theorem preserves : Cert.preserves_Quant_QuantIdeal :=
  IdealRules.named_const.statement Cert.QuantIdeal.κ "inv_fp8_max" .f32 0x3B124925#32 ((1 / 448 : ℝ) : EReal) rfl

section
variable (m : (ℓ : Loc Cert.QuantIdeal.nD Cert.QuantIdeal.τ Cert.QuantIdeal.sig) → Buf (Elt Ideal) ℓ)
  (hp : Cert.Pre_QuantIdeal_pre_quant (hPre_pre_quant := pre_facts) m) (c : Dev Cert.QuantIdeal.nD)

/-- A magnitude's scale and its inverse, from the constant as the kernel states it. -/
theorem scale_eq {a : EReal} (h : Normal a) : scale (a * k448) = Ideal.exp2 (rexp a) := (both h).1
theorem inv_eq {a : EReal} (h : Normal a) : Scale.inv (a * k448) = rinv a := (both h).2

/-- An index of an array of all heads, by batch, token, head and coordinate. -/
theorem idx3 (x : Cert.QuantIdeal.S8x8192x2048.Idx) : ∃ (b : Fin 8) (s : Fin 8192) (h : Fin 16) (d : Fin 128), x = ix3 b s (col h d) := by
  have h2 : (x 2).val < 2048 := (x 2).isLt
  refine ⟨x 0, x 1, ⟨(x 2).val / 128, by omega⟩, ⟨(x 2).val % 128, by omega⟩, (eq_ix3 x).trans (congrArg (ix3 (x 0) (x 1)) (Fin.ext ?_))⟩
  show (x 2).val = (x 2).val / 128 * 128 + (x 2).val % 128
  omega
theorem idx4 {n : ℕ} (x : (⟨4, ![8, 16, 1, n]⟩ : Shape).Idx) : ∃ (b : Fin 8) (h : Fin 16) (s : Fin n), x = ix4 b h 0 s := by
  refine ⟨x 0, x 1, x 3, (eq_ix4 x).trans ?_⟩
  rw [show x 2 = (0 : Fin 1) from Subsingleton.elim (α := Fin 1) _ _]

include hp

theorem fn_one : Cert.Pre_pre_quant.test (Cert.Pre_pre_quant.rowR (Cert.Pre_pre_quant.headsR (A0 m c))) pre_facts.bcast_S_S8x8192x16 = (fun _ => 1#1)
    ∧ Cert.Pre_pre_quant.test (Cert.Pre_pre_quant.rowR (Cert.Pre_pre_quant.smoothR (A1 m c))) pre_facts.bcast_S_S8x8192x16 = (fun _ => 1#1)
    ∧ Cert.Pre_pre_quant.test (Cert.Pre_pre_quant.colR (Cert.Pre_pre_quant.headsR (A2 m c))) pre_facts.bcast_S_S8x16x128 = (fun _ => 1#1) := by
  have e := Cert.Pre_pre_quant.fn_eq (A0 m c) (A1 m c) (A2 m c)
  obtain ⟨h1, h2, h3⟩ := hp c
  exact ⟨(congrArg (fun p => p.1) e).symm.trans h1, (congrArg (fun p => p.2.1) e).symm.trans h2, (congrArg (fun p => p.2.2) e).symm.trans h3⟩

theorem normal_x (b : Fin 8) (s : Fin 8192) (h : Fin 16) : Normal (amax (row (A0 m c) b h s)) := by
  have := Cert.Pre_pre_quant.test_normal _ _ (ix3 b s h) (congrFun (fn_one m hp c).1 (ix3 b s h))
  rw [Cert.Pre_pre_quant.rowR_apply, funext fun d => Cert.Pre_pre_quant.headsR_apply (A0 m c) b s h d] at this
  exact this

theorem normal_k (b : Fin 8) (s : Fin 8192) (h : Fin 16) : Normal (amax (smooth (A1 m c) b h s)) := by
  have := Cert.Pre_pre_quant.test_normal _ _ (ix3 b s h) (congrFun (fn_one m hp c).2.1 (ix3 b s h))
  rw [Cert.Pre_pre_quant.rowR_apply, funext fun d => Cert.Pre_pre_quant.smoothR_apply (A1 m c) b s h d] at this
  exact this

theorem normal_v (b : Fin 8) (h : Fin 16) (d : Fin 128) : Normal (amax (column (A2 m c) b h d)) := by
  have := Cert.Pre_pre_quant.test_normal _ _ (ix3 b h d) (congrFun (fn_one m hp c).2.2 (ix3 b h d))
  rw [Cert.Pre_pre_quant.colR_apply, funext fun s => Cert.Pre_pre_quant.headsR_apply (A2 m c) b s h d] at this
  exact this

theorem eq3 : Cert.QuantReferenceIdeal.Value.G3 (F := Ideal) (A0 m c) (A1 m c) (A2 m c) = (Cert.QuantIdeal.Gen.dats (F := Ideal) m 0 c).arrAt 3 Cert.QuantIdeal.cfg0.N := by
  refine funext fun x => ?_
  obtain ⟨b, s, h, d, rfl⟩ := idx3 x
  refine (Cert.QuantReferenceIdeal.x_codes (A0 m c) b h s d _ _).trans (Eq.trans ?_ (Cert.QuantIdeal.x_codes m c b h s d).symm)
  rw [inv_eq (normal_x m hp c b s h)]

theorem eq4 : Cert.QuantReferenceIdeal.Value.G4 (F := Ideal) (A0 m c) (A1 m c) (A2 m c) = (Cert.QuantIdeal.Gen.dats (F := Ideal) m 0 c).arrAt 4 Cert.QuantIdeal.cfg0.N := by
  refine funext fun x => ?_
  obtain ⟨b, h, s, rfl⟩ := idx4 x
  refine (Cert.QuantReferenceIdeal.x_scale (A0 m c) b h s _ _).trans (Eq.trans ?_ (Cert.QuantIdeal.x_scale m c b h s).symm)
  rw [scale_eq (normal_x m hp c b s h)]

theorem eq5 : Cert.QuantReferenceIdeal.Value.G5 (F := Ideal) (A0 m c) (A1 m c) (A2 m c) = (Cert.QuantIdeal.Gen.dats (F := Ideal) m 0 c).arrAt 5 Cert.QuantIdeal.cfg0.N := by
  refine funext fun x => ?_
  obtain ⟨b, s, h, d, rfl⟩ := idx3 x
  refine (Cert.QuantReferenceIdeal.k_codes (A1 m c) b h s d _ _).trans (Eq.trans ?_ (Cert.QuantIdeal.k_codes m c b h s d).symm)
  rw [inv_eq (normal_k m hp c b s h)]

theorem eq6 : Cert.QuantReferenceIdeal.Value.G6 (F := Ideal) (A0 m c) (A1 m c) (A2 m c) = (Cert.QuantIdeal.Gen.dats (F := Ideal) m 0 c).arrAt 6 Cert.QuantIdeal.cfg0.N := by
  refine funext fun x => ?_
  obtain ⟨b, h, s, rfl⟩ := idx4 x
  refine (Cert.QuantReferenceIdeal.k_scale (A1 m c) b h s _ _).trans (Eq.trans ?_ (Cert.QuantIdeal.k_scale m c b h s).symm)
  rw [scale_eq (normal_k m hp c b s h)]

theorem eq7 : Cert.QuantReferenceIdeal.Value.G7 (F := Ideal) (A0 m c) (A1 m c) (A2 m c) = (Cert.QuantIdeal.Gen.dats (F := Ideal) m 0 c).arrAt 7 Cert.QuantIdeal.cfg0.N := by
  refine funext fun x => ?_
  obtain ⟨b, s, h, d, rfl⟩ := idx3 x
  refine (Cert.QuantReferenceIdeal.v_codes (A2 m c) b h s d _ _).trans (Eq.trans ?_ (Cert.QuantIdeal.v_codes m c b h s d).symm)
  rw [inv_eq (normal_v m hp c b h d)]

theorem eq8 : Cert.QuantReferenceIdeal.Value.G8 (F := Ideal) (A0 m c) (A1 m c) (A2 m c) = (Cert.QuantIdeal.Gen.dats (F := Ideal) m 0 c).arrAt 8 Cert.QuantIdeal.cfg0.N := by
  refine funext fun x => ?_
  obtain ⟨b, h, d, rfl⟩ := idx4 x
  refine (Cert.QuantReferenceIdeal.v_scale (A2 m c) b h d _ _).trans (Eq.trans ?_ (Cert.QuantIdeal.v_scale m c b h d).symm)
  rw [scale_eq (normal_v m hp c b h d)]

end

/-- The idealized quantiser and its reference end with the same codes and scales, whatever runs them. -/
theorem algebraic : Cert.algebraic_QuantIdeal_QuantReferenceIdeal_pre_pre_quant (hQuantIdeal := Cert.QuantIdeal.Gen.facts)
    (hQuantReferenceIdeal := Cert.QuantReferenceIdeal.Gen.facts) (hPre_pre_quant := pre_facts) := fun m g m' g' hp ha => by
  refine ⟨_, _, _, _, _, _, Cert.QuantIdeal.Value.run_blocks (F := Ideal) m g, ?_⟩
  refine (θ_run Cert.QuantReferenceIdeal.defs _ _).mono (fun _ h c => ?_) (Cert.QuantReferenceIdeal.Value.run (F := Ideal) m' g')
  obtain ⟨r3, r4, r5, r6, r7, r8, ra⟩ := h c
  obtain ⟨h0, h1, h2⟩ := ha c
  rw [h0, h1, h2] at r3 r4 r5 r6 r7 r8
  exact ⟨r3.trans (eq3 m hp c), r4.trans (eq4 m hp c), r5.trans (eq5 m hp c), r6.trans (eq6 m hp c), r7.trans (eq7 m hp c), r8.trans (eq8 m hp c), ra⟩

end Cert.QuantProof

end
-- ==== Proof.lean ====
/-
  The proof of the claims, assembled.
-/
module

public import proofs.«01_k».proof.Defs
public import proofs.«01_k».proof.Proof.Claims
public import proofs.«01_k».proof.Proof.Algebraic
public import proofs.«01_k».proof.Proof.Gen.ReferenceIdeal.Value
public import proofs.«01_k».proof.Proof.Quant.Algebraic

@[expose] public section

noncomputable section

namespace Cert.Proof

open Idealize.ShloMosaic

/-- Everything claimed. The frames that assume the precondition are the ones that assume nothing. -/
theorem claim : Cert.Claim :=
  ⟨Cert.Kernel.Gen.facts, Cert.KernelIdeal.Gen.facts, Cert.ReferenceIdeal.Gen.facts, Cert.Quant.Gen.facts, Cert.QuantIdeal.Gen.facts,
    Cert.QuantReferenceIdeal.Gen.facts, pre_facts, QuantProof.pre_facts,
    frame_kernel, frame_ideal, fun m g _ => frame_ideal m g trivial, frame_reference, fun m g _ => frame_reference m g trivial,
    QuantProof.frame_quant, QuantProof.frame_ideal, fun m g _ => QuantProof.frame_ideal m g trivial, QuantProof.frame_reference,
    fun m g _ => QuantProof.frame_reference m g trivial,
    preserves, algebraic, QuantProof.preserves, QuantProof.algebraic⟩

end Cert.Proof

end
